-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_inputs_finite [hPre_inputs_finite : Cert.Pre_inputs_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_inputs_finite [hPre_inputs_finite : Cert.Pre_inputs_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_inputs_finite [hKernel6Ideal : Cert.Kernel6Ideal.Facts] [hPre_inputs_finite : Cert.Pre_inputs_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_inputs_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_inputs_finite [hReference6Ideal : Cert.Reference6Ideal.Facts] [hPre_inputs_finite : Cert.Pre_inputs_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_inputs_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "q_scale" .f32 0x3E38AA3B#32 (((1 / 8) * (Real.log 2)⁻¹ : ℝ) : EReal)

def algebraic_Kernel6Ideal_Reference6Ideal_pre_inputs_finite [hKernel6Ideal : Cert.Kernel6Ideal.Facts] [hReference6Ideal : Cert.Reference6Ideal.Facts] [hPre_inputs_finite : Cert.Pre_inputs_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_inputs_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v44)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v44) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v151) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_inputs_finite (hKernel6Ideal := hKernel6Ideal) (hPre_inputs_finite := hPre_inputs_finite)
    ∧ quiescent_Reference6Ideal (hReference6Ideal := hReference6Ideal)
    ∧ quiescent_Reference6Ideal_pre_inputs_finite (hReference6Ideal := hReference6Ideal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_inputs_finite (hKernel6Ideal := hKernel6Ideal) (hReference6Ideal := hReference6Ideal) (hPre_inputs_finite := hPre_inputs_finite)
-- ==== Pre_inputs_finite.lean ====
abbrev S8x2048x6656 : Shape := ⟨3, ![8, 2048, 6656]⟩
abbrev S2x64 : Shape := ⟨2, ![2, 64]⟩
abbrev S4x64 : Shape := ⟨2, ![4, 64]⟩
abbrev S128 : Shape := ⟨1, ![128]⟩
abbrev S8x2048x1024 : Shape := ⟨3, ![8, 2048, 1024]⟩
abbrev S_ : Shape := ⟨0, ![]⟩

class Facts : Prop where
  bitsLt_bf16_f32 : FTy.bits .bf16 < FTy.bits .f32
  slices_S8x2048x6656_S8x2048x1024_0_0_3584 : S8x2048x6656.Slices ![0, 0, 3584] S8x2048x1024
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S2x64 : S_.BroadcastsInDim S2x64 (![] : Fin 0 → Fin S2x64.rank)
  reducesTo_S2x64_S_d0_1 : S2x64.ReducesTo [0, 1] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S8x2048x6656 .bf16) (main_arg1 : FVec F S2x64 .f32) (main_arg2 : FVec F S4x64 .f32) (main_arg3 : FVec F S128 .f32) : IVec S_ 1 :=
  let main_v0 : FVec F S8x2048x6656 .f32 := (extf .f32 · bitsLt_bf16_f32) main_arg0
  let main_v1 : FVec F S8x2048x1024 .f32 := (extractStridedSlice S8x2048x1024 ![0, 0, 3584] · slices_S8x2048x6656_S8x2048x1024_0_0_3584) main_v0
  let main_v2 : FVec F S8x2048x1024 .f32 := Host.absf main_v1
  let main_cst : FVec F S_ .f32 := constant S_ .f32 0x7F800000#32
  let main_v3 : FVec F S8x2048x1024 .f32 := broadcastInDim S8x2048x1024 ![] bcast_S_S8x2048x1024 main_cst
  let main_v4 : IVec S8x2048x1024 1 := cmpf .olt main_v2 main_v3
  let main_c : IVec S_ 1 := constantI S_ 1 1#1
  let main_v5 : IVec S_ 1 := (fun x v => Host.reduce IntOp.andi x v reducesTo_S8x2048x1024_S_d0_1_2 h_S_) main_v4 main_c
  let main_v6 : FVec F S2x64 .f32 := Host.absf main_arg1
  let main_cst_0 : FVec F S_ .f32 := constant S_ .f32 0x7F800000#32
  let main_v7 : FVec F S2x64 .f32 := broadcastInDim S2x64 ![] bcast_S_S2x64 main_cst_0
  let main_v8 : IVec S2x64 1 := cmpf .olt main_v6 main_v7
  let main_c_1 : IVec S_ 1 := constantI S_ 1 1#1
  let main_v9 : IVec S_ 1 := (fun x v => Host.reduce IntOp.andi x v reducesTo_S2x64_S_d0_1 h_S_) main_v8 main_c_1
  let main_v10 : IVec S_ 1 := andi main_v5 main_v9
  let main_v11 : FVec F S4x64 .f32 := Host.absf main_arg2
  let main_cst_2 : FVec F S_ .f32 := constant S_ .f32 0x7F800000#32
  let main_v12 : FVec F S4x64 .f32 := broadcastInDim S4x64 ![] bcast_S_S4x64 main_cst_2
  let main_v13 : IVec S4x64 1 := cmpf .olt main_v11 main_v12
  let main_c_3 : IVec S_ 1 := constantI S_ 1 1#1
  let main_v14 : IVec S_ 1 := (fun x v => Host.reduce IntOp.andi x v reducesTo_S4x64_S_d0_1 h_S_) main_v13 main_c_3
  let main_v15 : IVec S_ 1 := andi main_v10 main_v14
  main_v15
-- ==== Kernel.lean ====
abbrev S8x2048x6656 : Shape := ⟨3, ![8, 2048, 6656]⟩
abbrev S2x64 : Shape := ⟨2, ![2, 64]⟩
abbrev S4x64 : Shape := ⟨2, ![4, 64]⟩
abbrev S128 : Shape := ⟨1, ![128]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1x2x1x64 : Shape := ⟨4, ![1, 2, 1, 64]⟩
abbrev S1x2x2x64 : Shape := ⟨4, ![1, 2, 2, 64]⟩
abbrev S2x128 : Shape := ⟨2, ![2, 128]⟩
abbrev S2x32 : Shape := ⟨2, ![2, 32]⟩
abbrev S1x128 : Shape := ⟨2, ![1, 128]⟩
abbrev S8x2048x512 : Shape := ⟨3, ![8, 2048, 512]⟩
abbrev S1x2048x256 : Shape := ⟨3, ![1, 2048, 256]⟩
abbrev S2x2048x128 : Shape := ⟨3, ![2, 2048, 128]⟩
abbrev S2x2x2048x128 : Shape := ⟨4, ![2, 2, 2048, 128]⟩
abbrev S2x144x2048 : Shape := ⟨3, ![2, 144, 2048]⟩
abbrev S2x2048x256 : Shape := ⟨3, ![2, 2048, 256]⟩
abbrev S128x128 : Shape := ⟨2, ![128, 128]⟩
abbrev S256x128 : Shape := ⟨2, ![256, 128]⟩
abbrev S16x2048 : Shape := ⟨2, ![16, 2048]⟩
abbrev S1x16x2048 : Shape := ⟨3, ![1, 16, 2048]⟩
abbrev S1x256x128 : Shape := ⟨3, ![1, 256, 128]⟩
abbrev S1x1x256x128 : Shape := ⟨4, ![1, 1, 256, 128]⟩
abbrev S128x256 : Shape := ⟨2, ![128, 256]⟩
abbrev S1x128x256 : Shape := ⟨3, ![1, 128, 256]⟩
abbrev S1x64 : Shape := ⟨2, ![1, 64]⟩
abbrev S1 : Shape := ⟨1, ![1]⟩
abbrev S1x1 : Shape := ⟨2, ![1, 1]⟩
abbrev S1x1x2048x128 : Shape := ⟨4, ![1, 1, 2048, 128]⟩
abbrev S2048x256 : Shape := ⟨2, ![2048, 256]⟩
abbrev S256 : Shape := ⟨1, ![256]⟩
abbrev S1x256 : Shape := ⟨2, ![1, 256]⟩
abbrev S1x144x2048 : Shape := ⟨3, ![1, 144, 2048]⟩
abbrev S144x2048 : Shape := ⟨2, ![144, 2048]⟩
abbrev S144x256 : Shape := ⟨2, ![144, 256]⟩
abbrev S256x1 : Shape := ⟨2, ![256, 1]⟩

abbrev nBuf : Space → Nat
  | .hbm => 53
  | .vmem => 21
  | .smem => 0
  | _ => 0

abbrev bufTy : (tb : Table) → Fin (tcTables nBuf tb) → BufTy
  | .hbm, ⟨0, _⟩ => ⟨S8x2048x6656, .bf16⟩
  | .hbm, ⟨1, _⟩ => ⟨S2x64, .f32⟩
  | .hbm, ⟨2, _⟩ => ⟨S4x64, .f32⟩
  | .hbm, ⟨3, _⟩ => ⟨S128, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x128, .f32⟩
  | .hbm, ⟨27, _⟩ => ⟨S2048x32, .f32⟩
  | .hbm, ⟨28, _⟩ => ⟨S2048x32, .f32⟩
  | .hbm, ⟨29, _⟩ => ⟨S2048x128, .f32⟩
  | .hbm, ⟨30, _⟩ => ⟨S1x2x1x64, .f32⟩
  | .hbm, ⟨31, _⟩ => ⟨S1x2x2x64, .f32⟩
  | .hbm, ⟨32, _⟩ => ⟨S2x128, .f32⟩
  | .hbm, ⟨33, _⟩ => ⟨S2x32, .f32⟩
  | .hbm, ⟨34, _⟩ => ⟨S2x32, .f32⟩
  | .hbm, ⟨35, _⟩ => ⟨S2x64, .f32⟩
  | .hbm, ⟨36, _⟩ => ⟨S1x2x1x64, .f32⟩
  | .hbm, ⟨37, _⟩ => ⟨S1x2x2x64, .f32⟩
  | .hbm, ⟨38, _⟩ => ⟨S2x128, .f32⟩
  | .hbm, ⟨39, _⟩ => ⟨S1x128, .f32⟩
  | .hbm, ⟨40, _⟩ => ⟨S2048x128, .f32⟩
  | .hbm, ⟨41, _⟩ => ⟨S2048x128, .f32⟩
  | .hbm, ⟨42, _⟩ => ⟨S1x128, .f32⟩
  | .hbm, ⟨43, _⟩ => ⟨S2048x128, .f32⟩
  | .hbm, ⟨44, _⟩ => ⟨S2048x128, .f32⟩
  | .hbm, ⟨45, _⟩ => ⟨S1x128, .f32⟩
  | .hbm, ⟨46, _⟩ => ⟨S2048x128, .f32⟩
  | .hbm, ⟨47, _⟩ => ⟨S2048x128, .f32⟩
  | .hbm, ⟨48, _⟩ => ⟨S1x128, .f32⟩
  | .hbm, ⟨49, _⟩ => ⟨S2048x128, .f32⟩
  | .hbm, ⟨50, _⟩ => ⟨S2048x128, .f32⟩
  | .hbm, ⟨51, _⟩ => ⟨S1x128, .f32⟩
  | .hbm, ⟨52, _⟩ => ⟨S8x2048x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S4x64, .f32⟩
  | .local _ .vmem, ⟨13, _⟩ => ⟨S1x128, .f32⟩
  | .local _ .vmem, ⟨14, _⟩ => ⟨S1x2048x256, .bf16⟩
  | .local _ .vmem, ⟨15, _⟩ => ⟨S1x2048x256, .bf16⟩
  | .local _ .vmem, ⟨16, _⟩ => ⟨S2x2048x128, .bf16⟩
  | .local _ .vmem, ⟨17, _⟩ => ⟨S2x2x2048x128, .bf16⟩
  | .local _ .vmem, ⟨18, _⟩ => ⟨S2x144x2048, .bf16⟩
  | .local _ .vmem, ⟨19, _⟩ => ⟨S2x2048x256, .f32⟩
  | .local _ .vmem, ⟨20, _⟩ => ⟨S2x2048x256, .f32⟩
  | _, _ => ⟨S8x2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 2], ![false, false]⟩

def k0_mult1 : BitVec 32 :=
  let c0_i32_20 : BitVec 32 := 0#32
  let c8_i32_27 : BitVec 32 := 8#32
  let c0_i32_28 : BitVec 32 := 0#32
  let v92 : BitVec 1 := Scalar.cmpi .eq c8_i32_27 c0_i32_28
  let c1_i32_29 : BitVec 32 := 1#32
  let v93 : BitVec 32 := Scalar.select v92 c1_i32_29 c8_i32_27
  let v94 : BitVec 32 := Scalar.remsi c0_i32_20 v93
  let c0_i32_31 : BitVec 32 := 0#32
  let v96 : BitVec 1 := Scalar.cmpi .slt v94 c0_i32_31
  let c0_i32_32 : BitVec 32 := 0#32
  let v97 : BitVec 1 := Scalar.cmpi .slt v93 c0_i32_32
  let v98 : BitVec 1 := Scalar.xori v96 v97
  let c0_i32_30 : BitVec 32 := 0#32
  let v95 : BitVec 1 := Scalar.cmpi .ne v94 c0_i32_30
  let v99 : BitVec 1 := Scalar.andi v98 v95
  let v100 : BitVec 32 := Scalar.addi v94 v93
  let v101 : BitVec 32 := Scalar.select v99 v100 v94
  let c256_i32 : BitVec 32 := 256#32
  let v102 : BitVec 32 := Scalar.muli v101 c256_i32
  v102
def k0_mult2 : BitVec 32 :=
  let c0_i32_20 : BitVec 32 := 0#32
  let c0_i32_21 : BitVec 32 := 0#32
  let v76 : BitVec 1 := Scalar.cmpi .sgt c0_i32_20 c0_i32_21
  let v77 : BitVec 32 := Scalar.extui v76
  let c0_i32_22 : BitVec 32 := 0#32
  let v78 : BitVec 1 := Scalar.cmpi .slt c0_i32_20 c0_i32_22
  let v79 : BitVec 32 := Scalar.extui v78
  let v80 : BitVec 32 := Scalar.subi v77 v79
  let c8_i32 : BitVec 32 := 8#32
  let c0_i32_23 : BitVec 32 := 0#32
  let v81 : BitVec 1 := Scalar.cmpi .sgt c8_i32 c0_i32_23
  let v82 : BitVec 32 := Scalar.extui v81
  let c0_i32_24 : BitVec 32 := 0#32
  let v83 : BitVec 1 := Scalar.cmpi .slt c8_i32 c0_i32_24
  let v84 : BitVec 32 := Scalar.extui v83
  let v85 : BitVec 32 := Scalar.subi v82 v84
  let v86 : BitVec 1 := Scalar.cmpi .ne v80 v85
  let v87 : BitVec 32 := Scalar.remsi c0_i32_20 c8_i32
  let c0_i32_25 : BitVec 32 := 0#32
  let v88 : BitVec 1 := Scalar.cmpi .ne v87 c0_i32_25
  let v89 : BitVec 1 := Scalar.andi v86 v88
  let v75 : BitVec 32 := Scalar.divsi c0_i32_20 c8_i32
  let c1_i32_26 : BitVec 32 := 1#32
  let v90 : BitVec 32 := Scalar.subi v75 c1_i32_26
  let v91 : BitVec 32 := Scalar.select v89 v90 v75
  let c128_i32 : BitVec 32 := 128#32
  let v104 : BitVec 32 := Scalar.muli v91 c128_i32
  v104
def k0_off1 (c0_i32_20 : BitVec 32) : Fin 3 → Nat :=
  let c0_33 : Index := 0#32
  let c8_i32_27 : BitVec 32 := 8#32
  let c0_i32_28 : BitVec 32 := 0#32
  let v92 : BitVec 1 := Scalar.cmpi .eq c8_i32_27 c0_i32_28
  let c1_i32_29 : BitVec 32 := 1#32
  let v93 : BitVec 32 := Scalar.select v92 c1_i32_29 c8_i32_27
  let v94 : BitVec 32 := Scalar.remsi c0_i32_20 v93
  let c0_i32_31 : BitVec 32 := 0#32
  let v96 : BitVec 1 := Scalar.cmpi .slt v94 c0_i32_31
  let c0_i32_32 : BitVec 32 := 0#32
  let v97 : BitVec 1 := Scalar.cmpi .slt v93 c0_i32_32
  let v98 : BitVec 1 := Scalar.xori v96 v97
  let c0_i32_30 : BitVec 32 := 0#32
  let v95 : BitVec 1 := Scalar.cmpi .ne v94 c0_i32_30
  let v99 : BitVec 1 := Scalar.andi v98 v95
  let v100 : BitVec 32 := Scalar.addi v94 v93
  let v101 : BitVec 32 := Scalar.select v99 v100 v94
  let c256_i32 : BitVec 32 := 256#32
  let v102 : BitVec 32 := Scalar.muli v101 c256_i32
  let v103 : BitVec 32 := v102
  let v106 : Index := Scalar.indexCast v103
  let c0_i32_21 : BitVec 32 := 0#32
  let v76 : BitVec 1 := Scalar.cmpi .sgt c0_i32_20 c0_i32_21
  let v77 : BitVec 32 := Scalar.extui v76
  let c0_i32_22 : BitVec 32 := 0#32
  let v78 : BitVec 1 := Scalar.cmpi .slt c0_i32_20 c0_i32_22
  let v79 : BitVec 32 := Scalar.extui v78
  let v80 : BitVec 32 := Scalar.subi v77 v79
  let c8_i32 : BitVec 32 := 8#32
  let c0_i32_23 : BitVec 32 := 0#32
  let v81 : BitVec 1 := Scalar.cmpi .sgt c8_i32 c0_i32_23
  let v82 : BitVec 32 := Scalar.extui v81
  let c0_i32_24 : BitVec 32 := 0#32
  let v83 : BitVec 1 := Scalar.cmpi .slt c8_i32 c0_i32_24
  let v84 : BitVec 32 := Scalar.extui v83
  let v85 : BitVec 32 := Scalar.subi v82 v84
  let v86 : BitVec 1 := Scalar.cmpi .ne v80 v85
  let v87 : BitVec 32 := Scalar.remsi c0_i32_20 c8_i32
  let c0_i32_25 : BitVec 32 := 0#32
  let v88 : BitVec 1 := Scalar.cmpi .ne v87 c0_i32_25
  let v89 : BitVec 1 := Scalar.andi v86 v88
  let v75 : BitVec 32 := Scalar.divsi c0_i32_20 c8_i32
  let c1_i32_26 : BitVec 32 := 1#32
  let v90 : BitVec 32 := Scalar.subi v75 c1_i32_26
  let v91 : BitVec 32 := Scalar.select v89 v90 v75
  let c128_i32 : BitVec 32 := 128#32
  let v104 : BitVec 32 := Scalar.muli v91 c128_i32
  let v105 : BitVec 32 := v104
  let v107 : Index := Scalar.indexCast v105
  ![0, v106.toNat, v107.toNat]
def k0_off2 (c0_i32_20 : BitVec 32) : Fin 2 → Nat :=
  let c8_i32_27 : BitVec 32 := 8#32
  let c0_i32_28 : BitVec 32 := 0#32
  let v92 : BitVec 1 := Scalar.cmpi .eq c8_i32_27 c0_i32_28
  let c1_i32_29 : BitVec 32 := 1#32
  let v93 : BitVec 32 := Scalar.select v92 c1_i32_29 c8_i32_27
  let v94 : BitVec 32 := Scalar.remsi c0_i32_20 v93
  let c0_i32_31 : BitVec 32 := 0#32
  let v96 : BitVec 1 := Scalar.cmpi .slt v94 c0_i32_31
  let c0_i32_32 : BitVec 32 := 0#32
  let v97 : BitVec 1 := Scalar.cmpi .slt v93 c0_i32_32
  let v98 : BitVec 1 := Scalar.xori v96 v97
  let c0_i32_30 : BitVec 32 := 0#32
  let v95 : BitVec 1 := Scalar.cmpi .ne v94 c0_i32_30
  let v99 : BitVec 1 := Scalar.andi v98 v95
  let v100 : BitVec 32 := Scalar.addi v94 v93
  let v101 : BitVec 32 := Scalar.select v99 v100 v94
  let c256_i32 : BitVec 32 := 256#32
  let v102 : BitVec 32 := Scalar.muli v101 c256_i32
  let v103 : BitVec 32 := v102
  let v119 : Index := Scalar.indexCast v103
  let c0_37 : Index := 0#32
  ![v119.toNat, 0]
def k0_off3 (c0_i32_20 : BitVec 32) : Fin 3 → Nat :=
  let c0_i32_21 : BitVec 32 := 0#32
  let v76 : BitVec 1 := Scalar.cmpi .sgt c0_i32_20 c0_i32_21
  let v77 : BitVec 32 := Scalar.extui v76
  let c0_i32_22 : BitVec 32 := 0#32
  let v78 : BitVec 1 := Scalar.cmpi .slt c0_i32_20 c0_i32_22
  let v79 : BitVec 32 := Scalar.extui v78
  let v80 : BitVec 32 := Scalar.subi v77 v79
  let c8_i32 : BitVec 32 := 8#32
  let c0_i32_23 : BitVec 32 := 0#32
  let v81 : BitVec 1 := Scalar.cmpi .sgt c8_i32 c0_i32_23
  let v82 : BitVec 32 := Scalar.extui v81
  let c0_i32_24 : BitVec 32 := 0#32
  let v83 : BitVec 1 := Scalar.cmpi .slt c8_i32 c0_i32_24
  let v84 : BitVec 32 := Scalar.extui v83
  let v85 : BitVec 32 := Scalar.subi v82 v84
  let v86 : BitVec 1 := Scalar.cmpi .ne v80 v85
  let v87 : BitVec 32 := Scalar.remsi c0_i32_20 c8_i32
  let c0_i32_25 : BitVec 32 := 0#32
  let v88 : BitVec 1 := Scalar.cmpi .ne v87 c0_i32_25
  let v89 : BitVec 1 := Scalar.andi v86 v88
  let v75 : BitVec 32 := Scalar.divsi c0_i32_20 c8_i32
  let c1_i32_26 : BitVec 32 := 1#32
  let v90 : BitVec 32 := Scalar.subi v75 c1_i32_26
  let v91 : BitVec 32 := Scalar.select v89 v90 v75
  let v133 : Index := Scalar.indexCast v91
  let c8_i32_27 : BitVec 32 := 8#32
  let c0_i32_28 : BitVec 32 := 0#32
  let v92 : BitVec 1 := Scalar.cmpi .eq c8_i32_27 c0_i32_28
  let c1_i32_29 : BitVec 32 := 1#32
  let v93 : BitVec 32 := Scalar.select v92 c1_i32_29 c8_i32_27
  let v94 : BitVec 32 := Scalar.remsi c0_i32_20 v93
  let c0_i32_31 : BitVec 32 := 0#32
  let v96 : BitVec 1 := Scalar.cmpi .slt v94 c0_i32_31
  let c0_i32_32 : BitVec 32 := 0#32
  let v97 : BitVec 1 := Scalar.cmpi .slt v93 c0_i32_32
  let v98 : BitVec 1 := Scalar.xori v96 v97
  let c0_i32_30 : BitVec 32 := 0#32
  let v95 : BitVec 1 := Scalar.cmpi .ne v94 c0_i32_30
  let v99 : BitVec 1 := Scalar.andi v98 v95
  let v100 : BitVec 32 := Scalar.addi v94 v93
  let v101 : BitVec 32 := Scalar.select v99 v100 v94
  let c256_i32 : BitVec 32 := 256#32
  let v102 : BitVec 32 := Scalar.muli v101 c256_i32
  let v103 : BitVec 32 := v102
  let v134 : Index := Scalar.indexCast v103
  let c0_41 : Index := 0#32
  ![v133.toNat, v134.toNat, 0]
def k0_off4 (c0_i32_20 : BitVec 32) : Fin 4 → Nat :=
  let c0_i32_21 : BitVec 32 := 0#32
  let v76 : BitVec 1 := Scalar.cmpi .sgt c0_i32_20 c0_i32_21
  let v77 : BitVec 32 := Scalar.extui v76
  let c0_i32_22 : BitVec 32 := 0#32
  let v78 : BitVec 1 := Scalar.cmpi .slt c0_i32_20 c0_i32_22
  let v79 : BitVec 32 := Scalar.extui v78
  let v80 : BitVec 32 := Scalar.subi v77 v79
  let c8_i32 : BitVec 32 := 8#32
  let c0_i32_23 : BitVec 32 := 0#32
  let v81 : BitVec 1 := Scalar.cmpi .sgt c8_i32 c0_i32_23
  let v82 : BitVec 32 := Scalar.extui v81
  let c0_i32_24 : BitVec 32 := 0#32
  let v83 : BitVec 1 := Scalar.cmpi .slt c8_i32 c0_i32_24
  let v84 : BitVec 32 := Scalar.extui v83
  let v85 : BitVec 32 := Scalar.subi v82 v84
  let v86 : BitVec 1 := Scalar.cmpi .ne v80 v85
  let v87 : BitVec 32 := Scalar.remsi c0_i32_20 c8_i32
  let c0_i32_25 : BitVec 32 := 0#32
  let v88 : BitVec 1 := Scalar.cmpi .ne v87 c0_i32_25
  let v89 : BitVec 1 := Scalar.andi v86 v88
  let v75 : BitVec 32 := Scalar.divsi c0_i32_20 c8_i32
  let c1_i32_26 : BitVec 32 := 1#32
  let v90 : BitVec 32 := Scalar.subi v75 c1_i32_26
  let v91 : BitVec 32 := Scalar.select v89 v90 v75
  let v165 : Index := Scalar.indexCast v91
  let c0_50 : Index := 0#32
  let c8_i32_27 : BitVec 32 := 8#32
  let c0_i32_28 : BitVec 32 := 0#32
  let v92 : BitVec 1 := Scalar.cmpi .eq c8_i32_27 c0_i32_28
  let c1_i32_29 : BitVec 32 := 1#32
  let v93 : BitVec 32 := Scalar.select v92 c1_i32_29 c8_i32_27
  let v94 : BitVec 32 := Scalar.remsi c0_i32_20 v93
  let c0_i32_31 : BitVec 32 := 0#32
  let v96 : BitVec 1 := Scalar.cmpi .slt v94 c0_i32_31
  let c0_i32_32 : BitVec 32 := 0#32
  let v97 : BitVec 1 := Scalar.cmpi .slt v93 c0_i32_32
  let v98 : BitVec 1 := Scalar.xori v96 v97
  let c0_i32_30 : BitVec 32 := 0#32
  let v95 : BitVec 1 := Scalar.cmpi .ne v94 c0_i32_30
  let v99 : BitVec 1 := Scalar.andi v98 v95
  let v100 : BitVec 32 := Scalar.addi v94 v93
  let v101 : BitVec 32 := Scalar.select v99 v100 v94
  let c256_i32 : BitVec 32 := 256#32
  let v102 : BitVec 32 := Scalar.muli v101 c256_i32
  let v103 : BitVec 32 := v102
  let v166 : Index := Scalar.indexCast v103
  let c0_51 : Index := 0#32
  ![v165.toNat, 0, v166.toNat, 0]
def k0_off5 (c0_i32_20 : BitVec 32) : Fin 4 → Nat :=
  let c0_i32_21 : BitVec 32 := 0#32
  let v76 : BitVec 1 := Scalar.cmpi .sgt c0_i32_20 c0_i32_21
  let v77 : BitVec 32 := Scalar.extui v76
  let c0_i32_22 : BitVec 32 := 0#32
  let v78 : BitVec 1 := Scalar.cmpi .slt c0_i32_20 c0_i32_22
  let v79 : BitVec 32 := Scalar.extui v78
  let v80 : BitVec 32 := Scalar.subi v77 v79
  let c8_i32 : BitVec 32 := 8#32
  let c0_i32_23 : BitVec 32 := 0#32
  let v81 : BitVec 1 := Scalar.cmpi .sgt c8_i32 c0_i32_23
  let v82 : BitVec 32 := Scalar.extui v81
  let c0_i32_24 : BitVec 32 := 0#32
  let v83 : BitVec 1 := Scalar.cmpi .slt c8_i32 c0_i32_24
  let v84 : BitVec 32 := Scalar.extui v83
  let v85 : BitVec 32 := Scalar.subi v82 v84
  let v86 : BitVec 1 := Scalar.cmpi .ne v80 v85
  let v87 : BitVec 32 := Scalar.remsi c0_i32_20 c8_i32
  let c0_i32_25 : BitVec 32 := 0#32
  let v88 : BitVec 1 := Scalar.cmpi .ne v87 c0_i32_25
  let v89 : BitVec 1 := Scalar.andi v86 v88
  let v75 : BitVec 32 := Scalar.divsi c0_i32_20 c8_i32
  let c1_i32_26 : BitVec 32 := 1#32
  let v90 : BitVec 32 := Scalar.subi v75 c1_i32_26
  let v91 : BitVec 32 := Scalar.select v89 v90 v75
  let v173 : Index := Scalar.indexCast v91
  let c1_53 : Index := 1#32
  let c8_i32_27 : BitVec 32 := 8#32
  let c0_i32_28 : BitVec 32 := 0#32
  let v92 : BitVec 1 := Scalar.cmpi .eq c8_i32_27 c0_i32_28
  let c1_i32_29 : BitVec 32 := 1#32
  let v93 : BitVec 32 := Scalar.select v92 c1_i32_29 c8_i32_27
  let v94 : BitVec 32 := Scalar.remsi c0_i32_20 v93
  let c0_i32_31 : BitVec 32 := 0#32
  let v96 : BitVec 1 := Scalar.cmpi .slt v94 c0_i32_31
  let c0_i32_32 : BitVec 32 := 0#32
  let v97 : BitVec 1 := Scalar.cmpi .slt v93 c0_i32_32
  let v98 : BitVec 1 := Scalar.xori v96 v97
  let c0_i32_30 : BitVec 32 := 0#32
  let v95 : BitVec 1 := Scalar.cmpi .ne v94 c0_i32_30
  let v99 : BitVec 1 := Scalar.andi v98 v95
  let v100 : BitVec 32 := Scalar.addi v94 v93
  let v101 : BitVec 32 := Scalar.select v99 v100 v94
  let c256_i32 : BitVec 32 := 256#32
  let v102 : BitVec 32 := Scalar.muli v101 c256_i32
  let v103 : BitVec 32 := v102
  let v174 : Index := Scalar.indexCast v103
  let c0_54 : Index := 0#32
  ![v173.toNat, 1, v174.toNat, 0]
def k0_off6 (c0_i32_20 : BitVec 32) : Fin 3 → Nat :=
  let c0_i32_21 : BitVec 32 := 0#32
  let v76 : BitVec 1 := Scalar.cmpi .sgt c0_i32_20 c0_i32_21
  let v77 : BitVec 32 := Scalar.extui v76
  let c0_i32_22 : BitVec 32 := 0#32
  let v78 : BitVec 1 := Scalar.cmpi .slt c0_i32_20 c0_i32_22
  let v79 : BitVec 32 := Scalar.extui v78
  let v80 : BitVec 32 := Scalar.subi v77 v79
  let c8_i32 : BitVec 32 := 8#32
  let c0_i32_23 : BitVec 32 := 0#32
  let v81 : BitVec 1 := Scalar.cmpi .sgt c8_i32 c0_i32_23
  let v82 : BitVec 32 := Scalar.extui v81
  let c0_i32_24 : BitVec 32 := 0#32
  let v83 : BitVec 1 := Scalar.cmpi .slt c8_i32 c0_i32_24
  let v84 : BitVec 32 := Scalar.extui v83
  let v85 : BitVec 32 := Scalar.subi v82 v84
  let v86 : BitVec 1 := Scalar.cmpi .ne v80 v85
  let v87 : BitVec 32 := Scalar.remsi c0_i32_20 c8_i32
  let c0_i32_25 : BitVec 32 := 0#32
  let v88 : BitVec 1 := Scalar.cmpi .ne v87 c0_i32_25
  let v89 : BitVec 1 := Scalar.andi v86 v88
  let v75 : BitVec 32 := Scalar.divsi c0_i32_20 c8_i32
  let c1_i32_26 : BitVec 32 := 1#32
  let v90 : BitVec 32 := Scalar.subi v75 c1_i32_26
  let v91 : BitVec 32 := Scalar.select v89 v90 v75
  let v183 : Index := Scalar.indexCast v91
  let c0_56 : Index := 0#32
  let c8_i32_27 : BitVec 32 := 8#32
  let c0_i32_28 : BitVec 32 := 0#32
  let v92 : BitVec 1 := Scalar.cmpi .eq c8_i32_27 c0_i32_28
  let c1_i32_29 : BitVec 32 := 1#32
  let v93 : BitVec 32 := Scalar.select v92 c1_i32_29 c8_i32_27
  let v94 : BitVec 32 := Scalar.remsi c0_i32_20 v93
  let c0_i32_31 : BitVec 32 := 0#32
  let v96 : BitVec 1 := Scalar.cmpi .slt v94 c0_i32_31
  let c0_i32_32 : BitVec 32 := 0#32
  let v97 : BitVec 1 := Scalar.cmpi .slt v93 c0_i32_32
  let v98 : BitVec 1 := Scalar.xori v96 v97
  let c0_i32_30 : BitVec 32 := 0#32
  let v95 : BitVec 1 := Scalar.cmpi .ne v94 c0_i32_30
  let v99 : BitVec 1 := Scalar.andi v98 v95
  let v100 : BitVec 32 := Scalar.addi v94 v93
  let v101 : BitVec 32 := Scalar.select v99 v100 v94
  let c256_i32 : BitVec 32 := 256#32
  let v102 : BitVec 32 := Scalar.muli v101 c256_i32
  let v103 : BitVec 32 := v102
  let v184 : Index := Scalar.indexCast v103
  ![v183.toNat, 0, v184.toNat]
def k0_mult3 : BitVec 32 :=
  let c1_i32_57 : BitVec 32 := 1#32
  let c8_i32_65 : BitVec 32 := 8#32
  let c0_i32_66 : BitVec 32 := 0#32
  let v205 : BitVec 1 := Scalar.cmpi .eq c8_i32_65 c0_i32_66
  let c1_i32_67 : BitVec 32 := 1#32
  let v206 : BitVec 32 := Scalar.select v205 c1_i32_67 c8_i32_65
  let v207 : BitVec 32 := Scalar.remsi c1_i32_57 v206
  let c0_i32_69 : BitVec 32 := 0#32
  let v209 : BitVec 1 := Scalar.cmpi .slt v207 c0_i32_69
  let c0_i32_70 : BitVec 32 := 0#32
  let v210 : BitVec 1 := Scalar.cmpi .slt v206 c0_i32_70
  let v211 : BitVec 1 := Scalar.xori v209 v210
  let c0_i32_68 : BitVec 32 := 0#32
  let v208 : BitVec 1 := Scalar.cmpi .ne v207 c0_i32_68
  let v212 : BitVec 1 := Scalar.andi v211 v208
  let v213 : BitVec 32 := Scalar.addi v207 v206
  let v214 : BitVec 32 := Scalar.select v212 v213 v207
  let c256_i32_71 : BitVec 32 := 256#32
  let v215 : BitVec 32 := Scalar.muli v214 c256_i32_71
  v215
def k0_mult4 : BitVec 32 :=
  let c1_i32_57 : BitVec 32 := 1#32
  let c0_i32_59 : BitVec 32 := 0#32
  let v189 : BitVec 1 := Scalar.cmpi .sgt c1_i32_57 c0_i32_59
  let v190 : BitVec 32 := Scalar.extui v189
  let c0_i32_60 : BitVec 32 := 0#32
  let v191 : BitVec 1 := Scalar.cmpi .slt c1_i32_57 c0_i32_60
  let v192 : BitVec 32 := Scalar.extui v191
  let v193 : BitVec 32 := Scalar.subi v190 v192
  let c8_i32_58 : BitVec 32 := 8#32
  let c0_i32_61 : BitVec 32 := 0#32
  let v194 : BitVec 1 := Scalar.cmpi .sgt c8_i32_58 c0_i32_61
  let v195 : BitVec 32 := Scalar.extui v194
  let c0_i32_62 : BitVec 32 := 0#32
  let v196 : BitVec 1 := Scalar.cmpi .slt c8_i32_58 c0_i32_62
  let v197 : BitVec 32 := Scalar.extui v196
  let v198 : BitVec 32 := Scalar.subi v195 v197
  let v199 : BitVec 1 := Scalar.cmpi .ne v193 v198
  let v200 : BitVec 32 := Scalar.remsi c1_i32_57 c8_i32_58
  let c0_i32_63 : BitVec 32 := 0#32
  let v201 : BitVec 1 := Scalar.cmpi .ne v200 c0_i32_63
  let v202 : BitVec 1 := Scalar.andi v199 v201
  let v188 : BitVec 32 := Scalar.divsi c1_i32_57 c8_i32_58
  let c1_i32_64 : BitVec 32 := 1#32
  let v203 : BitVec 32 := Scalar.subi v188 c1_i32_64
  let v204 : BitVec 32 := Scalar.select v202 v203 v188
  let c128_i32_72 : BitVec 32 := 128#32
  let v217 : BitVec 32 := Scalar.muli v204 c128_i32_72
  v217
def k0_mult5 : BitVec 32 :=
  let c2_i32 : BitVec 32 := 2#32
  let c8_i32_104 : BitVec 32 := 8#32
  let c0_i32_105 : BitVec 32 := 0#32
  let v318 : BitVec 1 := Scalar.cmpi .eq c8_i32_104 c0_i32_105
  let c1_i32_106 : BitVec 32 := 1#32
  let v319 : BitVec 32 := Scalar.select v318 c1_i32_106 c8_i32_104
  let v320 : BitVec 32 := Scalar.remsi c2_i32 v319
  let c0_i32_108 : BitVec 32 := 0#32
  let v322 : BitVec 1 := Scalar.cmpi .slt v320 c0_i32_108
  let c0_i32_109 : BitVec 32 := 0#32
  let v323 : BitVec 1 := Scalar.cmpi .slt v319 c0_i32_109
  let v324 : BitVec 1 := Scalar.xori v322 v323
  let c0_i32_107 : BitVec 32 := 0#32
  let v321 : BitVec 1 := Scalar.cmpi .ne v320 c0_i32_107
  let v325 : BitVec 1 := Scalar.andi v324 v321
  let v326 : BitVec 32 := Scalar.addi v320 v319
  let v327 : BitVec 32 := Scalar.select v325 v326 v320
  let c256_i32_110 : BitVec 32 := 256#32
  let v328 : BitVec 32 := Scalar.muli v327 c256_i32_110
  v328
def k0_mult6 : BitVec 32 :=
  let c2_i32 : BitVec 32 := 2#32
  let c0_i32_98 : BitVec 32 := 0#32
  let v302 : BitVec 1 := Scalar.cmpi .sgt c2_i32 c0_i32_98
  let v303 : BitVec 32 := Scalar.extui v302
  let c0_i32_99 : BitVec 32 := 0#32
  let v304 : BitVec 1 := Scalar.cmpi .slt c2_i32 c0_i32_99
  let v305 : BitVec 32 := Scalar.extui v304
  let v306 : BitVec 32 := Scalar.subi v303 v305
  let c8_i32_97 : BitVec 32 := 8#32
  let c0_i32_100 : BitVec 32 := 0#32
  let v307 : BitVec 1 := Scalar.cmpi .sgt c8_i32_97 c0_i32_100
  let v308 : BitVec 32 := Scalar.extui v307
  let c0_i32_101 : BitVec 32 := 0#32
  let v309 : BitVec 1 := Scalar.cmpi .slt c8_i32_97 c0_i32_101
  let v310 : BitVec 32 := Scalar.extui v309
  let v311 : BitVec 32 := Scalar.subi v308 v310
  let v312 : BitVec 1 := Scalar.cmpi .ne v306 v311
  let v313 : BitVec 32 := Scalar.remsi c2_i32 c8_i32_97
  let c0_i32_102 : BitVec 32 := 0#32
  let v314 : BitVec 1 := Scalar.cmpi .ne v313 c0_i32_102
  let v315 : BitVec 1 := Scalar.andi v312 v314
  let v301 : BitVec 32 := Scalar.divsi c2_i32 c8_i32_97
  let c1_i32_103 : BitVec 32 := 1#32
  let v316 : BitVec 32 := Scalar.subi v301 c1_i32_103
  let v317 : BitVec 32 := Scalar.select v315 v316 v301
  let c128_i32_111 : BitVec 32 := 128#32
  let v330 : BitVec 32 := Scalar.muli v317 c128_i32_111
  v330
def k0_mult7 : BitVec 32 :=
  let c3_i32 : BitVec 32 := 3#32
  let c8_i32_143 : BitVec 32 := 8#32
  let c0_i32_144 : BitVec 32 := 0#32
  let v431 : BitVec 1 := Scalar.cmpi .eq c8_i32_143 c0_i32_144
  let c1_i32_145 : BitVec 32 := 1#32
  let v432 : BitVec 32 := Scalar.select v431 c1_i32_145 c8_i32_143
  let v433 : BitVec 32 := Scalar.remsi c3_i32 v432
  let c0_i32_147 : BitVec 32 := 0#32
  let v435 : BitVec 1 := Scalar.cmpi .slt v433 c0_i32_147
  let c0_i32_148 : BitVec 32 := 0#32
  let v436 : BitVec 1 := Scalar.cmpi .slt v432 c0_i32_148
  let v437 : BitVec 1 := Scalar.xori v435 v436
  let c0_i32_146 : BitVec 32 := 0#32
  let v434 : BitVec 1 := Scalar.cmpi .ne v433 c0_i32_146
  let v438 : BitVec 1 := Scalar.andi v437 v434
  let v439 : BitVec 32 := Scalar.addi v433 v432
  let v440 : BitVec 32 := Scalar.select v438 v439 v433
  let c256_i32_149 : BitVec 32 := 256#32
  let v441 : BitVec 32 := Scalar.muli v440 c256_i32_149
  v441
def k0_mult8 : BitVec 32 :=
  let c3_i32 : BitVec 32 := 3#32
  let c0_i32_137 : BitVec 32 := 0#32
  let v415 : BitVec 1 := Scalar.cmpi .sgt c3_i32 c0_i32_137
  let v416 : BitVec 32 := Scalar.extui v415
  let c0_i32_138 : BitVec 32 := 0#32
  let v417 : BitVec 1 := Scalar.cmpi .slt c3_i32 c0_i32_138
  let v418 : BitVec 32 := Scalar.extui v417
  let v419 : BitVec 32 := Scalar.subi v416 v418
  let c8_i32_136 : BitVec 32 := 8#32
  let c0_i32_139 : BitVec 32 := 0#32
  let v420 : BitVec 1 := Scalar.cmpi .sgt c8_i32_136 c0_i32_139
  let v421 : BitVec 32 := Scalar.extui v420
  let c0_i32_140 : BitVec 32 := 0#32
  let v422 : BitVec 1 := Scalar.cmpi .slt c8_i32_136 c0_i32_140
  let v423 : BitVec 32 := Scalar.extui v422
  let v424 : BitVec 32 := Scalar.subi v421 v423
  let v425 : BitVec 1 := Scalar.cmpi .ne v419 v424
  let v426 : BitVec 32 := Scalar.remsi c3_i32 c8_i32_136
  let c0_i32_141 : BitVec 32 := 0#32
  let v427 : BitVec 1 := Scalar.cmpi .ne v426 c0_i32_141
  let v428 : BitVec 1 := Scalar.andi v425 v427
  let v414 : BitVec 32 := Scalar.divsi c3_i32 c8_i32_136
  let c1_i32_142 : BitVec 32 := 1#32
  let v429 : BitVec 32 := Scalar.subi v414 c1_i32_142
  let v430 : BitVec 32 := Scalar.select v428 v429 v414
  let c128_i32_150 : BitVec 32 := 128#32
  let v443 : BitVec 32 := Scalar.muli v430 c128_i32_150
  v443
def k0_mult9 : BitVec 32 :=
  let c4_i32 : BitVec 32 := 4#32
  let c8_i32_182 : BitVec 32 := 8#32
  let c0_i32_183 : BitVec 32 := 0#32
  let v544 : BitVec 1 := Scalar.cmpi .eq c8_i32_182 c0_i32_183
  let c1_i32_184 : BitVec 32 := 1#32
  let v545 : BitVec 32 := Scalar.select v544 c1_i32_184 c8_i32_182
  let v546 : BitVec 32 := Scalar.remsi c4_i32 v545
  let c0_i32_186 : BitVec 32 := 0#32
  let v548 : BitVec 1 := Scalar.cmpi .slt v546 c0_i32_186
  let c0_i32_187 : BitVec 32 := 0#32
  let v549 : BitVec 1 := Scalar.cmpi .slt v545 c0_i32_187
  let v550 : BitVec 1 := Scalar.xori v548 v549
  let c0_i32_185 : BitVec 32 := 0#32
  let v547 : BitVec 1 := Scalar.cmpi .ne v546 c0_i32_185
  let v551 : BitVec 1 := Scalar.andi v550 v547
  let v552 : BitVec 32 := Scalar.addi v546 v545
  let v553 : BitVec 32 := Scalar.select v551 v552 v546
  let c256_i32_188 : BitVec 32 := 256#32
  let v554 : BitVec 32 := Scalar.muli v553 c256_i32_188
  v554
def k0_mult10 : BitVec 32 :=
  let c4_i32 : BitVec 32 := 4#32
  let c0_i32_176 : BitVec 32 := 0#32
  let v528 : BitVec 1 := Scalar.cmpi .sgt c4_i32 c0_i32_176
  let v529 : BitVec 32 := Scalar.extui v528
  let c0_i32_177 : BitVec 32 := 0#32
  let v530 : BitVec 1 := Scalar.cmpi .slt c4_i32 c0_i32_177
  let v531 : BitVec 32 := Scalar.extui v530
  let v532 : BitVec 32 := Scalar.subi v529 v531
  let c8_i32_175 : BitVec 32 := 8#32
  let c0_i32_178 : BitVec 32 := 0#32
  let v533 : BitVec 1 := Scalar.cmpi .sgt c8_i32_175 c0_i32_178
  let v534 : BitVec 32 := Scalar.extui v533
  let c0_i32_179 : BitVec 32 := 0#32
  let v535 : BitVec 1 := Scalar.cmpi .slt c8_i32_175 c0_i32_179
  let v536 : BitVec 32 := Scalar.extui v535
  let v537 : BitVec 32 := Scalar.subi v534 v536
  let v538 : BitVec 1 := Scalar.cmpi .ne v532 v537
  let v539 : BitVec 32 := Scalar.remsi c4_i32 c8_i32_175
  let c0_i32_180 : BitVec 32 := 0#32
  let v540 : BitVec 1 := Scalar.cmpi .ne v539 c0_i32_180
  let v541 : BitVec 1 := Scalar.andi v538 v540
  let v527 : BitVec 32 := Scalar.divsi c4_i32 c8_i32_175
  let c1_i32_181 : BitVec 32 := 1#32
  let v542 : BitVec 32 := Scalar.subi v527 c1_i32_181
  let v543 : BitVec 32 := Scalar.select v541 v542 v527
  let c128_i32_189 : BitVec 32 := 128#32
  let v556 : BitVec 32 := Scalar.muli v543 c128_i32_189
  v556
def k0_mult11 : BitVec 32 :=
  let c5_i32 : BitVec 32 := 5#32
  let c8_i32_221 : BitVec 32 := 8#32
  let c0_i32_222 : BitVec 32 := 0#32
  let v657 : BitVec 1 := Scalar.cmpi .eq c8_i32_221 c0_i32_222
  let c1_i32_223 : BitVec 32 := 1#32
  let v658 : BitVec 32 := Scalar.select v657 c1_i32_223 c8_i32_221
  let v659 : BitVec 32 := Scalar.remsi c5_i32 v658
  let c0_i32_225 : BitVec 32 := 0#32
  let v661 : BitVec 1 := Scalar.cmpi .slt v659 c0_i32_225
  let c0_i32_226 : BitVec 32 := 0#32
  let v662 : BitVec 1 := Scalar.cmpi .slt v658 c0_i32_226
  let v663 : BitVec 1 := Scalar.xori v661 v662
  let c0_i32_224 : BitVec 32 := 0#32
  let v660 : BitVec 1 := Scalar.cmpi .ne v659 c0_i32_224
  let v664 : BitVec 1 := Scalar.andi v663 v660
  let v665 : BitVec 32 := Scalar.addi v659 v658
  let v666 : BitVec 32 := Scalar.select v664 v665 v659
  let c256_i32_227 : BitVec 32 := 256#32
  let v667 : BitVec 32 := Scalar.muli v666 c256_i32_227
  v667
def k0_mult12 : BitVec 32 :=
  let c5_i32 : BitVec 32 := 5#32
  let c0_i32_215 : BitVec 32 := 0#32
  let v641 : BitVec 1 := Scalar.cmpi .sgt c5_i32 c0_i32_215
  let v642 : BitVec 32 := Scalar.extui v641
  let c0_i32_216 : BitVec 32 := 0#32
  let v643 : BitVec 1 := Scalar.cmpi .slt c5_i32 c0_i32_216
  let v644 : BitVec 32 := Scalar.extui v643
  let v645 : BitVec 32 := Scalar.subi v642 v644
  let c8_i32_214 : BitVec 32 := 8#32
  let c0_i32_217 : BitVec 32 := 0#32
  let v646 : BitVec 1 := Scalar.cmpi .sgt c8_i32_214 c0_i32_217
  let v647 : BitVec 32 := Scalar.extui v646
  let c0_i32_218 : BitVec 32 := 0#32
  let v648 : BitVec 1 := Scalar.cmpi .slt c8_i32_214 c0_i32_218
  let v649 : BitVec 32 := Scalar.extui v648
  let v650 : BitVec 32 := Scalar.subi v647 v649
  let v651 : BitVec 1 := Scalar.cmpi .ne v645 v650
  let v652 : BitVec 32 := Scalar.remsi c5_i32 c8_i32_214
  let c0_i32_219 : BitVec 32 := 0#32
  let v653 : BitVec 1 := Scalar.cmpi .ne v652 c0_i32_219
  let v654 : BitVec 1 := Scalar.andi v651 v653
  let v640 : BitVec 32 := Scalar.divsi c5_i32 c8_i32_214
  let c1_i32_220 : BitVec 32 := 1#32
  let v655 : BitVec 32 := Scalar.subi v640 c1_i32_220
  let v656 : BitVec 32 := Scalar.select v654 v655 v640
  let c128_i32_228 : BitVec 32 := 128#32
  let v669 : BitVec 32 := Scalar.muli v656 c128_i32_228
  v669
def k0_mult13 : BitVec 32 :=
  let c6_i32 : BitVec 32 := 6#32
  let c8_i32_260 : BitVec 32 := 8#32
  let c0_i32_261 : BitVec 32 := 0#32
  let v770 : BitVec 1 := Scalar.cmpi .eq c8_i32_260 c0_i32_261
  let c1_i32_262 : BitVec 32 := 1#32
  let v771 : BitVec 32 := Scalar.select v770 c1_i32_262 c8_i32_260
  let v772 : BitVec 32 := Scalar.remsi c6_i32 v771
  let c0_i32_264 : BitVec 32 := 0#32
  let v774 : BitVec 1 := Scalar.cmpi .slt v772 c0_i32_264
  let c0_i32_265 : BitVec 32 := 0#32
  let v775 : BitVec 1 := Scalar.cmpi .slt v771 c0_i32_265
  let v776 : BitVec 1 := Scalar.xori v774 v775
  let c0_i32_263 : BitVec 32 := 0#32
  let v773 : BitVec 1 := Scalar.cmpi .ne v772 c0_i32_263
  let v777 : BitVec 1 := Scalar.andi v776 v773
  let v778 : BitVec 32 := Scalar.addi v772 v771
  let v779 : BitVec 32 := Scalar.select v777 v778 v772
  let c256_i32_266 : BitVec 32 := 256#32
  let v780 : BitVec 32 := Scalar.muli v779 c256_i32_266
  v780
def k0_mult14 : BitVec 32 :=
  let c6_i32 : BitVec 32 := 6#32
  let c0_i32_254 : BitVec 32 := 0#32
  let v754 : BitVec 1 := Scalar.cmpi .sgt c6_i32 c0_i32_254
  let v755 : BitVec 32 := Scalar.extui v754
  let c0_i32_255 : BitVec 32 := 0#32
  let v756 : BitVec 1 := Scalar.cmpi .slt c6_i32 c0_i32_255
  let v757 : BitVec 32 := Scalar.extui v756
  let v758 : BitVec 32 := Scalar.subi v755 v757
  let c8_i32_253 : BitVec 32 := 8#32
  let c0_i32_256 : BitVec 32 := 0#32
  let v759 : BitVec 1 := Scalar.cmpi .sgt c8_i32_253 c0_i32_256
  let v760 : BitVec 32 := Scalar.extui v759
  let c0_i32_257 : BitVec 32 := 0#32
  let v761 : BitVec 1 := Scalar.cmpi .slt c8_i32_253 c0_i32_257
  let v762 : BitVec 32 := Scalar.extui v761
  let v763 : BitVec 32 := Scalar.subi v760 v762
  let v764 : BitVec 1 := Scalar.cmpi .ne v758 v763
  let v765 : BitVec 32 := Scalar.remsi c6_i32 c8_i32_253
  let c0_i32_258 : BitVec 32 := 0#32
  let v766 : BitVec 1 := Scalar.cmpi .ne v765 c0_i32_258
  let v767 : BitVec 1 := Scalar.andi v764 v766
  let v753 : BitVec 32 := Scalar.divsi c6_i32 c8_i32_253
  let c1_i32_259 : BitVec 32 := 1#32
  let v768 : BitVec 32 := Scalar.subi v753 c1_i32_259
  let v769 : BitVec 32 := Scalar.select v767 v768 v753
  let c128_i32_267 : BitVec 32 := 128#32
  let v782 : BitVec 32 := Scalar.muli v769 c128_i32_267
  v782
def k0_mult15 : BitVec 32 :=
  let c7_i32 : BitVec 32 := 7#32
  let c8_i32_299 : BitVec 32 := 8#32
  let c0_i32_300 : BitVec 32 := 0#32
  let v883 : BitVec 1 := Scalar.cmpi .eq c8_i32_299 c0_i32_300
  let c1_i32_301 : BitVec 32 := 1#32
  let v884 : BitVec 32 := Scalar.select v883 c1_i32_301 c8_i32_299
  let v885 : BitVec 32 := Scalar.remsi c7_i32 v884
  let c0_i32_303 : BitVec 32 := 0#32
  let v887 : BitVec 1 := Scalar.cmpi .slt v885 c0_i32_303
  let c0_i32_304 : BitVec 32 := 0#32
  let v888 : BitVec 1 := Scalar.cmpi .slt v884 c0_i32_304
  let v889 : BitVec 1 := Scalar.xori v887 v888
  let c0_i32_302 : BitVec 32 := 0#32
  let v886 : BitVec 1 := Scalar.cmpi .ne v885 c0_i32_302
  let v890 : BitVec 1 := Scalar.andi v889 v886
  let v891 : BitVec 32 := Scalar.addi v885 v884
  let v892 : BitVec 32 := Scalar.select v890 v891 v885
  let c256_i32_305 : BitVec 32 := 256#32
  let v893 : BitVec 32 := Scalar.muli v892 c256_i32_305
  v893
def k0_mult16 : BitVec 32 :=
  let c7_i32 : BitVec 32 := 7#32
  let c0_i32_293 : BitVec 32 := 0#32
  let v867 : BitVec 1 := Scalar.cmpi .sgt c7_i32 c0_i32_293
  let v868 : BitVec 32 := Scalar.extui v867
  let c0_i32_294 : BitVec 32 := 0#32
  let v869 : BitVec 1 := Scalar.cmpi .slt c7_i32 c0_i32_294
  let v870 : BitVec 32 := Scalar.extui v869
  let v871 : BitVec 32 := Scalar.subi v868 v870
  let c8_i32_292 : BitVec 32 := 8#32
  let c0_i32_295 : BitVec 32 := 0#32
  let v872 : BitVec 1 := Scalar.cmpi .sgt c8_i32_292 c0_i32_295
  let v873 : BitVec 32 := Scalar.extui v872
  let c0_i32_296 : BitVec 32 := 0#32
  let v874 : BitVec 1 := Scalar.cmpi .slt c8_i32_292 c0_i32_296
  let v875 : BitVec 32 := Scalar.extui v874
  let v876 : BitVec 32 := Scalar.subi v873 v875
  let v877 : BitVec 1 := Scalar.cmpi .ne v871 v876
  let v878 : BitVec 32 := Scalar.remsi c7_i32 c8_i32_292
  let c0_i32_297 : BitVec 32 := 0#32
  let v879 : BitVec 1 := Scalar.cmpi .ne v878 c0_i32_297
  let v880 : BitVec 1 := Scalar.andi v877 v879
  let v866 : BitVec 32 := Scalar.divsi c7_i32 c8_i32_292
  let c1_i32_298 : BitVec 32 := 1#32
  let v881 : BitVec 32 := Scalar.subi v866 c1_i32_298
  let v882 : BitVec 32 := Scalar.select v880 v881 v866
  let c128_i32_306 : BitVec 32 := 128#32
  let v895 : BitVec 32 := Scalar.muli v882 c128_i32_306
  v895
def k0_mult17 : BitVec 32 :=
  let c8_i32_331 : BitVec 32 := 8#32
  let c8_i32_339 : BitVec 32 := 8#32
  let c0_i32_340 : BitVec 32 := 0#32
  let v996 : BitVec 1 := Scalar.cmpi .eq c8_i32_339 c0_i32_340
  let c1_i32_341 : BitVec 32 := 1#32
  let v997 : BitVec 32 := Scalar.select v996 c1_i32_341 c8_i32_339
  let v998 : BitVec 32 := Scalar.remsi c8_i32_331 v997
  let c0_i32_343 : BitVec 32 := 0#32
  let v1000 : BitVec 1 := Scalar.cmpi .slt v998 c0_i32_343
  let c0_i32_344 : BitVec 32 := 0#32
  let v1001 : BitVec 1 := Scalar.cmpi .slt v997 c0_i32_344
  let v1002 : BitVec 1 := Scalar.xori v1000 v1001
  let c0_i32_342 : BitVec 32 := 0#32
  let v999 : BitVec 1 := Scalar.cmpi .ne v998 c0_i32_342
  let v1003 : BitVec 1 := Scalar.andi v1002 v999
  let v1004 : BitVec 32 := Scalar.addi v998 v997
  let v1005 : BitVec 32 := Scalar.select v1003 v1004 v998
  let c256_i32_345 : BitVec 32 := 256#32
  let v1006 : BitVec 32 := Scalar.muli v1005 c256_i32_345
  v1006
def k0_mult18 : BitVec 32 :=
  let c8_i32_331 : BitVec 32 := 8#32
  let c0_i32_333 : BitVec 32 := 0#32
  let v980 : BitVec 1 := Scalar.cmpi .sgt c8_i32_331 c0_i32_333
  let v981 : BitVec 32 := Scalar.extui v980
  let c0_i32_334 : BitVec 32 := 0#32
  let v982 : BitVec 1 := Scalar.cmpi .slt c8_i32_331 c0_i32_334
  let v983 : BitVec 32 := Scalar.extui v982
  let v984 : BitVec 32 := Scalar.subi v981 v983
  let c8_i32_332 : BitVec 32 := 8#32
  let c0_i32_335 : BitVec 32 := 0#32
  let v985 : BitVec 1 := Scalar.cmpi .sgt c8_i32_332 c0_i32_335
  let v986 : BitVec 32 := Scalar.extui v985
  let c0_i32_336 : BitVec 32 := 0#32
  let v987 : BitVec 1 := Scalar.cmpi .slt c8_i32_332 c0_i32_336
  let v988 : BitVec 32 := Scalar.extui v987
  let v989 : BitVec 32 := Scalar.subi v986 v988
  let v990 : BitVec 1 := Scalar.cmpi .ne v984 v989
  let v991 : BitVec 32 := Scalar.remsi c8_i32_331 c8_i32_332
  let c0_i32_337 : BitVec 32 := 0#32
  let v992 : BitVec 1 := Scalar.cmpi .ne v991 c0_i32_337
  let v993 : BitVec 1 := Scalar.andi v990 v992
  let v979 : BitVec 32 := Scalar.divsi c8_i32_331 c8_i32_332
  let c1_i32_338 : BitVec 32 := 1#32
  let v994 : BitVec 32 := Scalar.subi v979 c1_i32_338
  let v995 : BitVec 32 := Scalar.select v993 v994 v979
  let c128_i32_346 : BitVec 32 := 128#32
  let v1008 : BitVec 32 := Scalar.muli v995 c128_i32_346
  v1008
def k0_mult19 : BitVec 32 :=
  let c9_i32 : BitVec 32 := 9#32
  let c8_i32_378 : BitVec 32 := 8#32
  let c0_i32_379 : BitVec 32 := 0#32
  let v1109 : BitVec 1 := Scalar.cmpi .eq c8_i32_378 c0_i32_379
  let c1_i32_380 : BitVec 32 := 1#32
  let v1110 : BitVec 32 := Scalar.select v1109 c1_i32_380 c8_i32_378
  let v1111 : BitVec 32 := Scalar.remsi c9_i32 v1110
  let c0_i32_382 : BitVec 32 := 0#32
  let v1113 : BitVec 1 := Scalar.cmpi .slt v1111 c0_i32_382
  let c0_i32_383 : BitVec 32 := 0#32
  let v1114 : BitVec 1 := Scalar.cmpi .slt v1110 c0_i32_383
  let v1115 : BitVec 1 := Scalar.xori v1113 v1114
  let c0_i32_381 : BitVec 32 := 0#32
  let v1112 : BitVec 1 := Scalar.cmpi .ne v1111 c0_i32_381
  let v1116 : BitVec 1 := Scalar.andi v1115 v1112
  let v1117 : BitVec 32 := Scalar.addi v1111 v1110
  let v1118 : BitVec 32 := Scalar.select v1116 v1117 v1111
  let c256_i32_384 : BitVec 32 := 256#32
  let v1119 : BitVec 32 := Scalar.muli v1118 c256_i32_384
  v1119
def k0_mult20 : BitVec 32 :=
  let c9_i32 : BitVec 32 := 9#32
  let c0_i32_372 : BitVec 32 := 0#32
  let v1093 : BitVec 1 := Scalar.cmpi .sgt c9_i32 c0_i32_372
  let v1094 : BitVec 32 := Scalar.extui v1093
  let c0_i32_373 : BitVec 32 := 0#32
  let v1095 : BitVec 1 := Scalar.cmpi .slt c9_i32 c0_i32_373
  let v1096 : BitVec 32 := Scalar.extui v1095
  let v1097 : BitVec 32 := Scalar.subi v1094 v1096
  let c8_i32_371 : BitVec 32 := 8#32
  let c0_i32_374 : BitVec 32 := 0#32
  let v1098 : BitVec 1 := Scalar.cmpi .sgt c8_i32_371 c0_i32_374
  let v1099 : BitVec 32 := Scalar.extui v1098
  let c0_i32_375 : BitVec 32 := 0#32
  let v1100 : BitVec 1 := Scalar.cmpi .slt c8_i32_371 c0_i32_375
  let v1101 : BitVec 32 := Scalar.extui v1100
  let v1102 : BitVec 32 := Scalar.subi v1099 v1101
  let v1103 : BitVec 1 := Scalar.cmpi .ne v1097 v1102
  let v1104 : BitVec 32 := Scalar.remsi c9_i32 c8_i32_371
  let c0_i32_376 : BitVec 32 := 0#32
  let v1105 : BitVec 1 := Scalar.cmpi .ne v1104 c0_i32_376
  let v1106 : BitVec 1 := Scalar.andi v1103 v1105
  let v1092 : BitVec 32 := Scalar.divsi c9_i32 c8_i32_371
  let c1_i32_377 : BitVec 32 := 1#32
  let v1107 : BitVec 32 := Scalar.subi v1092 c1_i32_377
  let v1108 : BitVec 32 := Scalar.select v1106 v1107 v1092
  let c128_i32_385 : BitVec 32 := 128#32
  let v1121 : BitVec 32 := Scalar.muli v1108 c128_i32_385
  v1121
def k0_mult21 : BitVec 32 :=
  let c10_i32 : BitVec 32 := 10#32
  let c8_i32_417 : BitVec 32 := 8#32
  let c0_i32_418 : BitVec 32 := 0#32
  let v1222 : BitVec 1 := Scalar.cmpi .eq c8_i32_417 c0_i32_418
  let c1_i32_419 : BitVec 32 := 1#32
  let v1223 : BitVec 32 := Scalar.select v1222 c1_i32_419 c8_i32_417
  let v1224 : BitVec 32 := Scalar.remsi c10_i32 v1223
  let c0_i32_421 : BitVec 32 := 0#32
  let v1226 : BitVec 1 := Scalar.cmpi .slt v1224 c0_i32_421
  let c0_i32_422 : BitVec 32 := 0#32
  let v1227 : BitVec 1 := Scalar.cmpi .slt v1223 c0_i32_422
  let v1228 : BitVec 1 := Scalar.xori v1226 v1227
  let c0_i32_420 : BitVec 32 := 0#32
  let v1225 : BitVec 1 := Scalar.cmpi .ne v1224 c0_i32_420
  let v1229 : BitVec 1 := Scalar.andi v1228 v1225
  let v1230 : BitVec 32 := Scalar.addi v1224 v1223
  let v1231 : BitVec 32 := Scalar.select v1229 v1230 v1224
  let c256_i32_423 : BitVec 32 := 256#32
  let v1232 : BitVec 32 := Scalar.muli v1231 c256_i32_423
  v1232
def k0_mult22 : BitVec 32 :=
  let c10_i32 : BitVec 32 := 10#32
  let c0_i32_411 : BitVec 32 := 0#32
  let v1206 : BitVec 1 := Scalar.cmpi .sgt c10_i32 c0_i32_411
  let v1207 : BitVec 32 := Scalar.extui v1206
  let c0_i32_412 : BitVec 32 := 0#32
  let v1208 : BitVec 1 := Scalar.cmpi .slt c10_i32 c0_i32_412
  let v1209 : BitVec 32 := Scalar.extui v1208
  let v1210 : BitVec 32 := Scalar.subi v1207 v1209
  let c8_i32_410 : BitVec 32 := 8#32
  let c0_i32_413 : BitVec 32 := 0#32
  let v1211 : BitVec 1 := Scalar.cmpi .sgt c8_i32_410 c0_i32_413
  let v1212 : BitVec 32 := Scalar.extui v1211
  let c0_i32_414 : BitVec 32 := 0#32
  let v1213 : BitVec 1 := Scalar.cmpi .slt c8_i32_410 c0_i32_414
  let v1214 : BitVec 32 := Scalar.extui v1213
  let v1215 : BitVec 32 := Scalar.subi v1212 v1214
  let v1216 : BitVec 1 := Scalar.cmpi .ne v1210 v1215
  let v1217 : BitVec 32 := Scalar.remsi c10_i32 c8_i32_410
  let c0_i32_415 : BitVec 32 := 0#32
  let v1218 : BitVec 1 := Scalar.cmpi .ne v1217 c0_i32_415
  let v1219 : BitVec 1 := Scalar.andi v1216 v1218
  let v1205 : BitVec 32 := Scalar.divsi c10_i32 c8_i32_410
  let c1_i32_416 : BitVec 32 := 1#32
  let v1220 : BitVec 32 := Scalar.subi v1205 c1_i32_416
  let v1221 : BitVec 32 := Scalar.select v1219 v1220 v1205
  let c128_i32_424 : BitVec 32 := 128#32
  let v1234 : BitVec 32 := Scalar.muli v1221 c128_i32_424
  v1234
def k0_mult23 : BitVec 32 :=
  let c11_i32 : BitVec 32 := 11#32
  let c8_i32_456 : BitVec 32 := 8#32
  let c0_i32_457 : BitVec 32 := 0#32
  let v1335 : BitVec 1 := Scalar.cmpi .eq c8_i32_456 c0_i32_457
  let c1_i32_458 : BitVec 32 := 1#32
  let v1336 : BitVec 32 := Scalar.select v1335 c1_i32_458 c8_i32_456
  let v1337 : BitVec 32 := Scalar.remsi c11_i32 v1336
  let c0_i32_460 : BitVec 32 := 0#32
  let v1339 : BitVec 1 := Scalar.cmpi .slt v1337 c0_i32_460
  let c0_i32_461 : BitVec 32 := 0#32
  let v1340 : BitVec 1 := Scalar.cmpi .slt v1336 c0_i32_461
  let v1341 : BitVec 1 := Scalar.xori v1339 v1340
  let c0_i32_459 : BitVec 32 := 0#32
  let v1338 : BitVec 1 := Scalar.cmpi .ne v1337 c0_i32_459
  let v1342 : BitVec 1 := Scalar.andi v1341 v1338
  let v1343 : BitVec 32 := Scalar.addi v1337 v1336
  let v1344 : BitVec 32 := Scalar.select v1342 v1343 v1337
  let c256_i32_462 : BitVec 32 := 256#32
  let v1345 : BitVec 32 := Scalar.muli v1344 c256_i32_462
  v1345
def k0_mult24 : BitVec 32 :=
  let c11_i32 : BitVec 32 := 11#32
  let c0_i32_450 : BitVec 32 := 0#32
  let v1319 : BitVec 1 := Scalar.cmpi .sgt c11_i32 c0_i32_450
  let v1320 : BitVec 32 := Scalar.extui v1319
  let c0_i32_451 : BitVec 32 := 0#32
  let v1321 : BitVec 1 := Scalar.cmpi .slt c11_i32 c0_i32_451
  let v1322 : BitVec 32 := Scalar.extui v1321
  let v1323 : BitVec 32 := Scalar.subi v1320 v1322
  let c8_i32_449 : BitVec 32 := 8#32
  let c0_i32_452 : BitVec 32 := 0#32
  let v1324 : BitVec 1 := Scalar.cmpi .sgt c8_i32_449 c0_i32_452
  let v1325 : BitVec 32 := Scalar.extui v1324
  let c0_i32_453 : BitVec 32 := 0#32
  let v1326 : BitVec 1 := Scalar.cmpi .slt c8_i32_449 c0_i32_453
  let v1327 : BitVec 32 := Scalar.extui v1326
  let v1328 : BitVec 32 := Scalar.subi v1325 v1327
  let v1329 : BitVec 1 := Scalar.cmpi .ne v1323 v1328
  let v1330 : BitVec 32 := Scalar.remsi c11_i32 c8_i32_449
  let c0_i32_454 : BitVec 32 := 0#32
  let v1331 : BitVec 1 := Scalar.cmpi .ne v1330 c0_i32_454
  let v1332 : BitVec 1 := Scalar.andi v1329 v1331
  let v1318 : BitVec 32 := Scalar.divsi c11_i32 c8_i32_449
  let c1_i32_455 : BitVec 32 := 1#32
  let v1333 : BitVec 32 := Scalar.subi v1318 c1_i32_455
  let v1334 : BitVec 32 := Scalar.select v1332 v1333 v1318
  let c128_i32_463 : BitVec 32 := 128#32
  let v1347 : BitVec 32 := Scalar.muli v1334 c128_i32_463
  v1347
def k0_mult25 : BitVec 32 :=
  let c12_i32 : BitVec 32 := 12#32
  let c8_i32_495 : BitVec 32 := 8#32
  let c0_i32_496 : BitVec 32 := 0#32
  let v1448 : BitVec 1 := Scalar.cmpi .eq c8_i32_495 c0_i32_496
  let c1_i32_497 : BitVec 32 := 1#32
  let v1449 : BitVec 32 := Scalar.select v1448 c1_i32_497 c8_i32_495
  let v1450 : BitVec 32 := Scalar.remsi c12_i32 v1449
  let c0_i32_499 : BitVec 32 := 0#32
  let v1452 : BitVec 1 := Scalar.cmpi .slt v1450 c0_i32_499
  let c0_i32_500 : BitVec 32 := 0#32
  let v1453 : BitVec 1 := Scalar.cmpi .slt v1449 c0_i32_500
  let v1454 : BitVec 1 := Scalar.xori v1452 v1453
  let c0_i32_498 : BitVec 32 := 0#32
  let v1451 : BitVec 1 := Scalar.cmpi .ne v1450 c0_i32_498
  let v1455 : BitVec 1 := Scalar.andi v1454 v1451
  let v1456 : BitVec 32 := Scalar.addi v1450 v1449
  let v1457 : BitVec 32 := Scalar.select v1455 v1456 v1450
  let c256_i32_501 : BitVec 32 := 256#32
  let v1458 : BitVec 32 := Scalar.muli v1457 c256_i32_501
  v1458
def k0_mult26 : BitVec 32 :=
  let c12_i32 : BitVec 32 := 12#32
  let c0_i32_489 : BitVec 32 := 0#32
  let v1432 : BitVec 1 := Scalar.cmpi .sgt c12_i32 c0_i32_489
  let v1433 : BitVec 32 := Scalar.extui v1432
  let c0_i32_490 : BitVec 32 := 0#32
  let v1434 : BitVec 1 := Scalar.cmpi .slt c12_i32 c0_i32_490
  let v1435 : BitVec 32 := Scalar.extui v1434
  let v1436 : BitVec 32 := Scalar.subi v1433 v1435
  let c8_i32_488 : BitVec 32 := 8#32
  let c0_i32_491 : BitVec 32 := 0#32
  let v1437 : BitVec 1 := Scalar.cmpi .sgt c8_i32_488 c0_i32_491
  let v1438 : BitVec 32 := Scalar.extui v1437
  let c0_i32_492 : BitVec 32 := 0#32
  let v1439 : BitVec 1 := Scalar.cmpi .slt c8_i32_488 c0_i32_492
  let v1440 : BitVec 32 := Scalar.extui v1439
  let v1441 : BitVec 32 := Scalar.subi v1438 v1440
  let v1442 : BitVec 1 := Scalar.cmpi .ne v1436 v1441
  let v1443 : BitVec 32 := Scalar.remsi c12_i32 c8_i32_488
  let c0_i32_493 : BitVec 32 := 0#32
  let v1444 : BitVec 1 := Scalar.cmpi .ne v1443 c0_i32_493
  let v1445 : BitVec 1 := Scalar.andi v1442 v1444
  let v1431 : BitVec 32 := Scalar.divsi c12_i32 c8_i32_488
  let c1_i32_494 : BitVec 32 := 1#32
  let v1446 : BitVec 32 := Scalar.subi v1431 c1_i32_494
  let v1447 : BitVec 32 := Scalar.select v1445 v1446 v1431
  let c128_i32_502 : BitVec 32 := 128#32
  let v1460 : BitVec 32 := Scalar.muli v1447 c128_i32_502
  v1460
def k0_mult27 : BitVec 32 :=
  let c13_i32 : BitVec 32 := 13#32
  let c8_i32_534 : BitVec 32 := 8#32
  let c0_i32_535 : BitVec 32 := 0#32
  let v1561 : BitVec 1 := Scalar.cmpi .eq c8_i32_534 c0_i32_535
  let c1_i32_536 : BitVec 32 := 1#32
  let v1562 : BitVec 32 := Scalar.select v1561 c1_i32_536 c8_i32_534
  let v1563 : BitVec 32 := Scalar.remsi c13_i32 v1562
  let c0_i32_538 : BitVec 32 := 0#32
  let v1565 : BitVec 1 := Scalar.cmpi .slt v1563 c0_i32_538
  let c0_i32_539 : BitVec 32 := 0#32
  let v1566 : BitVec 1 := Scalar.cmpi .slt v1562 c0_i32_539
  let v1567 : BitVec 1 := Scalar.xori v1565 v1566
  let c0_i32_537 : BitVec 32 := 0#32
  let v1564 : BitVec 1 := Scalar.cmpi .ne v1563 c0_i32_537
  let v1568 : BitVec 1 := Scalar.andi v1567 v1564
  let v1569 : BitVec 32 := Scalar.addi v1563 v1562
  let v1570 : BitVec 32 := Scalar.select v1568 v1569 v1563
  let c256_i32_540 : BitVec 32 := 256#32
  let v1571 : BitVec 32 := Scalar.muli v1570 c256_i32_540
  v1571
def k0_mult28 : BitVec 32 :=
  let c13_i32 : BitVec 32 := 13#32
  let c0_i32_528 : BitVec 32 := 0#32
  let v1545 : BitVec 1 := Scalar.cmpi .sgt c13_i32 c0_i32_528
  let v1546 : BitVec 32 := Scalar.extui v1545
  let c0_i32_529 : BitVec 32 := 0#32
  let v1547 : BitVec 1 := Scalar.cmpi .slt c13_i32 c0_i32_529
  let v1548 : BitVec 32 := Scalar.extui v1547
  let v1549 : BitVec 32 := Scalar.subi v1546 v1548
  let c8_i32_527 : BitVec 32 := 8#32
  let c0_i32_530 : BitVec 32 := 0#32
  let v1550 : BitVec 1 := Scalar.cmpi .sgt c8_i32_527 c0_i32_530
  let v1551 : BitVec 32 := Scalar.extui v1550
  let c0_i32_531 : BitVec 32 := 0#32
  let v1552 : BitVec 1 := Scalar.cmpi .slt c8_i32_527 c0_i32_531
  let v1553 : BitVec 32 := Scalar.extui v1552
  let v1554 : BitVec 32 := Scalar.subi v1551 v1553
  let v1555 : BitVec 1 := Scalar.cmpi .ne v1549 v1554
  let v1556 : BitVec 32 := Scalar.remsi c13_i32 c8_i32_527
  let c0_i32_532 : BitVec 32 := 0#32
  let v1557 : BitVec 1 := Scalar.cmpi .ne v1556 c0_i32_532
  let v1558 : BitVec 1 := Scalar.andi v1555 v1557
  let v1544 : BitVec 32 := Scalar.divsi c13_i32 c8_i32_527
  let c1_i32_533 : BitVec 32 := 1#32
  let v1559 : BitVec 32 := Scalar.subi v1544 c1_i32_533
  let v1560 : BitVec 32 := Scalar.select v1558 v1559 v1544
  let c128_i32_541 : BitVec 32 := 128#32
  let v1573 : BitVec 32 := Scalar.muli v1560 c128_i32_541
  v1573
def k0_mult29 : BitVec 32 :=
  let c14_i32 : BitVec 32 := 14#32
  let c8_i32_573 : BitVec 32 := 8#32
  let c0_i32_574 : BitVec 32 := 0#32
  let v1674 : BitVec 1 := Scalar.cmpi .eq c8_i32_573 c0_i32_574
  let c1_i32_575 : BitVec 32 := 1#32
  let v1675 : BitVec 32 := Scalar.select v1674 c1_i32_575 c8_i32_573
  let v1676 : BitVec 32 := Scalar.remsi c14_i32 v1675
  let c0_i32_577 : BitVec 32 := 0#32
  let v1678 : BitVec 1 := Scalar.cmpi .slt v1676 c0_i32_577
  let c0_i32_578 : BitVec 32 := 0#32
  let v1679 : BitVec 1 := Scalar.cmpi .slt v1675 c0_i32_578
  let v1680 : BitVec 1 := Scalar.xori v1678 v1679
  let c0_i32_576 : BitVec 32 := 0#32
  let v1677 : BitVec 1 := Scalar.cmpi .ne v1676 c0_i32_576
  let v1681 : BitVec 1 := Scalar.andi v1680 v1677
  let v1682 : BitVec 32 := Scalar.addi v1676 v1675
  let v1683 : BitVec 32 := Scalar.select v1681 v1682 v1676
  let c256_i32_579 : BitVec 32 := 256#32
  let v1684 : BitVec 32 := Scalar.muli v1683 c256_i32_579
  v1684
def k0_mult30 : BitVec 32 :=
  let c14_i32 : BitVec 32 := 14#32
  let c0_i32_567 : BitVec 32 := 0#32
  let v1658 : BitVec 1 := Scalar.cmpi .sgt c14_i32 c0_i32_567
  let v1659 : BitVec 32 := Scalar.extui v1658
  let c0_i32_568 : BitVec 32 := 0#32
  let v1660 : BitVec 1 := Scalar.cmpi .slt c14_i32 c0_i32_568
  let v1661 : BitVec 32 := Scalar.extui v1660
  let v1662 : BitVec 32 := Scalar.subi v1659 v1661
  let c8_i32_566 : BitVec 32 := 8#32
  let c0_i32_569 : BitVec 32 := 0#32
  let v1663 : BitVec 1 := Scalar.cmpi .sgt c8_i32_566 c0_i32_569
  let v1664 : BitVec 32 := Scalar.extui v1663
  let c0_i32_570 : BitVec 32 := 0#32
  let v1665 : BitVec 1 := Scalar.cmpi .slt c8_i32_566 c0_i32_570
  let v1666 : BitVec 32 := Scalar.extui v1665
  let v1667 : BitVec 32 := Scalar.subi v1664 v1666
  let v1668 : BitVec 1 := Scalar.cmpi .ne v1662 v1667
  let v1669 : BitVec 32 := Scalar.remsi c14_i32 c8_i32_566
  let c0_i32_571 : BitVec 32 := 0#32
  let v1670 : BitVec 1 := Scalar.cmpi .ne v1669 c0_i32_571
  let v1671 : BitVec 1 := Scalar.andi v1668 v1670
  let v1657 : BitVec 32 := Scalar.divsi c14_i32 c8_i32_566
  let c1_i32_572 : BitVec 32 := 1#32
  let v1672 : BitVec 32 := Scalar.subi v1657 c1_i32_572
  let v1673 : BitVec 32 := Scalar.select v1671 v1672 v1657
  let c128_i32_580 : BitVec 32 := 128#32
  let v1686 : BitVec 32 := Scalar.muli v1673 c128_i32_580
  v1686
def k0_mult31 : BitVec 32 :=
  let c15_i32 : BitVec 32 := 15#32
  let c8_i32_612 : BitVec 32 := 8#32
  let c0_i32_613 : BitVec 32 := 0#32
  let v1787 : BitVec 1 := Scalar.cmpi .eq c8_i32_612 c0_i32_613
  let c1_i32_614 : BitVec 32 := 1#32
  let v1788 : BitVec 32 := Scalar.select v1787 c1_i32_614 c8_i32_612
  let v1789 : BitVec 32 := Scalar.remsi c15_i32 v1788
  let c0_i32_616 : BitVec 32 := 0#32
  let v1791 : BitVec 1 := Scalar.cmpi .slt v1789 c0_i32_616
  let c0_i32_617 : BitVec 32 := 0#32
  let v1792 : BitVec 1 := Scalar.cmpi .slt v1788 c0_i32_617
  let v1793 : BitVec 1 := Scalar.xori v1791 v1792
  let c0_i32_615 : BitVec 32 := 0#32
  let v1790 : BitVec 1 := Scalar.cmpi .ne v1789 c0_i32_615
  let v1794 : BitVec 1 := Scalar.andi v1793 v1790
  let v1795 : BitVec 32 := Scalar.addi v1789 v1788
  let v1796 : BitVec 32 := Scalar.select v1794 v1795 v1789
  let c256_i32_618 : BitVec 32 := 256#32
  let v1797 : BitVec 32 := Scalar.muli v1796 c256_i32_618
  v1797
def k0_mult32 : BitVec 32 :=
  let c15_i32 : BitVec 32 := 15#32
  let c0_i32_606 : BitVec 32 := 0#32
  let v1771 : BitVec 1 := Scalar.cmpi .sgt c15_i32 c0_i32_606
  let v1772 : BitVec 32 := Scalar.extui v1771
  let c0_i32_607 : BitVec 32 := 0#32
  let v1773 : BitVec 1 := Scalar.cmpi .slt c15_i32 c0_i32_607
  let v1774 : BitVec 32 := Scalar.extui v1773
  let v1775 : BitVec 32 := Scalar.subi v1772 v1774
  let c8_i32_605 : BitVec 32 := 8#32
  let c0_i32_608 : BitVec 32 := 0#32
  let v1776 : BitVec 1 := Scalar.cmpi .sgt c8_i32_605 c0_i32_608
  let v1777 : BitVec 32 := Scalar.extui v1776
  let c0_i32_609 : BitVec 32 := 0#32
  let v1778 : BitVec 1 := Scalar.cmpi .slt c8_i32_605 c0_i32_609
  let v1779 : BitVec 32 := Scalar.extui v1778
  let v1780 : BitVec 32 := Scalar.subi v1777 v1779
  let v1781 : BitVec 1 := Scalar.cmpi .ne v1775 v1780
  let v1782 : BitVec 32 := Scalar.remsi c15_i32 c8_i32_605
  let c0_i32_610 : BitVec 32 := 0#32
  let v1783 : BitVec 1 := Scalar.cmpi .ne v1782 c0_i32_610
  let v1784 : BitVec 1 := Scalar.andi v1781 v1783
  let v1770 : BitVec 32 := Scalar.divsi c15_i32 c8_i32_605
  let c1_i32_611 : BitVec 32 := 1#32
  let v1785 : BitVec 32 := Scalar.subi v1770 c1_i32_611
  let v1786 : BitVec 32 := Scalar.select v1784 v1785 v1770
  let c128_i32_619 : BitVec 32 := 128#32
  let v1799 : BitVec 32 := Scalar.muli v1786 c128_i32_619
  v1799
def k0_mult33 : BitVec 32 :=
  let c0_i32_649 : BitVec 32 := 0#32
  c0_i32_649
@[reducible] def k0_t1_loop : Scf.Loop 32 :=
  let c0_i32_668 : BitVec 32 := 0#32
  let c7_i32_669 : BitVec 32 := 7#32
  let v1915 : BitVec 32 := Scalar.addi c0_i32_668 c7_i32_669
  let c1_i32_670 : BitVec 32 := 1#32
  ⟨c0_i32_668, v1915, c1_i32_670⟩
def k0_mult34 (k0_t1 : Fin k0_t1_loop.trips) : BitVec 32 :=
  let c2_i32_747 : BitVec 32 := 2#32
  let c0_i32_668 : BitVec 32 := 0#32
  let c1_i32_670 : BitVec 32 := 1#32
  let arg18 : BitVec 32 := Scf.iv c0_i32_668 c1_i32_670 k0_t1
  let v2078 : BitVec 32 := Scalar.muli c2_i32_747 arg18
  let c1_i32_748 : BitVec 32 := 1#32
  let v2079 : BitVec 32 := Scalar.addi v2078 c1_i32_748
  let c8_i32_756 : BitVec 32 := 8#32
  let c0_i32_757 : BitVec 32 := 0#32
  let v2097 : BitVec 1 := Scalar.cmpi .eq c8_i32_756 c0_i32_757
  let c1_i32_758 : BitVec 32 := 1#32
  let v2098 : BitVec 32 := Scalar.select v2097 c1_i32_758 c8_i32_756
  let v2099 : BitVec 32 := Scalar.remsi v2079 v2098
  let c0_i32_760 : BitVec 32 := 0#32
  let v2101 : BitVec 1 := Scalar.cmpi .slt v2099 c0_i32_760
  let c0_i32_761 : BitVec 32 := 0#32
  let v2102 : BitVec 1 := Scalar.cmpi .slt v2098 c0_i32_761
  let v2103 : BitVec 1 := Scalar.xori v2101 v2102
  let c0_i32_759 : BitVec 32 := 0#32
  let v2100 : BitVec 1 := Scalar.cmpi .ne v2099 c0_i32_759
  let v2104 : BitVec 1 := Scalar.andi v2103 v2100
  let v2105 : BitVec 32 := Scalar.addi v2099 v2098
  let v2106 : BitVec 32 := Scalar.select v2104 v2105 v2099
  let c256_i32_762 : BitVec 32 := 256#32
  let v2107 : BitVec 32 := Scalar.muli v2106 c256_i32_762
  v2107
def k0_off7 (k0_t1 : Fin k0_t1_loop.trips) (c1_i32_748 : BitVec 32) : Fin 3 → Nat :=
  let c2_i32_747 : BitVec 32 := 2#32
  let c0_i32_668 : BitVec 32 := 0#32
  let c1_i32_670 : BitVec 32 := 1#32
  let arg18 : BitVec 32 := Scf.iv c0_i32_668 c1_i32_670 k0_t1
  let v2078 : BitVec 32 := Scalar.muli c2_i32_747 arg18
  let v2079 : BitVec 32 := Scalar.addi v2078 c1_i32_748
  let c0_i32_750 : BitVec 32 := 0#32
  let v2081 : BitVec 1 := Scalar.cmpi .sgt v2079 c0_i32_750
  let v2082 : BitVec 32 := Scalar.extui v2081
  let c0_i32_751 : BitVec 32 := 0#32
  let v2083 : BitVec 1 := Scalar.cmpi .slt v2079 c0_i32_751
  let v2084 : BitVec 32 := Scalar.extui v2083
  let v2085 : BitVec 32 := Scalar.subi v2082 v2084
  let c8_i32_749 : BitVec 32 := 8#32
  let c0_i32_752 : BitVec 32 := 0#32
  let v2086 : BitVec 1 := Scalar.cmpi .sgt c8_i32_749 c0_i32_752
  let v2087 : BitVec 32 := Scalar.extui v2086
  let c0_i32_753 : BitVec 32 := 0#32
  let v2088 : BitVec 1 := Scalar.cmpi .slt c8_i32_749 c0_i32_753
  let v2089 : BitVec 32 := Scalar.extui v2088
  let v2090 : BitVec 32 := Scalar.subi v2087 v2089
  let v2091 : BitVec 1 := Scalar.cmpi .ne v2085 v2090
  let v2092 : BitVec 32 := Scalar.remsi v2079 c8_i32_749
  let c0_i32_754 : BitVec 32 := 0#32
  let v2093 : BitVec 1 := Scalar.cmpi .ne v2092 c0_i32_754
  let v2094 : BitVec 1 := Scalar.andi v2091 v2093
  let v2080 : BitVec 32 := Scalar.divsi v2079 c8_i32_749
  let c1_i32_755 : BitVec 32 := 1#32
  let v2095 : BitVec 32 := Scalar.subi v2080 c1_i32_755
  let v2096 : BitVec 32 := Scalar.select v2094 v2095 v2080
  let v2109 : Index := Scalar.indexCast v2096
  let c8_i32_756 : BitVec 32 := 8#32
  let c0_i32_757 : BitVec 32 := 0#32
  let v2097 : BitVec 1 := Scalar.cmpi .eq c8_i32_756 c0_i32_757
  let c1_i32_758 : BitVec 32 := 1#32
  let v2098 : BitVec 32 := Scalar.select v2097 c1_i32_758 c8_i32_756
  let v2099 : BitVec 32 := Scalar.remsi v2079 v2098
  let c0_i32_760 : BitVec 32 := 0#32
  let v2101 : BitVec 1 := Scalar.cmpi .slt v2099 c0_i32_760
  let c0_i32_761 : BitVec 32 := 0#32
  let v2102 : BitVec 1 := Scalar.cmpi .slt v2098 c0_i32_761
  let v2103 : BitVec 1 := Scalar.xori v2101 v2102
  let c0_i32_759 : BitVec 32 := 0#32
  let v2100 : BitVec 1 := Scalar.cmpi .ne v2099 c0_i32_759
  let v2104 : BitVec 1 := Scalar.andi v2103 v2100
  let v2105 : BitVec 32 := Scalar.addi v2099 v2098
  let v2106 : BitVec 32 := Scalar.select v2104 v2105 v2099
  let c256_i32_762 : BitVec 32 := 256#32
  let v2107 : BitVec 32 := Scalar.muli v2106 c256_i32_762
  let v2108 : BitVec 32 := v2107
  let v2110 : Index := Scalar.indexCast v2108
  let c0_763 : Index := 0#32
  ![v2109.toNat, v2110.toNat, 0]
def k0_off8 (k0_t1 : Fin k0_t1_loop.trips) (c1_i32_748 : BitVec 32) : Fin 4 → Nat :=
  let c2_i32_747 : BitVec 32 := 2#32
  let c0_i32_668 : BitVec 32 := 0#32
  let c1_i32_670 : BitVec 32 := 1#32
  let arg18 : BitVec 32 := Scf.iv c0_i32_668 c1_i32_670 k0_t1
  let v2078 : BitVec 32 := Scalar.muli c2_i32_747 arg18
  let v2079 : BitVec 32 := Scalar.addi v2078 c1_i32_748
  let c0_i32_750 : BitVec 32 := 0#32
  let v2081 : BitVec 1 := Scalar.cmpi .sgt v2079 c0_i32_750
  let v2082 : BitVec 32 := Scalar.extui v2081
  let c0_i32_751 : BitVec 32 := 0#32
  let v2083 : BitVec 1 := Scalar.cmpi .slt v2079 c0_i32_751
  let v2084 : BitVec 32 := Scalar.extui v2083
  let v2085 : BitVec 32 := Scalar.subi v2082 v2084
  let c8_i32_749 : BitVec 32 := 8#32
  let c0_i32_752 : BitVec 32 := 0#32
  let v2086 : BitVec 1 := Scalar.cmpi .sgt c8_i32_749 c0_i32_752
  let v2087 : BitVec 32 := Scalar.extui v2086
  let c0_i32_753 : BitVec 32 := 0#32
  let v2088 : BitVec 1 := Scalar.cmpi .slt c8_i32_749 c0_i32_753
  let v2089 : BitVec 32 := Scalar.extui v2088
  let v2090 : BitVec 32 := Scalar.subi v2087 v2089
  let v2091 : BitVec 1 := Scalar.cmpi .ne v2085 v2090
  let v2092 : BitVec 32 := Scalar.remsi v2079 c8_i32_749
  let c0_i32_754 : BitVec 32 := 0#32
  let v2093 : BitVec 1 := Scalar.cmpi .ne v2092 c0_i32_754
  let v2094 : BitVec 1 := Scalar.andi v2091 v2093
  let v2080 : BitVec 32 := Scalar.divsi v2079 c8_i32_749
  let c1_i32_755 : BitVec 32 := 1#32
  let v2095 : BitVec 32 := Scalar.subi v2080 c1_i32_755
  let v2096 : BitVec 32 := Scalar.select v2094 v2095 v2080
  let v2113 : Index := Scalar.indexCast v2096
  let c0_764 : Index := 0#32
  let c0_765 : Index := 0#32
  let c0_766 : Index := 0#32
  ![v2113.toNat, 0, 0, 0]
def k0_off9 (k0_t1 : Fin k0_t1_loop.trips) (c1_i32_748 : BitVec 32) : Fin 4 → Nat :=
  let c2_i32_747 : BitVec 32 := 2#32
  let c0_i32_668 : BitVec 32 := 0#32
  let c1_i32_670 : BitVec 32 := 1#32
  let arg18 : BitVec 32 := Scf.iv c0_i32_668 c1_i32_670 k0_t1
  let v2078 : BitVec 32 := Scalar.muli c2_i32_747 arg18
  let v2079 : BitVec 32 := Scalar.addi v2078 c1_i32_748
  let c0_i32_750 : BitVec 32 := 0#32
  let v2081 : BitVec 1 := Scalar.cmpi .sgt v2079 c0_i32_750
  let v2082 : BitVec 32 := Scalar.extui v2081
  let c0_i32_751 : BitVec 32 := 0#32
  let v2083 : BitVec 1 := Scalar.cmpi .slt v2079 c0_i32_751
  let v2084 : BitVec 32 := Scalar.extui v2083
  let v2085 : BitVec 32 := Scalar.subi v2082 v2084
  let c8_i32_749 : BitVec 32 := 8#32
  let c0_i32_752 : BitVec 32 := 0#32
  let v2086 : BitVec 1 := Scalar.cmpi .sgt c8_i32_749 c0_i32_752
  let v2087 : BitVec 32 := Scalar.extui v2086
  let c0_i32_753 : BitVec 32 := 0#32
  let v2088 : BitVec 1 := Scalar.cmpi .slt c8_i32_749 c0_i32_753
  let v2089 : BitVec 32 := Scalar.extui v2088
  let v2090 : BitVec 32 := Scalar.subi v2087 v2089
  let v2091 : BitVec 1 := Scalar.cmpi .ne v2085 v2090
  let v2092 : BitVec 32 := Scalar.remsi v2079 c8_i32_749
  let c0_i32_754 : BitVec 32 := 0#32
  let v2093 : BitVec 1 := Scalar.cmpi .ne v2092 c0_i32_754
  let v2094 : BitVec 1 := Scalar.andi v2091 v2093
  let v2080 : BitVec 32 := Scalar.divsi v2079 c8_i32_749
  let c1_i32_755 : BitVec 32 := 1#32
  let v2095 : BitVec 32 := Scalar.subi v2080 c1_i32_755
  let v2096 : BitVec 32 := Scalar.select v2094 v2095 v2080
  let v2120 : Index := Scalar.indexCast v2096
  let c1_771 : Index := 1#32
  let c0_772 : Index := 0#32
  let c0_773 : Index := 0#32
  ![v2120.toNat, 1, 0, 0]
def k0_mult35 (k0_t1 : Fin k0_t1_loop.trips) : BitVec 32 :=
  let c2_i32_778 : BitVec 32 := 2#32
  let c0_i32_668 : BitVec 32 := 0#32
  let c1_i32_670 : BitVec 32 := 1#32
  let arg18 : BitVec 32 := Scf.iv c0_i32_668 c1_i32_670 k0_t1
  let v2127 : BitVec 32 := Scalar.muli c2_i32_778 arg18
  let c8_i32_786 : BitVec 32 := 8#32
  let c0_i32_787 : BitVec 32 := 0#32
  let v2145 : BitVec 1 := Scalar.cmpi .eq c8_i32_786 c0_i32_787
  let c1_i32_788 : BitVec 32 := 1#32
  let v2146 : BitVec 32 := Scalar.select v2145 c1_i32_788 c8_i32_786
  let v2147 : BitVec 32 := Scalar.remsi v2127 v2146
  let c0_i32_790 : BitVec 32 := 0#32
  let v2149 : BitVec 1 := Scalar.cmpi .slt v2147 c0_i32_790
  let c0_i32_791 : BitVec 32 := 0#32
  let v2150 : BitVec 1 := Scalar.cmpi .slt v2146 c0_i32_791
  let v2151 : BitVec 1 := Scalar.xori v2149 v2150
  let c0_i32_789 : BitVec 32 := 0#32
  let v2148 : BitVec 1 := Scalar.cmpi .ne v2147 c0_i32_789
  let v2152 : BitVec 1 := Scalar.andi v2151 v2148
  let v2153 : BitVec 32 := Scalar.addi v2147 v2146
  let v2154 : BitVec 32 := Scalar.select v2152 v2153 v2147
  let c256_i32_792 : BitVec 32 := 256#32
  let v2155 : BitVec 32 := Scalar.muli v2154 c256_i32_792
  v2155
def k0_mult36 (k0_t1 : Fin k0_t1_loop.trips) : BitVec 32 :=
  let c2_i32_778 : BitVec 32 := 2#32
  let c0_i32_668 : BitVec 32 := 0#32
  let c1_i32_670 : BitVec 32 := 1#32
  let arg18 : BitVec 32 := Scf.iv c0_i32_668 c1_i32_670 k0_t1
  let v2127 : BitVec 32 := Scalar.muli c2_i32_778 arg18
  let c0_i32_780 : BitVec 32 := 0#32
  let v2129 : BitVec 1 := Scalar.cmpi .sgt v2127 c0_i32_780
  let v2130 : BitVec 32 := Scalar.extui v2129
  let c0_i32_781 : BitVec 32 := 0#32
  let v2131 : BitVec 1 := Scalar.cmpi .slt v2127 c0_i32_781
  let v2132 : BitVec 32 := Scalar.extui v2131
  let v2133 : BitVec 32 := Scalar.subi v2130 v2132
  let c8_i32_779 : BitVec 32 := 8#32
  let c0_i32_782 : BitVec 32 := 0#32
  let v2134 : BitVec 1 := Scalar.cmpi .sgt c8_i32_779 c0_i32_782
  let v2135 : BitVec 32 := Scalar.extui v2134
  let c0_i32_783 : BitVec 32 := 0#32
  let v2136 : BitVec 1 := Scalar.cmpi .slt c8_i32_779 c0_i32_783
  let v2137 : BitVec 32 := Scalar.extui v2136
  let v2138 : BitVec 32 := Scalar.subi v2135 v2137
  let v2139 : BitVec 1 := Scalar.cmpi .ne v2133 v2138
  let v2140 : BitVec 32 := Scalar.remsi v2127 c8_i32_779
  let c0_i32_784 : BitVec 32 := 0#32
  let v2141 : BitVec 1 := Scalar.cmpi .ne v2140 c0_i32_784
  let v2142 : BitVec 1 := Scalar.andi v2139 v2141
  let v2128 : BitVec 32 := Scalar.divsi v2127 c8_i32_779
  let c1_i32_785 : BitVec 32 := 1#32
  let v2143 : BitVec 32 := Scalar.subi v2128 c1_i32_785
  let v2144 : BitVec 32 := Scalar.select v2142 v2143 v2128
  let c128_i32_793 : BitVec 32 := 128#32
  let v2157 : BitVec 32 := Scalar.muli v2144 c128_i32_793
  v2157
def k0_off10 (k0_t1 : Fin k0_t1_loop.trips) : Fin 3 → Nat :=
  let c2_i32_778 : BitVec 32 := 2#32
  let c0_i32_668 : BitVec 32 := 0#32
  let c1_i32_670 : BitVec 32 := 1#32
  let arg18 : BitVec 32 := Scf.iv c0_i32_668 c1_i32_670 k0_t1
  let v2127 : BitVec 32 := Scalar.muli c2_i32_778 arg18
  let c0_i32_780 : BitVec 32 := 0#32
  let v2129 : BitVec 1 := Scalar.cmpi .sgt v2127 c0_i32_780
  let v2130 : BitVec 32 := Scalar.extui v2129
  let c0_i32_781 : BitVec 32 := 0#32
  let v2131 : BitVec 1 := Scalar.cmpi .slt v2127 c0_i32_781
  let v2132 : BitVec 32 := Scalar.extui v2131
  let v2133 : BitVec 32 := Scalar.subi v2130 v2132
  let c8_i32_779 : BitVec 32 := 8#32
  let c0_i32_782 : BitVec 32 := 0#32
  let v2134 : BitVec 1 := Scalar.cmpi .sgt c8_i32_779 c0_i32_782
  let v2135 : BitVec 32 := Scalar.extui v2134
  let c0_i32_783 : BitVec 32 := 0#32
  let v2136 : BitVec 1 := Scalar.cmpi .slt c8_i32_779 c0_i32_783
  let v2137 : BitVec 32 := Scalar.extui v2136
  let v2138 : BitVec 32 := Scalar.subi v2135 v2137
  let v2139 : BitVec 1 := Scalar.cmpi .ne v2133 v2138
  let v2140 : BitVec 32 := Scalar.remsi v2127 c8_i32_779
  let c0_i32_784 : BitVec 32 := 0#32
  let v2141 : BitVec 1 := Scalar.cmpi .ne v2140 c0_i32_784
  let v2142 : BitVec 1 := Scalar.andi v2139 v2141
  let v2128 : BitVec 32 := Scalar.divsi v2127 c8_i32_779
  let c1_i32_785 : BitVec 32 := 1#32
  let v2143 : BitVec 32 := Scalar.subi v2128 c1_i32_785
  let v2144 : BitVec 32 := Scalar.select v2142 v2143 v2128
  let v2167 : Index := Scalar.indexCast v2144
  let c0_798 : Index := 0#32
  let c0_799 : Index := 0#32
  ![v2167.toNat, 0, 0]
def k0_off11 (k0_t1 : Fin k0_t1_loop.trips) : Fin 3 → Nat :=
  let c0_816 : Index := 0#32
  let c2_i32_778 : BitVec 32 := 2#32
  let c0_i32_668 : BitVec 32 := 0#32
  let c1_i32_670 : BitVec 32 := 1#32
  let arg18 : BitVec 32 := Scf.iv c0_i32_668 c1_i32_670 k0_t1
  let v2127 : BitVec 32 := Scalar.muli c2_i32_778 arg18
  let c8_i32_786 : BitVec 32 := 8#32
  let c0_i32_787 : BitVec 32 := 0#32
  let v2145 : BitVec 1 := Scalar.cmpi .eq c8_i32_786 c0_i32_787
  let c1_i32_788 : BitVec 32 := 1#32
  let v2146 : BitVec 32 := Scalar.select v2145 c1_i32_788 c8_i32_786
  let v2147 : BitVec 32 := Scalar.remsi v2127 v2146
  let c0_i32_790 : BitVec 32 := 0#32
  let v2149 : BitVec 1 := Scalar.cmpi .slt v2147 c0_i32_790
  let c0_i32_791 : BitVec 32 := 0#32
  let v2150 : BitVec 1 := Scalar.cmpi .slt v2146 c0_i32_791
  let v2151 : BitVec 1 := Scalar.xori v2149 v2150
  let c0_i32_789 : BitVec 32 := 0#32
  let v2148 : BitVec 1 := Scalar.cmpi .ne v2147 c0_i32_789
  let v2152 : BitVec 1 := Scalar.andi v2151 v2148
  let v2153 : BitVec 32 := Scalar.addi v2147 v2146
  let v2154 : BitVec 32 := Scalar.select v2152 v2153 v2147
  let c256_i32_792 : BitVec 32 := 256#32
  let v2155 : BitVec 32 := Scalar.muli v2154 c256_i32_792
  let v2156 : BitVec 32 := v2155
  let v2215 : Index := Scalar.indexCast v2156
  let c0_i32_780 : BitVec 32 := 0#32
  let v2129 : BitVec 1 := Scalar.cmpi .sgt v2127 c0_i32_780
  let v2130 : BitVec 32 := Scalar.extui v2129
  let c0_i32_781 : BitVec 32 := 0#32
  let v2131 : BitVec 1 := Scalar.cmpi .slt v2127 c0_i32_781
  let v2132 : BitVec 32 := Scalar.extui v2131
  let v2133 : BitVec 32 := Scalar.subi v2130 v2132
  let c8_i32_779 : BitVec 32 := 8#32
  let c0_i32_782 : BitVec 32 := 0#32
  let v2134 : BitVec 1 := Scalar.cmpi .sgt c8_i32_779 c0_i32_782
  let v2135 : BitVec 32 := Scalar.extui v2134
  let c0_i32_783 : BitVec 32 := 0#32
  let v2136 : BitVec 1 := Scalar.cmpi .slt c8_i32_779 c0_i32_783
  let v2137 : BitVec 32 := Scalar.extui v2136
  let v2138 : BitVec 32 := Scalar.subi v2135 v2137
  let v2139 : BitVec 1 := Scalar.cmpi .ne v2133 v2138
  let v2140 : BitVec 32 := Scalar.remsi v2127 c8_i32_779
  let c0_i32_784 : BitVec 32 := 0#32
  let v2141 : BitVec 1 := Scalar.cmpi .ne v2140 c0_i32_784
  let v2142 : BitVec 1 := Scalar.andi v2139 v2141
  let v2128 : BitVec 32 := Scalar.divsi v2127 c8_i32_779
  let c1_i32_785 : BitVec 32 := 1#32
  let v2143 : BitVec 32 := Scalar.subi v2128 c1_i32_785
  let v2144 : BitVec 32 := Scalar.select v2142 v2143 v2128
  let c128_i32_793 : BitVec 32 := 128#32
  let v2157 : BitVec 32 := Scalar.muli v2144 c128_i32_793
  let v2158 : BitVec 32 := v2157
  let v2216 : Index := Scalar.indexCast v2158
  ![0, v2215.toNat, v2216.toNat]
def k0_mult37 (k0_t1 : Fin k0_t1_loop.trips) : BitVec 32 :=
  let c2_i32_819 : BitVec 32 := 2#32
  let c0_i32_668 : BitVec 32 := 0#32
  let c1_i32_670 : BitVec 32 := 1#32
  let arg18 : BitVec 32 := Scf.iv c0_i32_668 c1_i32_670 k0_t1
  let v2232 : BitVec 32 := Scalar.muli c2_i32_819 arg18
  let c2_i32_820 : BitVec 32 := 2#32
  let v2233 : BitVec 32 := Scalar.addi v2232 c2_i32_820
  let c8_i32_828 : BitVec 32 := 8#32
  let c0_i32_829 : BitVec 32 := 0#32
  let v2251 : BitVec 1 := Scalar.cmpi .eq c8_i32_828 c0_i32_829
  let c1_i32_830 : BitVec 32 := 1#32
  let v2252 : BitVec 32 := Scalar.select v2251 c1_i32_830 c8_i32_828
  let v2253 : BitVec 32 := Scalar.remsi v2233 v2252
  let c0_i32_832 : BitVec 32 := 0#32
  let v2255 : BitVec 1 := Scalar.cmpi .slt v2253 c0_i32_832
  let c0_i32_833 : BitVec 32 := 0#32
  let v2256 : BitVec 1 := Scalar.cmpi .slt v2252 c0_i32_833
  let v2257 : BitVec 1 := Scalar.xori v2255 v2256
  let c0_i32_831 : BitVec 32 := 0#32
  let v2254 : BitVec 1 := Scalar.cmpi .ne v2253 c0_i32_831
  let v2258 : BitVec 1 := Scalar.andi v2257 v2254
  let v2259 : BitVec 32 := Scalar.addi v2253 v2252
  let v2260 : BitVec 32 := Scalar.select v2258 v2259 v2253
  let c256_i32_834 : BitVec 32 := 256#32
  let v2261 : BitVec 32 := Scalar.muli v2260 c256_i32_834
  v2261
def k0_mult38 (k0_t1 : Fin k0_t1_loop.trips) : BitVec 32 :=
  let c2_i32_850 : BitVec 32 := 2#32
  let c0_i32_668 : BitVec 32 := 0#32
  let c1_i32_670 : BitVec 32 := 1#32
  let arg18 : BitVec 32 := Scf.iv c0_i32_668 c1_i32_670 k0_t1
  let v2281 : BitVec 32 := Scalar.muli c2_i32_850 arg18
  let c1_i32_851 : BitVec 32 := 1#32
  let v2282 : BitVec 32 := Scalar.addi v2281 c1_i32_851
  let c8_i32_859 : BitVec 32 := 8#32
  let c0_i32_860 : BitVec 32 := 0#32
  let v2300 : BitVec 1 := Scalar.cmpi .eq c8_i32_859 c0_i32_860
  let c1_i32_861 : BitVec 32 := 1#32
  let v2301 : BitVec 32 := Scalar.select v2300 c1_i32_861 c8_i32_859
  let v2302 : BitVec 32 := Scalar.remsi v2282 v2301
  let c0_i32_863 : BitVec 32 := 0#32
  let v2304 : BitVec 1 := Scalar.cmpi .slt v2302 c0_i32_863
  let c0_i32_864 : BitVec 32 := 0#32
  let v2305 : BitVec 1 := Scalar.cmpi .slt v2301 c0_i32_864
  let v2306 : BitVec 1 := Scalar.xori v2304 v2305
  let c0_i32_862 : BitVec 32 := 0#32
  let v2303 : BitVec 1 := Scalar.cmpi .ne v2302 c0_i32_862
  let v2307 : BitVec 1 := Scalar.andi v2306 v2303
  let v2308 : BitVec 32 := Scalar.addi v2302 v2301
  let v2309 : BitVec 32 := Scalar.select v2307 v2308 v2302
  let c256_i32_865 : BitVec 32 := 256#32
  let v2310 : BitVec 32 := Scalar.muli v2309 c256_i32_865
  v2310
def k0_mult39 (k0_t1 : Fin k0_t1_loop.trips) : BitVec 32 :=
  let c2_i32_850 : BitVec 32 := 2#32
  let c0_i32_668 : BitVec 32 := 0#32
  let c1_i32_670 : BitVec 32 := 1#32
  let arg18 : BitVec 32 := Scf.iv c0_i32_668 c1_i32_670 k0_t1
  let v2281 : BitVec 32 := Scalar.muli c2_i32_850 arg18
  let c1_i32_851 : BitVec 32 := 1#32
  let v2282 : BitVec 32 := Scalar.addi v2281 c1_i32_851
  let c0_i32_853 : BitVec 32 := 0#32
  let v2284 : BitVec 1 := Scalar.cmpi .sgt v2282 c0_i32_853
  let v2285 : BitVec 32 := Scalar.extui v2284
  let c0_i32_854 : BitVec 32 := 0#32
  let v2286 : BitVec 1 := Scalar.cmpi .slt v2282 c0_i32_854
  let v2287 : BitVec 32 := Scalar.extui v2286
  let v2288 : BitVec 32 := Scalar.subi v2285 v2287
  let c8_i32_852 : BitVec 32 := 8#32
  let c0_i32_855 : BitVec 32 := 0#32
  let v2289 : BitVec 1 := Scalar.cmpi .sgt c8_i32_852 c0_i32_855
  let v2290 : BitVec 32 := Scalar.extui v2289
  let c0_i32_856 : BitVec 32 := 0#32
  let v2291 : BitVec 1 := Scalar.cmpi .slt c8_i32_852 c0_i32_856
  let v2292 : BitVec 32 := Scalar.extui v2291
  let v2293 : BitVec 32 := Scalar.subi v2290 v2292
  let v2294 : BitVec 1 := Scalar.cmpi .ne v2288 v2293
  let v2295 : BitVec 32 := Scalar.remsi v2282 c8_i32_852
  let c0_i32_857 : BitVec 32 := 0#32
  let v2296 : BitVec 1 := Scalar.cmpi .ne v2295 c0_i32_857
  let v2297 : BitVec 1 := Scalar.andi v2294 v2296
  let v2283 : BitVec 32 := Scalar.divsi v2282 c8_i32_852
  let c1_i32_858 : BitVec 32 := 1#32
  let v2298 : BitVec 32 := Scalar.subi v2283 c1_i32_858
  let v2299 : BitVec 32 := Scalar.select v2297 v2298 v2283
  let c128_i32_866 : BitVec 32 := 128#32
  let v2312 : BitVec 32 := Scalar.muli v2299 c128_i32_866
  v2312
def k0_off12 (k0_t1 : Fin k0_t1_loop.trips) : Fin 3 → Nat :=
  let c2_i32_850 : BitVec 32 := 2#32
  let c0_i32_668 : BitVec 32 := 0#32
  let c1_i32_670 : BitVec 32 := 1#32
  let arg18 : BitVec 32 := Scf.iv c0_i32_668 c1_i32_670 k0_t1
  let v2281 : BitVec 32 := Scalar.muli c2_i32_850 arg18
  let c1_i32_851 : BitVec 32 := 1#32
  let v2282 : BitVec 32 := Scalar.addi v2281 c1_i32_851
  let c0_i32_853 : BitVec 32 := 0#32
  let v2284 : BitVec 1 := Scalar.cmpi .sgt v2282 c0_i32_853
  let v2285 : BitVec 32 := Scalar.extui v2284
  let c0_i32_854 : BitVec 32 := 0#32
  let v2286 : BitVec 1 := Scalar.cmpi .slt v2282 c0_i32_854
  let v2287 : BitVec 32 := Scalar.extui v2286
  let v2288 : BitVec 32 := Scalar.subi v2285 v2287
  let c8_i32_852 : BitVec 32 := 8#32
  let c0_i32_855 : BitVec 32 := 0#32
  let v2289 : BitVec 1 := Scalar.cmpi .sgt c8_i32_852 c0_i32_855
  let v2290 : BitVec 32 := Scalar.extui v2289
  let c0_i32_856 : BitVec 32 := 0#32
  let v2291 : BitVec 1 := Scalar.cmpi .slt c8_i32_852 c0_i32_856
  let v2292 : BitVec 32 := Scalar.extui v2291
  let v2293 : BitVec 32 := Scalar.subi v2290 v2292
  let v2294 : BitVec 1 := Scalar.cmpi .ne v2288 v2293
  let v2295 : BitVec 32 := Scalar.remsi v2282 c8_i32_852
  let c0_i32_857 : BitVec 32 := 0#32
  let v2296 : BitVec 1 := Scalar.cmpi .ne v2295 c0_i32_857
  let v2297 : BitVec 1 := Scalar.andi v2294 v2296
  let v2283 : BitVec 32 := Scalar.divsi v2282 c8_i32_852
  let c1_i32_858 : BitVec 32 := 1#32
  let v2298 : BitVec 32 := Scalar.subi v2283 c1_i32_858
  let v2299 : BitVec 32 := Scalar.select v2297 v2298 v2283
  let v2322 : Index := Scalar.indexCast v2299
  let c0_871 : Index := 0#32
  let c0_872 : Index := 0#32
  ![v2322.toNat, 0, 0]
def k0_off13 (k0_t1 : Fin k0_t1_loop.trips) : Fin 3 → Nat :=
  let c0_889 : Index := 0#32
  let c2_i32_850 : BitVec 32 := 2#32
  let c0_i32_668 : BitVec 32 := 0#32
  let c1_i32_670 : BitVec 32 := 1#32
  let arg18 : BitVec 32 := Scf.iv c0_i32_668 c1_i32_670 k0_t1
  let v2281 : BitVec 32 := Scalar.muli c2_i32_850 arg18
  let c1_i32_851 : BitVec 32 := 1#32
  let v2282 : BitVec 32 := Scalar.addi v2281 c1_i32_851
  let c8_i32_859 : BitVec 32 := 8#32
  let c0_i32_860 : BitVec 32 := 0#32
  let v2300 : BitVec 1 := Scalar.cmpi .eq c8_i32_859 c0_i32_860
  let c1_i32_861 : BitVec 32 := 1#32
  let v2301 : BitVec 32 := Scalar.select v2300 c1_i32_861 c8_i32_859
  let v2302 : BitVec 32 := Scalar.remsi v2282 v2301
  let c0_i32_863 : BitVec 32 := 0#32
  let v2304 : BitVec 1 := Scalar.cmpi .slt v2302 c0_i32_863
  let c0_i32_864 : BitVec 32 := 0#32
  let v2305 : BitVec 1 := Scalar.cmpi .slt v2301 c0_i32_864
  let v2306 : BitVec 1 := Scalar.xori v2304 v2305
  let c0_i32_862 : BitVec 32 := 0#32
  let v2303 : BitVec 1 := Scalar.cmpi .ne v2302 c0_i32_862
  let v2307 : BitVec 1 := Scalar.andi v2306 v2303
  let v2308 : BitVec 32 := Scalar.addi v2302 v2301
  let v2309 : BitVec 32 := Scalar.select v2307 v2308 v2302
  let c256_i32_865 : BitVec 32 := 256#32
  let v2310 : BitVec 32 := Scalar.muli v2309 c256_i32_865
  let v2311 : BitVec 32 := v2310
  let v2370 : Index := Scalar.indexCast v2311
  let c0_i32_853 : BitVec 32 := 0#32
  let v2284 : BitVec 1 := Scalar.cmpi .sgt v2282 c0_i32_853
  let v2285 : BitVec 32 := Scalar.extui v2284
  let c0_i32_854 : BitVec 32 := 0#32
  let v2286 : BitVec 1 := Scalar.cmpi .slt v2282 c0_i32_854
  let v2287 : BitVec 32 := Scalar.extui v2286
  let v2288 : BitVec 32 := Scalar.subi v2285 v2287
  let c8_i32_852 : BitVec 32 := 8#32
  let c0_i32_855 : BitVec 32 := 0#32
  let v2289 : BitVec 1 := Scalar.cmpi .sgt c8_i32_852 c0_i32_855
  let v2290 : BitVec 32 := Scalar.extui v2289
  let c0_i32_856 : BitVec 32 := 0#32
  let v2291 : BitVec 1 := Scalar.cmpi .slt c8_i32_852 c0_i32_856
  let v2292 : BitVec 32 := Scalar.extui v2291
  let v2293 : BitVec 32 := Scalar.subi v2290 v2292
  let v2294 : BitVec 1 := Scalar.cmpi .ne v2288 v2293
  let v2295 : BitVec 32 := Scalar.remsi v2282 c8_i32_852
  let c0_i32_857 : BitVec 32 := 0#32
  let v2296 : BitVec 1 := Scalar.cmpi .ne v2295 c0_i32_857
  let v2297 : BitVec 1 := Scalar.andi v2294 v2296
  let v2283 : BitVec 32 := Scalar.divsi v2282 c8_i32_852
  let c1_i32_858 : BitVec 32 := 1#32
  let v2298 : BitVec 32 := Scalar.subi v2283 c1_i32_858
  let v2299 : BitVec 32 := Scalar.select v2297 v2298 v2283
  let c128_i32_866 : BitVec 32 := 128#32
  let v2312 : BitVec 32 := Scalar.muli v2299 c128_i32_866
  let v2313 : BitVec 32 := v2312
  let v2371 : Index := Scalar.indexCast v2313
  ![0, v2370.toNat, v2371.toNat]
def k0_mult40 : BitVec 32 :=
  let c1792_i32 : BitVec 32 := 1792#32
  c1792_i32
def k0_mult41 : BitVec 32 :=
  let c1536_i32 : BitVec 32 := 1536#32
  c1536_i32
def k0_mult42 : BitVec 32 :=
  let c128_i32_690 : BitVec 32 := 128#32
  c128_i32_690
def k0_mult43 : BitVec 32 :=
  let c1792_i32_718 : BitVec 32 := 1792#32
  c1792_i32_718
def k0_mult44 : BitVec 32 :=
  let c128_i32_719 : BitVec 32 := 128#32
  c128_i32_719
def cc0_transform_0 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "q_scale" => some (((1 / 8) * (Real.log 2)⁻¹ : ℝ) : EReal)
  | _ => none
-- ==== ReferenceIdeal.lean ====
abbrev S8x2048x6656 : Shape := ⟨3, ![8, 2048, 6656]⟩
abbrev S2x64 : Shape := ⟨2, ![2, 64]⟩
abbrev S4x64 : Shape := ⟨2, ![4, 64]⟩
abbrev S128 : Shape := ⟨1, ![128]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S8x2048x2048 : Shape := ⟨3, ![8, 2048, 2048]⟩
abbrev S8x2048x512 : Shape := ⟨3, ![8, 2048, 512]⟩
abbrev S8x2048x4x2x64 : Shape := ⟨5, ![8, 2048, 4, 2, 64]⟩
abbrev S8x4x2x2048x64 : Shape := ⟨5, ![8, 4, 2, 2048, 64]⟩
abbrev S1x64 : Shape := ⟨2, ![1, 64]⟩
abbrev S64 : Shape := ⟨1, ![64]⟩
abbrev S8x4x2x2048 : Shape := ⟨4, ![8, 4, 2, 2048]⟩
abbrev S8x4x2x2048x1 : Shape := ⟨5, ![8, 4, 2, 2048, 1]⟩
abbrev S1x1x1x1x64 : Shape := ⟨5, ![1, 1, 1, 1, 64]⟩
abbrev S8x4x2x2048x32 : Shape := ⟨5, ![8, 4, 2, 2048, 32]⟩
abbrev S1x1x1x2048x32 : Shape := ⟨5, ![1, 1, 1, 2048, 32]⟩
abbrev S8x2048x4x128 : Shape := ⟨4, ![8, 2048, 4, 128]⟩
abbrev S8x4x2048x128 : Shape := ⟨4, ![8, 4, 2048, 128]⟩
abbrev S8x4x2x2048x2048 : Shape := ⟨5, ![8, 4, 2, 2048, 2048]⟩
abbrev S8x4x1x2048x2048 : Shape := ⟨5, ![8, 4, 1, 2048, 2048]⟩
abbrev S8x4x2048x2048 : Shape := ⟨4, ![8, 4, 2048, 2048]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩

abbrev nBuf : Space → Nat
  | .hbm => 185
  | .vmem => 0
  | .smem => 0
  | _ => 0

abbrev hbmTy0_0 (i : Nat) : BufTy := match i % 128 with
  | 0 => ⟨S8x2048x6656, .bf16⟩
  | 1 => ⟨S2x64, .f32⟩
  | 2 => ⟨S4x64, .f32⟩
  | 3 => ⟨S128, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S2048, .f32⟩
  | 19 => ⟨S2048x1, .f32⟩
  | 20 => ⟨S1x32, .f32⟩
  | 21 => ⟨S2048x32, .f32⟩
  | 22 => ⟨S2048x32, .f32⟩
  | 23 => ⟨S2048x32, .f32⟩
  | 24 => ⟨S2048x32, .f32⟩
  | 25 => ⟨S2048x32, .f32⟩
  | 26 => ⟨S8x2048x6656, .f32⟩
  | 27 => ⟨S8x2048x2048, .f32⟩
  | 28 => ⟨S8x2048x512, .f32⟩
  | 29 => ⟨S8x2048x512, .f32⟩
  | 30 => ⟨S8x2048x512, .f32⟩
  | 31 => ⟨S8x2048x512, .f32⟩
  | 32 => ⟨S8x2048x4x2x64, .f32⟩
  | 33 => ⟨S8x4x2x2048x64, .f32⟩
  | 34 => ⟨S8x2048x4x2x64, .f32⟩
  | 35 => ⟨S8x4x2x2048x64, .f32⟩
  | 36 => ⟨S1x64, .f32⟩
  | 37 => ⟨S64, .f32⟩
  | 38 => ⟨S8x4x2x2048x64, .f32⟩
  | 39 => ⟨S_, .f32⟩
  | 40 => ⟨S8x4x2x2048, .f32⟩
  | 41 => ⟨S8x4x2x2048x1, .f32⟩
  | 42 => ⟨S_, .f32⟩
  | 43 => ⟨S8x4x2x2048x1, .f32⟩
  | 44 => ⟨S8x4x2x2048x1, .f32⟩
  | 45 => ⟨S_, .f32⟩
  | 46 => ⟨S8x4x2x2048x1, .f32⟩
  | 47 => ⟨S8x4x2x2048x1, .f32⟩
  | 48 => ⟨S8x4x2x2048x1, .f32⟩
  | 49 => ⟨S8x4x2x2048x64, .f32⟩
  | 50 => ⟨S8x4x2x2048x64, .f32⟩
  | 51 => ⟨S1x1x1x1x64, .f32⟩
  | 52 => ⟨S8x4x2x2048x64, .f32⟩
  | 53 => ⟨S8x4x2x2048x64, .f32⟩
  | 54 => ⟨S8x4x2x2048x32, .f32⟩
  | 55 => ⟨S8x4x2x2048x32, .f32⟩
  | 56 => ⟨S1x1x1x2048x32, .f32⟩
  | 57 => ⟨S8x4x2x2048x32, .f32⟩
  | 58 => ⟨S8x4x2x2048x32, .f32⟩
  | 59 => ⟨S1x1x1x2048x32, .f32⟩
  | 60 => ⟨S8x4x2x2048x32, .f32⟩
  | 61 => ⟨S8x4x2x2048x32, .f32⟩
  | 62 => ⟨S8x4x2x2048x32, .f32⟩
  | 63 => ⟨S1x1x1x2048x32, .f32⟩
  | 64 => ⟨S8x4x2x2048x32, .f32⟩
  | 65 => ⟨S8x4x2x2048x32, .f32⟩
  | 66 => ⟨S1x1x1x2048x32, .f32⟩
  | 67 => ⟨S8x4x2x2048x32, .f32⟩
  | 68 => ⟨S8x4x2x2048x32, .f32⟩
  | 69 => ⟨S8x4x2x2048x32, .f32⟩
  | 70 => ⟨S8x4x2x2048x64, .f32⟩
  | 71 => ⟨S_, .f32⟩
  | 72 => ⟨S8x4x2x2048x64, .f32⟩
  | 73 => ⟨S8x4x2x2048x64, .f32⟩
  | 74 => ⟨S1x64, .f32⟩
  | 75 => ⟨S64, .f32⟩
  | 76 => ⟨S8x4x2x2048x64, .f32⟩
  | 77 => ⟨S_, .f32⟩
  | 78 => ⟨S8x4x2x2048, .f32⟩
  | 79 => ⟨S8x4x2x2048x1, .f32⟩
  | 80 => ⟨S_, .f32⟩
  | 81 => ⟨S8x4x2x2048x1, .f32⟩
  | 82 => ⟨S8x4x2x2048x1, .f32⟩
  | 83 => ⟨S_, .f32⟩
  | 84 => ⟨S8x4x2x2048x1, .f32⟩
  | 85 => ⟨S8x4x2x2048x1, .f32⟩
  | 86 => ⟨S8x4x2x2048x1, .f32⟩
  | 87 => ⟨S8x4x2x2048x64, .f32⟩
  | 88 => ⟨S8x4x2x2048x64, .f32⟩
  | 89 => ⟨S1x1x1x1x64, .f32⟩
  | 90 => ⟨S8x4x2x2048x64, .f32⟩
  | 91 => ⟨S8x4x2x2048x64, .f32⟩
  | 92 => ⟨S8x4x2x2048x32, .f32⟩
  | 93 => ⟨S8x4x2x2048x32, .f32⟩
  | 94 => ⟨S1x1x1x2048x32, .f32⟩
  | 95 => ⟨S8x4x2x2048x32, .f32⟩
  | 96 => ⟨S8x4x2x2048x32, .f32⟩
  | 97 => ⟨S1x1x1x2048x32, .f32⟩
  | 98 => ⟨S8x4x2x2048x32, .f32⟩
  | 99 => ⟨S8x4x2x2048x32, .f32⟩
  | 100 => ⟨S8x4x2x2048x32, .f32⟩
  | 101 => ⟨S1x1x1x2048x32, .f32⟩
  | 102 => ⟨S8x4x2x2048x32, .f32⟩
  | 103 => ⟨S8x4x2x2048x32, .f32⟩
  | 104 => ⟨S1x1x1x2048x32, .f32⟩
  | 105 => ⟨S8x4x2x2048x32, .f32⟩
  | 106 => ⟨S8x4x2x2048x32, .f32⟩
  | 107 => ⟨S8x4x2x2048x32, .f32⟩
  | 108 => ⟨S8x4x2x2048x64, .f32⟩
  | 109 => ⟨S8x2048x4x128, .f32⟩
  | 110 => ⟨S8x4x2048x128, .f32⟩
  | 111 => ⟨S1x64, .f32⟩
  | 112 => ⟨S64, .f32⟩
  | 113 => ⟨S1x64, .f32⟩
  | 114 => ⟨S64, .f32⟩
  | 115 => ⟨S64, .f32⟩
  | 116 => ⟨S_, .f32⟩
  | 117 => ⟨S_, .f32⟩
  | 118 => ⟨S_, .f32⟩
  | 119 => ⟨S1x64, .f32⟩
  | 120 => ⟨S64, .f32⟩
  | 121 => ⟨S1x64, .f32⟩
  | 122 => ⟨S64, .f32⟩
  | 123 => ⟨S64, .f32⟩
  | 124 => ⟨S_, .f32⟩
  | 125 => ⟨S_, .f32⟩
  | 126 => ⟨S_, .f32⟩
  | 127 => ⟨S_, .f32⟩
  | _ => ⟨S8x2048x6656, .bf16⟩

abbrev hbmTy0_1 (i : Nat) : BufTy := match i % 128 with
  | 0 => ⟨S_, .f32⟩
  | 1 => ⟨S_, .f32⟩
  | 2 => ⟨S8x4x2x2048x2048, .f32⟩
  | 3 => ⟨S_, .f32⟩
  | 4 => ⟨S8x4x2x2048, .f32⟩
  | 5 => ⟨S_, .f32⟩
  | 6 => ⟨S8x4x2x2048, .f32⟩
  | 7 => ⟨S8x4x2x2048, .f32⟩
  | 8 => ⟨S8x4x2x2048x1, .f32⟩
  | 9 => ⟨S8x4x2x2048x2048, .f32⟩
  | 10 => ⟨S8x4x2x2048x2048, .f32⟩
  | 11 => ⟨S8x4x2x2048x2048, .f32⟩
  | 12 => ⟨S_, .f32⟩
  | 13 => ⟨S8x4x2x2048, .f32⟩
  | 14 => ⟨S8x4x2x2048x1, .f32⟩
  | 15 => ⟨S8x4x2x2048x2048, .f32⟩
  | 16 => ⟨S8x4x2x2048x2048, .f32⟩
  | 17 => ⟨S8x4x1x2048x2048, .f32⟩
  | 18 => ⟨S8x4x2048x2048, .f32⟩
  | 19 => ⟨S8x4x1x2048x2048, .f32⟩
  | 20 => ⟨S8x4x2048x2048, .f32⟩
  | 21 => ⟨S8x4x2048x2048, .f32⟩
  | 22 => ⟨S8x4x2048x2048, .f32⟩
  | 23 => ⟨S8x4x2048x2048, .f32⟩
  | 24 => ⟨S8x4x2048x128, .f32⟩
  | 25 => ⟨S8x2048x4x128, .f32⟩
  | 26 => ⟨S8x2048x4x128, .f32⟩
  | 27 => ⟨S_, .f32⟩
  | 28 => ⟨S8x2048x4, .f32⟩
  | 29 => ⟨S8x2048x4x1, .f32⟩
  | 30 => ⟨S_, .f32⟩
  | 31 => ⟨S8x2048x4x1, .f32⟩
  | 32 => ⟨S8x2048x4x1, .f32⟩
  | 33 => ⟨S_, .f32⟩
  | 34 => ⟨S8x2048x4x1, .f32⟩
  | 35 => ⟨S8x2048x4x1, .f32⟩
  | 36 => ⟨S8x2048x4x1, .f32⟩
  | 37 => ⟨S8x2048x4x128, .f32⟩
  | 38 => ⟨S8x2048x4x128, .f32⟩
  | 39 => ⟨S1x1x1x128, .f32⟩
  | 40 => ⟨S8x2048x4x128, .f32⟩
  | 41 => ⟨S8x2048x4x128, .f32⟩
  | 42 => ⟨S_, .f32⟩
  | 43 => ⟨S8x2048x4x128, .f32⟩
  | 44 => ⟨S8x2048x4x128, .f32⟩
  | 45 => ⟨S8x2048x512, .f32⟩
  | 46 => ⟨S8x2048x512, .f32⟩
  | 47 => ⟨S8x2048x512, .f32⟩
  | 48 => ⟨S_, .f32⟩
  | 49 => ⟨S8x2048x512, .f32⟩
  | 50 => ⟨S8x2048x512, .f32⟩
  | 51 => ⟨S_, .f32⟩
  | 52 => ⟨S8x2048x512, .f32⟩
  | 53 => ⟨S8x2048x512, .f32⟩
  | 54 => ⟨S8x2048x512, .f32⟩
  | 55 => ⟨S8x2048x512, .f32⟩
  | 56 => ⟨S8x2048x512, .bf16⟩
  | _ => ⟨S8x2048x6656, .bf16⟩

abbrev hbmTy (i : Nat) : BufTy := match i / 128 with
  | 0 => hbmTy0_0 i
  | 1 => hbmTy0_1 i
  | _ => ⟨S8x2048x6656, .bf16⟩

abbrev bufTy : (tb : Table) → Fin (tcTables nBuf tb) → BufTy
  | .hbm, ⟨i, _⟩ => hbmTy i
  | _, _ => ⟨S8x2048x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_7 : Ref sig .tc := ⟨.hbm, 77, rfl⟩
abbrev main_v65 : Ref sig .tc := ⟨.hbm, 78, rfl⟩
abbrev main_v66 : Ref sig .tc := ⟨.hbm, 79, rfl⟩
abbrev main_cst_8 : Ref sig .tc := ⟨.hbm, 80, rfl⟩
abbrev main_v67 : Ref sig .tc := ⟨.hbm, 81, rfl⟩
abbrev main_v68 : Ref sig .tc := ⟨.hbm, 82, rfl⟩
abbrev main_cst_9 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_cst_10 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_cst_11 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_cst_12 : Ref sig .tc := ⟨.hbm, 128, rfl⟩
abbrev main_v111 : Ref sig .tc := ⟨.hbm, 129, rfl⟩
abbrev main_v112 : Ref sig .tc := ⟨.hbm, 130, rfl⟩
abbrev main_cst_13 : Ref sig .tc := ⟨.hbm, 131, rfl⟩
abbrev main_v113 : Ref sig .tc := ⟨.hbm, 132, rfl⟩
abbrev main_cst_14 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_cst_15 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_cst_16 : Ref sig .tc := ⟨.hbm, 155, rfl⟩
abbrev main_v134 : Ref sig .tc := ⟨.hbm, 156, rfl⟩
abbrev main_v135 : Ref sig .tc := ⟨.hbm, 157, rfl⟩
abbrev main_cst_17 : Ref sig .tc := ⟨.hbm, 158, rfl⟩
abbrev main_v136 : Ref sig .tc := ⟨.hbm, 159, rfl⟩
abbrev main_v137 : Ref sig .tc := ⟨.hbm, 160, rfl⟩
abbrev main_cst_18 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_cst_19 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_call0_v0 : Ref sig .tc := ⟨.hbm, 174, rfl⟩
abbrev main_call0_v1 : Ref sig .tc := ⟨.hbm, 175, rfl⟩
abbrev main_call0_cst : Ref sig .tc := ⟨.hbm, 176, rfl⟩
abbrev main_call0_v2 : Ref sig .tc := ⟨.hbm, 177, rfl⟩
abbrev main_call0_v3 : Ref sig .tc := ⟨.hbm, 178, rfl⟩
abbrev main_call0_cst_0 : Ref sig .tc := ⟨.hbm, 179, rfl⟩
abbrev main_call0_v4 : Ref sig .tc := ⟨.hbm, 180, rfl⟩
abbrev main_call0_v5 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩

abbrev nD : Nat := 1
abbrev τ : Topo := Topo.v7x

variable {F : FTy → Type} [FloatOps F]
-- ==== Kernel2.lean ====
abbrev S8x2048x1024 : Shape := ⟨3, ![8, 2048, 1024]⟩
abbrev S2x1024 : Shape := ⟨2, ![2, 1024]⟩
abbrev S2x1024x6688 : Shape := ⟨3, ![2, 1024, 6688]⟩
abbrev S2x6688x1024 : Shape := ⟨3, ![2, 6688, 1024]⟩
abbrev S2x2560x1024 : Shape := ⟨3, ![2, 2560, 1024]⟩
abbrev S2x4096x1024 : Shape := ⟨3, ![2, 4096, 1024]⟩
abbrev S2x6656x1024 : Shape := ⟨3, ![2, 6656, 1024]⟩
abbrev S2x32x1024 : Shape := ⟨3, ![2, 32, 1024]⟩
abbrev S_ : Shape := ⟨0, ![]⟩
abbrev S2x128x1024 : Shape := ⟨3, ![2, 128, 1024]⟩
abbrev S16384x1024 : Shape := ⟨2, ![16384, 1024]⟩
abbrev S1x1024 : Shape := ⟨2, ![1, 1024]⟩
abbrev S1024 : Shape := ⟨1, ![1024]⟩
abbrev S16384x6656 : Shape := ⟨2, ![16384, 6656]⟩
abbrev S16384x128 : Shape := ⟨2, ![16384, 128]⟩
abbrev S1024x1024 : Shape := ⟨2, ![1024, 1024]⟩
abbrev S1x3328x1024 : Shape := ⟨3, ![1, 3328, 1024]⟩
abbrev S1x128x1024 : Shape := ⟨3, ![1, 128, 1024]⟩
abbrev S1024x3328 : Shape := ⟨2, ![1024, 3328]⟩
abbrev S1024x128 : Shape := ⟨2, ![1024, 128]⟩
abbrev S1024x1 : Shape := ⟨2, ![1024, 1]⟩
abbrev S128x1024 : Shape := ⟨2, ![128, 1024]⟩
abbrev S3328x1024 : Shape := ⟨2, ![3328, 1024]⟩

abbrev nBuf : Space → Nat
  | .hbm => 19
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x6688, .f32⟩
  | .hbm, ⟨3, _⟩ => ⟨S2x6688x1024, .f32⟩
  | .hbm, ⟨4, _⟩ => ⟨S2x2560x1024, .f32⟩
  | .hbm, ⟨5, _⟩ => ⟨S2x4096x1024, .f32⟩
  | .hbm, ⟨6, _⟩ => ⟨S2x6656x1024, .f32⟩
  | .hbm, ⟨7, _⟩ => ⟨S2x6656x1024, .bf16⟩
  | .hbm, ⟨8, _⟩ => ⟨S2x32x1024, .f32⟩
  | .hbm, ⟨9, _⟩ => ⟨S_, .i32⟩
  | .hbm, ⟨10, _⟩ => ⟨S_, .f32⟩
  | .hbm, ⟨11, _⟩ => ⟨S2x128x1024, .f32⟩
  | .hbm, ⟨12, _⟩ => ⟨S2x128x1024, .bf16⟩
  | .hbm, ⟨13, _⟩ => ⟨S16384x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x6656, .bf16⟩
  | .hbm, ⟨18, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x3328x1024, .bf16⟩
  | .local _ .vmem, ⟨4, _⟩ => ⟨S1x3328x1024, .bf16⟩
  | .local _ .vmem, ⟨5, _⟩ => ⟨S1x128x1024, .bf16⟩
  | .local _ .vmem, ⟨6, _⟩ => ⟨S1024x3328, .bf16⟩
  | .local _ .vmem, ⟨7, _⟩ => ⟨S1024x3328, .bf16⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3328x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x3328 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8x2048x1024 : Shape := ⟨3, ![8, 2048, 1024]⟩
abbrev S2x1024 : Shape := ⟨2, ![2, 1024]⟩
abbrev S2x1024x6688 : Shape := ⟨3, ![2, 1024, 6688]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x6688 : Shape := ⟨3, ![1, 1024, 6688]⟩
abbrev S1024x6688 : Shape := ⟨2, ![1024, 6688]⟩
abbrev S8x2048x6688 : Shape := ⟨3, ![8, 2048, 6688]⟩
abbrev S16384x6688 : Shape := ⟨2, ![16384, 6688]⟩
abbrev S16384x2560 : Shape := ⟨2, ![16384, 2560]⟩
abbrev S16384x4096 : Shape := ⟨2, ![16384, 4096]⟩
abbrev S16384x6656 : Shape := ⟨2, ![16384, 6656]⟩
abbrev S16384x32 : Shape := ⟨2, ![16384, 32]⟩
abbrev S16384x128 : Shape := ⟨2, ![16384, 128]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x6688, .f32⟩
  | .hbm, ⟨3, _⟩ => ⟨S1x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1x1024x6688, .f32⟩
  | .hbm, ⟨22, _⟩ => ⟨S1024x6688, .f32⟩
  | .hbm, ⟨23, _⟩ => ⟨S8x2048x6688, .f32⟩
  | .hbm, ⟨24, _⟩ => ⟨S16384x6688, .f32⟩
  | .hbm, ⟨25, _⟩ => ⟨S16384x2560, .f32⟩
  | .hbm, ⟨26, _⟩ => ⟨S16384x4096, .f32⟩
  | .hbm, ⟨27, _⟩ => ⟨S16384x6656, .f32⟩
  | .hbm, ⟨28, _⟩ => ⟨S16384x6656, .bf16⟩
  | .hbm, ⟨29, _⟩ => ⟨S16384x32, .f32⟩
  | .hbm, ⟨30, _⟩ => ⟨S_, .i32⟩
  | .hbm, ⟨31, _⟩ => ⟨S_, .f32⟩
  | .hbm, ⟨32, _⟩ => ⟨S16384x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x512 : Shape := ⟨3, ![8, 2048, 512]⟩
abbrev S2x2048x1024 : Shape := ⟨3, ![2, 2048, 1024]⟩
abbrev S16384x1024 : Shape := ⟨2, ![16384, 1024]⟩
abbrev S16384x512 : Shape := ⟨2, ![16384, 512]⟩
abbrev S1x2048x1024 : Shape := ⟨3, ![1, 2048, 1024]⟩
abbrev S2048x1024 : Shape := ⟨2, ![2048, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 13
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048x512, .bf16⟩
  | .hbm, ⟨3, _⟩ => ⟨S8x2048x512, .bf16⟩
  | .hbm, ⟨4, _⟩ => ⟨S2x2048x1024, .f32⟩
  | .hbm, ⟨5, _⟩ => ⟨S16384x1024, .f32⟩
  | .hbm, ⟨6, _⟩ => ⟨S16384x1024, .bf16⟩
  | .hbm, ⟨7, _⟩ => ⟨S16384x512, .bf16⟩
  | .hbm, ⟨8, _⟩ => ⟨S16384x512, .bf16⟩
  | .hbm, ⟨9, _⟩ => ⟨S1x2048x1024, .f32⟩
  | .hbm, ⟨10, _⟩ => ⟨S2048x1024, .f32⟩
  | .hbm, ⟨11, _⟩ => ⟨S2048x1024, .bf16⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8x2048x1024 : Shape := ⟨3, ![8, 2048, 1024]⟩
abbrev S8x2048x512 : Shape := ⟨3, ![8, 2048, 512]⟩
abbrev S2x2048x1024 : Shape := ⟨3, ![2, 2048, 1024]⟩
abbrev S8x2048x2048 : Shape := ⟨3, ![8, 2048, 2048]⟩
abbrev S1x2048x1024 : Shape := ⟨3, ![1, 2048, 1024]⟩
abbrev S2048x1024 : Shape := ⟨2, ![2048, 1024]⟩
abbrev S16384x1024 : Shape := ⟨2, ![16384, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048x512, .bf16⟩
  | .hbm, ⟨3, _⟩ => ⟨S8x2048x512, .bf16⟩
  | .hbm, ⟨4, _⟩ => ⟨S2x2048x1024, .f32⟩
  | .hbm, ⟨5, _⟩ => ⟨S8x2048x2048, .bf16⟩
  | .hbm, ⟨6, _⟩ => ⟨S8x2048x2048, .f32⟩
  | .hbm, ⟨7, _⟩ => ⟨S1x2048x1024, .f32⟩
  | .hbm, ⟨8, _⟩ => ⟨S2048x1024, .f32⟩
  | .hbm, ⟨9, _⟩ => ⟨S8x2048x1024, .f32⟩
  | .hbm, ⟨10, _⟩ => ⟨S8x2048x1024, .f32⟩
  | .hbm, ⟨11, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S8x2048x1024 : Shape := ⟨3, ![8, 2048, 1024]⟩
abbrev S2x1024 : Shape := ⟨2, ![2, 1024]⟩
abbrev S2x1024x6688 : Shape := ⟨3, ![2, 1024, 6688]⟩
abbrev S2x6688x1024 : Shape := ⟨3, ![2, 6688, 1024]⟩
abbrev S2x2560x1024 : Shape := ⟨3, ![2, 2560, 1024]⟩
abbrev S2x4096x1024 : Shape := ⟨3, ![2, 4096, 1024]⟩
abbrev S2x6656x1024 : Shape := ⟨3, ![2, 6656, 1024]⟩
abbrev S2x32x1024 : Shape := ⟨3, ![2, 32, 1024]⟩
abbrev S_ : Shape := ⟨0, ![]⟩
abbrev S2x128x1024 : Shape := ⟨3, ![2, 128, 1024]⟩
abbrev S16384x1024 : Shape := ⟨2, ![16384, 1024]⟩
abbrev S1x1024 : Shape := ⟨2, ![1, 1024]⟩
abbrev S1024 : Shape := ⟨1, ![1024]⟩
abbrev S16384x6656 : Shape := ⟨2, ![16384, 6656]⟩
abbrev S16384x128 : Shape := ⟨2, ![16384, 128]⟩
abbrev S1024x1024 : Shape := ⟨2, ![1024, 1024]⟩
abbrev S1x3328x1024 : Shape := ⟨3, ![1, 3328, 1024]⟩
abbrev S1x128x1024 : Shape := ⟨3, ![1, 128, 1024]⟩
abbrev S1024x3328 : Shape := ⟨2, ![1024, 3328]⟩
abbrev S1024x128 : Shape := ⟨2, ![1024, 128]⟩
abbrev S1024x1 : Shape := ⟨2, ![1024, 1]⟩
abbrev S128x1024 : Shape := ⟨2, ![128, 1024]⟩
abbrev S3328x1024 : Shape := ⟨2, ![3328, 1024]⟩

abbrev nBuf : Space → Nat
  | .hbm => 19
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x6688, .f32⟩
  | .hbm, ⟨3, _⟩ => ⟨S2x6688x1024, .f32⟩
  | .hbm, ⟨4, _⟩ => ⟨S2x2560x1024, .f32⟩
  | .hbm, ⟨5, _⟩ => ⟨S2x4096x1024, .f32⟩
  | .hbm, ⟨6, _⟩ => ⟨S2x6656x1024, .f32⟩
  | .hbm, ⟨7, _⟩ => ⟨S2x6656x1024, .bf16⟩
  | .hbm, ⟨8, _⟩ => ⟨S2x32x1024, .f32⟩
  | .hbm, ⟨9, _⟩ => ⟨S_, .i32⟩
  | .hbm, ⟨10, _⟩ => ⟨S_, .f32⟩
  | .hbm, ⟨11, _⟩ => ⟨S2x128x1024, .f32⟩
  | .hbm, ⟨12, _⟩ => ⟨S2x128x1024, .bf16⟩
  | .hbm, ⟨13, _⟩ => ⟨S16384x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x6656, .bf16⟩
  | .hbm, ⟨18, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x3328x1024, .bf16⟩
  | .local _ .vmem, ⟨4, _⟩ => ⟨S1x3328x1024, .bf16⟩
  | .local _ .vmem, ⟨5, _⟩ => ⟨S1x128x1024, .bf16⟩
  | .local _ .vmem, ⟨6, _⟩ => ⟨S1024x3328, .bf16⟩
  | .local _ .vmem, ⟨7, _⟩ => ⟨S1024x3328, .bf16⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3328x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x3328 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S8x2048x1024 : Shape := ⟨3, ![8, 2048, 1024]⟩
abbrev S2x1024 : Shape := ⟨2, ![2, 1024]⟩
abbrev S2x1024x6688 : Shape := ⟨3, ![2, 1024, 6688]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x6688 : Shape := ⟨3, ![1, 1024, 6688]⟩
abbrev S1024x6688 : Shape := ⟨2, ![1024, 6688]⟩
abbrev S8x2048x6688 : Shape := ⟨3, ![8, 2048, 6688]⟩
abbrev S16384x6688 : Shape := ⟨2, ![16384, 6688]⟩
abbrev S16384x2560 : Shape := ⟨2, ![16384, 2560]⟩
abbrev S16384x4096 : Shape := ⟨2, ![16384, 4096]⟩
abbrev S16384x6656 : Shape := ⟨2, ![16384, 6656]⟩
abbrev S16384x32 : Shape := ⟨2, ![16384, 32]⟩
abbrev S16384x128 : Shape := ⟨2, ![16384, 128]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x6688, .f32⟩
  | .hbm, ⟨3, _⟩ => ⟨S1x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1x1024x6688, .f32⟩
  | .hbm, ⟨22, _⟩ => ⟨S1024x6688, .f32⟩
  | .hbm, ⟨23, _⟩ => ⟨S8x2048x6688, .f32⟩
  | .hbm, ⟨24, _⟩ => ⟨S16384x6688, .f32⟩
  | .hbm, ⟨25, _⟩ => ⟨S16384x2560, .f32⟩
  | .hbm, ⟨26, _⟩ => ⟨S16384x4096, .f32⟩
  | .hbm, ⟨27, _⟩ => ⟨S16384x6656, .f32⟩
  | .hbm, ⟨28, _⟩ => ⟨S16384x6656, .bf16⟩
  | .hbm, ⟨29, _⟩ => ⟨S16384x32, .f32⟩
  | .hbm, ⟨30, _⟩ => ⟨S_, .i32⟩
  | .hbm, ⟨31, _⟩ => ⟨S_, .f32⟩
  | .hbm, ⟨32, _⟩ => ⟨S16384x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel5.lean ====
abbrev S8x2048x1024 : Shape := ⟨3, ![8, 2048, 1024]⟩
abbrev S8x2048x512 : Shape := ⟨3, ![8, 2048, 512]⟩
abbrev S2x2048x1024 : Shape := ⟨3, ![2, 2048, 1024]⟩
abbrev S16384x1024 : Shape := ⟨2, ![16384, 1024]⟩
abbrev S16384x512 : Shape := ⟨2, ![16384, 512]⟩
abbrev S1x2048x1024 : Shape := ⟨3, ![1, 2048, 1024]⟩
abbrev S2048x1024 : Shape := ⟨2, ![2048, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 13
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048x512, .bf16⟩
  | .hbm, ⟨3, _⟩ => ⟨S8x2048x512, .bf16⟩
  | .hbm, ⟨4, _⟩ => ⟨S2x2048x1024, .f32⟩
  | .hbm, ⟨5, _⟩ => ⟨S16384x1024, .f32⟩
  | .hbm, ⟨6, _⟩ => ⟨S16384x1024, .bf16⟩
  | .hbm, ⟨7, _⟩ => ⟨S16384x512, .bf16⟩
  | .hbm, ⟨8, _⟩ => ⟨S16384x512, .bf16⟩
  | .hbm, ⟨9, _⟩ => ⟨S1x2048x1024, .f32⟩
  | .hbm, ⟨10, _⟩ => ⟨S2048x1024, .f32⟩
  | .hbm, ⟨11, _⟩ => ⟨S2048x1024, .bf16⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8x2048x1024 : Shape := ⟨3, ![8, 2048, 1024]⟩
abbrev S8x2048x512 : Shape := ⟨3, ![8, 2048, 512]⟩
abbrev S2x2048x1024 : Shape := ⟨3, ![2, 2048, 1024]⟩
abbrev S8x2048x2048 : Shape := ⟨3, ![8, 2048, 2048]⟩
abbrev S1x2048x1024 : Shape := ⟨3, ![1, 2048, 1024]⟩
abbrev S2048x1024 : Shape := ⟨2, ![2048, 1024]⟩
abbrev S16384x1024 : Shape := ⟨2, ![16384, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048x512, .bf16⟩
  | .hbm, ⟨3, _⟩ => ⟨S8x2048x512, .bf16⟩
  | .hbm, ⟨4, _⟩ => ⟨S2x2048x1024, .f32⟩
  | .hbm, ⟨5, _⟩ => ⟨S8x2048x2048, .bf16⟩
  | .hbm, ⟨6, _⟩ => ⟨S8x2048x2048, .f32⟩
  | .hbm, ⟨7, _⟩ => ⟨S1x2048x1024, .f32⟩
  | .hbm, ⟨8, _⟩ => ⟨S2048x1024, .f32⟩
  | .hbm, ⟨9, _⟩ => ⟨S8x2048x1024, .f32⟩
  | .hbm, ⟨10, _⟩ => ⟨S8x2048x1024, .f32⟩
  | .hbm, ⟨11, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel6.lean ====
abbrev S8x2048x6656 : Shape := ⟨3, ![8, 2048, 6656]⟩
abbrev S2x64 : Shape := ⟨2, ![2, 64]⟩
abbrev S4x64 : Shape := ⟨2, ![4, 64]⟩
abbrev S128 : Shape := ⟨1, ![128]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1x2x1x64 : Shape := ⟨4, ![1, 2, 1, 64]⟩
abbrev S1x2x2x64 : Shape := ⟨4, ![1, 2, 2, 64]⟩
abbrev S2x128 : Shape := ⟨2, ![2, 128]⟩
abbrev S2x32 : Shape := ⟨2, ![2, 32]⟩
abbrev S1x128 : Shape := ⟨2, ![1, 128]⟩
abbrev S8x2048x512 : Shape := ⟨3, ![8, 2048, 512]⟩
abbrev S1x2048x256 : Shape := ⟨3, ![1, 2048, 256]⟩
abbrev S2x2048x128 : Shape := ⟨3, ![2, 2048, 128]⟩
abbrev S2x2x2048x128 : Shape := ⟨4, ![2, 2, 2048, 128]⟩
abbrev S2x144x2048 : Shape := ⟨3, ![2, 144, 2048]⟩
abbrev S2x2048x256 : Shape := ⟨3, ![2, 2048, 256]⟩
abbrev S128x128 : Shape := ⟨2, ![128, 128]⟩
abbrev S256x128 : Shape := ⟨2, ![256, 128]⟩
abbrev S16x2048 : Shape := ⟨2, ![16, 2048]⟩
abbrev S1x16x2048 : Shape := ⟨3, ![1, 16, 2048]⟩
abbrev S1x256x128 : Shape := ⟨3, ![1, 256, 128]⟩
abbrev S1x1x256x128 : Shape := ⟨4, ![1, 1, 256, 128]⟩
abbrev S128x256 : Shape := ⟨2, ![128, 256]⟩
abbrev S1x128x256 : Shape := ⟨3, ![1, 128, 256]⟩
abbrev S1x64 : Shape := ⟨2, ![1, 64]⟩
abbrev S1 : Shape := ⟨1, ![1]⟩
abbrev S1x1 : Shape := ⟨2, ![1, 1]⟩
abbrev S1x1x2048x128 : Shape := ⟨4, ![1, 1, 2048, 128]⟩
abbrev S2048x256 : Shape := ⟨2, ![2048, 256]⟩
abbrev S256 : Shape := ⟨1, ![256]⟩
abbrev S1x256 : Shape := ⟨2, ![1, 256]⟩
abbrev S1x144x2048 : Shape := ⟨3, ![1, 144, 2048]⟩
abbrev S144x2048 : Shape := ⟨2, ![144, 2048]⟩
abbrev S144x256 : Shape := ⟨2, ![144, 256]⟩
abbrev S256x1 : Shape := ⟨2, ![256, 1]⟩

abbrev nBuf : Space → Nat
  | .hbm => 53
  | .vmem => 21
  | .smem => 0
  | _ => 0

abbrev bufTy : (tb : Table) → Fin (tcTables nBuf tb) → BufTy
  | .hbm, ⟨0, _⟩ => ⟨S8x2048x6656, .bf16⟩
  | .hbm, ⟨1, _⟩ => ⟨S2x64, .f32⟩
  | .hbm, ⟨2, _⟩ => ⟨S4x64, .f32⟩
  | .hbm, ⟨3, _⟩ => ⟨S128, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x128, .f32⟩
  | .hbm, ⟨27, _⟩ => ⟨S2048x32, .f32⟩
  | .hbm, ⟨28, _⟩ => ⟨S2048x32, .f32⟩
  | .hbm, ⟨29, _⟩ => ⟨S2048x128, .f32⟩
  | .hbm, ⟨30, _⟩ => ⟨S1x2x1x64, .f32⟩
  | .hbm, ⟨31, _⟩ => ⟨S1x2x2x64, .f32⟩
  | .hbm, ⟨32, _⟩ => ⟨S2x128, .f32⟩
  | .hbm, ⟨33, _⟩ => ⟨S2x32, .f32⟩
  | .hbm, ⟨34, _⟩ => ⟨S2x32, .f32⟩
  | .hbm, ⟨35, _⟩ => ⟨S2x64, .f32⟩
  | .hbm, ⟨36, _⟩ => ⟨S1x2x1x64, .f32⟩
  | .hbm, ⟨37, _⟩ => ⟨S1x2x2x64, .f32⟩
  | .hbm, ⟨38, _⟩ => ⟨S2x128, .f32⟩
  | .hbm, ⟨39, _⟩ => ⟨S1x128, .f32⟩
  | .hbm, ⟨40, _⟩ => ⟨S2048x128, .f32⟩
  | .hbm, ⟨41, _⟩ => ⟨S2048x128, .f32⟩
  | .hbm, ⟨42, _⟩ => ⟨S1x128, .f32⟩
  | .hbm, ⟨43, _⟩ => ⟨S2048x128, .f32⟩
  | .hbm, ⟨44, _⟩ => ⟨S2048x128, .f32⟩
  | .hbm, ⟨45, _⟩ => ⟨S1x128, .f32⟩
  | .hbm, ⟨46, _⟩ => ⟨S2048x128, .f32⟩
  | .hbm, ⟨47, _⟩ => ⟨S2048x128, .f32⟩
  | .hbm, ⟨48, _⟩ => ⟨S1x128, .f32⟩
  | .hbm, ⟨49, _⟩ => ⟨S2048x128, .f32⟩
  | .hbm, ⟨50, _⟩ => ⟨S2048x128, .f32⟩
  | .hbm, ⟨51, _⟩ => ⟨S1x128, .f32⟩
  | .hbm, ⟨52, _⟩ => ⟨S8x2048x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S4x64, .f32⟩
  | .local _ .vmem, ⟨13, _⟩ => ⟨S1x128, .f32⟩
  | .local _ .vmem, ⟨14, _⟩ => ⟨S1x2048x256, .bf16⟩
  | .local _ .vmem, ⟨15, _⟩ => ⟨S1x2048x256, .bf16⟩
  | .local _ .vmem, ⟨16, _⟩ => ⟨S2x2048x128, .bf16⟩
  | .local _ .vmem, ⟨17, _⟩ => ⟨S2x2x2048x128, .bf16⟩
  | .local _ .vmem, ⟨18, _⟩ => ⟨S2x144x2048, .bf16⟩
  | .local _ .vmem, ⟨19, _⟩ => ⟨S2x2048x256, .f32⟩
  | .local _ .vmem, ⟨20, _⟩ => ⟨S2x2048x256, .f32⟩
  | _, _ => ⟨S8x2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 2], ![false, false]⟩

def k0_mult1 : BitVec 32 :=
  let c0_i32_20 : BitVec 32 := 0#32
  let c8_i32_27 : BitVec 32 := 8#32
  let c0_i32_28 : BitVec 32 := 0#32
  let v92 : BitVec 1 := Scalar.cmpi .eq c8_i32_27 c0_i32_28
  let c1_i32_29 : BitVec 32 := 1#32
  let v93 : BitVec 32 := Scalar.select v92 c1_i32_29 c8_i32_27
  let v94 : BitVec 32 := Scalar.remsi c0_i32_20 v93
  let c0_i32_31 : BitVec 32 := 0#32
  let v96 : BitVec 1 := Scalar.cmpi .slt v94 c0_i32_31
  let c0_i32_32 : BitVec 32 := 0#32
  let v97 : BitVec 1 := Scalar.cmpi .slt v93 c0_i32_32
  let v98 : BitVec 1 := Scalar.xori v96 v97
  let c0_i32_30 : BitVec 32 := 0#32
  let v95 : BitVec 1 := Scalar.cmpi .ne v94 c0_i32_30
  let v99 : BitVec 1 := Scalar.andi v98 v95
  let v100 : BitVec 32 := Scalar.addi v94 v93
  let v101 : BitVec 32 := Scalar.select v99 v100 v94
  let c256_i32 : BitVec 32 := 256#32
  let v102 : BitVec 32 := Scalar.muli v101 c256_i32
  v102
def k0_mult2 : BitVec 32 :=
  let c0_i32_20 : BitVec 32 := 0#32
  let c0_i32_21 : BitVec 32 := 0#32
  let v76 : BitVec 1 := Scalar.cmpi .sgt c0_i32_20 c0_i32_21
  let v77 : BitVec 32 := Scalar.extui v76
  let c0_i32_22 : BitVec 32 := 0#32
  let v78 : BitVec 1 := Scalar.cmpi .slt c0_i32_20 c0_i32_22
  let v79 : BitVec 32 := Scalar.extui v78
  let v80 : BitVec 32 := Scalar.subi v77 v79
  let c8_i32 : BitVec 32 := 8#32
  let c0_i32_23 : BitVec 32 := 0#32
  let v81 : BitVec 1 := Scalar.cmpi .sgt c8_i32 c0_i32_23
  let v82 : BitVec 32 := Scalar.extui v81
  let c0_i32_24 : BitVec 32 := 0#32
  let v83 : BitVec 1 := Scalar.cmpi .slt c8_i32 c0_i32_24
  let v84 : BitVec 32 := Scalar.extui v83
  let v85 : BitVec 32 := Scalar.subi v82 v84
  let v86 : BitVec 1 := Scalar.cmpi .ne v80 v85
  let v87 : BitVec 32 := Scalar.remsi c0_i32_20 c8_i32
  let c0_i32_25 : BitVec 32 := 0#32
  let v88 : BitVec 1 := Scalar.cmpi .ne v87 c0_i32_25
  let v89 : BitVec 1 := Scalar.andi v86 v88
  let v75 : BitVec 32 := Scalar.divsi c0_i32_20 c8_i32
  let c1_i32_26 : BitVec 32 := 1#32
  let v90 : BitVec 32 := Scalar.subi v75 c1_i32_26
  let v91 : BitVec 32 := Scalar.select v89 v90 v75
  let c128_i32 : BitVec 32 := 128#32
  let v104 : BitVec 32 := Scalar.muli v91 c128_i32
  v104
def k0_off1 (c0_i32_20 : BitVec 32) : Fin 3 → Nat :=
  let c0_33 : Index := 0#32
  let c8_i32_27 : BitVec 32 := 8#32
  let c0_i32_28 : BitVec 32 := 0#32
  let v92 : BitVec 1 := Scalar.cmpi .eq c8_i32_27 c0_i32_28
  let c1_i32_29 : BitVec 32 := 1#32
  let v93 : BitVec 32 := Scalar.select v92 c1_i32_29 c8_i32_27
  let v94 : BitVec 32 := Scalar.remsi c0_i32_20 v93
  let c0_i32_31 : BitVec 32 := 0#32
  let v96 : BitVec 1 := Scalar.cmpi .slt v94 c0_i32_31
  let c0_i32_32 : BitVec 32 := 0#32
  let v97 : BitVec 1 := Scalar.cmpi .slt v93 c0_i32_32
  let v98 : BitVec 1 := Scalar.xori v96 v97
  let c0_i32_30 : BitVec 32 := 0#32
  let v95 : BitVec 1 := Scalar.cmpi .ne v94 c0_i32_30
  let v99 : BitVec 1 := Scalar.andi v98 v95
  let v100 : BitVec 32 := Scalar.addi v94 v93
  let v101 : BitVec 32 := Scalar.select v99 v100 v94
  let c256_i32 : BitVec 32 := 256#32
  let v102 : BitVec 32 := Scalar.muli v101 c256_i32
  let v103 : BitVec 32 := v102
  let v106 : Index := Scalar.indexCast v103
  let c0_i32_21 : BitVec 32 := 0#32
  let v76 : BitVec 1 := Scalar.cmpi .sgt c0_i32_20 c0_i32_21
  let v77 : BitVec 32 := Scalar.extui v76
  let c0_i32_22 : BitVec 32 := 0#32
  let v78 : BitVec 1 := Scalar.cmpi .slt c0_i32_20 c0_i32_22
  let v79 : BitVec 32 := Scalar.extui v78
  let v80 : BitVec 32 := Scalar.subi v77 v79
  let c8_i32 : BitVec 32 := 8#32
  let c0_i32_23 : BitVec 32 := 0#32
  let v81 : BitVec 1 := Scalar.cmpi .sgt c8_i32 c0_i32_23
  let v82 : BitVec 32 := Scalar.extui v81
  let c0_i32_24 : BitVec 32 := 0#32
  let v83 : BitVec 1 := Scalar.cmpi .slt c8_i32 c0_i32_24
  let v84 : BitVec 32 := Scalar.extui v83
  let v85 : BitVec 32 := Scalar.subi v82 v84
  let v86 : BitVec 1 := Scalar.cmpi .ne v80 v85
  let v87 : BitVec 32 := Scalar.remsi c0_i32_20 c8_i32
  let c0_i32_25 : BitVec 32 := 0#32
  let v88 : BitVec 1 := Scalar.cmpi .ne v87 c0_i32_25
  let v89 : BitVec 1 := Scalar.andi v86 v88
  let v75 : BitVec 32 := Scalar.divsi c0_i32_20 c8_i32
  let c1_i32_26 : BitVec 32 := 1#32
  let v90 : BitVec 32 := Scalar.subi v75 c1_i32_26
  let v91 : BitVec 32 := Scalar.select v89 v90 v75
  let c128_i32 : BitVec 32 := 128#32
  let v104 : BitVec 32 := Scalar.muli v91 c128_i32
  let v105 : BitVec 32 := v104
  let v107 : Index := Scalar.indexCast v105
  ![0, v106.toNat, v107.toNat]
def k0_off2 (c0_i32_20 : BitVec 32) : Fin 2 → Nat :=
  let c8_i32_27 : BitVec 32 := 8#32
  let c0_i32_28 : BitVec 32 := 0#32
  let v92 : BitVec 1 := Scalar.cmpi .eq c8_i32_27 c0_i32_28
  let c1_i32_29 : BitVec 32 := 1#32
  let v93 : BitVec 32 := Scalar.select v92 c1_i32_29 c8_i32_27
  let v94 : BitVec 32 := Scalar.remsi c0_i32_20 v93
  let c0_i32_31 : BitVec 32 := 0#32
  let v96 : BitVec 1 := Scalar.cmpi .slt v94 c0_i32_31
  let c0_i32_32 : BitVec 32 := 0#32
  let v97 : BitVec 1 := Scalar.cmpi .slt v93 c0_i32_32
  let v98 : BitVec 1 := Scalar.xori v96 v97
  let c0_i32_30 : BitVec 32 := 0#32
  let v95 : BitVec 1 := Scalar.cmpi .ne v94 c0_i32_30
  let v99 : BitVec 1 := Scalar.andi v98 v95
  let v100 : BitVec 32 := Scalar.addi v94 v93
  let v101 : BitVec 32 := Scalar.select v99 v100 v94
  let c256_i32 : BitVec 32 := 256#32
  let v102 : BitVec 32 := Scalar.muli v101 c256_i32
  let v103 : BitVec 32 := v102
  let v119 : Index := Scalar.indexCast v103
  let c0_37 : Index := 0#32
  ![v119.toNat, 0]
def k0_off3 (c0_i32_20 : BitVec 32) : Fin 3 → Nat :=
  let c0_i32_21 : BitVec 32 := 0#32
  let v76 : BitVec 1 := Scalar.cmpi .sgt c0_i32_20 c0_i32_21
  let v77 : BitVec 32 := Scalar.extui v76
  let c0_i32_22 : BitVec 32 := 0#32
  let v78 : BitVec 1 := Scalar.cmpi .slt c0_i32_20 c0_i32_22
  let v79 : BitVec 32 := Scalar.extui v78
  let v80 : BitVec 32 := Scalar.subi v77 v79
  let c8_i32 : BitVec 32 := 8#32
  let c0_i32_23 : BitVec 32 := 0#32
  let v81 : BitVec 1 := Scalar.cmpi .sgt c8_i32 c0_i32_23
  let v82 : BitVec 32 := Scalar.extui v81
  let c0_i32_24 : BitVec 32 := 0#32
  let v83 : BitVec 1 := Scalar.cmpi .slt c8_i32 c0_i32_24
  let v84 : BitVec 32 := Scalar.extui v83
  let v85 : BitVec 32 := Scalar.subi v82 v84
  let v86 : BitVec 1 := Scalar.cmpi .ne v80 v85
  let v87 : BitVec 32 := Scalar.remsi c0_i32_20 c8_i32
  let c0_i32_25 : BitVec 32 := 0#32
  let v88 : BitVec 1 := Scalar.cmpi .ne v87 c0_i32_25
  let v89 : BitVec 1 := Scalar.andi v86 v88
  let v75 : BitVec 32 := Scalar.divsi c0_i32_20 c8_i32
  let c1_i32_26 : BitVec 32 := 1#32
  let v90 : BitVec 32 := Scalar.subi v75 c1_i32_26
  let v91 : BitVec 32 := Scalar.select v89 v90 v75
  let v133 : Index := Scalar.indexCast v91
  let c8_i32_27 : BitVec 32 := 8#32
  let c0_i32_28 : BitVec 32 := 0#32
  let v92 : BitVec 1 := Scalar.cmpi .eq c8_i32_27 c0_i32_28
  let c1_i32_29 : BitVec 32 := 1#32
  let v93 : BitVec 32 := Scalar.select v92 c1_i32_29 c8_i32_27
  let v94 : BitVec 32 := Scalar.remsi c0_i32_20 v93
  let c0_i32_31 : BitVec 32 := 0#32
  let v96 : BitVec 1 := Scalar.cmpi .slt v94 c0_i32_31
  let c0_i32_32 : BitVec 32 := 0#32
  let v97 : BitVec 1 := Scalar.cmpi .slt v93 c0_i32_32
  let v98 : BitVec 1 := Scalar.xori v96 v97
  let c0_i32_30 : BitVec 32 := 0#32
  let v95 : BitVec 1 := Scalar.cmpi .ne v94 c0_i32_30
  let v99 : BitVec 1 := Scalar.andi v98 v95
  let v100 : BitVec 32 := Scalar.addi v94 v93
  let v101 : BitVec 32 := Scalar.select v99 v100 v94
  let c256_i32 : BitVec 32 := 256#32
  let v102 : BitVec 32 := Scalar.muli v101 c256_i32
  let v103 : BitVec 32 := v102
  let v134 : Index := Scalar.indexCast v103
  let c0_41 : Index := 0#32
  ![v133.toNat, v134.toNat, 0]
def k0_off4 (c0_i32_20 : BitVec 32) : Fin 4 → Nat :=
  let c0_i32_21 : BitVec 32 := 0#32
  let v76 : BitVec 1 := Scalar.cmpi .sgt c0_i32_20 c0_i32_21
  let v77 : BitVec 32 := Scalar.extui v76
  let c0_i32_22 : BitVec 32 := 0#32
  let v78 : BitVec 1 := Scalar.cmpi .slt c0_i32_20 c0_i32_22
  let v79 : BitVec 32 := Scalar.extui v78
  let v80 : BitVec 32 := Scalar.subi v77 v79
  let c8_i32 : BitVec 32 := 8#32
  let c0_i32_23 : BitVec 32 := 0#32
  let v81 : BitVec 1 := Scalar.cmpi .sgt c8_i32 c0_i32_23
  let v82 : BitVec 32 := Scalar.extui v81
  let c0_i32_24 : BitVec 32 := 0#32
  let v83 : BitVec 1 := Scalar.cmpi .slt c8_i32 c0_i32_24
  let v84 : BitVec 32 := Scalar.extui v83
  let v85 : BitVec 32 := Scalar.subi v82 v84
  let v86 : BitVec 1 := Scalar.cmpi .ne v80 v85
  let v87 : BitVec 32 := Scalar.remsi c0_i32_20 c8_i32
  let c0_i32_25 : BitVec 32 := 0#32
  let v88 : BitVec 1 := Scalar.cmpi .ne v87 c0_i32_25
  let v89 : BitVec 1 := Scalar.andi v86 v88
  let v75 : BitVec 32 := Scalar.divsi c0_i32_20 c8_i32
  let c1_i32_26 : BitVec 32 := 1#32
  let v90 : BitVec 32 := Scalar.subi v75 c1_i32_26
  let v91 : BitVec 32 := Scalar.select v89 v90 v75
  let v165 : Index := Scalar.indexCast v91
  let c0_50 : Index := 0#32
  let c8_i32_27 : BitVec 32 := 8#32
  let c0_i32_28 : BitVec 32 := 0#32
  let v92 : BitVec 1 := Scalar.cmpi .eq c8_i32_27 c0_i32_28
  let c1_i32_29 : BitVec 32 := 1#32
  let v93 : BitVec 32 := Scalar.select v92 c1_i32_29 c8_i32_27
  let v94 : BitVec 32 := Scalar.remsi c0_i32_20 v93
  let c0_i32_31 : BitVec 32 := 0#32
  let v96 : BitVec 1 := Scalar.cmpi .slt v94 c0_i32_31
  let c0_i32_32 : BitVec 32 := 0#32
  let v97 : BitVec 1 := Scalar.cmpi .slt v93 c0_i32_32
  let v98 : BitVec 1 := Scalar.xori v96 v97
  let c0_i32_30 : BitVec 32 := 0#32
  let v95 : BitVec 1 := Scalar.cmpi .ne v94 c0_i32_30
  let v99 : BitVec 1 := Scalar.andi v98 v95
  let v100 : BitVec 32 := Scalar.addi v94 v93
  let v101 : BitVec 32 := Scalar.select v99 v100 v94
  let c256_i32 : BitVec 32 := 256#32
  let v102 : BitVec 32 := Scalar.muli v101 c256_i32
  let v103 : BitVec 32 := v102
  let v166 : Index := Scalar.indexCast v103
  let c0_51 : Index := 0#32
  ![v165.toNat, 0, v166.toNat, 0]
def k0_off5 (c0_i32_20 : BitVec 32) : Fin 4 → Nat :=
  let c0_i32_21 : BitVec 32 := 0#32
  let v76 : BitVec 1 := Scalar.cmpi .sgt c0_i32_20 c0_i32_21
  let v77 : BitVec 32 := Scalar.extui v76
  let c0_i32_22 : BitVec 32 := 0#32
  let v78 : BitVec 1 := Scalar.cmpi .slt c0_i32_20 c0_i32_22
  let v79 : BitVec 32 := Scalar.extui v78
  let v80 : BitVec 32 := Scalar.subi v77 v79
  let c8_i32 : BitVec 32 := 8#32
  let c0_i32_23 : BitVec 32 := 0#32
  let v81 : BitVec 1 := Scalar.cmpi .sgt c8_i32 c0_i32_23
  let v82 : BitVec 32 := Scalar.extui v81
  let c0_i32_24 : BitVec 32 := 0#32
  let v83 : BitVec 1 := Scalar.cmpi .slt c8_i32 c0_i32_24
  let v84 : BitVec 32 := Scalar.extui v83
  let v85 : BitVec 32 := Scalar.subi v82 v84
  let v86 : BitVec 1 := Scalar.cmpi .ne v80 v85
  let v87 : BitVec 32 := Scalar.remsi c0_i32_20 c8_i32
  let c0_i32_25 : BitVec 32 := 0#32
  let v88 : BitVec 1 := Scalar.cmpi .ne v87 c0_i32_25
  let v89 : BitVec 1 := Scalar.andi v86 v88
  let v75 : BitVec 32 := Scalar.divsi c0_i32_20 c8_i32
  let c1_i32_26 : BitVec 32 := 1#32
  let v90 : BitVec 32 := Scalar.subi v75 c1_i32_26
  let v91 : BitVec 32 := Scalar.select v89 v90 v75
  let v173 : Index := Scalar.indexCast v91
  let c1_53 : Index := 1#32
  let c8_i32_27 : BitVec 32 := 8#32
  let c0_i32_28 : BitVec 32 := 0#32
  let v92 : BitVec 1 := Scalar.cmpi .eq c8_i32_27 c0_i32_28
  let c1_i32_29 : BitVec 32 := 1#32
  let v93 : BitVec 32 := Scalar.select v92 c1_i32_29 c8_i32_27
  let v94 : BitVec 32 := Scalar.remsi c0_i32_20 v93
  let c0_i32_31 : BitVec 32 := 0#32
  let v96 : BitVec 1 := Scalar.cmpi .slt v94 c0_i32_31
  let c0_i32_32 : BitVec 32 := 0#32
  let v97 : BitVec 1 := Scalar.cmpi .slt v93 c0_i32_32
  let v98 : BitVec 1 := Scalar.xori v96 v97
  let c0_i32_30 : BitVec 32 := 0#32
  let v95 : BitVec 1 := Scalar.cmpi .ne v94 c0_i32_30
  let v99 : BitVec 1 := Scalar.andi v98 v95
  let v100 : BitVec 32 := Scalar.addi v94 v93
  let v101 : BitVec 32 := Scalar.select v99 v100 v94
  let c256_i32 : BitVec 32 := 256#32
  let v102 : BitVec 32 := Scalar.muli v101 c256_i32
  let v103 : BitVec 32 := v102
  let v174 : Index := Scalar.indexCast v103
  let c0_54 : Index := 0#32
  ![v173.toNat, 1, v174.toNat, 0]
def k0_off6 (c0_i32_20 : BitVec 32) : Fin 3 → Nat :=
  let c0_i32_21 : BitVec 32 := 0#32
  let v76 : BitVec 1 := Scalar.cmpi .sgt c0_i32_20 c0_i32_21
  let v77 : BitVec 32 := Scalar.extui v76
  let c0_i32_22 : BitVec 32 := 0#32
  let v78 : BitVec 1 := Scalar.cmpi .slt c0_i32_20 c0_i32_22
  let v79 : BitVec 32 := Scalar.extui v78
  let v80 : BitVec 32 := Scalar.subi v77 v79
  let c8_i32 : BitVec 32 := 8#32
  let c0_i32_23 : BitVec 32 := 0#32
  let v81 : BitVec 1 := Scalar.cmpi .sgt c8_i32 c0_i32_23
  let v82 : BitVec 32 := Scalar.extui v81
  let c0_i32_24 : BitVec 32 := 0#32
  let v83 : BitVec 1 := Scalar.cmpi .slt c8_i32 c0_i32_24
  let v84 : BitVec 32 := Scalar.extui v83
  let v85 : BitVec 32 := Scalar.subi v82 v84
  let v86 : BitVec 1 := Scalar.cmpi .ne v80 v85
  let v87 : BitVec 32 := Scalar.remsi c0_i32_20 c8_i32
  let c0_i32_25 : BitVec 32 := 0#32
  let v88 : BitVec 1 := Scalar.cmpi .ne v87 c0_i32_25
  let v89 : BitVec 1 := Scalar.andi v86 v88
  let v75 : BitVec 32 := Scalar.divsi c0_i32_20 c8_i32
  let c1_i32_26 : BitVec 32 := 1#32
  let v90 : BitVec 32 := Scalar.subi v75 c1_i32_26
  let v91 : BitVec 32 := Scalar.select v89 v90 v75
  let v183 : Index := Scalar.indexCast v91
  let c0_56 : Index := 0#32
  let c8_i32_27 : BitVec 32 := 8#32
  let c0_i32_28 : BitVec 32 := 0#32
  let v92 : BitVec 1 := Scalar.cmpi .eq c8_i32_27 c0_i32_28
  let c1_i32_29 : BitVec 32 := 1#32
  let v93 : BitVec 32 := Scalar.select v92 c1_i32_29 c8_i32_27
  let v94 : BitVec 32 := Scalar.remsi c0_i32_20 v93
  let c0_i32_31 : BitVec 32 := 0#32
  let v96 : BitVec 1 := Scalar.cmpi .slt v94 c0_i32_31
  let c0_i32_32 : BitVec 32 := 0#32
  let v97 : BitVec 1 := Scalar.cmpi .slt v93 c0_i32_32
  let v98 : BitVec 1 := Scalar.xori v96 v97
  let c0_i32_30 : BitVec 32 := 0#32
  let v95 : BitVec 1 := Scalar.cmpi .ne v94 c0_i32_30
  let v99 : BitVec 1 := Scalar.andi v98 v95
  let v100 : BitVec 32 := Scalar.addi v94 v93
  let v101 : BitVec 32 := Scalar.select v99 v100 v94
  let c256_i32 : BitVec 32 := 256#32
  let v102 : BitVec 32 := Scalar.muli v101 c256_i32
  let v103 : BitVec 32 := v102
  let v184 : Index := Scalar.indexCast v103
  ![v183.toNat, 0, v184.toNat]
def k0_mult3 : BitVec 32 :=
  let c1_i32_57 : BitVec 32 := 1#32
  let c8_i32_65 : BitVec 32 := 8#32
  let c0_i32_66 : BitVec 32 := 0#32
  let v205 : BitVec 1 := Scalar.cmpi .eq c8_i32_65 c0_i32_66
  let c1_i32_67 : BitVec 32 := 1#32
  let v206 : BitVec 32 := Scalar.select v205 c1_i32_67 c8_i32_65
  let v207 : BitVec 32 := Scalar.remsi c1_i32_57 v206
  let c0_i32_69 : BitVec 32 := 0#32
  let v209 : BitVec 1 := Scalar.cmpi .slt v207 c0_i32_69
  let c0_i32_70 : BitVec 32 := 0#32
  let v210 : BitVec 1 := Scalar.cmpi .slt v206 c0_i32_70
  let v211 : BitVec 1 := Scalar.xori v209 v210
  let c0_i32_68 : BitVec 32 := 0#32
  let v208 : BitVec 1 := Scalar.cmpi .ne v207 c0_i32_68
  let v212 : BitVec 1 := Scalar.andi v211 v208
  let v213 : BitVec 32 := Scalar.addi v207 v206
  let v214 : BitVec 32 := Scalar.select v212 v213 v207
  let c256_i32_71 : BitVec 32 := 256#32
  let v215 : BitVec 32 := Scalar.muli v214 c256_i32_71
  v215
def k0_mult4 : BitVec 32 :=
  let c1_i32_57 : BitVec 32 := 1#32
  let c0_i32_59 : BitVec 32 := 0#32
  let v189 : BitVec 1 := Scalar.cmpi .sgt c1_i32_57 c0_i32_59
  let v190 : BitVec 32 := Scalar.extui v189
  let c0_i32_60 : BitVec 32 := 0#32
  let v191 : BitVec 1 := Scalar.cmpi .slt c1_i32_57 c0_i32_60
  let v192 : BitVec 32 := Scalar.extui v191
  let v193 : BitVec 32 := Scalar.subi v190 v192
  let c8_i32_58 : BitVec 32 := 8#32
  let c0_i32_61 : BitVec 32 := 0#32
  let v194 : BitVec 1 := Scalar.cmpi .sgt c8_i32_58 c0_i32_61
  let v195 : BitVec 32 := Scalar.extui v194
  let c0_i32_62 : BitVec 32 := 0#32
  let v196 : BitVec 1 := Scalar.cmpi .slt c8_i32_58 c0_i32_62
  let v197 : BitVec 32 := Scalar.extui v196
  let v198 : BitVec 32 := Scalar.subi v195 v197
  let v199 : BitVec 1 := Scalar.cmpi .ne v193 v198
  let v200 : BitVec 32 := Scalar.remsi c1_i32_57 c8_i32_58
  let c0_i32_63 : BitVec 32 := 0#32
  let v201 : BitVec 1 := Scalar.cmpi .ne v200 c0_i32_63
  let v202 : BitVec 1 := Scalar.andi v199 v201
  let v188 : BitVec 32 := Scalar.divsi c1_i32_57 c8_i32_58
  let c1_i32_64 : BitVec 32 := 1#32
  let v203 : BitVec 32 := Scalar.subi v188 c1_i32_64
  let v204 : BitVec 32 := Scalar.select v202 v203 v188
  let c128_i32_72 : BitVec 32 := 128#32
  let v217 : BitVec 32 := Scalar.muli v204 c128_i32_72
  v217
def k0_mult5 : BitVec 32 :=
  let c2_i32 : BitVec 32 := 2#32
  let c8_i32_104 : BitVec 32 := 8#32
  let c0_i32_105 : BitVec 32 := 0#32
  let v318 : BitVec 1 := Scalar.cmpi .eq c8_i32_104 c0_i32_105
  let c1_i32_106 : BitVec 32 := 1#32
  let v319 : BitVec 32 := Scalar.select v318 c1_i32_106 c8_i32_104
  let v320 : BitVec 32 := Scalar.remsi c2_i32 v319
  let c0_i32_108 : BitVec 32 := 0#32
  let v322 : BitVec 1 := Scalar.cmpi .slt v320 c0_i32_108
  let c0_i32_109 : BitVec 32 := 0#32
  let v323 : BitVec 1 := Scalar.cmpi .slt v319 c0_i32_109
  let v324 : BitVec 1 := Scalar.xori v322 v323
  let c0_i32_107 : BitVec 32 := 0#32
  let v321 : BitVec 1 := Scalar.cmpi .ne v320 c0_i32_107
  let v325 : BitVec 1 := Scalar.andi v324 v321
  let v326 : BitVec 32 := Scalar.addi v320 v319
  let v327 : BitVec 32 := Scalar.select v325 v326 v320
  let c256_i32_110 : BitVec 32 := 256#32
  let v328 : BitVec 32 := Scalar.muli v327 c256_i32_110
  v328
def k0_mult6 : BitVec 32 :=
  let c2_i32 : BitVec 32 := 2#32
  let c0_i32_98 : BitVec 32 := 0#32
  let v302 : BitVec 1 := Scalar.cmpi .sgt c2_i32 c0_i32_98
  let v303 : BitVec 32 := Scalar.extui v302
  let c0_i32_99 : BitVec 32 := 0#32
  let v304 : BitVec 1 := Scalar.cmpi .slt c2_i32 c0_i32_99
  let v305 : BitVec 32 := Scalar.extui v304
  let v306 : BitVec 32 := Scalar.subi v303 v305
  let c8_i32_97 : BitVec 32 := 8#32
  let c0_i32_100 : BitVec 32 := 0#32
  let v307 : BitVec 1 := Scalar.cmpi .sgt c8_i32_97 c0_i32_100
  let v308 : BitVec 32 := Scalar.extui v307
  let c0_i32_101 : BitVec 32 := 0#32
  let v309 : BitVec 1 := Scalar.cmpi .slt c8_i32_97 c0_i32_101
  let v310 : BitVec 32 := Scalar.extui v309
  let v311 : BitVec 32 := Scalar.subi v308 v310
  let v312 : BitVec 1 := Scalar.cmpi .ne v306 v311
  let v313 : BitVec 32 := Scalar.remsi c2_i32 c8_i32_97
  let c0_i32_102 : BitVec 32 := 0#32
  let v314 : BitVec 1 := Scalar.cmpi .ne v313 c0_i32_102
  let v315 : BitVec 1 := Scalar.andi v312 v314
  let v301 : BitVec 32 := Scalar.divsi c2_i32 c8_i32_97
  let c1_i32_103 : BitVec 32 := 1#32
  let v316 : BitVec 32 := Scalar.subi v301 c1_i32_103
  let v317 : BitVec 32 := Scalar.select v315 v316 v301
  let c128_i32_111 : BitVec 32 := 128#32
  let v330 : BitVec 32 := Scalar.muli v317 c128_i32_111
  v330
def k0_mult7 : BitVec 32 :=
  let c3_i32 : BitVec 32 := 3#32
  let c8_i32_143 : BitVec 32 := 8#32
  let c0_i32_144 : BitVec 32 := 0#32
  let v431 : BitVec 1 := Scalar.cmpi .eq c8_i32_143 c0_i32_144
  let c1_i32_145 : BitVec 32 := 1#32
  let v432 : BitVec 32 := Scalar.select v431 c1_i32_145 c8_i32_143
  let v433 : BitVec 32 := Scalar.remsi c3_i32 v432
  let c0_i32_147 : BitVec 32 := 0#32
  let v435 : BitVec 1 := Scalar.cmpi .slt v433 c0_i32_147
  let c0_i32_148 : BitVec 32 := 0#32
  let v436 : BitVec 1 := Scalar.cmpi .slt v432 c0_i32_148
  let v437 : BitVec 1 := Scalar.xori v435 v436
  let c0_i32_146 : BitVec 32 := 0#32
  let v434 : BitVec 1 := Scalar.cmpi .ne v433 c0_i32_146
  let v438 : BitVec 1 := Scalar.andi v437 v434
  let v439 : BitVec 32 := Scalar.addi v433 v432
  let v440 : BitVec 32 := Scalar.select v438 v439 v433
  let c256_i32_149 : BitVec 32 := 256#32
  let v441 : BitVec 32 := Scalar.muli v440 c256_i32_149
  v441
def k0_mult8 : BitVec 32 :=
  let c3_i32 : BitVec 32 := 3#32
  let c0_i32_137 : BitVec 32 := 0#32
  let v415 : BitVec 1 := Scalar.cmpi .sgt c3_i32 c0_i32_137
  let v416 : BitVec 32 := Scalar.extui v415
  let c0_i32_138 : BitVec 32 := 0#32
  let v417 : BitVec 1 := Scalar.cmpi .slt c3_i32 c0_i32_138
  let v418 : BitVec 32 := Scalar.extui v417
  let v419 : BitVec 32 := Scalar.subi v416 v418
  let c8_i32_136 : BitVec 32 := 8#32
  let c0_i32_139 : BitVec 32 := 0#32
  let v420 : BitVec 1 := Scalar.cmpi .sgt c8_i32_136 c0_i32_139
  let v421 : BitVec 32 := Scalar.extui v420
  let c0_i32_140 : BitVec 32 := 0#32
  let v422 : BitVec 1 := Scalar.cmpi .slt c8_i32_136 c0_i32_140
  let v423 : BitVec 32 := Scalar.extui v422
  let v424 : BitVec 32 := Scalar.subi v421 v423
  let v425 : BitVec 1 := Scalar.cmpi .ne v419 v424
  let v426 : BitVec 32 := Scalar.remsi c3_i32 c8_i32_136
  let c0_i32_141 : BitVec 32 := 0#32
  let v427 : BitVec 1 := Scalar.cmpi .ne v426 c0_i32_141
  let v428 : BitVec 1 := Scalar.andi v425 v427
  let v414 : BitVec 32 := Scalar.divsi c3_i32 c8_i32_136
  let c1_i32_142 : BitVec 32 := 1#32
  let v429 : BitVec 32 := Scalar.subi v414 c1_i32_142
  let v430 : BitVec 32 := Scalar.select v428 v429 v414
  let c128_i32_150 : BitVec 32 := 128#32
  let v443 : BitVec 32 := Scalar.muli v430 c128_i32_150
  v443
def k0_mult9 : BitVec 32 :=
  let c4_i32 : BitVec 32 := 4#32
  let c8_i32_182 : BitVec 32 := 8#32
  let c0_i32_183 : BitVec 32 := 0#32
  let v544 : BitVec 1 := Scalar.cmpi .eq c8_i32_182 c0_i32_183
  let c1_i32_184 : BitVec 32 := 1#32
  let v545 : BitVec 32 := Scalar.select v544 c1_i32_184 c8_i32_182
  let v546 : BitVec 32 := Scalar.remsi c4_i32 v545
  let c0_i32_186 : BitVec 32 := 0#32
  let v548 : BitVec 1 := Scalar.cmpi .slt v546 c0_i32_186
  let c0_i32_187 : BitVec 32 := 0#32
  let v549 : BitVec 1 := Scalar.cmpi .slt v545 c0_i32_187
  let v550 : BitVec 1 := Scalar.xori v548 v549
  let c0_i32_185 : BitVec 32 := 0#32
  let v547 : BitVec 1 := Scalar.cmpi .ne v546 c0_i32_185
  let v551 : BitVec 1 := Scalar.andi v550 v547
  let v552 : BitVec 32 := Scalar.addi v546 v545
  let v553 : BitVec 32 := Scalar.select v551 v552 v546
  let c256_i32_188 : BitVec 32 := 256#32
  let v554 : BitVec 32 := Scalar.muli v553 c256_i32_188
  v554
def k0_mult10 : BitVec 32 :=
  let c4_i32 : BitVec 32 := 4#32
  let c0_i32_176 : BitVec 32 := 0#32
  let v528 : BitVec 1 := Scalar.cmpi .sgt c4_i32 c0_i32_176
  let v529 : BitVec 32 := Scalar.extui v528
  let c0_i32_177 : BitVec 32 := 0#32
  let v530 : BitVec 1 := Scalar.cmpi .slt c4_i32 c0_i32_177
  let v531 : BitVec 32 := Scalar.extui v530
  let v532 : BitVec 32 := Scalar.subi v529 v531
  let c8_i32_175 : BitVec 32 := 8#32
  let c0_i32_178 : BitVec 32 := 0#32
  let v533 : BitVec 1 := Scalar.cmpi .sgt c8_i32_175 c0_i32_178
  let v534 : BitVec 32 := Scalar.extui v533
  let c0_i32_179 : BitVec 32 := 0#32
  let v535 : BitVec 1 := Scalar.cmpi .slt c8_i32_175 c0_i32_179
  let v536 : BitVec 32 := Scalar.extui v535
  let v537 : BitVec 32 := Scalar.subi v534 v536
  let v538 : BitVec 1 := Scalar.cmpi .ne v532 v537
  let v539 : BitVec 32 := Scalar.remsi c4_i32 c8_i32_175
  let c0_i32_180 : BitVec 32 := 0#32
  let v540 : BitVec 1 := Scalar.cmpi .ne v539 c0_i32_180
  let v541 : BitVec 1 := Scalar.andi v538 v540
  let v527 : BitVec 32 := Scalar.divsi c4_i32 c8_i32_175
  let c1_i32_181 : BitVec 32 := 1#32
  let v542 : BitVec 32 := Scalar.subi v527 c1_i32_181
  let v543 : BitVec 32 := Scalar.select v541 v542 v527
  let c128_i32_189 : BitVec 32 := 128#32
  let v556 : BitVec 32 := Scalar.muli v543 c128_i32_189
  v556
def k0_mult11 : BitVec 32 :=
  let c5_i32 : BitVec 32 := 5#32
  let c8_i32_221 : BitVec 32 := 8#32
  let c0_i32_222 : BitVec 32 := 0#32
  let v657 : BitVec 1 := Scalar.cmpi .eq c8_i32_221 c0_i32_222
  let c1_i32_223 : BitVec 32 := 1#32
  let v658 : BitVec 32 := Scalar.select v657 c1_i32_223 c8_i32_221
  let v659 : BitVec 32 := Scalar.remsi c5_i32 v658
  let c0_i32_225 : BitVec 32 := 0#32
  let v661 : BitVec 1 := Scalar.cmpi .slt v659 c0_i32_225
  let c0_i32_226 : BitVec 32 := 0#32
  let v662 : BitVec 1 := Scalar.cmpi .slt v658 c0_i32_226
  let v663 : BitVec 1 := Scalar.xori v661 v662
  let c0_i32_224 : BitVec 32 := 0#32
  let v660 : BitVec 1 := Scalar.cmpi .ne v659 c0_i32_224
  let v664 : BitVec 1 := Scalar.andi v663 v660
  let v665 : BitVec 32 := Scalar.addi v659 v658
  let v666 : BitVec 32 := Scalar.select v664 v665 v659
  let c256_i32_227 : BitVec 32 := 256#32
  let v667 : BitVec 32 := Scalar.muli v666 c256_i32_227
  v667
def k0_mult12 : BitVec 32 :=
  let c5_i32 : BitVec 32 := 5#32
  let c0_i32_215 : BitVec 32 := 0#32
  let v641 : BitVec 1 := Scalar.cmpi .sgt c5_i32 c0_i32_215
  let v642 : BitVec 32 := Scalar.extui v641
  let c0_i32_216 : BitVec 32 := 0#32
  let v643 : BitVec 1 := Scalar.cmpi .slt c5_i32 c0_i32_216
  let v644 : BitVec 32 := Scalar.extui v643
  let v645 : BitVec 32 := Scalar.subi v642 v644
  let c8_i32_214 : BitVec 32 := 8#32
  let c0_i32_217 : BitVec 32 := 0#32
  let v646 : BitVec 1 := Scalar.cmpi .sgt c8_i32_214 c0_i32_217
  let v647 : BitVec 32 := Scalar.extui v646
  let c0_i32_218 : BitVec 32 := 0#32
  let v648 : BitVec 1 := Scalar.cmpi .slt c8_i32_214 c0_i32_218
  let v649 : BitVec 32 := Scalar.extui v648
  let v650 : BitVec 32 := Scalar.subi v647 v649
  let v651 : BitVec 1 := Scalar.cmpi .ne v645 v650
  let v652 : BitVec 32 := Scalar.remsi c5_i32 c8_i32_214
  let c0_i32_219 : BitVec 32 := 0#32
  let v653 : BitVec 1 := Scalar.cmpi .ne v652 c0_i32_219
  let v654 : BitVec 1 := Scalar.andi v651 v653
  let v640 : BitVec 32 := Scalar.divsi c5_i32 c8_i32_214
  let c1_i32_220 : BitVec 32 := 1#32
  let v655 : BitVec 32 := Scalar.subi v640 c1_i32_220
  let v656 : BitVec 32 := Scalar.select v654 v655 v640
  let c128_i32_228 : BitVec 32 := 128#32
  let v669 : BitVec 32 := Scalar.muli v656 c128_i32_228
  v669
def k0_mult13 : BitVec 32 :=
  let c6_i32 : BitVec 32 := 6#32
  let c8_i32_260 : BitVec 32 := 8#32
  let c0_i32_261 : BitVec 32 := 0#32
  let v770 : BitVec 1 := Scalar.cmpi .eq c8_i32_260 c0_i32_261
  let c1_i32_262 : BitVec 32 := 1#32
  let v771 : BitVec 32 := Scalar.select v770 c1_i32_262 c8_i32_260
  let v772 : BitVec 32 := Scalar.remsi c6_i32 v771
  let c0_i32_264 : BitVec 32 := 0#32
  let v774 : BitVec 1 := Scalar.cmpi .slt v772 c0_i32_264
  let c0_i32_265 : BitVec 32 := 0#32
  let v775 : BitVec 1 := Scalar.cmpi .slt v771 c0_i32_265
  let v776 : BitVec 1 := Scalar.xori v774 v775
  let c0_i32_263 : BitVec 32 := 0#32
  let v773 : BitVec 1 := Scalar.cmpi .ne v772 c0_i32_263
  let v777 : BitVec 1 := Scalar.andi v776 v773
  let v778 : BitVec 32 := Scalar.addi v772 v771
  let v779 : BitVec 32 := Scalar.select v777 v778 v772
  let c256_i32_266 : BitVec 32 := 256#32
  let v780 : BitVec 32 := Scalar.muli v779 c256_i32_266
  v780
def k0_mult14 : BitVec 32 :=
  let c6_i32 : BitVec 32 := 6#32
  let c0_i32_254 : BitVec 32 := 0#32
  let v754 : BitVec 1 := Scalar.cmpi .sgt c6_i32 c0_i32_254
  let v755 : BitVec 32 := Scalar.extui v754
  let c0_i32_255 : BitVec 32 := 0#32
  let v756 : BitVec 1 := Scalar.cmpi .slt c6_i32 c0_i32_255
  let v757 : BitVec 32 := Scalar.extui v756
  let v758 : BitVec 32 := Scalar.subi v755 v757
  let c8_i32_253 : BitVec 32 := 8#32
  let c0_i32_256 : BitVec 32 := 0#32
  let v759 : BitVec 1 := Scalar.cmpi .sgt c8_i32_253 c0_i32_256
  let v760 : BitVec 32 := Scalar.extui v759
  let c0_i32_257 : BitVec 32 := 0#32
  let v761 : BitVec 1 := Scalar.cmpi .slt c8_i32_253 c0_i32_257
  let v762 : BitVec 32 := Scalar.extui v761
  let v763 : BitVec 32 := Scalar.subi v760 v762
  let v764 : BitVec 1 := Scalar.cmpi .ne v758 v763
  let v765 : BitVec 32 := Scalar.remsi c6_i32 c8_i32_253
  let c0_i32_258 : BitVec 32 := 0#32
  let v766 : BitVec 1 := Scalar.cmpi .ne v765 c0_i32_258
  let v767 : BitVec 1 := Scalar.andi v764 v766
  let v753 : BitVec 32 := Scalar.divsi c6_i32 c8_i32_253
  let c1_i32_259 : BitVec 32 := 1#32
  let v768 : BitVec 32 := Scalar.subi v753 c1_i32_259
  let v769 : BitVec 32 := Scalar.select v767 v768 v753
  let c128_i32_267 : BitVec 32 := 128#32
  let v782 : BitVec 32 := Scalar.muli v769 c128_i32_267
  v782
def k0_mult15 : BitVec 32 :=
  let c7_i32 : BitVec 32 := 7#32
  let c8_i32_299 : BitVec 32 := 8#32
  let c0_i32_300 : BitVec 32 := 0#32
  let v883 : BitVec 1 := Scalar.cmpi .eq c8_i32_299 c0_i32_300
  let c1_i32_301 : BitVec 32 := 1#32
  let v884 : BitVec 32 := Scalar.select v883 c1_i32_301 c8_i32_299
  let v885 : BitVec 32 := Scalar.remsi c7_i32 v884
  let c0_i32_303 : BitVec 32 := 0#32
  let v887 : BitVec 1 := Scalar.cmpi .slt v885 c0_i32_303
  let c0_i32_304 : BitVec 32 := 0#32
  let v888 : BitVec 1 := Scalar.cmpi .slt v884 c0_i32_304
  let v889 : BitVec 1 := Scalar.xori v887 v888
  let c0_i32_302 : BitVec 32 := 0#32
  let v886 : BitVec 1 := Scalar.cmpi .ne v885 c0_i32_302
  let v890 : BitVec 1 := Scalar.andi v889 v886
  let v891 : BitVec 32 := Scalar.addi v885 v884
  let v892 : BitVec 32 := Scalar.select v890 v891 v885
  let c256_i32_305 : BitVec 32 := 256#32
  let v893 : BitVec 32 := Scalar.muli v892 c256_i32_305
  v893
def k0_mult16 : BitVec 32 :=
  let c7_i32 : BitVec 32 := 7#32
  let c0_i32_293 : BitVec 32 := 0#32
  let v867 : BitVec 1 := Scalar.cmpi .sgt c7_i32 c0_i32_293
  let v868 : BitVec 32 := Scalar.extui v867
  let c0_i32_294 : BitVec 32 := 0#32
  let v869 : BitVec 1 := Scalar.cmpi .slt c7_i32 c0_i32_294
  let v870 : BitVec 32 := Scalar.extui v869
  let v871 : BitVec 32 := Scalar.subi v868 v870
  let c8_i32_292 : BitVec 32 := 8#32
  let c0_i32_295 : BitVec 32 := 0#32
  let v872 : BitVec 1 := Scalar.cmpi .sgt c8_i32_292 c0_i32_295
  let v873 : BitVec 32 := Scalar.extui v872
  let c0_i32_296 : BitVec 32 := 0#32
  let v874 : BitVec 1 := Scalar.cmpi .slt c8_i32_292 c0_i32_296
  let v875 : BitVec 32 := Scalar.extui v874
  let v876 : BitVec 32 := Scalar.subi v873 v875
  let v877 : BitVec 1 := Scalar.cmpi .ne v871 v876
  let v878 : BitVec 32 := Scalar.remsi c7_i32 c8_i32_292
  let c0_i32_297 : BitVec 32 := 0#32
  let v879 : BitVec 1 := Scalar.cmpi .ne v878 c0_i32_297
  let v880 : BitVec 1 := Scalar.andi v877 v879
  let v866 : BitVec 32 := Scalar.divsi c7_i32 c8_i32_292
  let c1_i32_298 : BitVec 32 := 1#32
  let v881 : BitVec 32 := Scalar.subi v866 c1_i32_298
  let v882 : BitVec 32 := Scalar.select v880 v881 v866
  let c128_i32_306 : BitVec 32 := 128#32
  let v895 : BitVec 32 := Scalar.muli v882 c128_i32_306
  v895
def k0_mult17 : BitVec 32 :=
  let c8_i32_331 : BitVec 32 := 8#32
  let c8_i32_339 : BitVec 32 := 8#32
  let c0_i32_340 : BitVec 32 := 0#32
  let v996 : BitVec 1 := Scalar.cmpi .eq c8_i32_339 c0_i32_340
  let c1_i32_341 : BitVec 32 := 1#32
  let v997 : BitVec 32 := Scalar.select v996 c1_i32_341 c8_i32_339
  let v998 : BitVec 32 := Scalar.remsi c8_i32_331 v997
  let c0_i32_343 : BitVec 32 := 0#32
  let v1000 : BitVec 1 := Scalar.cmpi .slt v998 c0_i32_343
  let c0_i32_344 : BitVec 32 := 0#32
  let v1001 : BitVec 1 := Scalar.cmpi .slt v997 c0_i32_344
  let v1002 : BitVec 1 := Scalar.xori v1000 v1001
  let c0_i32_342 : BitVec 32 := 0#32
  let v999 : BitVec 1 := Scalar.cmpi .ne v998 c0_i32_342
  let v1003 : BitVec 1 := Scalar.andi v1002 v999
  let v1004 : BitVec 32 := Scalar.addi v998 v997
  let v1005 : BitVec 32 := Scalar.select v1003 v1004 v998
  let c256_i32_345 : BitVec 32 := 256#32
  let v1006 : BitVec 32 := Scalar.muli v1005 c256_i32_345
  v1006
def k0_mult18 : BitVec 32 :=
  let c8_i32_331 : BitVec 32 := 8#32
  let c0_i32_333 : BitVec 32 := 0#32
  let v980 : BitVec 1 := Scalar.cmpi .sgt c8_i32_331 c0_i32_333
  let v981 : BitVec 32 := Scalar.extui v980
  let c0_i32_334 : BitVec 32 := 0#32
  let v982 : BitVec 1 := Scalar.cmpi .slt c8_i32_331 c0_i32_334
  let v983 : BitVec 32 := Scalar.extui v982
  let v984 : BitVec 32 := Scalar.subi v981 v983
  let c8_i32_332 : BitVec 32 := 8#32
  let c0_i32_335 : BitVec 32 := 0#32
  let v985 : BitVec 1 := Scalar.cmpi .sgt c8_i32_332 c0_i32_335
  let v986 : BitVec 32 := Scalar.extui v985
  let c0_i32_336 : BitVec 32 := 0#32
  let v987 : BitVec 1 := Scalar.cmpi .slt c8_i32_332 c0_i32_336
  let v988 : BitVec 32 := Scalar.extui v987
  let v989 : BitVec 32 := Scalar.subi v986 v988
  let v990 : BitVec 1 := Scalar.cmpi .ne v984 v989
  let v991 : BitVec 32 := Scalar.remsi c8_i32_331 c8_i32_332
  let c0_i32_337 : BitVec 32 := 0#32
  let v992 : BitVec 1 := Scalar.cmpi .ne v991 c0_i32_337
  let v993 : BitVec 1 := Scalar.andi v990 v992
  let v979 : BitVec 32 := Scalar.divsi c8_i32_331 c8_i32_332
  let c1_i32_338 : BitVec 32 := 1#32
  let v994 : BitVec 32 := Scalar.subi v979 c1_i32_338
  let v995 : BitVec 32 := Scalar.select v993 v994 v979
  let c128_i32_346 : BitVec 32 := 128#32
  let v1008 : BitVec 32 := Scalar.muli v995 c128_i32_346
  v1008
def k0_mult19 : BitVec 32 :=
  let c9_i32 : BitVec 32 := 9#32
  let c8_i32_378 : BitVec 32 := 8#32
  let c0_i32_379 : BitVec 32 := 0#32
  let v1109 : BitVec 1 := Scalar.cmpi .eq c8_i32_378 c0_i32_379
  let c1_i32_380 : BitVec 32 := 1#32
  let v1110 : BitVec 32 := Scalar.select v1109 c1_i32_380 c8_i32_378
  let v1111 : BitVec 32 := Scalar.remsi c9_i32 v1110
  let c0_i32_382 : BitVec 32 := 0#32
  let v1113 : BitVec 1 := Scalar.cmpi .slt v1111 c0_i32_382
  let c0_i32_383 : BitVec 32 := 0#32
  let v1114 : BitVec 1 := Scalar.cmpi .slt v1110 c0_i32_383
  let v1115 : BitVec 1 := Scalar.xori v1113 v1114
  let c0_i32_381 : BitVec 32 := 0#32
  let v1112 : BitVec 1 := Scalar.cmpi .ne v1111 c0_i32_381
  let v1116 : BitVec 1 := Scalar.andi v1115 v1112
  let v1117 : BitVec 32 := Scalar.addi v1111 v1110
  let v1118 : BitVec 32 := Scalar.select v1116 v1117 v1111
  let c256_i32_384 : BitVec 32 := 256#32
  let v1119 : BitVec 32 := Scalar.muli v1118 c256_i32_384
  v1119
def k0_mult20 : BitVec 32 :=
  let c9_i32 : BitVec 32 := 9#32
  let c0_i32_372 : BitVec 32 := 0#32
  let v1093 : BitVec 1 := Scalar.cmpi .sgt c9_i32 c0_i32_372
  let v1094 : BitVec 32 := Scalar.extui v1093
  let c0_i32_373 : BitVec 32 := 0#32
  let v1095 : BitVec 1 := Scalar.cmpi .slt c9_i32 c0_i32_373
  let v1096 : BitVec 32 := Scalar.extui v1095
  let v1097 : BitVec 32 := Scalar.subi v1094 v1096
  let c8_i32_371 : BitVec 32 := 8#32
  let c0_i32_374 : BitVec 32 := 0#32
  let v1098 : BitVec 1 := Scalar.cmpi .sgt c8_i32_371 c0_i32_374
  let v1099 : BitVec 32 := Scalar.extui v1098
  let c0_i32_375 : BitVec 32 := 0#32
  let v1100 : BitVec 1 := Scalar.cmpi .slt c8_i32_371 c0_i32_375
  let v1101 : BitVec 32 := Scalar.extui v1100
  let v1102 : BitVec 32 := Scalar.subi v1099 v1101
  let v1103 : BitVec 1 := Scalar.cmpi .ne v1097 v1102
  let v1104 : BitVec 32 := Scalar.remsi c9_i32 c8_i32_371
  let c0_i32_376 : BitVec 32 := 0#32
  let v1105 : BitVec 1 := Scalar.cmpi .ne v1104 c0_i32_376
  let v1106 : BitVec 1 := Scalar.andi v1103 v1105
  let v1092 : BitVec 32 := Scalar.divsi c9_i32 c8_i32_371
  let c1_i32_377 : BitVec 32 := 1#32
  let v1107 : BitVec 32 := Scalar.subi v1092 c1_i32_377
  let v1108 : BitVec 32 := Scalar.select v1106 v1107 v1092
  let c128_i32_385 : BitVec 32 := 128#32
  let v1121 : BitVec 32 := Scalar.muli v1108 c128_i32_385
  v1121
def k0_mult21 : BitVec 32 :=
  let c10_i32 : BitVec 32 := 10#32
  let c8_i32_417 : BitVec 32 := 8#32
  let c0_i32_418 : BitVec 32 := 0#32
  let v1222 : BitVec 1 := Scalar.cmpi .eq c8_i32_417 c0_i32_418
  let c1_i32_419 : BitVec 32 := 1#32
  let v1223 : BitVec 32 := Scalar.select v1222 c1_i32_419 c8_i32_417
  let v1224 : BitVec 32 := Scalar.remsi c10_i32 v1223
  let c0_i32_421 : BitVec 32 := 0#32
  let v1226 : BitVec 1 := Scalar.cmpi .slt v1224 c0_i32_421
  let c0_i32_422 : BitVec 32 := 0#32
  let v1227 : BitVec 1 := Scalar.cmpi .slt v1223 c0_i32_422
  let v1228 : BitVec 1 := Scalar.xori v1226 v1227
  let c0_i32_420 : BitVec 32 := 0#32
  let v1225 : BitVec 1 := Scalar.cmpi .ne v1224 c0_i32_420
  let v1229 : BitVec 1 := Scalar.andi v1228 v1225
  let v1230 : BitVec 32 := Scalar.addi v1224 v1223
  let v1231 : BitVec 32 := Scalar.select v1229 v1230 v1224
  let c256_i32_423 : BitVec 32 := 256#32
  let v1232 : BitVec 32 := Scalar.muli v1231 c256_i32_423
  v1232
def k0_mult22 : BitVec 32 :=
  let c10_i32 : BitVec 32 := 10#32
  let c0_i32_411 : BitVec 32 := 0#32
  let v1206 : BitVec 1 := Scalar.cmpi .sgt c10_i32 c0_i32_411
  let v1207 : BitVec 32 := Scalar.extui v1206
  let c0_i32_412 : BitVec 32 := 0#32
  let v1208 : BitVec 1 := Scalar.cmpi .slt c10_i32 c0_i32_412
  let v1209 : BitVec 32 := Scalar.extui v1208
  let v1210 : BitVec 32 := Scalar.subi v1207 v1209
  let c8_i32_410 : BitVec 32 := 8#32
  let c0_i32_413 : BitVec 32 := 0#32
  let v1211 : BitVec 1 := Scalar.cmpi .sgt c8_i32_410 c0_i32_413
  let v1212 : BitVec 32 := Scalar.extui v1211
  let c0_i32_414 : BitVec 32 := 0#32
  let v1213 : BitVec 1 := Scalar.cmpi .slt c8_i32_410 c0_i32_414
  let v1214 : BitVec 32 := Scalar.extui v1213
  let v1215 : BitVec 32 := Scalar.subi v1212 v1214
  let v1216 : BitVec 1 := Scalar.cmpi .ne v1210 v1215
  let v1217 : BitVec 32 := Scalar.remsi c10_i32 c8_i32_410
  let c0_i32_415 : BitVec 32 := 0#32
  let v1218 : BitVec 1 := Scalar.cmpi .ne v1217 c0_i32_415
  let v1219 : BitVec 1 := Scalar.andi v1216 v1218
  let v1205 : BitVec 32 := Scalar.divsi c10_i32 c8_i32_410
  let c1_i32_416 : BitVec 32 := 1#32
  let v1220 : BitVec 32 := Scalar.subi v1205 c1_i32_416
  let v1221 : BitVec 32 := Scalar.select v1219 v1220 v1205
  let c128_i32_424 : BitVec 32 := 128#32
  let v1234 : BitVec 32 := Scalar.muli v1221 c128_i32_424
  v1234
def k0_mult23 : BitVec 32 :=
  let c11_i32 : BitVec 32 := 11#32
  let c8_i32_456 : BitVec 32 := 8#32
  let c0_i32_457 : BitVec 32 := 0#32
  let v1335 : BitVec 1 := Scalar.cmpi .eq c8_i32_456 c0_i32_457
  let c1_i32_458 : BitVec 32 := 1#32
  let v1336 : BitVec 32 := Scalar.select v1335 c1_i32_458 c8_i32_456
  let v1337 : BitVec 32 := Scalar.remsi c11_i32 v1336
  let c0_i32_460 : BitVec 32 := 0#32
  let v1339 : BitVec 1 := Scalar.cmpi .slt v1337 c0_i32_460
  let c0_i32_461 : BitVec 32 := 0#32
  let v1340 : BitVec 1 := Scalar.cmpi .slt v1336 c0_i32_461
  let v1341 : BitVec 1 := Scalar.xori v1339 v1340
  let c0_i32_459 : BitVec 32 := 0#32
  let v1338 : BitVec 1 := Scalar.cmpi .ne v1337 c0_i32_459
  let v1342 : BitVec 1 := Scalar.andi v1341 v1338
  let v1343 : BitVec 32 := Scalar.addi v1337 v1336
  let v1344 : BitVec 32 := Scalar.select v1342 v1343 v1337
  let c256_i32_462 : BitVec 32 := 256#32
  let v1345 : BitVec 32 := Scalar.muli v1344 c256_i32_462
  v1345
def k0_mult24 : BitVec 32 :=
  let c11_i32 : BitVec 32 := 11#32
  let c0_i32_450 : BitVec 32 := 0#32
  let v1319 : BitVec 1 := Scalar.cmpi .sgt c11_i32 c0_i32_450
  let v1320 : BitVec 32 := Scalar.extui v1319
  let c0_i32_451 : BitVec 32 := 0#32
  let v1321 : BitVec 1 := Scalar.cmpi .slt c11_i32 c0_i32_451
  let v1322 : BitVec 32 := Scalar.extui v1321
  let v1323 : BitVec 32 := Scalar.subi v1320 v1322
  let c8_i32_449 : BitVec 32 := 8#32
  let c0_i32_452 : BitVec 32 := 0#32
  let v1324 : BitVec 1 := Scalar.cmpi .sgt c8_i32_449 c0_i32_452
  let v1325 : BitVec 32 := Scalar.extui v1324
  let c0_i32_453 : BitVec 32 := 0#32
  let v1326 : BitVec 1 := Scalar.cmpi .slt c8_i32_449 c0_i32_453
  let v1327 : BitVec 32 := Scalar.extui v1326
  let v1328 : BitVec 32 := Scalar.subi v1325 v1327
  let v1329 : BitVec 1 := Scalar.cmpi .ne v1323 v1328
  let v1330 : BitVec 32 := Scalar.remsi c11_i32 c8_i32_449
  let c0_i32_454 : BitVec 32 := 0#32
  let v1331 : BitVec 1 := Scalar.cmpi .ne v1330 c0_i32_454
  let v1332 : BitVec 1 := Scalar.andi v1329 v1331
  let v1318 : BitVec 32 := Scalar.divsi c11_i32 c8_i32_449
  let c1_i32_455 : BitVec 32 := 1#32
  let v1333 : BitVec 32 := Scalar.subi v1318 c1_i32_455
  let v1334 : BitVec 32 := Scalar.select v1332 v1333 v1318
  let c128_i32_463 : BitVec 32 := 128#32
  let v1347 : BitVec 32 := Scalar.muli v1334 c128_i32_463
  v1347
def k0_mult25 : BitVec 32 :=
  let c12_i32 : BitVec 32 := 12#32
  let c8_i32_495 : BitVec 32 := 8#32
  let c0_i32_496 : BitVec 32 := 0#32
  let v1448 : BitVec 1 := Scalar.cmpi .eq c8_i32_495 c0_i32_496
  let c1_i32_497 : BitVec 32 := 1#32
  let v1449 : BitVec 32 := Scalar.select v1448 c1_i32_497 c8_i32_495
  let v1450 : BitVec 32 := Scalar.remsi c12_i32 v1449
  let c0_i32_499 : BitVec 32 := 0#32
  let v1452 : BitVec 1 := Scalar.cmpi .slt v1450 c0_i32_499
  let c0_i32_500 : BitVec 32 := 0#32
  let v1453 : BitVec 1 := Scalar.cmpi .slt v1449 c0_i32_500
  let v1454 : BitVec 1 := Scalar.xori v1452 v1453
  let c0_i32_498 : BitVec 32 := 0#32
  let v1451 : BitVec 1 := Scalar.cmpi .ne v1450 c0_i32_498
  let v1455 : BitVec 1 := Scalar.andi v1454 v1451
  let v1456 : BitVec 32 := Scalar.addi v1450 v1449
  let v1457 : BitVec 32 := Scalar.select v1455 v1456 v1450
  let c256_i32_501 : BitVec 32 := 256#32
  let v1458 : BitVec 32 := Scalar.muli v1457 c256_i32_501
  v1458
def k0_mult26 : BitVec 32 :=
  let c12_i32 : BitVec 32 := 12#32
  let c0_i32_489 : BitVec 32 := 0#32
  let v1432 : BitVec 1 := Scalar.cmpi .sgt c12_i32 c0_i32_489
  let v1433 : BitVec 32 := Scalar.extui v1432
  let c0_i32_490 : BitVec 32 := 0#32
  let v1434 : BitVec 1 := Scalar.cmpi .slt c12_i32 c0_i32_490
  let v1435 : BitVec 32 := Scalar.extui v1434
  let v1436 : BitVec 32 := Scalar.subi v1433 v1435
  let c8_i32_488 : BitVec 32 := 8#32
  let c0_i32_491 : BitVec 32 := 0#32
  let v1437 : BitVec 1 := Scalar.cmpi .sgt c8_i32_488 c0_i32_491
  let v1438 : BitVec 32 := Scalar.extui v1437
  let c0_i32_492 : BitVec 32 := 0#32
  let v1439 : BitVec 1 := Scalar.cmpi .slt c8_i32_488 c0_i32_492
  let v1440 : BitVec 32 := Scalar.extui v1439
  let v1441 : BitVec 32 := Scalar.subi v1438 v1440
  let v1442 : BitVec 1 := Scalar.cmpi .ne v1436 v1441
  let v1443 : BitVec 32 := Scalar.remsi c12_i32 c8_i32_488
  let c0_i32_493 : BitVec 32 := 0#32
  let v1444 : BitVec 1 := Scalar.cmpi .ne v1443 c0_i32_493
  let v1445 : BitVec 1 := Scalar.andi v1442 v1444
  let v1431 : BitVec 32 := Scalar.divsi c12_i32 c8_i32_488
  let c1_i32_494 : BitVec 32 := 1#32
  let v1446 : BitVec 32 := Scalar.subi v1431 c1_i32_494
  let v1447 : BitVec 32 := Scalar.select v1445 v1446 v1431
  let c128_i32_502 : BitVec 32 := 128#32
  let v1460 : BitVec 32 := Scalar.muli v1447 c128_i32_502
  v1460
def k0_mult27 : BitVec 32 :=
  let c13_i32 : BitVec 32 := 13#32
  let c8_i32_534 : BitVec 32 := 8#32
  let c0_i32_535 : BitVec 32 := 0#32
  let v1561 : BitVec 1 := Scalar.cmpi .eq c8_i32_534 c0_i32_535
  let c1_i32_536 : BitVec 32 := 1#32
  let v1562 : BitVec 32 := Scalar.select v1561 c1_i32_536 c8_i32_534
  let v1563 : BitVec 32 := Scalar.remsi c13_i32 v1562
  let c0_i32_538 : BitVec 32 := 0#32
  let v1565 : BitVec 1 := Scalar.cmpi .slt v1563 c0_i32_538
  let c0_i32_539 : BitVec 32 := 0#32
  let v1566 : BitVec 1 := Scalar.cmpi .slt v1562 c0_i32_539
  let v1567 : BitVec 1 := Scalar.xori v1565 v1566
  let c0_i32_537 : BitVec 32 := 0#32
  let v1564 : BitVec 1 := Scalar.cmpi .ne v1563 c0_i32_537
  let v1568 : BitVec 1 := Scalar.andi v1567 v1564
  let v1569 : BitVec 32 := Scalar.addi v1563 v1562
  let v1570 : BitVec 32 := Scalar.select v1568 v1569 v1563
  let c256_i32_540 : BitVec 32 := 256#32
  let v1571 : BitVec 32 := Scalar.muli v1570 c256_i32_540
  v1571
def k0_mult28 : BitVec 32 :=
  let c13_i32 : BitVec 32 := 13#32
  let c0_i32_528 : BitVec 32 := 0#32
  let v1545 : BitVec 1 := Scalar.cmpi .sgt c13_i32 c0_i32_528
  let v1546 : BitVec 32 := Scalar.extui v1545
  let c0_i32_529 : BitVec 32 := 0#32
  let v1547 : BitVec 1 := Scalar.cmpi .slt c13_i32 c0_i32_529
  let v1548 : BitVec 32 := Scalar.extui v1547
  let v1549 : BitVec 32 := Scalar.subi v1546 v1548
  let c8_i32_527 : BitVec 32 := 8#32
  let c0_i32_530 : BitVec 32 := 0#32
  let v1550 : BitVec 1 := Scalar.cmpi .sgt c8_i32_527 c0_i32_530
  let v1551 : BitVec 32 := Scalar.extui v1550
  let c0_i32_531 : BitVec 32 := 0#32
  let v1552 : BitVec 1 := Scalar.cmpi .slt c8_i32_527 c0_i32_531
  let v1553 : BitVec 32 := Scalar.extui v1552
  let v1554 : BitVec 32 := Scalar.subi v1551 v1553
  let v1555 : BitVec 1 := Scalar.cmpi .ne v1549 v1554
  let v1556 : BitVec 32 := Scalar.remsi c13_i32 c8_i32_527
  let c0_i32_532 : BitVec 32 := 0#32
  let v1557 : BitVec 1 := Scalar.cmpi .ne v1556 c0_i32_532
  let v1558 : BitVec 1 := Scalar.andi v1555 v1557
  let v1544 : BitVec 32 := Scalar.divsi c13_i32 c8_i32_527
  let c1_i32_533 : BitVec 32 := 1#32
  let v1559 : BitVec 32 := Scalar.subi v1544 c1_i32_533
  let v1560 : BitVec 32 := Scalar.select v1558 v1559 v1544
  let c128_i32_541 : BitVec 32 := 128#32
  let v1573 : BitVec 32 := Scalar.muli v1560 c128_i32_541
  v1573
def k0_mult29 : BitVec 32 :=
  let c14_i32 : BitVec 32 := 14#32
  let c8_i32_573 : BitVec 32 := 8#32
  let c0_i32_574 : BitVec 32 := 0#32
  let v1674 : BitVec 1 := Scalar.cmpi .eq c8_i32_573 c0_i32_574
  let c1_i32_575 : BitVec 32 := 1#32
  let v1675 : BitVec 32 := Scalar.select v1674 c1_i32_575 c8_i32_573
  let v1676 : BitVec 32 := Scalar.remsi c14_i32 v1675
  let c0_i32_577 : BitVec 32 := 0#32
  let v1678 : BitVec 1 := Scalar.cmpi .slt v1676 c0_i32_577
  let c0_i32_578 : BitVec 32 := 0#32
  let v1679 : BitVec 1 := Scalar.cmpi .slt v1675 c0_i32_578
  let v1680 : BitVec 1 := Scalar.xori v1678 v1679
  let c0_i32_576 : BitVec 32 := 0#32
  let v1677 : BitVec 1 := Scalar.cmpi .ne v1676 c0_i32_576
  let v1681 : BitVec 1 := Scalar.andi v1680 v1677
  let v1682 : BitVec 32 := Scalar.addi v1676 v1675
  let v1683 : BitVec 32 := Scalar.select v1681 v1682 v1676
  let c256_i32_579 : BitVec 32 := 256#32
  let v1684 : BitVec 32 := Scalar.muli v1683 c256_i32_579
  v1684
def k0_mult30 : BitVec 32 :=
  let c14_i32 : BitVec 32 := 14#32
  let c0_i32_567 : BitVec 32 := 0#32
  let v1658 : BitVec 1 := Scalar.cmpi .sgt c14_i32 c0_i32_567
  let v1659 : BitVec 32 := Scalar.extui v1658
  let c0_i32_568 : BitVec 32 := 0#32
  let v1660 : BitVec 1 := Scalar.cmpi .slt c14_i32 c0_i32_568
  let v1661 : BitVec 32 := Scalar.extui v1660
  let v1662 : BitVec 32 := Scalar.subi v1659 v1661
  let c8_i32_566 : BitVec 32 := 8#32
  let c0_i32_569 : BitVec 32 := 0#32
  let v1663 : BitVec 1 := Scalar.cmpi .sgt c8_i32_566 c0_i32_569
  let v1664 : BitVec 32 := Scalar.extui v1663
  let c0_i32_570 : BitVec 32 := 0#32
  let v1665 : BitVec 1 := Scalar.cmpi .slt c8_i32_566 c0_i32_570
  let v1666 : BitVec 32 := Scalar.extui v1665
  let v1667 : BitVec 32 := Scalar.subi v1664 v1666
  let v1668 : BitVec 1 := Scalar.cmpi .ne v1662 v1667
  let v1669 : BitVec 32 := Scalar.remsi c14_i32 c8_i32_566
  let c0_i32_571 : BitVec 32 := 0#32
  let v1670 : BitVec 1 := Scalar.cmpi .ne v1669 c0_i32_571
  let v1671 : BitVec 1 := Scalar.andi v1668 v1670
  let v1657 : BitVec 32 := Scalar.divsi c14_i32 c8_i32_566
  let c1_i32_572 : BitVec 32 := 1#32
  let v1672 : BitVec 32 := Scalar.subi v1657 c1_i32_572
  let v1673 : BitVec 32 := Scalar.select v1671 v1672 v1657
  let c128_i32_580 : BitVec 32 := 128#32
  let v1686 : BitVec 32 := Scalar.muli v1673 c128_i32_580
  v1686
def k0_mult31 : BitVec 32 :=
  let c15_i32 : BitVec 32 := 15#32
  let c8_i32_612 : BitVec 32 := 8#32
  let c0_i32_613 : BitVec 32 := 0#32
  let v1787 : BitVec 1 := Scalar.cmpi .eq c8_i32_612 c0_i32_613
  let c1_i32_614 : BitVec 32 := 1#32
  let v1788 : BitVec 32 := Scalar.select v1787 c1_i32_614 c8_i32_612
  let v1789 : BitVec 32 := Scalar.remsi c15_i32 v1788
  let c0_i32_616 : BitVec 32 := 0#32
  let v1791 : BitVec 1 := Scalar.cmpi .slt v1789 c0_i32_616
  let c0_i32_617 : BitVec 32 := 0#32
  let v1792 : BitVec 1 := Scalar.cmpi .slt v1788 c0_i32_617
  let v1793 : BitVec 1 := Scalar.xori v1791 v1792
  let c0_i32_615 : BitVec 32 := 0#32
  let v1790 : BitVec 1 := Scalar.cmpi .ne v1789 c0_i32_615
  let v1794 : BitVec 1 := Scalar.andi v1793 v1790
  let v1795 : BitVec 32 := Scalar.addi v1789 v1788
  let v1796 : BitVec 32 := Scalar.select v1794 v1795 v1789
  let c256_i32_618 : BitVec 32 := 256#32
  let v1797 : BitVec 32 := Scalar.muli v1796 c256_i32_618
  v1797
def k0_mult32 : BitVec 32 :=
  let c15_i32 : BitVec 32 := 15#32
  let c0_i32_606 : BitVec 32 := 0#32
  let v1771 : BitVec 1 := Scalar.cmpi .sgt c15_i32 c0_i32_606
  let v1772 : BitVec 32 := Scalar.extui v1771
  let c0_i32_607 : BitVec 32 := 0#32
  let v1773 : BitVec 1 := Scalar.cmpi .slt c15_i32 c0_i32_607
  let v1774 : BitVec 32 := Scalar.extui v1773
  let v1775 : BitVec 32 := Scalar.subi v1772 v1774
  let c8_i32_605 : BitVec 32 := 8#32
  let c0_i32_608 : BitVec 32 := 0#32
  let v1776 : BitVec 1 := Scalar.cmpi .sgt c8_i32_605 c0_i32_608
  let v1777 : BitVec 32 := Scalar.extui v1776
  let c0_i32_609 : BitVec 32 := 0#32
  let v1778 : BitVec 1 := Scalar.cmpi .slt c8_i32_605 c0_i32_609
  let v1779 : BitVec 32 := Scalar.extui v1778
  let v1780 : BitVec 32 := Scalar.subi v1777 v1779
  let v1781 : BitVec 1 := Scalar.cmpi .ne v1775 v1780
  let v1782 : BitVec 32 := Scalar.remsi c15_i32 c8_i32_605
  let c0_i32_610 : BitVec 32 := 0#32
  let v1783 : BitVec 1 := Scalar.cmpi .ne v1782 c0_i32_610
  let v1784 : BitVec 1 := Scalar.andi v1781 v1783
  let v1770 : BitVec 32 := Scalar.divsi c15_i32 c8_i32_605
  let c1_i32_611 : BitVec 32 := 1#32
  let v1785 : BitVec 32 := Scalar.subi v1770 c1_i32_611
  let v1786 : BitVec 32 := Scalar.select v1784 v1785 v1770
  let c128_i32_619 : BitVec 32 := 128#32
  let v1799 : BitVec 32 := Scalar.muli v1786 c128_i32_619
  v1799
def k0_mult33 : BitVec 32 :=
  let c0_i32_649 : BitVec 32 := 0#32
  c0_i32_649
@[reducible] def k0_t1_loop : Scf.Loop 32 :=
  let c0_i32_668 : BitVec 32 := 0#32
  let c7_i32_669 : BitVec 32 := 7#32
  let v1915 : BitVec 32 := Scalar.addi c0_i32_668 c7_i32_669
  let c1_i32_670 : BitVec 32 := 1#32
  ⟨c0_i32_668, v1915, c1_i32_670⟩
def k0_mult34 (k0_t1 : Fin k0_t1_loop.trips) : BitVec 32 :=
  let c2_i32_747 : BitVec 32 := 2#32
  let c0_i32_668 : BitVec 32 := 0#32
  let c1_i32_670 : BitVec 32 := 1#32
  let arg18 : BitVec 32 := Scf.iv c0_i32_668 c1_i32_670 k0_t1
  let v2078 : BitVec 32 := Scalar.muli c2_i32_747 arg18
  let c1_i32_748 : BitVec 32 := 1#32
  let v2079 : BitVec 32 := Scalar.addi v2078 c1_i32_748
  let c8_i32_756 : BitVec 32 := 8#32
  let c0_i32_757 : BitVec 32 := 0#32
  let v2097 : BitVec 1 := Scalar.cmpi .eq c8_i32_756 c0_i32_757
  let c1_i32_758 : BitVec 32 := 1#32
  let v2098 : BitVec 32 := Scalar.select v2097 c1_i32_758 c8_i32_756
  let v2099 : BitVec 32 := Scalar.remsi v2079 v2098
  let c0_i32_760 : BitVec 32 := 0#32
  let v2101 : BitVec 1 := Scalar.cmpi .slt v2099 c0_i32_760
  let c0_i32_761 : BitVec 32 := 0#32
  let v2102 : BitVec 1 := Scalar.cmpi .slt v2098 c0_i32_761
  let v2103 : BitVec 1 := Scalar.xori v2101 v2102
  let c0_i32_759 : BitVec 32 := 0#32
  let v2100 : BitVec 1 := Scalar.cmpi .ne v2099 c0_i32_759
  let v2104 : BitVec 1 := Scalar.andi v2103 v2100
  let v2105 : BitVec 32 := Scalar.addi v2099 v2098
  let v2106 : BitVec 32 := Scalar.select v2104 v2105 v2099
  let c256_i32_762 : BitVec 32 := 256#32
  let v2107 : BitVec 32 := Scalar.muli v2106 c256_i32_762
  v2107
def k0_off7 (k0_t1 : Fin k0_t1_loop.trips) (c1_i32_748 : BitVec 32) : Fin 3 → Nat :=
  let c2_i32_747 : BitVec 32 := 2#32
  let c0_i32_668 : BitVec 32 := 0#32
  let c1_i32_670 : BitVec 32 := 1#32
  let arg18 : BitVec 32 := Scf.iv c0_i32_668 c1_i32_670 k0_t1
  let v2078 : BitVec 32 := Scalar.muli c2_i32_747 arg18
  let v2079 : BitVec 32 := Scalar.addi v2078 c1_i32_748
  let c0_i32_750 : BitVec 32 := 0#32
  let v2081 : BitVec 1 := Scalar.cmpi .sgt v2079 c0_i32_750
  let v2082 : BitVec 32 := Scalar.extui v2081
  let c0_i32_751 : BitVec 32 := 0#32
  let v2083 : BitVec 1 := Scalar.cmpi .slt v2079 c0_i32_751
  let v2084 : BitVec 32 := Scalar.extui v2083
  let v2085 : BitVec 32 := Scalar.subi v2082 v2084
  let c8_i32_749 : BitVec 32 := 8#32
  let c0_i32_752 : BitVec 32 := 0#32
  let v2086 : BitVec 1 := Scalar.cmpi .sgt c8_i32_749 c0_i32_752
  let v2087 : BitVec 32 := Scalar.extui v2086
  let c0_i32_753 : BitVec 32 := 0#32
  let v2088 : BitVec 1 := Scalar.cmpi .slt c8_i32_749 c0_i32_753
  let v2089 : BitVec 32 := Scalar.extui v2088
  let v2090 : BitVec 32 := Scalar.subi v2087 v2089
  let v2091 : BitVec 1 := Scalar.cmpi .ne v2085 v2090
  let v2092 : BitVec 32 := Scalar.remsi v2079 c8_i32_749
  let c0_i32_754 : BitVec 32 := 0#32
  let v2093 : BitVec 1 := Scalar.cmpi .ne v2092 c0_i32_754
  let v2094 : BitVec 1 := Scalar.andi v2091 v2093
  let v2080 : BitVec 32 := Scalar.divsi v2079 c8_i32_749
  let c1_i32_755 : BitVec 32 := 1#32
  let v2095 : BitVec 32 := Scalar.subi v2080 c1_i32_755
  let v2096 : BitVec 32 := Scalar.select v2094 v2095 v2080
  let v2109 : Index := Scalar.indexCast v2096
  let c8_i32_756 : BitVec 32 := 8#32
  let c0_i32_757 : BitVec 32 := 0#32
  let v2097 : BitVec 1 := Scalar.cmpi .eq c8_i32_756 c0_i32_757
  let c1_i32_758 : BitVec 32 := 1#32
  let v2098 : BitVec 32 := Scalar.select v2097 c1_i32_758 c8_i32_756
  let v2099 : BitVec 32 := Scalar.remsi v2079 v2098
  let c0_i32_760 : BitVec 32 := 0#32
  let v2101 : BitVec 1 := Scalar.cmpi .slt v2099 c0_i32_760
  let c0_i32_761 : BitVec 32 := 0#32
  let v2102 : BitVec 1 := Scalar.cmpi .slt v2098 c0_i32_761
  let v2103 : BitVec 1 := Scalar.xori v2101 v2102
  let c0_i32_759 : BitVec 32 := 0#32
  let v2100 : BitVec 1 := Scalar.cmpi .ne v2099 c0_i32_759
  let v2104 : BitVec 1 := Scalar.andi v2103 v2100
  let v2105 : BitVec 32 := Scalar.addi v2099 v2098
  let v2106 : BitVec 32 := Scalar.select v2104 v2105 v2099
  let c256_i32_762 : BitVec 32 := 256#32
  let v2107 : BitVec 32 := Scalar.muli v2106 c256_i32_762
  let v2108 : BitVec 32 := v2107
  let v2110 : Index := Scalar.indexCast v2108
  let c0_763 : Index := 0#32
  ![v2109.toNat, v2110.toNat, 0]
def k0_off8 (k0_t1 : Fin k0_t1_loop.trips) (c1_i32_748 : BitVec 32) : Fin 4 → Nat :=
  let c2_i32_747 : BitVec 32 := 2#32
  let c0_i32_668 : BitVec 32 := 0#32
  let c1_i32_670 : BitVec 32 := 1#32
  let arg18 : BitVec 32 := Scf.iv c0_i32_668 c1_i32_670 k0_t1
  let v2078 : BitVec 32 := Scalar.muli c2_i32_747 arg18
  let v2079 : BitVec 32 := Scalar.addi v2078 c1_i32_748
  let c0_i32_750 : BitVec 32 := 0#32
  let v2081 : BitVec 1 := Scalar.cmpi .sgt v2079 c0_i32_750
  let v2082 : BitVec 32 := Scalar.extui v2081
  let c0_i32_751 : BitVec 32 := 0#32
  let v2083 : BitVec 1 := Scalar.cmpi .slt v2079 c0_i32_751
  let v2084 : BitVec 32 := Scalar.extui v2083
  let v2085 : BitVec 32 := Scalar.subi v2082 v2084
  let c8_i32_749 : BitVec 32 := 8#32
  let c0_i32_752 : BitVec 32 := 0#32
  let v2086 : BitVec 1 := Scalar.cmpi .sgt c8_i32_749 c0_i32_752
  let v2087 : BitVec 32 := Scalar.extui v2086
  let c0_i32_753 : BitVec 32 := 0#32
  let v2088 : BitVec 1 := Scalar.cmpi .slt c8_i32_749 c0_i32_753
  let v2089 : BitVec 32 := Scalar.extui v2088
  let v2090 : BitVec 32 := Scalar.subi v2087 v2089
  let v2091 : BitVec 1 := Scalar.cmpi .ne v2085 v2090
  let v2092 : BitVec 32 := Scalar.remsi v2079 c8_i32_749
  let c0_i32_754 : BitVec 32 := 0#32
  let v2093 : BitVec 1 := Scalar.cmpi .ne v2092 c0_i32_754
  let v2094 : BitVec 1 := Scalar.andi v2091 v2093
  let v2080 : BitVec 32 := Scalar.divsi v2079 c8_i32_749
  let c1_i32_755 : BitVec 32 := 1#32
  let v2095 : BitVec 32 := Scalar.subi v2080 c1_i32_755
  let v2096 : BitVec 32 := Scalar.select v2094 v2095 v2080
  let v2113 : Index := Scalar.indexCast v2096
  let c0_764 : Index := 0#32
  let c0_765 : Index := 0#32
  let c0_766 : Index := 0#32
  ![v2113.toNat, 0, 0, 0]
def k0_off9 (k0_t1 : Fin k0_t1_loop.trips) (c1_i32_748 : BitVec 32) : Fin 4 → Nat :=
  let c2_i32_747 : BitVec 32 := 2#32
  let c0_i32_668 : BitVec 32 := 0#32
  let c1_i32_670 : BitVec 32 := 1#32
  let arg18 : BitVec 32 := Scf.iv c0_i32_668 c1_i32_670 k0_t1
  let v2078 : BitVec 32 := Scalar.muli c2_i32_747 arg18
  let v2079 : BitVec 32 := Scalar.addi v2078 c1_i32_748
  let c0_i32_750 : BitVec 32 := 0#32
  let v2081 : BitVec 1 := Scalar.cmpi .sgt v2079 c0_i32_750
  let v2082 : BitVec 32 := Scalar.extui v2081
  let c0_i32_751 : BitVec 32 := 0#32
  let v2083 : BitVec 1 := Scalar.cmpi .slt v2079 c0_i32_751
  let v2084 : BitVec 32 := Scalar.extui v2083
  let v2085 : BitVec 32 := Scalar.subi v2082 v2084
  let c8_i32_749 : BitVec 32 := 8#32
  let c0_i32_752 : BitVec 32 := 0#32
  let v2086 : BitVec 1 := Scalar.cmpi .sgt c8_i32_749 c0_i32_752
  let v2087 : BitVec 32 := Scalar.extui v2086
  let c0_i32_753 : BitVec 32 := 0#32
  let v2088 : BitVec 1 := Scalar.cmpi .slt c8_i32_749 c0_i32_753
  let v2089 : BitVec 32 := Scalar.extui v2088
  let v2090 : BitVec 32 := Scalar.subi v2087 v2089
  let v2091 : BitVec 1 := Scalar.cmpi .ne v2085 v2090
  let v2092 : BitVec 32 := Scalar.remsi v2079 c8_i32_749
  let c0_i32_754 : BitVec 32 := 0#32
  let v2093 : BitVec 1 := Scalar.cmpi .ne v2092 c0_i32_754
  let v2094 : BitVec 1 := Scalar.andi v2091 v2093
  let v2080 : BitVec 32 := Scalar.divsi v2079 c8_i32_749
  let c1_i32_755 : BitVec 32 := 1#32
  let v2095 : BitVec 32 := Scalar.subi v2080 c1_i32_755
  let v2096 : BitVec 32 := Scalar.select v2094 v2095 v2080
  let v2120 : Index := Scalar.indexCast v2096
  let c1_771 : Index := 1#32
  let c0_772 : Index := 0#32
  let c0_773 : Index := 0#32
  ![v2120.toNat, 1, 0, 0]
def k0_mult35 (k0_t1 : Fin k0_t1_loop.trips) : BitVec 32 :=
  let c2_i32_778 : BitVec 32 := 2#32
  let c0_i32_668 : BitVec 32 := 0#32
  let c1_i32_670 : BitVec 32 := 1#32
  let arg18 : BitVec 32 := Scf.iv c0_i32_668 c1_i32_670 k0_t1
  let v2127 : BitVec 32 := Scalar.muli c2_i32_778 arg18
  let c8_i32_786 : BitVec 32 := 8#32
  let c0_i32_787 : BitVec 32 := 0#32
  let v2145 : BitVec 1 := Scalar.cmpi .eq c8_i32_786 c0_i32_787
  let c1_i32_788 : BitVec 32 := 1#32
  let v2146 : BitVec 32 := Scalar.select v2145 c1_i32_788 c8_i32_786
  let v2147 : BitVec 32 := Scalar.remsi v2127 v2146
  let c0_i32_790 : BitVec 32 := 0#32
  let v2149 : BitVec 1 := Scalar.cmpi .slt v2147 c0_i32_790
  let c0_i32_791 : BitVec 32 := 0#32
  let v2150 : BitVec 1 := Scalar.cmpi .slt v2146 c0_i32_791
  let v2151 : BitVec 1 := Scalar.xori v2149 v2150
  let c0_i32_789 : BitVec 32 := 0#32
  let v2148 : BitVec 1 := Scalar.cmpi .ne v2147 c0_i32_789
  let v2152 : BitVec 1 := Scalar.andi v2151 v2148
  let v2153 : BitVec 32 := Scalar.addi v2147 v2146
  let v2154 : BitVec 32 := Scalar.select v2152 v2153 v2147
  let c256_i32_792 : BitVec 32 := 256#32
  let v2155 : BitVec 32 := Scalar.muli v2154 c256_i32_792
  v2155
def k0_mult36 (k0_t1 : Fin k0_t1_loop.trips) : BitVec 32 :=
  let c2_i32_778 : BitVec 32 := 2#32
  let c0_i32_668 : BitVec 32 := 0#32
  let c1_i32_670 : BitVec 32 := 1#32
  let arg18 : BitVec 32 := Scf.iv c0_i32_668 c1_i32_670 k0_t1
  let v2127 : BitVec 32 := Scalar.muli c2_i32_778 arg18
  let c0_i32_780 : BitVec 32 := 0#32
  let v2129 : BitVec 1 := Scalar.cmpi .sgt v2127 c0_i32_780
  let v2130 : BitVec 32 := Scalar.extui v2129
  let c0_i32_781 : BitVec 32 := 0#32
  let v2131 : BitVec 1 := Scalar.cmpi .slt v2127 c0_i32_781
  let v2132 : BitVec 32 := Scalar.extui v2131
  let v2133 : BitVec 32 := Scalar.subi v2130 v2132
  let c8_i32_779 : BitVec 32 := 8#32
  let c0_i32_782 : BitVec 32 := 0#32
  let v2134 : BitVec 1 := Scalar.cmpi .sgt c8_i32_779 c0_i32_782
  let v2135 : BitVec 32 := Scalar.extui v2134
  let c0_i32_783 : BitVec 32 := 0#32
  let v2136 : BitVec 1 := Scalar.cmpi .slt c8_i32_779 c0_i32_783
  let v2137 : BitVec 32 := Scalar.extui v2136
  let v2138 : BitVec 32 := Scalar.subi v2135 v2137
  let v2139 : BitVec 1 := Scalar.cmpi .ne v2133 v2138
  let v2140 : BitVec 32 := Scalar.remsi v2127 c8_i32_779
  let c0_i32_784 : BitVec 32 := 0#32
  let v2141 : BitVec 1 := Scalar.cmpi .ne v2140 c0_i32_784
  let v2142 : BitVec 1 := Scalar.andi v2139 v2141
  let v2128 : BitVec 32 := Scalar.divsi v2127 c8_i32_779
  let c1_i32_785 : BitVec 32 := 1#32
  let v2143 : BitVec 32 := Scalar.subi v2128 c1_i32_785
  let v2144 : BitVec 32 := Scalar.select v2142 v2143 v2128
  let c128_i32_793 : BitVec 32 := 128#32
  let v2157 : BitVec 32 := Scalar.muli v2144 c128_i32_793
  v2157
def k0_off10 (k0_t1 : Fin k0_t1_loop.trips) : Fin 3 → Nat :=
  let c2_i32_778 : BitVec 32 := 2#32
  let c0_i32_668 : BitVec 32 := 0#32
  let c1_i32_670 : BitVec 32 := 1#32
  let arg18 : BitVec 32 := Scf.iv c0_i32_668 c1_i32_670 k0_t1
  let v2127 : BitVec 32 := Scalar.muli c2_i32_778 arg18
  let c0_i32_780 : BitVec 32 := 0#32
  let v2129 : BitVec 1 := Scalar.cmpi .sgt v2127 c0_i32_780
  let v2130 : BitVec 32 := Scalar.extui v2129
  let c0_i32_781 : BitVec 32 := 0#32
  let v2131 : BitVec 1 := Scalar.cmpi .slt v2127 c0_i32_781
  let v2132 : BitVec 32 := Scalar.extui v2131
  let v2133 : BitVec 32 := Scalar.subi v2130 v2132
  let c8_i32_779 : BitVec 32 := 8#32
  let c0_i32_782 : BitVec 32 := 0#32
  let v2134 : BitVec 1 := Scalar.cmpi .sgt c8_i32_779 c0_i32_782
  let v2135 : BitVec 32 := Scalar.extui v2134
  let c0_i32_783 : BitVec 32 := 0#32
  let v2136 : BitVec 1 := Scalar.cmpi .slt c8_i32_779 c0_i32_783
  let v2137 : BitVec 32 := Scalar.extui v2136
  let v2138 : BitVec 32 := Scalar.subi v2135 v2137
  let v2139 : BitVec 1 := Scalar.cmpi .ne v2133 v2138
  let v2140 : BitVec 32 := Scalar.remsi v2127 c8_i32_779
  let c0_i32_784 : BitVec 32 := 0#32
  let v2141 : BitVec 1 := Scalar.cmpi .ne v2140 c0_i32_784
  let v2142 : BitVec 1 := Scalar.andi v2139 v2141
  let v2128 : BitVec 32 := Scalar.divsi v2127 c8_i32_779
  let c1_i32_785 : BitVec 32 := 1#32
  let v2143 : BitVec 32 := Scalar.subi v2128 c1_i32_785
  let v2144 : BitVec 32 := Scalar.select v2142 v2143 v2128
  let v2167 : Index := Scalar.indexCast v2144
  let c0_798 : Index := 0#32
  let c0_799 : Index := 0#32
  ![v2167.toNat, 0, 0]
def k0_off11 (k0_t1 : Fin k0_t1_loop.trips) : Fin 3 → Nat :=
  let c0_816 : Index := 0#32
  let c2_i32_778 : BitVec 32 := 2#32
  let c0_i32_668 : BitVec 32 := 0#32
  let c1_i32_670 : BitVec 32 := 1#32
  let arg18 : BitVec 32 := Scf.iv c0_i32_668 c1_i32_670 k0_t1
  let v2127 : BitVec 32 := Scalar.muli c2_i32_778 arg18
  let c8_i32_786 : BitVec 32 := 8#32
  let c0_i32_787 : BitVec 32 := 0#32
  let v2145 : BitVec 1 := Scalar.cmpi .eq c8_i32_786 c0_i32_787
  let c1_i32_788 : BitVec 32 := 1#32
  let v2146 : BitVec 32 := Scalar.select v2145 c1_i32_788 c8_i32_786
  let v2147 : BitVec 32 := Scalar.remsi v2127 v2146
  let c0_i32_790 : BitVec 32 := 0#32
  let v2149 : BitVec 1 := Scalar.cmpi .slt v2147 c0_i32_790
  let c0_i32_791 : BitVec 32 := 0#32
  let v2150 : BitVec 1 := Scalar.cmpi .slt v2146 c0_i32_791
  let v2151 : BitVec 1 := Scalar.xori v2149 v2150
  let c0_i32_789 : BitVec 32 := 0#32
  let v2148 : BitVec 1 := Scalar.cmpi .ne v2147 c0_i32_789
  let v2152 : BitVec 1 := Scalar.andi v2151 v2148
  let v2153 : BitVec 32 := Scalar.addi v2147 v2146
  let v2154 : BitVec 32 := Scalar.select v2152 v2153 v2147
  let c256_i32_792 : BitVec 32 := 256#32
  let v2155 : BitVec 32 := Scalar.muli v2154 c256_i32_792
  let v2156 : BitVec 32 := v2155
  let v2215 : Index := Scalar.indexCast v2156
  let c0_i32_780 : BitVec 32 := 0#32
  let v2129 : BitVec 1 := Scalar.cmpi .sgt v2127 c0_i32_780
  let v2130 : BitVec 32 := Scalar.extui v2129
  let c0_i32_781 : BitVec 32 := 0#32
  let v2131 : BitVec 1 := Scalar.cmpi .slt v2127 c0_i32_781
  let v2132 : BitVec 32 := Scalar.extui v2131
  let v2133 : BitVec 32 := Scalar.subi v2130 v2132
  let c8_i32_779 : BitVec 32 := 8#32
  let c0_i32_782 : BitVec 32 := 0#32
  let v2134 : BitVec 1 := Scalar.cmpi .sgt c8_i32_779 c0_i32_782
  let v2135 : BitVec 32 := Scalar.extui v2134
  let c0_i32_783 : BitVec 32 := 0#32
  let v2136 : BitVec 1 := Scalar.cmpi .slt c8_i32_779 c0_i32_783
  let v2137 : BitVec 32 := Scalar.extui v2136
  let v2138 : BitVec 32 := Scalar.subi v2135 v2137
  let v2139 : BitVec 1 := Scalar.cmpi .ne v2133 v2138
  let v2140 : BitVec 32 := Scalar.remsi v2127 c8_i32_779
  let c0_i32_784 : BitVec 32 := 0#32
  let v2141 : BitVec 1 := Scalar.cmpi .ne v2140 c0_i32_784
  let v2142 : BitVec 1 := Scalar.andi v2139 v2141
  let v2128 : BitVec 32 := Scalar.divsi v2127 c8_i32_779
  let c1_i32_785 : BitVec 32 := 1#32
  let v2143 : BitVec 32 := Scalar.subi v2128 c1_i32_785
  let v2144 : BitVec 32 := Scalar.select v2142 v2143 v2128
  let c128_i32_793 : BitVec 32 := 128#32
  let v2157 : BitVec 32 := Scalar.muli v2144 c128_i32_793
  let v2158 : BitVec 32 := v2157
  let v2216 : Index := Scalar.indexCast v2158
  ![0, v2215.toNat, v2216.toNat]
def k0_mult37 (k0_t1 : Fin k0_t1_loop.trips) : BitVec 32 :=
  let c2_i32_819 : BitVec 32 := 2#32
  let c0_i32_668 : BitVec 32 := 0#32
  let c1_i32_670 : BitVec 32 := 1#32
  let arg18 : BitVec 32 := Scf.iv c0_i32_668 c1_i32_670 k0_t1
  let v2232 : BitVec 32 := Scalar.muli c2_i32_819 arg18
  let c2_i32_820 : BitVec 32 := 2#32
  let v2233 : BitVec 32 := Scalar.addi v2232 c2_i32_820
  let c8_i32_828 : BitVec 32 := 8#32
  let c0_i32_829 : BitVec 32 := 0#32
  let v2251 : BitVec 1 := Scalar.cmpi .eq c8_i32_828 c0_i32_829
  let c1_i32_830 : BitVec 32 := 1#32
  let v2252 : BitVec 32 := Scalar.select v2251 c1_i32_830 c8_i32_828
  let v2253 : BitVec 32 := Scalar.remsi v2233 v2252
  let c0_i32_832 : BitVec 32 := 0#32
  let v2255 : BitVec 1 := Scalar.cmpi .slt v2253 c0_i32_832
  let c0_i32_833 : BitVec 32 := 0#32
  let v2256 : BitVec 1 := Scalar.cmpi .slt v2252 c0_i32_833
  let v2257 : BitVec 1 := Scalar.xori v2255 v2256
  let c0_i32_831 : BitVec 32 := 0#32
  let v2254 : BitVec 1 := Scalar.cmpi .ne v2253 c0_i32_831
  let v2258 : BitVec 1 := Scalar.andi v2257 v2254
  let v2259 : BitVec 32 := Scalar.addi v2253 v2252
  let v2260 : BitVec 32 := Scalar.select v2258 v2259 v2253
  let c256_i32_834 : BitVec 32 := 256#32
  let v2261 : BitVec 32 := Scalar.muli v2260 c256_i32_834
  v2261
def k0_mult38 (k0_t1 : Fin k0_t1_loop.trips) : BitVec 32 :=
  let c2_i32_850 : BitVec 32 := 2#32
  let c0_i32_668 : BitVec 32 := 0#32
  let c1_i32_670 : BitVec 32 := 1#32
  let arg18 : BitVec 32 := Scf.iv c0_i32_668 c1_i32_670 k0_t1
  let v2281 : BitVec 32 := Scalar.muli c2_i32_850 arg18
  let c1_i32_851 : BitVec 32 := 1#32
  let v2282 : BitVec 32 := Scalar.addi v2281 c1_i32_851
  let c8_i32_859 : BitVec 32 := 8#32
  let c0_i32_860 : BitVec 32 := 0#32
  let v2300 : BitVec 1 := Scalar.cmpi .eq c8_i32_859 c0_i32_860
  let c1_i32_861 : BitVec 32 := 1#32
  let v2301 : BitVec 32 := Scalar.select v2300 c1_i32_861 c8_i32_859
  let v2302 : BitVec 32 := Scalar.remsi v2282 v2301
  let c0_i32_863 : BitVec 32 := 0#32
  let v2304 : BitVec 1 := Scalar.cmpi .slt v2302 c0_i32_863
  let c0_i32_864 : BitVec 32 := 0#32
  let v2305 : BitVec 1 := Scalar.cmpi .slt v2301 c0_i32_864
  let v2306 : BitVec 1 := Scalar.xori v2304 v2305
  let c0_i32_862 : BitVec 32 := 0#32
  let v2303 : BitVec 1 := Scalar.cmpi .ne v2302 c0_i32_862
  let v2307 : BitVec 1 := Scalar.andi v2306 v2303
  let v2308 : BitVec 32 := Scalar.addi v2302 v2301
  let v2309 : BitVec 32 := Scalar.select v2307 v2308 v2302
  let c256_i32_865 : BitVec 32 := 256#32
  let v2310 : BitVec 32 := Scalar.muli v2309 c256_i32_865
  v2310
def k0_mult39 (k0_t1 : Fin k0_t1_loop.trips) : BitVec 32 :=
  let c2_i32_850 : BitVec 32 := 2#32
  let c0_i32_668 : BitVec 32 := 0#32
  let c1_i32_670 : BitVec 32 := 1#32
  let arg18 : BitVec 32 := Scf.iv c0_i32_668 c1_i32_670 k0_t1
  let v2281 : BitVec 32 := Scalar.muli c2_i32_850 arg18
  let c1_i32_851 : BitVec 32 := 1#32
  let v2282 : BitVec 32 := Scalar.addi v2281 c1_i32_851
  let c0_i32_853 : BitVec 32 := 0#32
  let v2284 : BitVec 1 := Scalar.cmpi .sgt v2282 c0_i32_853
  let v2285 : BitVec 32 := Scalar.extui v2284
  let c0_i32_854 : BitVec 32 := 0#32
  let v2286 : BitVec 1 := Scalar.cmpi .slt v2282 c0_i32_854
  let v2287 : BitVec 32 := Scalar.extui v2286
  let v2288 : BitVec 32 := Scalar.subi v2285 v2287
  let c8_i32_852 : BitVec 32 := 8#32
  let c0_i32_855 : BitVec 32 := 0#32
  let v2289 : BitVec 1 := Scalar.cmpi .sgt c8_i32_852 c0_i32_855
  let v2290 : BitVec 32 := Scalar.extui v2289
  let c0_i32_856 : BitVec 32 := 0#32
  let v2291 : BitVec 1 := Scalar.cmpi .slt c8_i32_852 c0_i32_856
  let v2292 : BitVec 32 := Scalar.extui v2291
  let v2293 : BitVec 32 := Scalar.subi v2290 v2292
  let v2294 : BitVec 1 := Scalar.cmpi .ne v2288 v2293
  let v2295 : BitVec 32 := Scalar.remsi v2282 c8_i32_852
  let c0_i32_857 : BitVec 32 := 0#32
  let v2296 : BitVec 1 := Scalar.cmpi .ne v2295 c0_i32_857
  let v2297 : BitVec 1 := Scalar.andi v2294 v2296
  let v2283 : BitVec 32 := Scalar.divsi v2282 c8_i32_852
  let c1_i32_858 : BitVec 32 := 1#32
  let v2298 : BitVec 32 := Scalar.subi v2283 c1_i32_858
  let v2299 : BitVec 32 := Scalar.select v2297 v2298 v2283
  let c128_i32_866 : BitVec 32 := 128#32
  let v2312 : BitVec 32 := Scalar.muli v2299 c128_i32_866
  v2312
def k0_off12 (k0_t1 : Fin k0_t1_loop.trips) : Fin 3 → Nat :=
  let c2_i32_850 : BitVec 32 := 2#32
  let c0_i32_668 : BitVec 32 := 0#32
  let c1_i32_670 : BitVec 32 := 1#32
  let arg18 : BitVec 32 := Scf.iv c0_i32_668 c1_i32_670 k0_t1
  let v2281 : BitVec 32 := Scalar.muli c2_i32_850 arg18
  let c1_i32_851 : BitVec 32 := 1#32
  let v2282 : BitVec 32 := Scalar.addi v2281 c1_i32_851
  let c0_i32_853 : BitVec 32 := 0#32
  let v2284 : BitVec 1 := Scalar.cmpi .sgt v2282 c0_i32_853
  let v2285 : BitVec 32 := Scalar.extui v2284
  let c0_i32_854 : BitVec 32 := 0#32
  let v2286 : BitVec 1 := Scalar.cmpi .slt v2282 c0_i32_854
  let v2287 : BitVec 32 := Scalar.extui v2286
  let v2288 : BitVec 32 := Scalar.subi v2285 v2287
  let c8_i32_852 : BitVec 32 := 8#32
  let c0_i32_855 : BitVec 32 := 0#32
  let v2289 : BitVec 1 := Scalar.cmpi .sgt c8_i32_852 c0_i32_855
  let v2290 : BitVec 32 := Scalar.extui v2289
  let c0_i32_856 : BitVec 32 := 0#32
  let v2291 : BitVec 1 := Scalar.cmpi .slt c8_i32_852 c0_i32_856
  let v2292 : BitVec 32 := Scalar.extui v2291
  let v2293 : BitVec 32 := Scalar.subi v2290 v2292
  let v2294 : BitVec 1 := Scalar.cmpi .ne v2288 v2293
  let v2295 : BitVec 32 := Scalar.remsi v2282 c8_i32_852
  let c0_i32_857 : BitVec 32 := 0#32
  let v2296 : BitVec 1 := Scalar.cmpi .ne v2295 c0_i32_857
  let v2297 : BitVec 1 := Scalar.andi v2294 v2296
  let v2283 : BitVec 32 := Scalar.divsi v2282 c8_i32_852
  let c1_i32_858 : BitVec 32 := 1#32
  let v2298 : BitVec 32 := Scalar.subi v2283 c1_i32_858
  let v2299 : BitVec 32 := Scalar.select v2297 v2298 v2283
  let v2322 : Index := Scalar.indexCast v2299
  let c0_871 : Index := 0#32
  let c0_872 : Index := 0#32
  ![v2322.toNat, 0, 0]
def k0_off13 (k0_t1 : Fin k0_t1_loop.trips) : Fin 3 → Nat :=
  let c0_889 : Index := 0#32
  let c2_i32_850 : BitVec 32 := 2#32
  let c0_i32_668 : BitVec 32 := 0#32
  let c1_i32_670 : BitVec 32 := 1#32
  let arg18 : BitVec 32 := Scf.iv c0_i32_668 c1_i32_670 k0_t1
  let v2281 : BitVec 32 := Scalar.muli c2_i32_850 arg18
  let c1_i32_851 : BitVec 32 := 1#32
  let v2282 : BitVec 32 := Scalar.addi v2281 c1_i32_851
  let c8_i32_859 : BitVec 32 := 8#32
  let c0_i32_860 : BitVec 32 := 0#32
  let v2300 : BitVec 1 := Scalar.cmpi .eq c8_i32_859 c0_i32_860
  let c1_i32_861 : BitVec 32 := 1#32
  let v2301 : BitVec 32 := Scalar.select v2300 c1_i32_861 c8_i32_859
  let v2302 : BitVec 32 := Scalar.remsi v2282 v2301
  let c0_i32_863 : BitVec 32 := 0#32
  let v2304 : BitVec 1 := Scalar.cmpi .slt v2302 c0_i32_863
  let c0_i32_864 : BitVec 32 := 0#32
  let v2305 : BitVec 1 := Scalar.cmpi .slt v2301 c0_i32_864
  let v2306 : BitVec 1 := Scalar.xori v2304 v2305
  let c0_i32_862 : BitVec 32 := 0#32
  let v2303 : BitVec 1 := Scalar.cmpi .ne v2302 c0_i32_862
  let v2307 : BitVec 1 := Scalar.andi v2306 v2303
  let v2308 : BitVec 32 := Scalar.addi v2302 v2301
  let v2309 : BitVec 32 := Scalar.select v2307 v2308 v2302
  let c256_i32_865 : BitVec 32 := 256#32
  let v2310 : BitVec 32 := Scalar.muli v2309 c256_i32_865
  let v2311 : BitVec 32 := v2310
  let v2370 : Index := Scalar.indexCast v2311
  let c0_i32_853 : BitVec 32 := 0#32
  let v2284 : BitVec 1 := Scalar.cmpi .sgt v2282 c0_i32_853
  let v2285 : BitVec 32 := Scalar.extui v2284
  let c0_i32_854 : BitVec 32 := 0#32
  let v2286 : BitVec 1 := Scalar.cmpi .slt v2282 c0_i32_854
  let v2287 : BitVec 32 := Scalar.extui v2286
  let v2288 : BitVec 32 := Scalar.subi v2285 v2287
  let c8_i32_852 : BitVec 32 := 8#32
  let c0_i32_855 : BitVec 32 := 0#32
  let v2289 : BitVec 1 := Scalar.cmpi .sgt c8_i32_852 c0_i32_855
  let v2290 : BitVec 32 := Scalar.extui v2289
  let c0_i32_856 : BitVec 32 := 0#32
  let v2291 : BitVec 1 := Scalar.cmpi .slt c8_i32_852 c0_i32_856
  let v2292 : BitVec 32 := Scalar.extui v2291
  let v2293 : BitVec 32 := Scalar.subi v2290 v2292
  let v2294 : BitVec 1 := Scalar.cmpi .ne v2288 v2293
  let v2295 : BitVec 32 := Scalar.remsi v2282 c8_i32_852
  let c0_i32_857 : BitVec 32 := 0#32
  let v2296 : BitVec 1 := Scalar.cmpi .ne v2295 c0_i32_857
  let v2297 : BitVec 1 := Scalar.andi v2294 v2296
  let v2283 : BitVec 32 := Scalar.divsi v2282 c8_i32_852
  let c1_i32_858 : BitVec 32 := 1#32
  let v2298 : BitVec 32 := Scalar.subi v2283 c1_i32_858
  let v2299 : BitVec 32 := Scalar.select v2297 v2298 v2283
  let c128_i32_866 : BitVec 32 := 128#32
  let v2312 : BitVec 32 := Scalar.muli v2299 c128_i32_866
  let v2313 : BitVec 32 := v2312
  let v2371 : Index := Scalar.indexCast v2313
  ![0, v2370.toNat, v2371.toNat]
def k0_mult40 : BitVec 32 :=
  let c1792_i32 : BitVec 32 := 1792#32
  c1792_i32
def k0_mult41 : BitVec 32 :=
  let c1536_i32 : BitVec 32 := 1536#32
  c1536_i32
def k0_mult42 : BitVec 32 :=
  let c128_i32_690 : BitVec 32 := 128#32
  c128_i32_690
def k0_mult43 : BitVec 32 :=
  let c1792_i32_718 : BitVec 32 := 1792#32
  c1792_i32_718
def k0_mult44 : BitVec 32 :=
  let c128_i32_719 : BitVec 32 := 128#32
  c128_i32_719
def cc0_transform_0 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel6Ideal.lean ====
variable {F : FTy → Type} [FloatOps F] [Named F]
def κ : String → Option EReal := fun
  | "q_scale" => some (((1 / 8) * (Real.log 2)⁻¹ : ℝ) : EReal)
  | _ => none
-- ==== Reference6Ideal.lean ====
abbrev S8x2048x6656 : Shape := ⟨3, ![8, 2048, 6656]⟩
abbrev S2x64 : Shape := ⟨2, ![2, 64]⟩
abbrev S4x64 : Shape := ⟨2, ![4, 64]⟩
abbrev S128 : Shape := ⟨1, ![128]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S8x2048x2048 : Shape := ⟨3, ![8, 2048, 2048]⟩
abbrev S8x2048x512 : Shape := ⟨3, ![8, 2048, 512]⟩
abbrev S8x2048x4x2x64 : Shape := ⟨5, ![8, 2048, 4, 2, 64]⟩
abbrev S8x4x2x2048x64 : Shape := ⟨5, ![8, 4, 2, 2048, 64]⟩
abbrev S1x64 : Shape := ⟨2, ![1, 64]⟩
abbrev S64 : Shape := ⟨1, ![64]⟩
abbrev S8x4x2x2048 : Shape := ⟨4, ![8, 4, 2, 2048]⟩
abbrev S8x4x2x2048x1 : Shape := ⟨5, ![8, 4, 2, 2048, 1]⟩
abbrev S1x1x1x1x64 : Shape := ⟨5, ![1, 1, 1, 1, 64]⟩
abbrev S8x4x2x2048x32 : Shape := ⟨5, ![8, 4, 2, 2048, 32]⟩
abbrev S1x1x1x2048x32 : Shape := ⟨5, ![1, 1, 1, 2048, 32]⟩
abbrev S8x2048x4x128 : Shape := ⟨4, ![8, 2048, 4, 128]⟩
abbrev S8x4x2048x128 : Shape := ⟨4, ![8, 4, 2048, 128]⟩
abbrev S8x4x2x2048x2048 : Shape := ⟨5, ![8, 4, 2, 2048, 2048]⟩
abbrev S8x4x1x2048x2048 : Shape := ⟨5, ![8, 4, 1, 2048, 2048]⟩
abbrev S8x4x2048x2048 : Shape := ⟨4, ![8, 4, 2048, 2048]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩

abbrev nBuf : Space → Nat
  | .hbm => 185
  | .vmem => 0
  | .smem => 0
  | _ => 0

abbrev hbmTy0_0 (i : Nat) : BufTy := match i % 128 with
  | 0 => ⟨S8x2048x6656, .bf16⟩
  | 1 => ⟨S2x64, .f32⟩
  | 2 => ⟨S4x64, .f32⟩
  | 3 => ⟨S128, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S2048, .f32⟩
  | 19 => ⟨S2048x1, .f32⟩
  | 20 => ⟨S1x32, .f32⟩
  | 21 => ⟨S2048x32, .f32⟩
  | 22 => ⟨S2048x32, .f32⟩
  | 23 => ⟨S2048x32, .f32⟩
  | 24 => ⟨S2048x32, .f32⟩
  | 25 => ⟨S2048x32, .f32⟩
  | 26 => ⟨S8x2048x6656, .f32⟩
  | 27 => ⟨S8x2048x2048, .f32⟩
  | 28 => ⟨S8x2048x512, .f32⟩
  | 29 => ⟨S8x2048x512, .f32⟩
  | 30 => ⟨S8x2048x512, .f32⟩
  | 31 => ⟨S8x2048x512, .f32⟩
  | 32 => ⟨S8x2048x4x2x64, .f32⟩
  | 33 => ⟨S8x4x2x2048x64, .f32⟩
  | 34 => ⟨S8x2048x4x2x64, .f32⟩
  | 35 => ⟨S8x4x2x2048x64, .f32⟩
  | 36 => ⟨S1x64, .f32⟩
  | 37 => ⟨S64, .f32⟩
  | 38 => ⟨S8x4x2x2048x64, .f32⟩
  | 39 => ⟨S_, .f32⟩
  | 40 => ⟨S8x4x2x2048, .f32⟩
  | 41 => ⟨S8x4x2x2048x1, .f32⟩
  | 42 => ⟨S_, .f32⟩
  | 43 => ⟨S8x4x2x2048x1, .f32⟩
  | 44 => ⟨S8x4x2x2048x1, .f32⟩
  | 45 => ⟨S_, .f32⟩
  | 46 => ⟨S8x4x2x2048x1, .f32⟩
  | 47 => ⟨S8x4x2x2048x1, .f32⟩
  | 48 => ⟨S8x4x2x2048x1, .f32⟩
  | 49 => ⟨S8x4x2x2048x64, .f32⟩
  | 50 => ⟨S8x4x2x2048x64, .f32⟩
  | 51 => ⟨S1x1x1x1x64, .f32⟩
  | 52 => ⟨S8x4x2x2048x64, .f32⟩
  | 53 => ⟨S8x4x2x2048x64, .f32⟩
  | 54 => ⟨S8x4x2x2048x32, .f32⟩
  | 55 => ⟨S8x4x2x2048x32, .f32⟩
  | 56 => ⟨S1x1x1x2048x32, .f32⟩
  | 57 => ⟨S8x4x2x2048x32, .f32⟩
  | 58 => ⟨S8x4x2x2048x32, .f32⟩
  | 59 => ⟨S1x1x1x2048x32, .f32⟩
  | 60 => ⟨S8x4x2x2048x32, .f32⟩
  | 61 => ⟨S8x4x2x2048x32, .f32⟩
  | 62 => ⟨S8x4x2x2048x32, .f32⟩
  | 63 => ⟨S1x1x1x2048x32, .f32⟩
  | 64 => ⟨S8x4x2x2048x32, .f32⟩
  | 65 => ⟨S8x4x2x2048x32, .f32⟩
  | 66 => ⟨S1x1x1x2048x32, .f32⟩
  | 67 => ⟨S8x4x2x2048x32, .f32⟩
  | 68 => ⟨S8x4x2x2048x32, .f32⟩
  | 69 => ⟨S8x4x2x2048x32, .f32⟩
  | 70 => ⟨S8x4x2x2048x64, .f32⟩
  | 71 => ⟨S_, .f32⟩
  | 72 => ⟨S8x4x2x2048x64, .f32⟩
  | 73 => ⟨S8x4x2x2048x64, .f32⟩
  | 74 => ⟨S1x64, .f32⟩
  | 75 => ⟨S64, .f32⟩
  | 76 => ⟨S8x4x2x2048x64, .f32⟩
  | 77 => ⟨S_, .f32⟩
  | 78 => ⟨S8x4x2x2048, .f32⟩
  | 79 => ⟨S8x4x2x2048x1, .f32⟩
  | 80 => ⟨S_, .f32⟩
  | 81 => ⟨S8x4x2x2048x1, .f32⟩
  | 82 => ⟨S8x4x2x2048x1, .f32⟩
  | 83 => ⟨S_, .f32⟩
  | 84 => ⟨S8x4x2x2048x1, .f32⟩
  | 85 => ⟨S8x4x2x2048x1, .f32⟩
  | 86 => ⟨S8x4x2x2048x1, .f32⟩
  | 87 => ⟨S8x4x2x2048x64, .f32⟩
  | 88 => ⟨S8x4x2x2048x64, .f32⟩
  | 89 => ⟨S1x1x1x1x64, .f32⟩
  | 90 => ⟨S8x4x2x2048x64, .f32⟩
  | 91 => ⟨S8x4x2x2048x64, .f32⟩
  | 92 => ⟨S8x4x2x2048x32, .f32⟩
  | 93 => ⟨S8x4x2x2048x32, .f32⟩
  | 94 => ⟨S1x1x1x2048x32, .f32⟩
  | 95 => ⟨S8x4x2x2048x32, .f32⟩
  | 96 => ⟨S8x4x2x2048x32, .f32⟩
  | 97 => ⟨S1x1x1x2048x32, .f32⟩
  | 98 => ⟨S8x4x2x2048x32, .f32⟩
  | 99 => ⟨S8x4x2x2048x32, .f32⟩
  | 100 => ⟨S8x4x2x2048x32, .f32⟩
  | 101 => ⟨S1x1x1x2048x32, .f32⟩
  | 102 => ⟨S8x4x2x2048x32, .f32⟩
  | 103 => ⟨S8x4x2x2048x32, .f32⟩
  | 104 => ⟨S1x1x1x2048x32, .f32⟩
  | 105 => ⟨S8x4x2x2048x32, .f32⟩
  | 106 => ⟨S8x4x2x2048x32, .f32⟩
  | 107 => ⟨S8x4x2x2048x32, .f32⟩
  | 108 => ⟨S8x4x2x2048x64, .f32⟩
  | 109 => ⟨S8x2048x4x128, .f32⟩
  | 110 => ⟨S8x4x2048x128, .f32⟩
  | 111 => ⟨S1x64, .f32⟩
  | 112 => ⟨S64, .f32⟩
  | 113 => ⟨S1x64, .f32⟩
  | 114 => ⟨S64, .f32⟩
  | 115 => ⟨S64, .f32⟩
  | 116 => ⟨S_, .f32⟩
  | 117 => ⟨S_, .f32⟩
  | 118 => ⟨S_, .f32⟩
  | 119 => ⟨S1x64, .f32⟩
  | 120 => ⟨S64, .f32⟩
  | 121 => ⟨S1x64, .f32⟩
  | 122 => ⟨S64, .f32⟩
  | 123 => ⟨S64, .f32⟩
  | 124 => ⟨S_, .f32⟩
  | 125 => ⟨S_, .f32⟩
  | 126 => ⟨S_, .f32⟩
  | 127 => ⟨S_, .f32⟩
  | _ => ⟨S8x2048x6656, .bf16⟩

abbrev hbmTy0_1 (i : Nat) : BufTy := match i % 128 with
  | 0 => ⟨S_, .f32⟩
  | 1 => ⟨S_, .f32⟩
  | 2 => ⟨S8x4x2x2048x2048, .f32⟩
  | 3 => ⟨S_, .f32⟩
  | 4 => ⟨S8x4x2x2048, .f32⟩
  | 5 => ⟨S_, .f32⟩
  | 6 => ⟨S8x4x2x2048, .f32⟩
  | 7 => ⟨S8x4x2x2048, .f32⟩
  | 8 => ⟨S8x4x2x2048x1, .f32⟩
  | 9 => ⟨S8x4x2x2048x2048, .f32⟩
  | 10 => ⟨S8x4x2x2048x2048, .f32⟩
  | 11 => ⟨S8x4x2x2048x2048, .f32⟩
  | 12 => ⟨S_, .f32⟩
  | 13 => ⟨S8x4x2x2048, .f32⟩
  | 14 => ⟨S8x4x2x2048x1, .f32⟩
  | 15 => ⟨S8x4x2x2048x2048, .f32⟩
  | 16 => ⟨S8x4x2x2048x2048, .f32⟩
  | 17 => ⟨S8x4x1x2048x2048, .f32⟩
  | 18 => ⟨S8x4x2048x2048, .f32⟩
  | 19 => ⟨S8x4x1x2048x2048, .f32⟩
  | 20 => ⟨S8x4x2048x2048, .f32⟩
  | 21 => ⟨S8x4x2048x2048, .f32⟩
  | 22 => ⟨S8x4x2048x2048, .f32⟩
  | 23 => ⟨S8x4x2048x2048, .f32⟩
  | 24 => ⟨S8x4x2048x128, .f32⟩
  | 25 => ⟨S8x2048x4x128, .f32⟩
  | 26 => ⟨S8x2048x4x128, .f32⟩
  | 27 => ⟨S_, .f32⟩
  | 28 => ⟨S8x2048x4, .f32⟩
  | 29 => ⟨S8x2048x4x1, .f32⟩
  | 30 => ⟨S_, .f32⟩
  | 31 => ⟨S8x2048x4x1, .f32⟩
  | 32 => ⟨S8x2048x4x1, .f32⟩
  | 33 => ⟨S_, .f32⟩
  | 34 => ⟨S8x2048x4x1, .f32⟩
  | 35 => ⟨S8x2048x4x1, .f32⟩
  | 36 => ⟨S8x2048x4x1, .f32⟩
  | 37 => ⟨S8x2048x4x128, .f32⟩
  | 38 => ⟨S8x2048x4x128, .f32⟩
  | 39 => ⟨S1x1x1x128, .f32⟩
  | 40 => ⟨S8x2048x4x128, .f32⟩
  | 41 => ⟨S8x2048x4x128, .f32⟩
  | 42 => ⟨S_, .f32⟩
  | 43 => ⟨S8x2048x4x128, .f32⟩
  | 44 => ⟨S8x2048x4x128, .f32⟩
  | 45 => ⟨S8x2048x512, .f32⟩
  | 46 => ⟨S8x2048x512, .f32⟩
  | 47 => ⟨S8x2048x512, .f32⟩
  | 48 => ⟨S_, .f32⟩
  | 49 => ⟨S8x2048x512, .f32⟩
  | 50 => ⟨S8x2048x512, .f32⟩
  | 51 => ⟨S_, .f32⟩
  | 52 => ⟨S8x2048x512, .f32⟩
  | 53 => ⟨S8x2048x512, .f32⟩
  | 54 => ⟨S8x2048x512, .f32⟩
  | 55 => ⟨S8x2048x512, .f32⟩
  | 56 => ⟨S8x2048x512, .bf16⟩
  | _ => ⟨S8x2048x6656, .bf16⟩

abbrev hbmTy (i : Nat) : BufTy := match i / 128 with
  | 0 => hbmTy0_0 i
  | 1 => hbmTy0_1 i
  | _ => ⟨S8x2048x6656, .bf16⟩

abbrev bufTy : (tb : Table) → Fin (tcTables nBuf tb) → BufTy
  | .hbm, ⟨i, _⟩ => hbmTy i
  | _, _ => ⟨S8x2048x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_7 : Ref sig .tc := ⟨.hbm, 77, rfl⟩
abbrev main_v65 : Ref sig .tc := ⟨.hbm, 78, rfl⟩
abbrev main_v66 : Ref sig .tc := ⟨.hbm, 79, rfl⟩
abbrev main_cst_8 : Ref sig .tc := ⟨.hbm, 80, rfl⟩
abbrev main_v67 : Ref sig .tc := ⟨.hbm, 81, rfl⟩
abbrev main_v68 : Ref sig .tc := ⟨.hbm, 82, rfl⟩
abbrev main_cst_9 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_cst_10 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_cst_11 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_cst_12 : Ref sig .tc := ⟨.hbm, 128, rfl⟩
abbrev main_v111 : Ref sig .tc := ⟨.hbm, 129, rfl⟩
abbrev main_v112 : Ref sig .tc := ⟨.hbm, 130, rfl⟩
abbrev main_cst_13 : Ref sig .tc := ⟨.hbm, 131, rfl⟩
abbrev main_v113 : Ref sig .tc := ⟨.hbm, 132, rfl⟩
abbrev main_cst_14 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_cst_15 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_cst_16 : Ref sig .tc := ⟨.hbm, 155, rfl⟩
abbrev main_v134 : Ref sig .tc := ⟨.hbm, 156, rfl⟩
abbrev main_v135 : Ref sig .tc := ⟨.hbm, 157, rfl⟩
abbrev main_cst_17 : Ref sig .tc := ⟨.hbm, 158, rfl⟩
abbrev main_v136 : Ref sig .tc := ⟨.hbm, 159, rfl⟩
abbrev main_v137 : Ref sig .tc := ⟨.hbm, 160, rfl⟩
abbrev main_cst_18 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_cst_19 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_call0_v0 : Ref sig .tc := ⟨.hbm, 174, rfl⟩
abbrev main_call0_v1 : Ref sig .tc := ⟨.hbm, 175, rfl⟩
abbrev main_call0_cst : Ref sig .tc := ⟨.hbm, 176, rfl⟩
abbrev main_call0_v2 : Ref sig .tc := ⟨.hbm, 177, rfl⟩
abbrev main_call0_v3 : Ref sig .tc := ⟨.hbm, 178, rfl⟩
abbrev main_call0_cst_0 : Ref sig .tc := ⟨.hbm, 179, rfl⟩
abbrev main_call0_v4 : Ref sig .tc := ⟨.hbm, 180, rfl⟩
abbrev main_call0_v5 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩

abbrev nD : Nat := 1
abbrev τ : Topo := Topo.v7x

variable {F : FTy → Type} [FloatOps F]
-- ==== Proof.DiffRun.lean ====
module

public import proofs.«01_k».proof.Proof.Gen.KernelIdeal.Frame
public import proofs.«01_k».proof.Proof.Gen.KernelIdeal.Loops
public import Idealize.ShloMosaic.Lib.Exec
public import Idealize.ShloMosaic.Lib.Tactic

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The whole body, run once: from any contents of its buffers it ends with the inputs unchanged, the output block at
    contents computed from what was found, and the work buffers at some contents. -/
@[irreducible] def run (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x2048x256 .bf16) (harg12 : arg12.IsWhole) (arg13 : Memref sig .tc .vmem S2x2048x128 .bf16) (harg13 : arg13.IsWhole) (arg14 : Memref sig .tc .vmem S2x2x2048x128 .bf16) (harg14 : arg14.IsWhole) (arg15 : Memref sig .tc .vmem S2x144x2048 .bf16) (harg15 : arg15.IsWhole) (arg16 : Memref sig .tc .vmem S2x2048x256 .f32) (harg16 : arg16.IsWhole) (arg17 : Memref sig .tc .vmem S2x2048x256 .f32) (harg17 : arg17.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    { L12 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg12.view.ty) // ∀ (E : Set ℕ) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (K : PUnit → sProp 𝕄),
      iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} L12 f12 f13 f14 f15 f16 f17) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))) -∗ K ⟨⟩))
      ⊢ wp frame (wpE (defs₀ (F := F)) Variants.none (c : Thread nD τ) none) E (cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E f12 f13 f14 f15 f16 f17 K => ?run⟩
  case run =>
    simp only [cc0_diff_attn_eq_skeleton]; unfold cc0_diff_attn_skel
    iintro ⟨H2, H3, H4, H5, H6, H7, H8, H9, H10, H11, H12, H13, H14, H15, H16, H17, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    iexists _; iexact H17

end Cert.KernelIdeal.Diff

end
-- ==== Proof.DiffTiles.lean ====
module

public import proofs.«01_k».proof.Proof.DiffRun
public import proofs.«01_k».proof.Proof.Gen.KernelIdeal.Frame
public import proofs.«01_k».proof.Proof.Gen.KernelIdeal.Loops
public import Idealize.ShloMosaic.Lib.Exec
public import Idealize.ShloMosaic.Lib.Tactic

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! What one grid point computes, as functions of the blocks it reads. -/

/-- The 0/1 matrix of two positions in the same group of 64. -/
noncomputable def seg : FVec F S128x128 .bf16 := run.sl.v54

/-- The permutation matrix exchanging the halves of every group of 64. -/
noncomputable def swp : FVec F S128x128 .bf16 := run.sl.v66

/-- The mask of the first group of 64. -/
noncomputable def half : IVec S256x128 1 := cmpi .slt run.sl.v55 run.sl.v56

noncomputable def tile (x : Vec F S1x2048x256 .bf16) (hd : Fin 2) (r : Fin 8) : Vec F S1x256x128 .bf16 :=
  View.ld x (Rect.unit (s := S1x2048x256) ![0, r.val * 256, hd.val * 128] S1x256x128.size (by fin_cases hd <;> fin_cases r <;> decide))

noncomputable def tab (x : Vec F S2048x128 .f32) (r : Fin 8) : Vec F S256x128 .f32 :=
  View.ld x (Rect.unit (s := S2048x128) ![r.val * 256, 0] S256x128.size (by fin_cases r <;> decide))

/-- A tile of queries: normalised in groups, rotated and scaled. -/
noncomputable def qT (x : Vec F S1x256x128 .bf16) (cos sin : Vec F S256x128 .f32) : Vec F S1x256x128 .bf16 :=
  k0_pay112 seg swp x cos sin

/-- A tile of keys with only the first group kept. -/
noncomputable def kT0 (x : Vec F S1x256x128 .bf16) (cos sin : Vec F S256x128 .f32) : Vec F S1x1x256x128 .bf16 :=
  k0_pay108 seg half swp x cos sin

/-- A tile of keys with only the second group kept. -/
noncomputable def kT1 (x : Vec F S1x256x128 .bf16) (cos sin : Vec F S256x128 .f32) : Vec F S1x1x256x128 .bf16 :=
  shapeCast S1x1x256x128 (truncf .bf16 (select half (broadcast S256x128 (Scalar.ofBits .f32 0x00000000#32)) (k0_pay107 seg swp x cos sin)) bitsLt_bf16_f32) shapeCasts_S256x128_S1x1x256x128

/-- A tile of values, transposed. -/
noncomputable def vT (x : Vec F S1x256x128 .bf16) : Vec F S1x128x256 .bf16 := k0_pay111 x

/-- The tiles of queries as they are stored, the last first. -/
noncomputable def LQ (x : Vec F S1x2048x256 .bf16) (c s : Vec F S2048x128 .f32) : List (View.Piece (Elt F) S2x2048x128 .bf16) :=
  [⟨Rect.unit ![1, 1792, 0] S1x256x128.size (by decide), qT (tile x 1 7) (tab c 7) (tab s 7)⟩,
   ⟨Rect.unit ![1, 1536, 0] S1x256x128.size (by decide), qT (tile x 1 6) (tab c 6) (tab s 6)⟩,
   ⟨Rect.unit ![1, 1280, 0] S1x256x128.size (by decide), qT (tile x 1 5) (tab c 5) (tab s 5)⟩,
   ⟨Rect.unit ![1, 1024, 0] S1x256x128.size (by decide), qT (tile x 1 4) (tab c 4) (tab s 4)⟩,
   ⟨Rect.unit ![1, 768, 0] S1x256x128.size (by decide), qT (tile x 1 3) (tab c 3) (tab s 3)⟩,
   ⟨Rect.unit ![1, 512, 0] S1x256x128.size (by decide), qT (tile x 1 2) (tab c 2) (tab s 2)⟩,
   ⟨Rect.unit ![1, 256, 0] S1x256x128.size (by decide), qT (tile x 1 1) (tab c 1) (tab s 1)⟩,
   ⟨Rect.unit ![1, 0, 0] S1x256x128.size (by decide), qT (tile x 1 0) (tab c 0) (tab s 0)⟩,
   ⟨Rect.unit ![0, 1792, 0] S1x256x128.size (by decide), qT (tile x 0 7) (tab c 7) (tab s 7)⟩,
   ⟨Rect.unit ![0, 1536, 0] S1x256x128.size (by decide), qT (tile x 0 6) (tab c 6) (tab s 6)⟩,
   ⟨Rect.unit ![0, 1280, 0] S1x256x128.size (by decide), qT (tile x 0 5) (tab c 5) (tab s 5)⟩,
   ⟨Rect.unit ![0, 1024, 0] S1x256x128.size (by decide), qT (tile x 0 4) (tab c 4) (tab s 4)⟩,
   ⟨Rect.unit ![0, 768, 0] S1x256x128.size (by decide), qT (tile x 0 3) (tab c 3) (tab s 3)⟩,
   ⟨Rect.unit ![0, 512, 0] S1x256x128.size (by decide), qT (tile x 0 2) (tab c 2) (tab s 2)⟩,
   ⟨Rect.unit ![0, 256, 0] S1x256x128.size (by decide), qT (tile x 0 1) (tab c 1) (tab s 1)⟩,
   ⟨Rect.unit ![0, 0, 0] S1x256x128.size (by decide), qT (tile x 0 0) (tab c 0) (tab s 0)⟩]

/-- The tiles of keys as they are stored, the last first. -/
noncomputable def LK (x : Vec F S1x2048x256 .bf16) (c s : Vec F S2048x128 .f32) : List (View.Piece (Elt F) S2x2x2048x128 .bf16) :=
  [⟨Rect.unit ![1, 1, 1792, 0] S1x1x256x128.size (by decide), kT1 (tile x 1 7) (tab c 7) (tab s 7)⟩,
   ⟨Rect.unit ![1, 0, 1792, 0] S1x1x256x128.size (by decide), kT0 (tile x 1 7) (tab c 7) (tab s 7)⟩,
   ⟨Rect.unit ![1, 1, 1536, 0] S1x1x256x128.size (by decide), kT1 (tile x 1 6) (tab c 6) (tab s 6)⟩,
   ⟨Rect.unit ![1, 0, 1536, 0] S1x1x256x128.size (by decide), kT0 (tile x 1 6) (tab c 6) (tab s 6)⟩,
   ⟨Rect.unit ![1, 1, 1280, 0] S1x1x256x128.size (by decide), kT1 (tile x 1 5) (tab c 5) (tab s 5)⟩,
   ⟨Rect.unit ![1, 0, 1280, 0] S1x1x256x128.size (by decide), kT0 (tile x 1 5) (tab c 5) (tab s 5)⟩,
   ⟨Rect.unit ![1, 1, 1024, 0] S1x1x256x128.size (by decide), kT1 (tile x 1 4) (tab c 4) (tab s 4)⟩,
   ⟨Rect.unit ![1, 0, 1024, 0] S1x1x256x128.size (by decide), kT0 (tile x 1 4) (tab c 4) (tab s 4)⟩,
   ⟨Rect.unit ![1, 1, 768, 0] S1x1x256x128.size (by decide), kT1 (tile x 1 3) (tab c 3) (tab s 3)⟩,
   ⟨Rect.unit ![1, 0, 768, 0] S1x1x256x128.size (by decide), kT0 (tile x 1 3) (tab c 3) (tab s 3)⟩,
   ⟨Rect.unit ![1, 1, 512, 0] S1x1x256x128.size (by decide), kT1 (tile x 1 2) (tab c 2) (tab s 2)⟩,
   ⟨Rect.unit ![1, 0, 512, 0] S1x1x256x128.size (by decide), kT0 (tile x 1 2) (tab c 2) (tab s 2)⟩,
   ⟨Rect.unit ![1, 1, 256, 0] S1x1x256x128.size (by decide), kT1 (tile x 1 1) (tab c 1) (tab s 1)⟩,
   ⟨Rect.unit ![1, 0, 256, 0] S1x1x256x128.size (by decide), kT0 (tile x 1 1) (tab c 1) (tab s 1)⟩,
   ⟨Rect.unit ![1, 1, 0, 0] S1x1x256x128.size (by decide), kT1 (tile x 1 0) (tab c 0) (tab s 0)⟩,
   ⟨Rect.unit ![1, 0, 0, 0] S1x1x256x128.size (by decide), kT0 (tile x 1 0) (tab c 0) (tab s 0)⟩,
   ⟨Rect.unit ![0, 1, 1792, 0] S1x1x256x128.size (by decide), kT1 (tile x 0 7) (tab c 7) (tab s 7)⟩,
   ⟨Rect.unit ![0, 0, 1792, 0] S1x1x256x128.size (by decide), kT0 (tile x 0 7) (tab c 7) (tab s 7)⟩,
   ⟨Rect.unit ![0, 1, 1536, 0] S1x1x256x128.size (by decide), kT1 (tile x 0 6) (tab c 6) (tab s 6)⟩,
   ⟨Rect.unit ![0, 0, 1536, 0] S1x1x256x128.size (by decide), kT0 (tile x 0 6) (tab c 6) (tab s 6)⟩,
   ⟨Rect.unit ![0, 1, 1280, 0] S1x1x256x128.size (by decide), kT1 (tile x 0 5) (tab c 5) (tab s 5)⟩,
   ⟨Rect.unit ![0, 0, 1280, 0] S1x1x256x128.size (by decide), kT0 (tile x 0 5) (tab c 5) (tab s 5)⟩,
   ⟨Rect.unit ![0, 1, 1024, 0] S1x1x256x128.size (by decide), kT1 (tile x 0 4) (tab c 4) (tab s 4)⟩,
   ⟨Rect.unit ![0, 0, 1024, 0] S1x1x256x128.size (by decide), kT0 (tile x 0 4) (tab c 4) (tab s 4)⟩,
   ⟨Rect.unit ![0, 1, 768, 0] S1x1x256x128.size (by decide), kT1 (tile x 0 3) (tab c 3) (tab s 3)⟩,
   ⟨Rect.unit ![0, 0, 768, 0] S1x1x256x128.size (by decide), kT0 (tile x 0 3) (tab c 3) (tab s 3)⟩,
   ⟨Rect.unit ![0, 1, 512, 0] S1x1x256x128.size (by decide), kT1 (tile x 0 2) (tab c 2) (tab s 2)⟩,
   ⟨Rect.unit ![0, 0, 512, 0] S1x1x256x128.size (by decide), kT0 (tile x 0 2) (tab c 2) (tab s 2)⟩,
   ⟨Rect.unit ![0, 1, 256, 0] S1x1x256x128.size (by decide), kT1 (tile x 0 1) (tab c 1) (tab s 1)⟩,
   ⟨Rect.unit ![0, 0, 256, 0] S1x1x256x128.size (by decide), kT0 (tile x 0 1) (tab c 1) (tab s 1)⟩,
   ⟨Rect.unit ![0, 1, 0, 0] S1x1x256x128.size (by decide), kT1 (tile x 0 0) (tab c 0) (tab s 0)⟩,
   ⟨Rect.unit ![0, 0, 0, 0] S1x1x256x128.size (by decide), kT0 (tile x 0 0) (tab c 0) (tab s 0)⟩]

/-- The tiles of values and the rows of ones as they are stored, the last first. -/
noncomputable def LV (x : Vec F S1x2048x256 .bf16) : List (View.Piece (Elt F) S2x144x2048 .bf16) :=
  [⟨Rect.unit ![1, 0, 1792] S1x128x256.size (by decide), vT (tile x 1 7)⟩,
   ⟨Rect.unit ![1, 0, 1536] S1x128x256.size (by decide), vT (tile x 1 6)⟩,
   ⟨Rect.unit ![1, 0, 1280] S1x128x256.size (by decide), vT (tile x 1 5)⟩,
   ⟨Rect.unit ![1, 0, 1024] S1x128x256.size (by decide), vT (tile x 1 4)⟩,
   ⟨Rect.unit ![1, 0, 768] S1x128x256.size (by decide), vT (tile x 1 3)⟩,
   ⟨Rect.unit ![1, 0, 512] S1x128x256.size (by decide), vT (tile x 1 2)⟩,
   ⟨Rect.unit ![1, 0, 256] S1x128x256.size (by decide), vT (tile x 1 1)⟩,
   ⟨Rect.unit ![1, 0, 0] S1x128x256.size (by decide), vT (tile x 1 0)⟩,
   ⟨Rect.unit ![0, 0, 1792] S1x128x256.size (by decide), vT (tile x 0 7)⟩,
   ⟨Rect.unit ![0, 0, 1536] S1x128x256.size (by decide), vT (tile x 0 6)⟩,
   ⟨Rect.unit ![0, 0, 1280] S1x128x256.size (by decide), vT (tile x 0 5)⟩,
   ⟨Rect.unit ![0, 0, 1024] S1x128x256.size (by decide), vT (tile x 0 4)⟩,
   ⟨Rect.unit ![0, 0, 768] S1x128x256.size (by decide), vT (tile x 0 3)⟩,
   ⟨Rect.unit ![0, 0, 512] S1x128x256.size (by decide), vT (tile x 0 2)⟩,
   ⟨Rect.unit ![0, 0, 256] S1x128x256.size (by decide), vT (tile x 0 1)⟩,
   ⟨Rect.unit ![0, 0, 0] S1x128x256.size (by decide), vT (tile x 0 0)⟩,
   ⟨Rect.unit ![1, 128, 0] S1x16x2048.size (by decide), run.sl.v70⟩, ⟨Rect.unit ![0, 128, 0] S1x16x2048.size (by decide), run.sl.v70⟩]

theorem H13_eq (arg2 : Memref sig .tc .vmem S1x2048x256 .bf16) (arg6 arg7 : Memref sig .tc .vmem S2048x128 .f32)
    (f2 : BufTy.Contents (Elt F) arg2.view.ty) (f6 : BufTy.Contents (Elt F) arg6.view.ty) (f7 : BufTy.Contents (Elt F) arg7.view.ty) :
    run.sl.H13_16 arg2 arg6 arg7 f2 f6 f7 = LQ (arg2.view.read (Elt F) f2) (arg6.view.read (Elt F) f6) (arg7.view.read (Elt F) f7) := rfl

theorem H14_eq (arg3 : Memref sig .tc .vmem S1x2048x256 .bf16) (arg8 arg9 : Memref sig .tc .vmem S2048x128 .f32)
    (f3 : BufTy.Contents (Elt F) arg3.view.ty) (f8 : BufTy.Contents (Elt F) arg8.view.ty) (f9 : BufTy.Contents (Elt F) arg9.view.ty) :
    run.sl.H14_32 arg3 arg8 arg9 f3 f8 f9 = LK (arg3.view.read (Elt F) f3) (arg8.view.read (Elt F) f8) (arg9.view.read (Elt F) f9) := rfl

theorem H15_eq (arg4 : Memref sig .tc .vmem S1x2048x256 .bf16) (f4 : BufTy.Contents (Elt F) arg4.view.ty) :
    run.sl.H15_18 arg4 f4 = LV (arg4.view.read (Elt F) f4) := rfl

/-- The queries, the keys and the transposed values the work buffers hold. -/
noncomputable def qArr (x : Vec F S1x2048x256 .bf16) (c s : Vec F S2048x128 .f32) : Vec F S2x2048x128 .bf16 := View.canon (LQ x c s)
noncomputable def kArr (x : Vec F S1x2048x256 .bf16) (c s : Vec F S2048x128 .f32) : Vec F S2x2x2048x128 .bf16 := View.canon (LK x c s)
noncomputable def vArr (x : Vec F S1x2048x256 .bf16) : Vec F S2x144x2048 .bf16 := View.canon (LV x)

/-! One item: a head and 256 of the rows. -/

noncomputable def qAt (Q : Vec F S2x2048x128 .bf16) (j : Fin 16) : Vec F S1x256x128 .bf16 :=
  View.ld Q (Rect.unit (s := S2x2048x128) ![j.val / 8, j.val % 8 * 256, 0] S1x256x128.size (by revert j; decide))
noncomputable def kAt0 (K : Vec F S2x2x2048x128 .bf16) (j : Fin 16) : Vec F S1x1x2048x128 .bf16 :=
  View.ld K (Rect.unit (s := S2x2x2048x128) ![j.val / 8, 0, 0, 0] S1x1x2048x128.size (by revert j; decide))
noncomputable def kAt1 (K : Vec F S2x2x2048x128 .bf16) (j : Fin 16) : Vec F S1x1x2048x128 .bf16 :=
  View.ld K (Rect.unit (s := S2x2x2048x128) ![j.val / 8, 1, 0, 0] S1x1x2048x128.size (by revert j; decide))
noncomputable def vAt (V : Vec F S2x144x2048 .bf16) (j : Fin 16) : Vec F S1x144x2048 .bf16 :=
  View.ld V (Rect.unit (s := S2x144x2048) ![j.val / 8, 0, 0] S1x144x2048.size (by revert j; decide))
noncomputable def gAt (G : Vec F S1x2048x256 .bf16) (j : Fin 16) : Vec F S1x256x128 .bf16 :=
  View.ld G (Rect.unit (s := S1x2048x256) ![0, j.val % 8 * 256, j.val / 8 * 128] S1x256x128.size (by revert j; decide))

/-- The scores of 256 queries against all the keys. -/
noncomputable def sc (q : Vec F S1x256x128 .bf16) (k : Vec F S1x1x2048x128 .bf16) : Vec F S1x2048x256 .f32 :=
  shapeCast S1x2048x256 (matmul dot_S2048x128_S256x128_S2048x256_1_1_0_0_n_n none
    (shapeCast S2048x128 k shapeCasts_S1x1x2048x128_S2048x128) (shapeCast S256x128 q shapeCasts_S1x256x128_S256x128)
    (constant S2048x256 .f32 0x00000000#32)) shapeCasts_S2048x256_S1x2048x256

/-- The exponentials of the scores less their maximum. -/
noncomputable def ex (s : Vec F S1x2048x256 .f32) : FVec F S2048x256 .bf16 :=
  let s2 : FVec F S2048x256 .f32 := shapeCast S2048x256 s shapeCasts_S1x2048x256_S2048x256
  let m : FVec F S256 .f32 := multiReduction .maximumf [0] S256 s2 0xFF800000#32 reduces_S2048x256_S256 (.inl rfl) rfl
  truncf .bf16 (exp2 (subf s2 (broadcastTo S2048x256 (shapeCast S1x256 m shapeCasts_S256_S1x256) broadcasts_S1x256_S2048x256))) bitsLt_bf16_f32

/-- The values weighted by the exponentials, over the exponentials' sum. -/
noncomputable def halfP (s : Vec F S1x2048x256 .f32) (v : Vec F S1x144x2048 .bf16) : FVec F S128x256 .f32 :=
  let acc : FVec F S144x256 .f32 := matmul dot_S144x2048_S2048x256_S144x256_1_0_0_1_n_n none
    (shapeCast S144x2048 v shapeCasts_S1x144x2048_S144x2048) (ex s) (constant S144x256 .f32 0x00000000#32)
  mulf (extractStridedSlice S128x256 ![0, 0] acc slices_S144x256_o0_0_S128x256)
    (broadcastTo S128x256 (divf (broadcast S1x256 (Scalar.ofBits .f32 0x3F800000#32)) (extractStridedSlice S1x256 ![128, 0] acc slices_S144x256_o128_0_S1x256)) broadcasts_S1x256_S128x256)

/-- The difference of the two weighted sums, a row per query. -/
noncomputable def ot (lam : FVec F S1x1 .f32) (p0 p1 : FVec F S128x256 .f32) : FVec F S256x128 .f32 := k0_pay192 lam p0 p1

/-- One item from its two score tiles. -/
noncomputable def outT (s0 s1 : Vec F S1x2048x256 .f32) (v : Vec F S1x144x2048 .bf16) (lam : FVec F S1x1 .f32) (sub : Vec F S1x128 .f32)
    (g : Vec F S1x256x128 .bf16) : Vec F S1x256x128 .bf16 :=
  k0_pay180 (ot lam (halfP s0 v) (halfP s1 v)) (mulf (ot lam (halfP s0 v) (halfP s1 v)) (ot lam (halfP s0 v) (halfP s1 v))) sub g

noncomputable def sc0 (Q : Vec F S2x2048x128 .bf16) (K : Vec F S2x2x2048x128 .bf16) (j : Fin 16) : Vec F S1x2048x256 .f32 := sc (qAt Q j) (kAt0 K j)
noncomputable def sc1 (Q : Vec F S2x2048x128 .bf16) (K : Vec F S2x2x2048x128 .bf16) (j : Fin 16) : Vec F S1x2048x256 .f32 := sc (qAt Q j) (kAt1 K j)

/-- One item, stored where it belongs in the block. -/
noncomputable def pcOf (j : Fin 16) (s0 s1 : Vec F S1x2048x256 .f32) (V : Vec F S2x144x2048 .bf16) (lam : FVec F S1x1 .f32)
    (sub : Vec F S1x128 .f32) (G : Vec F S1x2048x256 .bf16) : View.Piece (Elt F) S1x2048x256 .bf16 :=
  ⟨Rect.unit ![0, j.val % 8 * 256, j.val / 8 * 128] S1x256x128.size (by revert j; decide), outT s0 s1 (vAt V j) lam sub (gAt G j)⟩

noncomputable def pc (Q : Vec F S2x2048x128 .bf16) (K : Vec F S2x2x2048x128 .bf16) (V : Vec F S2x144x2048 .bf16) (lam : FVec F S1x1 .f32)
    (sub : Vec F S1x128 .f32) (G : Vec F S1x2048x256 .bf16) (j : Fin 16) : View.Piece (Elt F) S1x2048x256 .bf16 :=
  pcOf j (sc0 Q K j) (sc1 Q K j) V lam sub G

/-- The factor of the second attention, from the four learned vectors. -/
noncomputable def lamOf (l : Vec F S4x64 .f32) : FVec F S1x1 .f32 :=
  addf (subf
    (exp (shapeCast S1x1 (multiReduction .add [1] S1 (mulf (extractStridedSlice S1x64 ![0, 0] l slices_S4x64_o0_0_S1x64) (extractStridedSlice S1x64 ![1, 0] l slices_S4x64_o1_0_S1x64)) 0x00000000#32 reduces_S1x64_S1 (.inl rfl) rfl) shapeCasts_S1_S1x1))
    (exp (shapeCast S1x1 (multiReduction .add [1] S1 (mulf (extractStridedSlice S1x64 ![2, 0] l slices_S4x64_o2_0_S1x64) (extractStridedSlice S1x64 ![3, 0] l slices_S4x64_o3_0_S1x64)) 0x00000000#32 reduces_S1x64_S1 (.inl rfl) rfl) shapeCasts_S1_S1x1)))
    (broadcast S1x1 (Scalar.ofBits .f32 0x3E4CCCCD#32))

end Cert.KernelIdeal.Diff

end
-- ==== Proof.DiffSpec.lean ====
/- The differential attention at an index, over the extended reals: the kernel's way and the reference's. -/
module

public import Idealize.ShloMosaic.PureOps.Ideal
public import Idealize.ShloMosaic.PureOps.Ideal.Laws

@[expose] public section

noncomputable section

namespace Cert.Attn

open Idealize.ShloMosaic

/-! ## The kernel's way -/

/-- A row of a head's 128 lanes, normalised in groups of 64 by a product with a matrix, and rotated by another. -/
def nrK (sg sw : Fin 128 → Fin 128 → EReal) (x co si : Fin 128 → EReal) (l : Fin 128) : EReal :=
  Ideal.rsqrt ((∑ a, x a * x a * sg a l) * Ideal.ofBits FTy.f32 0x3C800000#32 + Ideal.ofBits FTy.f32 0x358637BD#32)
    * (x l * co l + (∑ a, x a * sw a l) * si l)

/-- The two matrices: same group of 64, and the exchange of halves in every group. -/
def sgK (a b : Fin 128) : EReal := if a.val / 64 = b.val / 64 then 1 else 0
def swK (a b : Fin 128) : EReal := if a.val ^^^ 32 = b.val then 1 else 0

/-- The exponential to base two of a score less the greatest. -/
def exK (s : Fin 2048 → EReal) (k : Fin 2048) : EReal :=
  Ideal.exp2 (s k - Finset.univ.fold max (Ideal.ofBits FTy.f32 0xFF800000#32) s)

/-- The values weighted by the exponentials, times the reciprocal of their sum. -/
def halfK (e v : Fin 2048 → EReal) : EReal :=
  (∑ k, v k * e k) * Ideal.div (Ideal.ofBits FTy.f32 0x3F800000#32) (∑ k, 1 * e k)

/-- A row normalised, times its weights and the constant of word `cs`. -/
def subK (cs : BitVec 32) (o sb : Fin 128 → EReal) (l : Fin 128) : EReal :=
  o l * Ideal.rsqrt (Ideal.div (∑ a, o a * o a) (Ideal.ofBits FTy.f32 0x43000000#32) + Ideal.ofBits FTy.f32 0x358637BD#32) * sb l
    * Ideal.ofBits FTy.f32 cs

/-- The gate from a half of its argument. -/
def gateK (g : EReal) : EReal :=
  Ideal.ofBits FTy.f32 0x3F000000#32 * g * Ideal.tanh (Ideal.ofBits FTy.f32 0x3F000000#32 * g) + Ideal.ofBits FTy.f32 0x3F000000#32 * g

/-- The scores of one query with every key, the keys of one component kept. -/
def scK (c : Fin 2) (q : Fin 128 → EReal) (k : Fin 2048 → Fin 128 → EReal) (κ : Fin 2048) : EReal :=
  ∑ l : Fin 128, (if l.val / 64 = c.val then k κ l else 0) * q l

/-- The difference of the two attentions at a lane. -/
def otK (lam : EReal) (q : Fin 128 → EReal) (k v : Fin 2048 → Fin 128 → EReal) (l : Fin 128) : EReal :=
  halfK (exK (scK 0 q k)) (fun κ => v κ l) - lam * halfK (exK (scK 1 q k)) (fun κ => v κ l)

/-- One head's result for one query, from the rows of that head: the query's, the keys', the values', the gate's, and the
    tables' rows. -/
def headK (cs : BitVec 32) (lam : EReal) (q : Fin 128 → EReal) (k v : Fin 2048 → Fin 128 → EReal) (g : Fin 128 → EReal)
    (qc qs : Fin 128 → EReal) (kc ks : Fin 2048 → Fin 128 → EReal) (sb : Fin 128 → EReal) (l : Fin 128) : EReal :=
  subK cs (otK lam (fun a => nrK sgK swK q qc qs a * (((1 / 8) * (Real.log 2)⁻¹ : ℝ) : EReal))
    (fun κ => nrK sgK swK (k κ) (kc κ) (ks κ)) v) sb l * gateK (g l)

/-! ## The reference's way -/

/-- A group of 64 normalised, times its weights. -/
def nmR (x w : Fin 64 → EReal) (d : Fin 64) : EReal :=
  x d * Ideal.rsqrt (Ideal.div (∑ a, x a * x a) (Ideal.ofBits FTy.f32 0x42800000#32) + Ideal.ofBits FTy.f32 0x358637BD#32) * w d

/-- A group rotated. -/
def rpR (y : Fin 64 → EReal) (co si : Fin 32 → EReal) (d : Fin 64) : EReal :=
  if h : d.val < 32 then y d * co ⟨d, h⟩ - y ⟨32 + d, by omega⟩ * si ⟨d, h⟩
  else y d * co ⟨d - 32, by omega⟩ + y ⟨d - 32, by omega⟩ * si ⟨d - 32, by omega⟩

theorem rpR_lo (y : Fin 64 → EReal) (co si : Fin 32 → EReal) (d : Fin 32) :
    rpR y co si ⟨d, by omega⟩ = y ⟨d, by omega⟩ * co d - y ⟨32 + d, by omega⟩ * si d := by
  unfold rpR; rw [dif_pos d.isLt]
theorem rpR_hi (y : Fin 64 → EReal) (co si : Fin 32 → EReal) (d : Fin 32) :
    rpR y co si ⟨32 + d, by omega⟩ = y ⟨32 + d, by omega⟩ * co d + y ⟨d, by omega⟩ * si d := by
  have e : (⟨32 + d.val - 32, by omega⟩ : Fin 32) = d := Fin.ext (by show 32 + d.val - 32 = d.val; omega)
  have e' : (⟨32 + d.val - 32, by omega⟩ : Fin 64) = ⟨d, by omega⟩ := Fin.ext (by show 32 + d.val - 32 = d.val; omega)
  unfold rpR; rw [dif_neg (by show ¬ 32 + d.val < 32; omega)]
  rw [e, e']

theorem sum64 (f : Fin 64 → EReal) : ∑ d, f d = ∑ x : Fin 32, f ⟨x, by omega⟩ + ∑ x : Fin 32, f ⟨32 + x, by omega⟩ :=
  Fin.sum_univ_add (a := 32) (b := 32) f

/-- The lane of a head that a component's position is. -/
def lane (c : Fin 2) (d : Fin 64) : Fin 128 := ⟨c * 64 + d, by omega⟩

/-- The scores of one query with every key, for one component. -/
def scR (q k : Fin 64 → EReal) : EReal :=
  ∑ d, q d * Ideal.ofBits FTy.f32 0x3E000000#32 * k d

/-- The softmax of the scores. -/
def exR (s : Fin 2048 → EReal) (k : Fin 2048) : EReal :=
  Ideal.exp (s k - max (Ideal.ofBits FTy.f32 0xFF800000#32) (Finset.univ.fold max (Ideal.ofBits FTy.f32 0xFF800000#32) s))
def smR (s : Fin 2048 → EReal) (k : Fin 2048) : EReal := Ideal.div (exR s k) (∑ κ, exR s κ)

/-- The factor of the second attention, `cl` the word of its initial value. -/
def lamR (cl : BitVec 32) (x : Fin 4 → Fin 64 → EReal) : EReal :=
  Ideal.exp (∑ d, x 0 d * x 1 d) - Ideal.exp (∑ d, x 2 d * x 3 d) + Ideal.ofBits FTy.f32 cl

/-- The difference of the two attentions at a lane. -/
def otR (lam : EReal) (s0 s1 : Fin 2048 → EReal) (v : Fin 2048 → EReal) : EReal :=
  ∑ k, (smR s0 k - lam * smR s1 k) * v k

/-- The gate. -/
def gateR (g : EReal) : EReal :=
  g * Ideal.div (Ideal.ofBits FTy.f32 0x3F800000#32) (Ideal.ofBits FTy.f32 0x3F800000#32 + Ideal.exp (-g))

/-- The scores from the rows of the head. -/
def scoreR (q : Fin 128 → EReal) (k : Fin 2048 → Fin 128 → EReal) (wq wk : Fin 64 → EReal) (co si : Fin 2048 → Fin 32 → EReal)
    (p : Fin 2048) (c : Fin 2) (κ : Fin 2048) : EReal :=
  scR (rpR (nmR (fun d => q (lane c d)) wq) (co p) (si p)) (rpR (nmR (fun d => k κ (lane c d)) wk) (co κ) (si κ))

/-- One head's result for the query of row `p`. -/
def headR (cs : BitVec 32) (lam : EReal) (q : Fin 128 → EReal) (k v : Fin 2048 → Fin 128 → EReal) (g : Fin 128 → EReal)
    (wq wk : Fin 64 → EReal) (co si : Fin 2048 → Fin 32 → EReal) (sb : Fin 128 → EReal) (p : Fin 2048) (l : Fin 128) : EReal :=
  subK cs (fun a => otR lam (scoreR q k wq wk co si p 0) (scoreR q k wq wk co si p 1) (fun κ => v κ a)) sb l * gateR (g l)

/-! ## The tables and the columns -/

/-- The angle at a position and a frequency. -/
def ang (p : Fin 2048) (f : Fin 32) : EReal :=
  (FloatOps.sitofp FTy.f32 (BitVec.ofNat 32 p.val) : Ideal .f32) * Ideal.pow (Ideal.ofBits FTy.f32 0x461C4000#32)
    (Ideal.div (-(Ideal.ofBits FTy.f32 0x40000000#32 * (FloatOps.sitofp FTy.f32 (BitVec.ofNat 32 f.val) : Ideal .f32))) (Ideal.ofBits FTy.f32 0x42800000#32))

/-- The input's column of a part, a head and a lane. -/
def ucol (part h : Fin 4) (l : Fin 128) : Fin 6656 := ⟨2560 + part * 512 + h * 128 + l, by omega⟩

/-- The kernel's tables: cosines and signed sines at a lane, times the norm's weights there. -/
def coT (w : Fin 64 → EReal) (p : Fin 2048) (l : Fin 128) : EReal := Ideal.cos (ang p ⟨l % 32, by omega⟩) * w ⟨l % 64, by omega⟩
def siT (w : Fin 64 → EReal) (p : Fin 2048) (l : Fin 128) : EReal :=
  (if l.val % 64 < 32 then -Ideal.sin (ang p ⟨l % 32, by omega⟩) else Ideal.sin (ang p ⟨l % 32, by omega⟩)) * w ⟨(l + 32) % 64, by omega⟩

end Cert.Attn

end
-- ==== Proof.DiffTileVal.lean ====
/- What one grid point computes, at an index, over the extended reals. -/
module

public import proofs.«01_k».proof.Proof.DiffTiles
public import proofs.«01_k».proof.Proof.DiffSpec
public import Idealize.ShloMosaic.Lib.Pointwise

@[expose] public section

set_option maxRecDepth 16384

noncomputable section

namespace Cert.KernelIdeal.Diff

open Cert.KernelIdeal Cert.KernelIdeal.Gen Cert.Attn Idealize.ShloMosaic Idealize.ShloMosaic.TcCoe Idealize.SL.Sem
open Idealize.ShloMosaic.Pointwise

theorem seg_eq : (seg (F := Ideal)) = k0_pay22 k0_pay17 k0_pay18 k0_pay19 k0_pay20 k0_pay21 := rfl
theorem swp_eq : (swp (F := Ideal)) = k0_pay24 := rfl
theorem half_eq : half = k0_pay23 := rfl

theorem cmpi_ofNat (x y : ℕ) (hx : x < 128) (hy : y < 128) : IntOp.cmpi .eq (BitVec.ofNat 32 x) (BitVec.ofNat 32 y) = if x = y then 1#1 else 0#1 := by
  have h : ∀ x y : Fin 128, IntOp.cmpi .eq (BitVec.ofNat 32 x.val) (BitVec.ofNat 32 y.val) = if x.val = y.val then 1#1 else 0#1 := by
    intro x y
    by_cases e : x.val = y.val
    · rw [if_pos e, e]; simp [IntOp.cmpi]
    · rw [if_neg e]
      have : BitVec.ofNat 32 x.val ≠ BitVec.ofNat 32 y.val := fun hh => e (by
        have := congrArg BitVec.toNat hh
        rw [BitVec.toNat_ofNat, BitVec.toNat_ofNat, Nat.mod_eq_of_lt (by omega), Nat.mod_eq_of_lt (by omega)] at this
        exact this)
      show BitVec.ofBool (BitVec.ofNat 32 x.val == BitVec.ofNat 32 y.val) = 0#1
      rw [beq_eq_false_iff_ne.mpr this]; rfl
  exact h ⟨x, hx⟩ ⟨y, hy⟩

theorem xori_ofNat (a : Fin 128) : IntOp.xori (BitVec.ofNat 32 a.val) 32#32 = BitVec.ofNat 32 (a.val ^^^ 32) := by
  revert a; decide

theorem rows_apply (a b : Fin 128) : k0_pay17 (ix2 a b) = BitVec.ofNat 32 (a.val / 64) := by
  pointwise [k0_pay17]
  revert a; decide

theorem cols_apply (a b : Fin 128) :
    Scalar.select (IntOp.andi (k0_pay19 (ix2 a b)) (IntOp.cmpi .ne (k0_pay20 (ix2 a b)) (k0_pay21 (ix2 a b)))) (IntOp.subi (k0_pay18 (ix2 a b)) 1#32) (k0_pay18 (ix2 a b)) = BitVec.ofNat 32 (b.val / 64) := by
  pointwise [k0_pay18, k0_pay19, k0_pay20, k0_pay21]
  revert b; decide

theorem seg_apply (a b : Fin 128) : (seg (F := Ideal)) (ix2 a b) = sgK a b := by
  rw [seg_eq]
  pointwise [k0_pay22]
  rw [rows_apply, cols_apply, cmpi_ofNat _ _ (by omega) (by omega)]
  unfold sgK
  by_cases h : a.val / 64 = b.val / 64
  · rw [if_pos h, if_pos h]; rfl
  · rw [if_neg h, if_neg h]; rfl

theorem swp_apply (a b : Fin 128) : (swp (F := Ideal)) (ix2 a b) = swK a b := by
  rw [swp_eq]
  pointwise [k0_pay24]
  have hx : a.val ^^^ 32 < 128 := Nat.xor_lt_two_pow (n := 7) a.isLt (by decide)
  rw [xori_ofNat, cmpi_ofNat _ _ (by omega) (by omega)]
  unfold swK
  by_cases h : a.val ^^^ 32 = b.val
  · rw [if_pos h, if_pos h]; rfl
  · rw [if_neg h, if_neg h]; rfl

theorem half_apply (r : Fin 256) (l : Fin 128) : half (ix2 r l) = if l.val < 64 then 1#1 else 0#1 := by
  rw [half_eq]
  pointwise [k0_pay23]
  revert l; decide

theorem pay107_apply (sg sw : FVec Ideal S128x128 .bf16) (x : Vec Ideal S1x256x128 .bf16) (co si : Vec Ideal S256x128 .f32) (r : Fin 256) (l : Fin 128) :
    k0_pay107 sg sw x co si (ix2 r l) = nrK (fun a b => sg (ix2 a b)) (fun a b => sw (ix2 a b)) (fun a => x (ix3 0 r a)) (fun a => co (ix2 r a)) (fun a => si (ix2 r a)) l := by
  pointwise [k0_pay107]
  rfl

theorem pay107_seg (x : Vec Ideal S1x256x128 .bf16) (co si : Vec Ideal S256x128 .f32) (r : Fin 256) (l : Fin 128) :
    k0_pay107 (seg (F := Ideal)) (swp (F := Ideal)) x co si (ix2 r l) = nrK sgK swK (fun a => x (ix3 0 r a)) (fun a => co (ix2 r a)) (fun a => si (ix2 r a)) l := by
  rw [pay107_apply]
  simp only [seg_apply, swp_apply]

theorem qT_apply (x : Vec Ideal S1x256x128 .bf16) (co si : Vec Ideal S256x128 .f32) (r : Fin 256) (l : Fin 128) :
    qT x co si (ix3 0 r l) = nrK sgK swK (fun a => x (ix3 0 r a)) (fun a => co (ix2 r a)) (fun a => si (ix2 r a)) l
      * (((1 / 8) * (Real.log 2)⁻¹ : ℝ) : EReal) := by
  have e : ∀ sg sw : FVec Ideal S128x128 .bf16, k0_pay112 sg sw x co si (ix3 0 r l) = nrK (fun a b => sg (ix2 a b)) (fun a b => sw (ix2 a b)) (fun a => x (ix3 0 r a)) (fun a => co (ix2 r a)) (fun a => si (ix2 r a)) l
      * (((1 / 8) * (Real.log 2)⁻¹ : ℝ) : EReal) := by
    intro sg sw
    pointwise [k0_pay112]
    rfl
  unfold qT
  rw [e]
  simp only [seg_apply, swp_apply]

theorem vT_apply (x : Vec Ideal S1x256x128 .bf16) (r : Fin 256) (l : Fin 128) :
    vT x (ix3 0 l r) = x (ix3 0 r l) := by
  unfold vT
  pointwise [k0_pay111]

theorem kT0_apply (x : Vec Ideal S1x256x128 .bf16) (co si : Vec Ideal S256x128 .f32) (r : Fin 256) (l : Fin 128) :
    kT0 x co si (ix4 0 0 r l) = if l.val / 64 = (0 : Fin 2).val then nrK sgK swK (fun a => x (ix3 0 r a)) (fun a => co (ix2 r a)) (fun a => si (ix2 r a)) l else 0 := by
  unfold kT0
  pointwise [k0_pay108]
  rw [pay107_seg, half_apply]
  by_cases h : l.val < 64
  · rw [if_pos h, if_pos (by show l.val / 64 = 0; omega)]; rfl
  · rw [if_neg h, if_neg (by show ¬ l.val / 64 = 0; omega)]; rfl

theorem kT1_apply (x : Vec Ideal S1x256x128 .bf16) (co si : Vec Ideal S256x128 .f32) (r : Fin 256) (l : Fin 128) :
    kT1 x co si (ix4 0 0 r l) = if l.val / 64 = (1 : Fin 2).val then nrK sgK swK (fun a => x (ix3 0 r a)) (fun a => co (ix2 r a)) (fun a => si (ix2 r a)) l else 0 := by
  unfold kT1
  pointwise
  rw [pay107_seg, half_apply]
  by_cases h : l.val < 64
  · rw [if_pos h, if_neg (by show ¬ l.val / 64 = 1; omega)]; rfl
  · rw [if_neg h, if_pos (by show l.val / 64 = 1; omega)]; rfl

theorem ex_apply (s : Vec Ideal S1x2048x256 .f32) (k : Fin 2048) (r : Fin 256) :
    ex s (ix2 k r) = exK (fun κ => s (ix3 0 κ r)) k := by
  have e : ∀ x : EReal, (FloatOps.exp2 (x : Ideal .f32) : Ideal .f32) = Ideal.exp2 x := fun _ => rfl
  unfold ex exK
  pointwise
  exact e _

theorem halfP_apply (s : Vec Ideal S1x2048x256 .f32) (v : Vec Ideal S1x144x2048 .bf16) (r : Fin 256) (l : Fin 128) :
    halfP s v (ix2 l r) = (∑ k : Fin 2048, v (ix3 0 (⟨l, by omega⟩ : Fin 144) k) * ex s (ix2 k r)) * Ideal.div (Ideal.ofBits FTy.f32 0x3F800000#32) (∑ k : Fin 2048, v (ix3 0 (128 : Fin 144) k) * ex s (ix2 k r)) := by
  unfold halfP
  pointwise

theorem sc_apply (q : Vec Ideal S1x256x128 .bf16) (k : Vec Ideal S1x1x2048x128 .bf16) (κ : Fin 2048) (r : Fin 256) :
    sc q k (ix3 0 κ r) = ∑ l : Fin 128, k (ix4 0 0 κ l) * q (ix3 0 r l) := by
  unfold sc
  pointwise

theorem ot_apply (lam : FVec Ideal S1x1 .f32) (p0 p1 : FVec Ideal S128x256 .f32) (r : Fin 256) (l : Fin 128) :
    ot lam p0 p1 (ix2 r l) = p0 (ix2 l r) - lam (ix2 0 0) * p1 (ix2 l r) := by
  unfold ot
  pointwise [k0_pay192]

theorem lamOf_apply (x : Vec Ideal S4x64 .f32) : lamOf x (ix2 0 0) = lamR 0x3E4CCCCD#32 fun a d => x (ix2 a d) := by
  unfold lamOf lamR
  pointwise

theorem pay180_apply (o : FVec Ideal S256x128 .f32) (sub : Vec Ideal S1x128 .f32) (g : Vec Ideal S1x256x128 .bf16) (r : Fin 256) (l : Fin 128) :
    k0_pay180 o (mulf o o) sub g (ix3 0 r l) = subK 0x3F4CCCCD#32 (fun a => o (ix2 r a)) (fun a => sub (ix2 0 a)) l * gateK (g (ix3 0 r l)) := by
  unfold subK gateK
  pointwise [k0_pay180]

end Cert.KernelIdeal.Diff

end
-- ==== Proof.DiffLoop.lean ====
module

public import proofs.«01_k».proof.Proof.DiffTiles
public import proofs.«01_k».proof.Proof.Gen.KernelIdeal.Frame
public import proofs.«01_k».proof.Proof.Gen.KernelIdeal.Loops
public import Idealize.ShloMosaic.Lib.Exec
public import Idealize.ShloMosaic.Lib.Tactic

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

theorem trips_eq : k0_t1_loop.trips = 7 := by decide +kernel

/-- The item a trip works on: its first, its second, and the one whose scores it prepares. -/
def it (k : Fin k0_t1_loop.trips) (b : Nat) (hb : b ≤ 3) : Fin 16 := ⟨2 * k.val + b, by have := Nat.lt_of_lt_of_eq k.isLt trips_eq; omega⟩

section Offsets

theorem off7_1 : ∀ k : Fin k0_t1_loop.trips, k0_off7 k 1#32 = ![(it k 1 (by omega)).val / 8, (it k 1 (by omega)).val % 8 * 256, 0] := by decide +kernel
theorem off7_2 : ∀ k : Fin k0_t1_loop.trips, k0_off7 k 2#32 = ![(it k 2 (by omega)).val / 8, (it k 2 (by omega)).val % 8 * 256, 0] := by decide +kernel
theorem off8_1 : ∀ k : Fin k0_t1_loop.trips, k0_off8 k 1#32 = ![(it k 1 (by omega)).val / 8, 0, 0, 0] := by decide +kernel
theorem off8_2 : ∀ k : Fin k0_t1_loop.trips, k0_off8 k 2#32 = ![(it k 2 (by omega)).val / 8, 0, 0, 0] := by decide +kernel
theorem off9_1 : ∀ k : Fin k0_t1_loop.trips, k0_off9 k 1#32 = ![(it k 1 (by omega)).val / 8, 1, 0, 0] := by decide +kernel
theorem off9_2 : ∀ k : Fin k0_t1_loop.trips, k0_off9 k 2#32 = ![(it k 2 (by omega)).val / 8, 1, 0, 0] := by decide +kernel
theorem off10 : ∀ k : Fin k0_t1_loop.trips, k0_off10 k = ![(it k 0 (by omega)).val / 8, 0, 0] := by decide +kernel
theorem off12 : ∀ k : Fin k0_t1_loop.trips, k0_off12 k = ![(it k 1 (by omega)).val / 8, 0, 0] := by decide +kernel
theorem off11 : ∀ k : Fin k0_t1_loop.trips, k0_off11 k = ![0, (it k 0 (by omega)).val % 8 * 256, (it k 0 (by omega)).val / 8 * 128] := by decide +kernel
theorem off13 : ∀ k : Fin k0_t1_loop.trips, k0_off13 k = ![0, (it k 1 (by omega)).val % 8 * 256, (it k 1 (by omega)).val / 8 * 128] := by decide +kernel

end Offsets

theorem ld_congr {S : Shape} {e : EltTy} (X : S.Idx → Elt F e) {off off' size : Fin S.rank → Nat} (h : off = off')
    (inb : ∀ a, off a + size a ≤ S.size a) (inb' : ∀ a, off' a + size a ≤ S.size a) :
    (View.ld X (Rect.unit off size inb) : (⟨S.rank, size⟩ : Shape).Idx → Elt F e) = View.ld X (Rect.unit off' size inb') := by
  subst h; rfl

theorem piece_congr {S : Shape} {e : EltTy} {off off' size : Fin S.rank → Nat} (h : off = off')
    (inb : ∀ a, off a + size a ≤ S.size a) (inb' : ∀ a, off' a + size a ≤ S.size a)
    {w w' : (⟨S.rank, size⟩ : Shape).Idx → Elt F e} (hw : w = w') :
    (⟨Rect.unit off size inb, w⟩ : View.Piece (Elt F) S e) = ⟨Rect.unit off' size inb', w'⟩ := by
  subst h; subst hw; rfl

theorem two_congr {α : Type} {a a' b b' : α} (h1 : a = a') (h2 : b = b') : [a, b] = [a', b'] := by rw [h1, h2]

/-- The two tiles of a score buffer. -/
abbrev R0 : Rect S2x2048x256 := Rect.unit ![0, 0, 0] S1x2048x256.size (by decide)
abbrev R1 : Rect S2x2048x256 := Rect.unit ![1, 0, 0] S1x2048x256.size (by decide)

theorem canon_R1 (w1 : Vec F S1x2048x256 .f32) (L : List (View.Piece (Elt F) S2x2048x256 .f32)) :
    (fun j => View.canon (⟨R1, w1⟩ :: L) (R1.toLoadRect.idx j)) = w1 := by
  funext j
  exact View.canon_cons_emb R1 w1 L j

theorem canon_R0 (w1 w0 : Vec F S1x2048x256 .f32) (L : List (View.Piece (Elt F) S2x2048x256 .f32)) :
    (fun j => View.canon (⟨R1, w1⟩ :: ⟨R0, w0⟩ :: L) (R0.toLoadRect.idx j)) = w0 := by
  funext j
  rw [View.canon_cons_of_not_mem]
  · exact View.canon_cons_emb R0 w0 L j
  · intro h
    rw [Rect.mem_set_unit] at h
    have h0 := (h 0).1
    have : ((R0.toLoadRect.idx j) 0).val = 0 + 1 * (j 0).val := rfl
    have hj : (j 0).val < 1 := (j 0).isLt
    rw [this] at h0
    have : (1 : Nat) ≤ 0 + 1 * (j 0).val := h0
    omega

/-- The items stored by the first trips, the last first. -/
noncomputable def outP (Q : Vec F S2x2048x128 .bf16) (K : Vec F S2x2x2048x128 .bf16) (V : Vec F S2x144x2048 .bf16) (lam : FVec F S1x1 .f32)
    (sub : Vec F S1x128 .f32) (G : Vec F S1x2048x256 .bf16) : (n : Nat) → n ≤ 8 → List (View.Piece (Elt F) S1x2048x256 .bf16)
  | 0, _ => []
  | n + 1, h => pc Q K V lam sub G ⟨2 * n + 1, by omega⟩ :: pc Q K V lam sub G ⟨2 * n, by omega⟩ :: outP Q K V lam sub G n (by omega)

theorem score17_0 (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x2048x256 .bf16) (harg12 : arg12.IsWhole) (arg13 : Memref sig .tc .vmem S2x2048x128 .bf16) (harg13 : arg13.IsWhole) (arg14 : Memref sig .tc .vmem S2x2x2048x128 .bf16) (harg14 : arg14.IsWhole) (arg15 : Memref sig .tc .vmem S2x144x2048 .bf16) (harg15 : arg15.IsWhole) (arg16 : Memref sig .tc .vmem S2x2048x256 .f32) (harg16 : arg16.IsWhole) (arg17 : Memref sig .tc .vmem S2x2048x256 .f32) (harg17 : arg17.IsWhole) (X_arg13 : BufTy.Contents (Elt F) arg13.view.ty) (X_arg14 : BufTy.Contents (Elt F) arg14.view.ty) (k : Fin k0_t1_loop.trips) :
    trip_k0_t1.sl.v2314 arg13 arg14 arg17 X_arg13 X_arg14 k = sc0 (arg13.view.read (Elt F) X_arg13) (arg14.view.read (Elt F) X_arg14) (it k 1 (by omega)) := by
  unfold trip_k0_t1.sl.v2314
  rw [View.readCov_eq_canon']
  refine (canon_R0 _ _ _).trans ?_
  exact congrArg₂ sc (ld_congr _ (off7_1 k) _ _) (ld_congr _ (off8_1 k) _ _)

theorem score17_1 (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x2048x256 .bf16) (harg12 : arg12.IsWhole) (arg13 : Memref sig .tc .vmem S2x2048x128 .bf16) (harg13 : arg13.IsWhole) (arg14 : Memref sig .tc .vmem S2x2x2048x128 .bf16) (harg14 : arg14.IsWhole) (arg15 : Memref sig .tc .vmem S2x144x2048 .bf16) (harg15 : arg15.IsWhole) (arg16 : Memref sig .tc .vmem S2x2048x256 .f32) (harg16 : arg16.IsWhole) (arg17 : Memref sig .tc .vmem S2x2048x256 .f32) (harg17 : arg17.IsWhole) (X_arg13 : BufTy.Contents (Elt F) arg13.view.ty) (X_arg14 : BufTy.Contents (Elt F) arg14.view.ty) (k : Fin k0_t1_loop.trips) :
    trip_k0_t1.sl.v2332 arg13 arg14 arg17 X_arg13 X_arg14 k = sc1 (arg13.view.read (Elt F) X_arg13) (arg14.view.read (Elt F) X_arg14) (it k 1 (by omega)) := by
  unfold trip_k0_t1.sl.v2332
  rw [View.readCov_eq_canon']
  refine (canon_R1 _ _).trans ?_
  exact congrArg₂ sc (ld_congr _ (off7_1 k) _ _) (ld_congr _ (off9_1 k) _ _)

theorem trip_out (𝒱 : Variants) (c : Dev nD) (bd : Option 𝒱.V) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x2048x256 .bf16) (harg12 : arg12.IsWhole) (arg13 : Memref sig .tc .vmem S2x2048x128 .bf16) (harg13 : arg13.IsWhole) (arg14 : Memref sig .tc .vmem S2x2x2048x128 .bf16) (harg14 : arg14.IsWhole) (arg15 : Memref sig .tc .vmem S2x144x2048 .bf16) (harg15 : arg15.IsWhole) (arg16 : Memref sig .tc .vmem S2x2048x256 .f32) (harg16 : arg16.IsWhole) (arg17 : Memref sig .tc .vmem S2x2048x256 .f32) (harg17 : arg17.IsWhole) (v1896 : FVec F S1x1 .f32) (v1897 : FVec F S1x1 .f32) (X_arg5 : BufTy.Contents (Elt F) arg5.view.ty) (X_arg11 : BufTy.Contents (Elt F) arg11.view.ty) (X_arg13 : BufTy.Contents (Elt F) arg13.view.ty) (X_arg14 : BufTy.Contents (Elt F) arg14.view.ty) (X_arg15 : BufTy.Contents (Elt F) arg15.view.ty) (k : Fin k0_t1_loop.trips) (f_arg12 : BufTy.Contents (Elt F) arg12.view.ty) (f_arg16 : BufTy.Contents (Elt F) arg16.view.ty) (f_arg17 : BufTy.Contents (Elt F) arg17.view.ty)(s0 s1 : Vec F S1x2048x256 .f32)
    (h0 : arg16.view.readAt (Elt F) R0.toLoadRect f_arg16 = s0) (h1 : arg16.view.readAt (Elt F) R1.toLoadRect f_arg16 = s1) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 k).1 f_arg12 f_arg16 f_arg17
      = [pc (arg13.view.read (Elt F) X_arg13) (arg14.view.read (Elt F) X_arg14) (arg15.view.read (Elt F) X_arg15) (addf v1896 v1897) (View.ld (arg11.view.read (Elt F) X_arg11) (Rect.unit (s := S1x128) ![0, 0] S1x128.size inb_S1x128_S1x128_0_0)) (arg5.view.read (Elt F) X_arg5) (it k 1 (by omega)), pcOf (it k 0 (by omega)) s0 s1 (arg15.view.read (Elt F) X_arg15) (addf v1896 v1897) (View.ld (arg11.view.read (Elt F) X_arg11) (Rect.unit (s := S1x128) ![0, 0] S1x128.size inb_S1x128_S1x128_0_0)) (arg5.view.read (Elt F) X_arg5)] := by
  subst h0; subst h1
  unfold trip_k0_t1; dsimp only
  refine two_congr (piece_congr (F := F) (S := S1x2048x256) (e := .bf16) (size := S1x256x128.size) (off13 k) (k0_off13_inb k) _ ?_) (piece_congr (F := F) (S := S1x2048x256) (e := .bf16) (size := S1x256x128.size) (off11 k) (k0_off11_inb k) _ ?_)
  · refine Eq.trans (b := outT (trip_k0_t1.sl.v2314 arg13 arg14 arg17 X_arg13 X_arg14 k) (trip_k0_t1.sl.v2332 arg13 arg14 arg17 X_arg13 X_arg14 k)
      (View.ld (arg15.view.read (Elt F) X_arg15) (Rect.unit (s := S2x144x2048) (k0_off12 k) S1x144x2048.size (k0_off12_inb k))) (addf v1896 v1897) (View.ld (arg11.view.read (Elt F) X_arg11) (Rect.unit (s := S1x128) ![0, 0] S1x128.size inb_S1x128_S1x128_0_0))
      (View.ld (arg5.view.read (Elt F) X_arg5) (Rect.unit (s := S1x2048x256) (k0_off13 k) S1x256x128.size (k0_off13_inb k)))) rfl ?_
    rw [score17_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg13 X_arg14 k, score17_1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg13 X_arg14 k]
    exact congrArg₂ (fun v g => outT _ _ v _ _ g) (ld_congr _ (off12 k) _ _) (ld_congr _ (off13 k) _ _)
  · refine Eq.trans (b := outT (arg16.view.readAt (Elt F) R0.toLoadRect f_arg16) (arg16.view.readAt (Elt F) R1.toLoadRect f_arg16)
      (View.ld (arg15.view.read (Elt F) X_arg15) (Rect.unit (s := S2x144x2048) (k0_off10 k) S1x144x2048.size (k0_off10_inb k))) (addf v1896 v1897) (View.ld (arg11.view.read (Elt F) X_arg11) (Rect.unit (s := S1x128) ![0, 0] S1x128.size inb_S1x128_S1x128_0_0))
      (View.ld (arg5.view.read (Elt F) X_arg5) (Rect.unit (s := S1x2048x256) (k0_off11 k) S1x256x128.size (k0_off11_inb k)))) rfl ?_
    exact congrArg₂ (fun v g => outT _ _ v _ _ g) (ld_congr _ (off10 k) _ _) (ld_congr _ (off11 k) _ _)

theorem trip_sc (𝒱 : Variants) (c : Dev nD) (bd : Option 𝒱.V) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x2048x256 .bf16) (harg12 : arg12.IsWhole) (arg13 : Memref sig .tc .vmem S2x2048x128 .bf16) (harg13 : arg13.IsWhole) (arg14 : Memref sig .tc .vmem S2x2x2048x128 .bf16) (harg14 : arg14.IsWhole) (arg15 : Memref sig .tc .vmem S2x144x2048 .bf16) (harg15 : arg15.IsWhole) (arg16 : Memref sig .tc .vmem S2x2048x256 .f32) (harg16 : arg16.IsWhole) (arg17 : Memref sig .tc .vmem S2x2048x256 .f32) (harg17 : arg17.IsWhole) (v1896 : FVec F S1x1 .f32) (v1897 : FVec F S1x1 .f32) (X_arg5 : BufTy.Contents (Elt F) arg5.view.ty) (X_arg11 : BufTy.Contents (Elt F) arg11.view.ty) (X_arg13 : BufTy.Contents (Elt F) arg13.view.ty) (X_arg14 : BufTy.Contents (Elt F) arg14.view.ty) (X_arg15 : BufTy.Contents (Elt F) arg15.view.ty) (k : Fin k0_t1_loop.trips) (f_arg12 : BufTy.Contents (Elt F) arg12.view.ty) (f_arg16 : BufTy.Contents (Elt F) arg16.view.ty) (f_arg17 : BufTy.Contents (Elt F) arg17.view.ty):
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 k).2.1 f_arg12 f_arg16 f_arg17
      = [⟨R1, sc1 (arg13.view.read (Elt F) X_arg13) (arg14.view.read (Elt F) X_arg14) (it k 2 (by omega))⟩, ⟨R0, sc0 (arg13.view.read (Elt F) X_arg13) (arg14.view.read (Elt F) X_arg14) (it k 2 (by omega))⟩] := by
  unfold trip_k0_t1; dsimp only
  refine two_congr (piece_congr (F := F) (S := S2x2048x256) (e := .f32) (size := S1x2048x256.size) rfl _ _ ?_) (piece_congr (F := F) (S := S2x2048x256) (e := .f32) (size := S1x2048x256.size) rfl _ _ ?_)
  · exact congrArg₂ sc (ld_congr _ (off7_2 k) _ _) (ld_congr _ (off9_2 k) _ _)
  · exact congrArg₂ sc (ld_congr _ (off7_2 k) _ _) (ld_congr _ (off8_2 k) _ _)

/-- What the trips leave: two items each in the output block, and the scores of the next item. -/
theorem pb_eq (𝒱 : Variants) (c : Dev nD) (bd : Option 𝒱.V) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x2048x256 .bf16) (harg12 : arg12.IsWhole) (arg13 : Memref sig .tc .vmem S2x2048x128 .bf16) (harg13 : arg13.IsWhole) (arg14 : Memref sig .tc .vmem S2x2x2048x128 .bf16) (harg14 : arg14.IsWhole) (arg15 : Memref sig .tc .vmem S2x144x2048 .bf16) (harg15 : arg15.IsWhole) (arg16 : Memref sig .tc .vmem S2x2048x256 .f32) (harg16 : arg16.IsWhole) (arg17 : Memref sig .tc .vmem S2x2048x256 .f32) (harg17 : arg17.IsWhole) (v1896 : FVec F S1x1 .f32) (v1897 : FVec F S1x1 .f32) (X_arg5 : BufTy.Contents (Elt F) arg5.view.ty) (X_arg11 : BufTy.Contents (Elt F) arg11.view.ty) (X_arg13 : BufTy.Contents (Elt F) arg13.view.ty) (X_arg14 : BufTy.Contents (Elt F) arg14.view.ty) (X_arg15 : BufTy.Contents (Elt F) arg15.view.ty) (G12 : BufTy.Contents (Elt F) arg12.view.ty) (G17 : BufTy.Contents (Elt F) arg17.view.ty)
    (H16 : List (View.Piece (Elt F) S2x2048x256 .f32)) (h16 : H16 = [⟨R1, sc1 (arg13.view.read (Elt F) X_arg13) (arg14.view.read (Elt F) X_arg14) 0⟩, ⟨R0, sc0 (arg13.view.read (Elt F) X_arg13) (arg14.view.read (Elt F) X_arg14) 0⟩]) :
    ∀ (n : Nat) (hn : n ≤ 7),
      (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 G12 (arg16.view.writes (Elt F) arg16.view.junk H16) G17 n).1 = outP (arg13.view.read (Elt F) X_arg13) (arg14.view.read (Elt F) X_arg14) (arg15.view.read (Elt F) X_arg15) (addf v1896 v1897) (View.ld (arg11.view.read (Elt F) X_arg11) (Rect.unit (s := S1x128) ![0, 0] S1x128.size inb_S1x128_S1x128_0_0)) (arg5.view.read (Elt F) X_arg5) n (by omega)
      ∧ ∃ L, (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 G12 (arg16.view.writes (Elt F) arg16.view.junk H16) G17 n).2.1 ++ H16 = ⟨R1, sc1 (arg13.view.read (Elt F) X_arg13) (arg14.view.read (Elt F) X_arg14) ⟨2 * n, by omega⟩⟩ :: ⟨R0, sc0 (arg13.view.read (Elt F) X_arg13) (arg14.view.read (Elt F) X_arg14) ⟨2 * n, by omega⟩⟩ :: L
  | 0, _ => ⟨rfl, [], by rw [h16]; rfl⟩
  | n + 1, hn => by
    obtain ⟨ih1, L, ih2⟩ := pb_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 G12 G17 H16 h16 n (by omega)
    have hk : n < k0_t1_loop.trips := by rw [trips_eq]; omega
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 G12 (arg16.view.writes (Elt F) arg16.view.junk H16) G17 ⟨n, hk⟩
    have hs' : pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 G12 (arg16.view.writes (Elt F) arg16.view.junk H16) G17 (n + 1) = _ := hs
    rw [hs']
    have e0 : arg16.view.readAt (Elt F) R0.toLoadRect (arg16.view.writes (Elt F) (arg16.view.writes (Elt F) arg16.view.junk H16) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 G12 (arg16.view.writes (Elt F) arg16.view.junk H16) G17 n).2.1) = sc0 (arg13.view.read (Elt F) X_arg13) (arg14.view.read (Elt F) X_arg14) ⟨2 * n, by omega⟩ := by
      rw [← View.writes_append, ih2, View.readAt_writes_junk_eq_canon]
      exact canon_R0 _ _ _
    have e1 : arg16.view.readAt (Elt F) R1.toLoadRect (arg16.view.writes (Elt F) (arg16.view.writes (Elt F) arg16.view.junk H16) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 G12 (arg16.view.writes (Elt F) arg16.view.junk H16) G17 n).2.1) = sc1 (arg13.view.read (Elt F) X_arg13) (arg14.view.read (Elt F) X_arg14) ⟨2 * n, by omega⟩ := by
      rw [← View.writes_append, ih2, View.readAt_writes_junk_eq_canon]
      exact canon_R1 _ _
    refine ⟨?_, ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 G12 (arg16.view.writes (Elt F) arg16.view.junk H16) G17 n).2.1 ++ H16), ?_⟩
    · refine Eq.trans (congrArg₂ (· ++ ·) (trip_out 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 ⟨n, hk⟩ _ _ _ _ _ e0 e1) ih1) rfl
    · refine Eq.trans (congrArg (fun l => (l ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 G12 (arg16.view.writes (Elt F) arg16.view.junk H16) G17 n).2.1) ++ H16) (trip_sc 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 ⟨n, hk⟩ _ _ _)) ?_
      have hi : it ⟨n, hk⟩ 2 (by omega) = ⟨2 * (n + 1), by omega⟩ := Fin.ext (by show 2 * n + 2 = 2 * (n + 1); omega)
      rw [List.append_assoc, hi]
      rfl

end Cert.KernelIdeal.Diff

end
-- ==== Proof.DiffVal.lean ====
module

public import proofs.«01_k».proof.Proof.DiffLoop
public import Idealize.ShloMosaic.Lib.Claim
public import proofs.«01_k».proof.Proof.Gen.KernelIdeal.Frame
public import proofs.«01_k».proof.Proof.Gen.KernelIdeal.Loops
public import Idealize.ShloMosaic.Lib.Exec
public import Idealize.ShloMosaic.Lib.Tactic

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F] [Named F]

/-- The output block, from the blocks read: every item where it belongs. -/
noncomputable def outB (x2 x3 x4 x5 : Vec F S1x2048x256 .bf16) (x6 x7 x8 x9 : Vec F S2048x128 .f32) (x10 : Vec F S4x64 .f32) (x11 : Vec F S1x128 .f32) :
    List (View.Piece (Elt F) S1x2048x256 .bf16) :=
  outP (qArr x2 x6 x7) (kArr x3 x8 x9) (vArr x4) (lamOf (View.ld x10 (Rect.unit (s := S4x64) ![0, 0] S4x64.size inb_S4x64_S4x64_0_0)))
    (View.ld x11 (Rect.unit (s := S1x128) ![0, 0] S1x128.size inb_S1x128_S1x128_0_0)) x5 8 (by decide)

theorem outB_cover (x2 x3 x4 x5 : Vec F S1x2048x256 .bf16) (x6 x7 x8 x9 : Vec F S2048x128 .f32) (x10 : Vec F S4x64 .f32) (x11 : Vec F S1x128 .f32) (y : S1x2048x256.Idx) :
    ∃ p ∈ outB x2 x3 x4 x5 x6 x7 x8 x9 x10 x11, y ∈ p.1.set :=
  View.cover_of_tiled (outB x2 x3 x4 x5 x6 x7 x8 x9 x10 x11) S1x256x128.size (by rfl) y

theorem three_congr {α : Type} {a a' b b' : α} {l l' : List α} (h1 : a = a') (h2 : b = b') (h3 : l = l') : a :: b :: l = a' :: b' :: l' := by
  rw [h1, h2, h3]

theorem read_of (v : View sig .tc .vmem S1x2048x256 .bf16) (f : v.ty.Contents (Elt F)) (L L' : List (View.Piece (Elt F) S1x2048x256 .bf16)) (h : L = L')
    (hc : ∀ y : S1x2048x256.Idx, ∃ p ∈ L', y ∈ p.1.set) : v.read (Elt F) (v.writes (Elt F) f L) = View.canon L' := by
  rw [h]; exact View.read_writes_eq_canon _ _ _ hc

theorem outT_congr {s0 s0' s1 s1' : Vec F S1x2048x256 .f32} {v v' : Vec F S1x144x2048 .bf16} {lam : FVec F S1x1 .f32} {sub : Vec F S1x128 .f32}
    {g : Vec F S1x256x128 .bf16} (h0 : s0 = s0') (h1 : s1 = s1') (h2 : v = v') : outT s0 s1 v lam sub g = outT s0' s1' v' lam sub g := by
  rw [h0, h1, h2]

section Values
variable (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x2048x256 .bf16) (harg12 : arg12.IsWhole) (arg13 : Memref sig .tc .vmem S2x2048x128 .bf16) (harg13 : arg13.IsWhole) (arg14 : Memref sig .tc .vmem S2x2x2048x128 .bf16) (harg14 : arg14.IsWhole) (arg15 : Memref sig .tc .vmem S2x144x2048 .bf16) (harg15 : arg15.IsWhole) (arg16 : Memref sig .tc .vmem S2x2048x256 .f32) (harg16 : arg16.IsWhole) (arg17 : Memref sig .tc .vmem S2x2048x256 .f32) (harg17 : arg17.IsWhole)  (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty)

theorem q_read (j : Fin 16) : arg13.view.readCov (run.sl.H13_16 arg2 arg6 arg7 f2 f6 f7) (Rect.unit (s := S2x2048x128) ![j.val / 8, j.val % 8 * 256, 0] S1x256x128.size (by revert j; decide)).toLoadRect = qAt (qArr (arg2.view.read (Elt F) f2) (arg6.view.read (Elt F) f6) (arg7.view.read (Elt F) f7)) j := by
  rw [View.readCov_eq_canon', H13_eq]; unfold qAt qArr; rfl
theorem k_read0 (j : Fin 16) : arg14.view.readCov (run.sl.H14_32 arg3 arg8 arg9 f3 f8 f9) (Rect.unit (s := S2x2x2048x128) ![j.val / 8, 0, 0, 0] S1x1x2048x128.size (by revert j; decide)).toLoadRect = kAt0 (kArr (arg3.view.read (Elt F) f3) (arg8.view.read (Elt F) f8) (arg9.view.read (Elt F) f9)) j := by
  rw [View.readCov_eq_canon', H14_eq]; unfold kAt0 kArr; rfl
theorem k_read1 (j : Fin 16) : arg14.view.readCov (run.sl.H14_32 arg3 arg8 arg9 f3 f8 f9) (Rect.unit (s := S2x2x2048x128) ![j.val / 8, 1, 0, 0] S1x1x2048x128.size (by revert j; decide)).toLoadRect = kAt1 (kArr (arg3.view.read (Elt F) f3) (arg8.view.read (Elt F) f8) (arg9.view.read (Elt F) f9)) j := by
  rw [View.readCov_eq_canon', H14_eq]; unfold kAt1 kArr; rfl
theorem v_read (j : Fin 16) : arg15.view.readCov (run.sl.H15_18 arg4 f4) (Rect.unit (s := S2x144x2048) ![j.val / 8, 0, 0] S1x144x2048.size (by revert j; decide)).toLoadRect = vAt (vArr (arg4.view.read (Elt F) f4)) j := by
  rw [View.readCov_eq_canon', H15_eq]; unfold vAt vArr; rfl

theorem hQ : arg13.view.read (Elt F) (arg13.view.writes (Elt F) arg13.view.junk (run.sl.H13_16 arg2 arg6 arg7 f2 f6 f7)) = (qArr (arg2.view.read (Elt F) f2) (arg6.view.read (Elt F) f6) (arg7.view.read (Elt F) f7)) := by
  rw [View.read_writes_junk_eq_canon, H13_eq]; unfold qArr; rfl
theorem hK : arg14.view.read (Elt F) (arg14.view.writes (Elt F) arg14.view.junk (run.sl.H14_32 arg3 arg8 arg9 f3 f8 f9)) = (kArr (arg3.view.read (Elt F) f3) (arg8.view.read (Elt F) f8) (arg9.view.read (Elt F) f9)) := by
  rw [View.read_writes_junk_eq_canon, H14_eq]; unfold kArr; rfl
theorem hV : arg15.view.read (Elt F) (arg15.view.writes (Elt F) arg15.view.junk (run.sl.H15_18 arg4 f4)) = (vArr (arg4.view.read (Elt F) f4)) := by
  rw [View.read_writes_junk_eq_canon, H15_eq]; unfold vArr; rfl

theorem H16_eq : (run.sl.H16_2 arg2 arg3 arg6 arg7 arg8 arg9 arg13 arg14 f2 f3 f6 f7 f8 f9) = [⟨R1, sc1 (qArr (arg2.view.read (Elt F) f2) (arg6.view.read (Elt F) f6) (arg7.view.read (Elt F) f7)) (kArr (arg3.view.read (Elt F) f3) (arg8.view.read (Elt F) f8) (arg9.view.read (Elt F) f9)) 0⟩, ⟨R0, sc0 (qArr (arg2.view.read (Elt F) f2) (arg6.view.read (Elt F) f6) (arg7.view.read (Elt F) f7)) (kArr (arg3.view.read (Elt F) f3) (arg8.view.read (Elt F) f8) (arg9.view.read (Elt F) f9)) 0⟩] := by
  unfold run.sl.H16_2
  refine two_congr (piece_congr (F := F) (S := S2x2048x256) (e := .f32) (size := S1x2048x256.size) rfl _ _ ?_) (piece_congr (F := F) (S := S2x2048x256) (e := .f32) (size := S1x2048x256.size) rfl _ _ ?_)
  · exact congrArg₂ sc (q_read arg2 arg6 arg7 arg13 f2 f6 f7 0) (k_read1 arg3 arg8 arg9 arg14 f3 f8 f9 0)
  · exact congrArg₂ sc (q_read arg2 arg6 arg7 arg13 f2 f6 f7 0) (k_read0 arg3 arg8 arg9 arg14 f3 f8 f9 0)

variable (c : Dev nD) (i : grid0.Coords) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)

theorem pb_val : (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (run.sl.v1896 arg10 f10) run.sl.v1897 f5 f11 (arg13.view.writes (Elt F) arg13.view.junk (run.sl.H13_16 arg2 arg6 arg7 f2 f6 f7)) (arg14.view.writes (Elt F) arg14.view.junk (run.sl.H14_32 arg3 arg8 arg9 f3 f8 f9)) (arg15.view.writes (Elt F) arg15.view.junk (run.sl.H15_18 arg4 f4)) f12 (arg16.view.writes (Elt F) arg16.view.junk (run.sl.H16_2 arg2 arg3 arg6 arg7 arg8 arg9 arg13 arg14 f2 f3 f6 f7 f8 f9)) f17 7).1 = outP (qArr (arg2.view.read (Elt F) f2) (arg6.view.read (Elt F) f6) (arg7.view.read (Elt F) f7)) (kArr (arg3.view.read (Elt F) f3) (arg8.view.read (Elt F) f8) (arg9.view.read (Elt F) f9)) (vArr (arg4.view.read (Elt F) f4)) (lamOf (View.ld (arg10.view.read (Elt F) f10) (Rect.unit (s := S4x64) ![0, 0] S4x64.size inb_S4x64_S4x64_0_0))) (View.ld (arg11.view.read (Elt F) f11) (Rect.unit (s := S1x128) ![0, 0] S1x128.size inb_S1x128_S1x128_0_0)) (arg5.view.read (Elt F) f5) 7 (by decide)
    ∧ ∃ L, (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (run.sl.v1896 arg10 f10) run.sl.v1897 f5 f11 (arg13.view.writes (Elt F) arg13.view.junk (run.sl.H13_16 arg2 arg6 arg7 f2 f6 f7)) (arg14.view.writes (Elt F) arg14.view.junk (run.sl.H14_32 arg3 arg8 arg9 f3 f8 f9)) (arg15.view.writes (Elt F) arg15.view.junk (run.sl.H15_18 arg4 f4)) f12 (arg16.view.writes (Elt F) arg16.view.junk (run.sl.H16_2 arg2 arg3 arg6 arg7 arg8 arg9 arg13 arg14 f2 f3 f6 f7 f8 f9)) f17 7).2.1 ++ (run.sl.H16_2 arg2 arg3 arg6 arg7 arg8 arg9 arg13 arg14 f2 f3 f6 f7 f8 f9) = ⟨R1, sc1 (qArr (arg2.view.read (Elt F) f2) (arg6.view.read (Elt F) f6) (arg7.view.read (Elt F) f7)) (kArr (arg3.view.read (Elt F) f3) (arg8.view.read (Elt F) f8) (arg9.view.read (Elt F) f9)) 14⟩ :: ⟨R0, sc0 (qArr (arg2.view.read (Elt F) f2) (arg6.view.read (Elt F) f6) (arg7.view.read (Elt F) f7)) (kArr (arg3.view.read (Elt F) f3) (arg8.view.read (Elt F) f8) (arg9.view.read (Elt F) f9)) 14⟩ :: L := by
  have h := pb_eq (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (run.sl.v1896 arg10 f10) run.sl.v1897 f5 f11 (arg13.view.writes (Elt F) arg13.view.junk (run.sl.H13_16 arg2 arg6 arg7 f2 f6 f7)) (arg14.view.writes (Elt F) arg14.view.junk (run.sl.H14_32 arg3 arg8 arg9 f3 f8 f9)) (arg15.view.writes (Elt F) arg15.view.junk (run.sl.H15_18 arg4 f4)) f12 f17 (run.sl.H16_2 arg2 arg3 arg6 arg7 arg8 arg9 arg13 arg14 f2 f3 f6 f7 f8 f9)
    (by rw [hQ, hK]; exact H16_eq ..) 7 (le_refl 7)
  rw [hQ, hK, hV] at h
  exact h

end Values

theorem run_val (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x2048x256 .bf16) (harg12 : arg12.IsWhole) (arg13 : Memref sig .tc .vmem S2x2048x128 .bf16) (harg13 : arg13.IsWhole) (arg14 : Memref sig .tc .vmem S2x2x2048x128 .bf16) (harg14 : arg14.IsWhole) (arg15 : Memref sig .tc .vmem S2x144x2048 .bf16) (harg15 : arg15.IsWhole) (arg16 : Memref sig .tc .vmem S2x2048x256 .f32) (harg16 : arg16.IsWhole) (arg17 : Memref sig .tc .vmem S2x2048x256 .f32) (harg17 : arg17.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    arg12.view.read (Elt F) ((run (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11).1 f12 f13 f14 f15 f16 f17)
      = View.canon (outB (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11)) := by
  have hp := pb_val arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 c i f12 f17
  obtain ⟨h1, L, h2⟩ := hp
  unfold run; dsimp only
  refine read_of arg12.view f12 _ (outB (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11)) ?_ (fun y => outB_cover _ _ _ _ _ _ _ _ _ _ y)
  refine three_congr (piece_congr (F := F) (S := S1x2048x256) (e := .bf16) (size := S1x256x128.size) rfl _ _ ?_) (piece_congr (F := F) (S := S1x2048x256) (e := .bf16) (size := S1x256x128.size) rfl _ _ ?_) h1
  · refine Eq.trans (b := outT (arg17.view.readCov (⟨R1, sc (arg13.view.readCov (run.sl.H13_16 arg2 arg6 arg7 f2 f6 f7) (Rect.unit (s := S2x2048x128) ![1, 1792, 0] S1x256x128.size (by decide)).toLoadRect) (arg14.view.readCov (run.sl.H14_32 arg3 arg8 arg9 f3 f8 f9) (Rect.unit (s := S2x2x2048x128) ![1, 1, 0, 0] S1x1x2048x128.size (by decide)).toLoadRect)⟩ :: ⟨R0, sc (arg13.view.readCov (run.sl.H13_16 arg2 arg6 arg7 f2 f6 f7) (Rect.unit (s := S2x2048x128) ![1, 1792, 0] S1x256x128.size (by decide)).toLoadRect) (arg14.view.readCov (run.sl.H14_32 arg3 arg8 arg9 f3 f8 f9) (Rect.unit (s := S2x2x2048x128) ![1, 0, 0, 0] S1x1x2048x128.size (by decide)).toLoadRect)⟩ :: (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (run.sl.v1896 arg10 f10) run.sl.v1897 f5 f11 (arg13.view.writes (Elt F) arg13.view.junk (run.sl.H13_16 arg2 arg6 arg7 f2 f6 f7)) (arg14.view.writes (Elt F) arg14.view.junk (run.sl.H14_32 arg3 arg8 arg9 f3 f8 f9)) (arg15.view.writes (Elt F) arg15.view.junk (run.sl.H15_18 arg4 f4)) f12 (arg16.view.writes (Elt F) arg16.view.junk (run.sl.H16_2 arg2 arg3 arg6 arg7 arg8 arg9 arg13 arg14 f2 f3 f6 f7 f8 f9)) f17 7).2.2) R0.toLoadRect)
      (arg17.view.readCov (⟨R1, sc (arg13.view.readCov (run.sl.H13_16 arg2 arg6 arg7 f2 f6 f7) (Rect.unit (s := S2x2048x128) ![1, 1792, 0] S1x256x128.size (by decide)).toLoadRect) (arg14.view.readCov (run.sl.H14_32 arg3 arg8 arg9 f3 f8 f9) (Rect.unit (s := S2x2x2048x128) ![1, 1, 0, 0] S1x1x2048x128.size (by decide)).toLoadRect)⟩ :: ⟨R0, sc (arg13.view.readCov (run.sl.H13_16 arg2 arg6 arg7 f2 f6 f7) (Rect.unit (s := S2x2048x128) ![1, 1792, 0] S1x256x128.size (by decide)).toLoadRect) (arg14.view.readCov (run.sl.H14_32 arg3 arg8 arg9 f3 f8 f9) (Rect.unit (s := S2x2x2048x128) ![1, 0, 0, 0] S1x1x2048x128.size (by decide)).toLoadRect)⟩ :: (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (run.sl.v1896 arg10 f10) run.sl.v1897 f5 f11 (arg13.view.writes (Elt F) arg13.view.junk (run.sl.H13_16 arg2 arg6 arg7 f2 f6 f7)) (arg14.view.writes (Elt F) arg14.view.junk (run.sl.H14_32 arg3 arg8 arg9 f3 f8 f9)) (arg15.view.writes (Elt F) arg15.view.junk (run.sl.H15_18 arg4 f4)) f12 (arg16.view.writes (Elt F) arg16.view.junk (run.sl.H16_2 arg2 arg3 arg6 arg7 arg8 arg9 arg13 arg14 f2 f3 f6 f7 f8 f9)) f17 7).2.2) R1.toLoadRect)
      (arg15.view.readCov (run.sl.H15_18 arg4 f4) (Rect.unit (s := S2x144x2048) ![1, 0, 0] S1x144x2048.size (by decide)).toLoadRect) (lamOf (View.ld (arg10.view.read (Elt F) f10) (Rect.unit (s := S4x64) ![0, 0] S4x64.size inb_S4x64_S4x64_0_0))) (View.ld (arg11.view.read (Elt F) f11) (Rect.unit (s := S1x128) ![0, 0] S1x128.size inb_S1x128_S1x128_0_0)) (gAt (arg5.view.read (Elt F) f5) 15)) rfl ?_
    rw [View.readCov_eq_canon' arg17.view, View.readCov_eq_canon' arg17.view]
    have e0 := fun w1 w0 L => canon_R0 (F := F) w1 w0 L
    have e1 := fun w1 L => canon_R1 (F := F) w1 L
    rw [e0, e1]
    refine outT_congr ?_ ?_ ?_
    · exact congrArg₂ sc (q_read arg2 arg6 arg7 arg13 f2 f6 f7 15) (k_read0 arg3 arg8 arg9 arg14 f3 f8 f9 15)
    · exact congrArg₂ sc (q_read arg2 arg6 arg7 arg13 f2 f6 f7 15) (k_read1 arg3 arg8 arg9 arg14 f3 f8 f9 15)
    · exact v_read arg4 arg15 f4 15
  · refine Eq.trans (b := outT (arg16.view.readCov ((pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (run.sl.v1896 arg10 f10) run.sl.v1897 f5 f11 (arg13.view.writes (Elt F) arg13.view.junk (run.sl.H13_16 arg2 arg6 arg7 f2 f6 f7)) (arg14.view.writes (Elt F) arg14.view.junk (run.sl.H14_32 arg3 arg8 arg9 f3 f8 f9)) (arg15.view.writes (Elt F) arg15.view.junk (run.sl.H15_18 arg4 f4)) f12 (arg16.view.writes (Elt F) arg16.view.junk (run.sl.H16_2 arg2 arg3 arg6 arg7 arg8 arg9 arg13 arg14 f2 f3 f6 f7 f8 f9)) f17 7).2.1 ++ (run.sl.H16_2 arg2 arg3 arg6 arg7 arg8 arg9 arg13 arg14 f2 f3 f6 f7 f8 f9)) R0.toLoadRect) (arg16.view.readCov ((pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (run.sl.v1896 arg10 f10) run.sl.v1897 f5 f11 (arg13.view.writes (Elt F) arg13.view.junk (run.sl.H13_16 arg2 arg6 arg7 f2 f6 f7)) (arg14.view.writes (Elt F) arg14.view.junk (run.sl.H14_32 arg3 arg8 arg9 f3 f8 f9)) (arg15.view.writes (Elt F) arg15.view.junk (run.sl.H15_18 arg4 f4)) f12 (arg16.view.writes (Elt F) arg16.view.junk (run.sl.H16_2 arg2 arg3 arg6 arg7 arg8 arg9 arg13 arg14 f2 f3 f6 f7 f8 f9)) f17 7).2.1 ++ (run.sl.H16_2 arg2 arg3 arg6 arg7 arg8 arg9 arg13 arg14 f2 f3 f6 f7 f8 f9)) R1.toLoadRect)
      (arg15.view.readCov (run.sl.H15_18 arg4 f4) (Rect.unit (s := S2x144x2048) ![1, 0, 0] S1x144x2048.size (by decide)).toLoadRect) (lamOf (View.ld (arg10.view.read (Elt F) f10) (Rect.unit (s := S4x64) ![0, 0] S4x64.size inb_S4x64_S4x64_0_0))) (View.ld (arg11.view.read (Elt F) f11) (Rect.unit (s := S1x128) ![0, 0] S1x128.size inb_S1x128_S1x128_0_0)) (gAt (arg5.view.read (Elt F) f5) 14)) rfl ?_
    rw [h2, View.readCov_eq_canon' arg16.view, View.readCov_eq_canon' arg16.view, canon_R0, canon_R1]
    exact outT_congr rfl rfl (v_read arg4 arg15 f4 14)

end Cert.KernelIdeal.Diff

end
-- ==== Proof.DiffFrame.lean ====
module

public import proofs.«01_k».proof.Proof.DiffVal
public import Idealize.ShloMosaic.Lib.Claim
public import proofs.«01_k».proof.Proof.Gen.KernelIdeal.Frame
public import proofs.«01_k».proof.Proof.Gen.KernelIdeal.Loops
public import Idealize.ShloMosaic.Lib.Exec
public import Idealize.ShloMosaic.Lib.Tactic

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The output block's contents. -/
noncomputable def outA (x2 : Vec F S1x2048x256 .bf16) (x3 : Vec F S1x2048x256 .bf16) (x4 : Vec F S1x2048x256 .bf16) (x5 : Vec F S1x2048x256 .bf16) (x6 : Vec F S2048x128 .f32) (x7 : Vec F S2048x128 .f32) (x8 : Vec F S2048x128 .f32) (x9 : Vec F S2048x128 .f32) (x10 : Vec F S4x64 .f32) (x11 : Vec F S1x128 .f32) : Vec F S1x2048x256 .bf16 := View.canon (outB (F := F) x2 x3 x4 x5 x6 x7 x8 x9 x10 x11)

set_option maxHeartbeats 1000000 in
/-- The body, from the blocks it reads to the block it leaves. -/
theorem body (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x2048x256 .bf16) (harg12 : arg12.IsWhole) (arg13 : Memref sig .tc .vmem S2x2048x128 .bf16) (harg13 : arg13.IsWhole) (arg14 : Memref sig .tc .vmem S2x2x2048x128 .bf16) (harg14 : arg14.IsWhole) (arg15 : Memref sig .tc .vmem S2x144x2048 .bf16) (harg15 : arg15.IsWhole) (arg16 : Memref sig .tc .vmem S2x2048x256 .f32) (harg16 : arg16.IsWhole) (arg17 : Memref sig .tc .vmem S2x2048x256 .f32) (harg17 : arg17.IsWhole) (x2 : Vec F S1x2048x256 .bf16) (x3 : Vec F S1x2048x256 .bf16) (x4 : Vec F S1x2048x256 .bf16) (x5 : Vec F S1x2048x256 .bf16) (x6 : Vec F S2048x128 .f32) (x7 : Vec F S2048x128 .f32) (x8 : Vec F S2048x128 .f32) (x9 : Vec F S2048x128 .f32) (x10 : Vec F S4x64 .f32) (x11 : Vec F S1x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outA x2 x3 x4 x5 x6 x7 x8 x9 x10 x11) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none (c : Thread nD τ) none) E (cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  subst hf2 hf3 hf4 hf5 hf6 hf7 hf8 hf9 hf10 hf11
  iapply ((run (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11).2 E f12 f13 f14 f15 f16 f17 K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, H12, ⟨%e13, H13⟩, ⟨%e14, H14⟩, ⟨%e15, H15⟩, ⟨%e16, H16⟩, ⟨%e17, H17⟩⟩
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact run_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17
  isplitl [H13]
  · iexists _; iexists e13; isplitr; · ipureintro; rfl
    iexact H13
  isplitl [H14]
  · iexists _; iexists e14; isplitr; · ipureintro; rfl
    iexact H14
  isplitl [H15]
  · iexists _; iexists e15; isplitr; · ipureintro; rfl
    iexact H15
  isplitl [H16]
  · iexists _; iexists e16; isplitr; · ipureintro; rfl
    iexact H16
  iexists _; iexists e17; isplitr; · ipureintro; rfl
  iexact H17

/-! ## The pipeline's data -/

variable (m : (ℓ : Loc nD τ sig) → Buf (Elt F) ℓ) (ρ : Dev nD → PrngReg)

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outA (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outA (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9, after_10, PhiA_eq]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: the arrays end at what the data say, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => .rfl)
    (hout := fun c => .rfl)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Diff

end
-- ==== Proof.DiffArr.lean ====
/- The arrays of queries, keys and values one grid point keeps, and the block it leaves, at an index. -/
module

public import proofs.«01_k».proof.Proof.DiffTileVal
public import proofs.«01_k».proof.Proof.DiffFrame
public import Idealize.ShloMosaic.Lib.Tactic

@[expose] public section

set_option maxRecDepth 16384

noncomputable section

namespace Cert.KernelIdeal.Diff

open Cert.KernelIdeal Cert.KernelIdeal.Gen Cert.Attn Idealize.ShloMosaic Idealize.ShloMosaic.TcCoe Idealize.SL.Sem
open Idealize.ShloMosaic.Pointwise

/-- The column of a block that a head's lane is. -/
def hc (h : Fin 2) (l : Fin 128) : Fin 256 := ⟨h * 128 + l, by omega⟩

/-- A row of one of a tile's 256. -/
def rw8 (r : Fin 8) (i : Fin 256) : Fin 2048 := ⟨r * 256 + i, by omega⟩

theorem ones3 {n m : ℕ} (z : (⟨3, ![1, n, m]⟩ : Shape).Idx) : ∃ (i : Fin n) (l : Fin m), z = ix3 0 i l :=
  ⟨z 1, z 2, (eq_ix3 z).trans (congrArg (fun a : Fin 1 => ix3 a (z 1) (z 2)) (Subsingleton.elim (α := Fin 1) (z 0) 0))⟩
theorem ones4 {n m : ℕ} (z : (⟨4, ![1, 1, n, m]⟩ : Shape).Idx) : ∃ (i : Fin n) (l : Fin m), z = ix4 0 0 i l :=
  ⟨z 2, z 3, funext fun a => match a with
    | ⟨0, _⟩ => Subsingleton.elim (α := Fin 1) (z 0) 0
    | ⟨1, _⟩ => Subsingleton.elim (α := Fin 1) (z 1) 0
    | ⟨2, _⟩ => rfl
    | ⟨3, _⟩ => rfl⟩

theorem tile_apply (x : Vec Ideal S1x2048x256 .bf16) (hd : Fin 2) (r : Fin 8) (i : Fin 256) (l : Fin 128) :
    tile x hd r (ix3 0 i l) = x (ix3 0 (rw8 r i) (hc hd l)) := by
  unfold tile
  rw [View.ld_unit]
  refine congrArg x (funext fun a => Fin.ext ?_)
  match a with
  | ⟨0, _⟩ => show 0 + 0 = 0; rfl
  | ⟨1, _⟩ => show r.val * 256 + i.val = r.val * 256 + i.val; rfl
  | ⟨2, _⟩ => show hd.val * 128 + l.val = hd.val * 128 + l.val; rfl

theorem tab_apply (x : Vec Ideal S2048x128 .f32) (r : Fin 8) (i : Fin 256) (l : Fin 128) :
    tab x r (ix2 i l) = x (ix2 (rw8 r i) l) := by
  unfold tab
  rw [View.ld_unit]
  refine congrArg x (funext fun a => Fin.ext ?_)
  match a with
  | ⟨0, _⟩ => show r.val * 256 + i.val = r.val * 256 + i.val; rfl
  | ⟨1, _⟩ => show 0 + l.val = l.val; omega

/-- A head's row normalised and rotated, from a block and the tables. -/
def nrAt (x : Vec Ideal S1x2048x256 .bf16) (c s : Vec Ideal S2048x128 .f32) (h : Fin 2) (p : Fin 2048) (l : Fin 128) : EReal :=
  nrK sgK swK (fun a => x (ix3 0 p (hc h a))) (fun a => c (ix2 p a)) (fun a => s (ix2 p a)) l

def qG (x : Vec Ideal S1x2048x256 .bf16) (c s : Vec Ideal S2048x128 .f32) (y : S2x2048x128.Idx) : EReal :=
  nrAt x c s (y 0) (y 1) (y 2) * (((1 / 8) * (Real.log 2)⁻¹ : ℝ) : EReal)

theorem q_piece (x : Vec Ideal S1x2048x256 .bf16) (c s : Vec Ideal S2048x128 .f32) (hd : Fin 2) (r : Fin 8)
    (inb : ∀ a, (![hd.val, r.val * 256, 0] : Fin 3 → ℕ) a + S1x256x128.size a ≤ S2x2048x128.size a) (z : (⟨3, ![1, 256, 128]⟩ : Shape).Idx) :
    qT (tile x hd r) (tab c r) (tab s r) z = qG x c s ((Rect.unit (s := S2x2048x128) ![hd.val, r.val * 256, 0] S1x256x128.size inb).emb z) := by
  obtain ⟨i, l, rfl⟩ := ones3 z
  have e : (Rect.unit (s := S2x2048x128) ![hd.val, r.val * 256, 0] S1x256x128.size inb).emb (ix3 (0 : Fin 1) i l) = ix3 hd (rw8 r i) l := by
    refine funext fun a => Fin.ext ?_
    match a with
    | ⟨0, _⟩ => show hd.val + 1 * 0 = hd.val; omega
    | ⟨1, _⟩ => show r.val * 256 + 1 * i.val = r.val * 256 + i.val; omega
    | ⟨2, _⟩ => show 0 + 1 * l.val = l.val; omega
  refine Eq.trans ?_ (congrArg (qG x c s) e).symm
  refine (qT_apply _ _ _ i l).trans ?_
  simp only [tile_apply, tab_apply]
  rfl

theorem qArr_apply (x : Vec Ideal S1x2048x256 .bf16) (c s : Vec Ideal S2048x128 .f32) (y : S2x2048x128.Idx) : qArr x c s y = qG x c s y := by
  unfold qArr
  refine View.canon_apply_of_pieces (qG x c s) (LQ x c s) ?_ y (View.cover_of_tiled (LQ x c s) S1x256x128.size (by rfl) y)
  simp only [LQ, List.forall_mem_cons]
  exact ⟨q_piece x c s 1 7 _, q_piece x c s 1 6 _, q_piece x c s 1 5 _, q_piece x c s 1 4 _, q_piece x c s 1 3 _, q_piece x c s 1 2 _, q_piece x c s 1 1 _, q_piece x c s 1 0 _,
    q_piece x c s 0 7 _, q_piece x c s 0 6 _, q_piece x c s 0 5 _, q_piece x c s 0 4 _, q_piece x c s 0 3 _, q_piece x c s 0 2 _, q_piece x c s 0 1 _, q_piece x c s 0 0 _, fun p h => absurd h List.not_mem_nil⟩

/-- The keys, each component's apart. -/
def kG (x : Vec Ideal S1x2048x256 .bf16) (c s : Vec Ideal S2048x128 .f32) (y : S2x2x2048x128.Idx) : EReal :=
  if (y 3).val / 64 = (y 1).val then nrAt x c s (y 0) (y 2) (y 3) else 0

theorem k_piece0 (x : Vec Ideal S1x2048x256 .bf16) (c s : Vec Ideal S2048x128 .f32) (hd : Fin 2) (r : Fin 8)
    (inb : ∀ a, (![hd.val, 0, r.val * 256, 0] : Fin 4 → ℕ) a + S1x1x256x128.size a ≤ S2x2x2048x128.size a) (z : (⟨4, ![1, 1, 256, 128]⟩ : Shape).Idx) :
    kT0 (tile x hd r) (tab c r) (tab s r) z = kG x c s ((Rect.unit (s := S2x2x2048x128) ![hd.val, 0, r.val * 256, 0] S1x1x256x128.size inb).emb z) := by
  obtain ⟨i, l, rfl⟩ := ones4 z
  have e : (Rect.unit (s := S2x2x2048x128) ![hd.val, 0, r.val * 256, 0] S1x1x256x128.size inb).emb (ix4 (0 : Fin 1) (0 : Fin 1) i l) = ix4 hd (0 : Fin 2) (rw8 r i) l := by
    refine funext fun a => Fin.ext ?_
    match a with
    | ⟨0, _⟩ => show hd.val + 1 * 0 = hd.val; omega
    | ⟨1, _⟩ => rfl
    | ⟨2, _⟩ => show r.val * 256 + 1 * i.val = r.val * 256 + i.val; omega
    | ⟨3, _⟩ => show 0 + 1 * l.val = l.val; omega
  refine Eq.trans ?_ (congrArg (kG x c s) e).symm
  refine (kT0_apply _ _ _ i l).trans ?_
  simp only [tile_apply, tab_apply]
  rfl

theorem k_piece1 (x : Vec Ideal S1x2048x256 .bf16) (c s : Vec Ideal S2048x128 .f32) (hd : Fin 2) (r : Fin 8)
    (inb : ∀ a, (![hd.val, 1, r.val * 256, 0] : Fin 4 → ℕ) a + S1x1x256x128.size a ≤ S2x2x2048x128.size a) (z : (⟨4, ![1, 1, 256, 128]⟩ : Shape).Idx) :
    kT1 (tile x hd r) (tab c r) (tab s r) z = kG x c s ((Rect.unit (s := S2x2x2048x128) ![hd.val, 1, r.val * 256, 0] S1x1x256x128.size inb).emb z) := by
  obtain ⟨i, l, rfl⟩ := ones4 z
  have e : (Rect.unit (s := S2x2x2048x128) ![hd.val, 1, r.val * 256, 0] S1x1x256x128.size inb).emb (ix4 (0 : Fin 1) (0 : Fin 1) i l) = ix4 hd (1 : Fin 2) (rw8 r i) l := by
    refine funext fun a => Fin.ext ?_
    match a with
    | ⟨0, _⟩ => show hd.val + 1 * 0 = hd.val; omega
    | ⟨1, _⟩ => rfl
    | ⟨2, _⟩ => show r.val * 256 + 1 * i.val = r.val * 256 + i.val; omega
    | ⟨3, _⟩ => show 0 + 1 * l.val = l.val; omega
  refine Eq.trans ?_ (congrArg (kG x c s) e).symm
  refine (kT1_apply _ _ _ i l).trans ?_
  simp only [tile_apply, tab_apply]
  rfl

theorem kArr_apply (x : Vec Ideal S1x2048x256 .bf16) (c s : Vec Ideal S2048x128 .f32) (y : S2x2x2048x128.Idx) : kArr x c s y = kG x c s y := by
  unfold kArr
  refine View.canon_apply_of_pieces (kG x c s) (LK x c s) ?_ y (View.cover_of_tiled (LK x c s) S1x1x256x128.size (by rfl) y)
  simp only [LK, List.forall_mem_cons]
  exact ⟨k_piece1 x c s 1 7 _, k_piece0 x c s 1 7 _, k_piece1 x c s 1 6 _, k_piece0 x c s 1 6 _, k_piece1 x c s 1 5 _, k_piece0 x c s 1 5 _, k_piece1 x c s 1 4 _, k_piece0 x c s 1 4 _, k_piece1 x c s 1 3 _, k_piece0 x c s 1 3 _, k_piece1 x c s 1 2 _, k_piece0 x c s 1 2 _, k_piece1 x c s 1 1 _, k_piece0 x c s 1 1 _, k_piece1 x c s 1 0 _, k_piece0 x c s 1 0 _, k_piece1 x c s 0 7 _, k_piece0 x c s 0 7 _, k_piece1 x c s 0 6 _, k_piece0 x c s 0 6 _, k_piece1 x c s 0 5 _, k_piece0 x c s 0 5 _, k_piece1 x c s 0 4 _, k_piece0 x c s 0 4 _, k_piece1 x c s 0 3 _, k_piece0 x c s 0 3 _, k_piece1 x c s 0 2 _, k_piece0 x c s 0 2 _, k_piece1 x c s 0 1 _, k_piece0 x c s 0 1 _, k_piece1 x c s 0 0 _, k_piece0 x c s 0 0 _, fun p h => absurd h List.not_mem_nil⟩

/-- The values transposed, with rows of ones below. -/
def vG (x : Vec Ideal S1x2048x256 .bf16) (y : S2x144x2048.Idx) : EReal :=
  if h : (y 1).val < 128 then x (ix3 0 (y 2) (hc (y 0) ⟨(y 1).val, h⟩)) else 1

theorem vG_lt (x : Vec Ideal S1x2048x256 .bf16) (h : Fin 2) (l : Fin 144) (κ : Fin 2048) (hl : l.val < 128) : vG x (ix3 h l κ) = x (ix3 0 κ (hc h ⟨l.val, hl⟩)) := dif_pos hl
theorem vG_ge (x : Vec Ideal S1x2048x256 .bf16) (h : Fin 2) (l : Fin 144) (κ : Fin 2048) (hl : ¬ l.val < 128) : vG x (ix3 h l κ) = 1 := dif_neg hl

theorem v_piece (x : Vec Ideal S1x2048x256 .bf16) (hd : Fin 2) (r : Fin 8)
    (inb : ∀ a, (![hd.val, 0, r.val * 256] : Fin 3 → ℕ) a + S1x128x256.size a ≤ S2x144x2048.size a) (z : (⟨3, ![1, 128, 256]⟩ : Shape).Idx) :
    vT (tile x hd r) z = vG x ((Rect.unit (s := S2x144x2048) ![hd.val, 0, r.val * 256] S1x128x256.size inb).emb z) := by
  obtain ⟨l, i, rfl⟩ := ones3 z
  have e : (Rect.unit (s := S2x144x2048) ![hd.val, 0, r.val * 256] S1x128x256.size inb).emb (ix3 (0 : Fin 1) l i) = ix3 hd (⟨l.val, by omega⟩ : Fin 144) (rw8 r i) := by
    refine funext fun a => Fin.ext ?_
    match a with
    | ⟨0, _⟩ => show hd.val + 1 * 0 = hd.val; omega
    | ⟨1, _⟩ => show 0 + 1 * l.val = l.val; omega
    | ⟨2, _⟩ => show r.val * 256 + 1 * i.val = r.val * 256 + i.val; omega
  refine Eq.trans ?_ (congrArg (vG x) e).symm
  refine (vT_apply _ i l).trans ?_
  rw [tile_apply]
  exact (vG_lt x hd ⟨l.val, by omega⟩ (rw8 r i) l.isLt).symm

theorem ones_eq : (run.sl.v70 (F := Ideal)) = k0_pay25 := rfl

theorem ones_apply (r : Fin 16) (l : Fin 2048) : (k0_pay25 (F := Ideal)) (ix3 0 r l) = 1 := by
  pointwise [k0_pay25]

theorem o_piece (x : Vec Ideal S1x2048x256 .bf16) (hd : Fin 2)
    (inb : ∀ a, (![hd.val, 128, 0] : Fin 3 → ℕ) a + S1x16x2048.size a ≤ S2x144x2048.size a) (z : (⟨3, ![1, 16, 2048]⟩ : Shape).Idx) :
    (run.sl.v70 (F := Ideal)) z = vG x ((Rect.unit (s := S2x144x2048) ![hd.val, 128, 0] S1x16x2048.size inb).emb z) := by
  obtain ⟨l, i, rfl⟩ := ones3 z
  have e : (Rect.unit (s := S2x144x2048) ![hd.val, 128, 0] S1x16x2048.size inb).emb (ix3 (0 : Fin 1) l i) = ix3 hd (⟨128 + l.val, by omega⟩ : Fin 144) i := by
    refine funext fun a => Fin.ext ?_
    match a with
    | ⟨0, _⟩ => show hd.val + 1 * 0 = hd.val; omega
    | ⟨1, _⟩ => show 128 + 1 * l.val = 128 + l.val; omega
    | ⟨2, _⟩ => show 0 + 1 * i.val = i.val; omega
  refine Eq.trans ?_ (congrArg (vG x) e).symm
  rw [ones_eq]
  refine (ones_apply l i).trans ?_
  exact (vG_ge x hd ⟨128 + l.val, by omega⟩ i (by show ¬ 128 + l.val < 128; omega)).symm

theorem vArr_apply (x : Vec Ideal S1x2048x256 .bf16) (y : S2x144x2048.Idx) : vArr x y = vG x y := by
  unfold vArr
  refine View.canon_apply_of_pieces (vG x) (LV x) ?_ y (View.cover_of_tiledBy (LV x) ![1, 16, 256] (by sl_kernel_rfl) y)
  simp only [LV, List.forall_mem_cons]
  exact ⟨v_piece x 1 7 _, v_piece x 1 6 _, v_piece x 1 5 _, v_piece x 1 4 _, v_piece x 1 3 _, v_piece x 1 2 _, v_piece x 1 1 _, v_piece x 1 0 _, v_piece x 0 7 _, v_piece x 0 6 _, v_piece x 0 5 _, v_piece x 0 4 _, v_piece x 0 3 _, v_piece x 0 2 _, v_piece x 0 1 _, v_piece x 0 0 _, o_piece x 1 _, o_piece x 0 _, fun p h => absurd h List.not_mem_nil⟩

end Cert.KernelIdeal.Diff

end
-- ==== Proof.DiffBlk.lean ====
/- The block one grid point leaves, at an index. -/
module

public import proofs.«01_k».proof.Proof.DiffArr

@[expose] public section

set_option maxRecDepth 16384

noncomputable section

namespace Cert.KernelIdeal.Diff

open Cert.KernelIdeal Cert.KernelIdeal.Gen Cert.Attn Idealize.ShloMosaic Idealize.ShloMosaic.TcCoe Idealize.SL.Sem
open Idealize.ShloMosaic.Pointwise

def jh (j : Fin 16) : Fin 2 := ⟨j / 8, by omega⟩
def jr (j : Fin 16) : Fin 8 := ⟨j % 8, by omega⟩

theorem qAt_apply (Q : Vec Ideal S2x2048x128 .bf16) (j : Fin 16) (i : Fin 256) (l : Fin 128) : qAt Q j (ix3 0 i l) = Q (ix3 (jh j) (rw8 (jr j) i) l) := by
  unfold qAt
  rw [View.ld_unit]
  refine congrArg Q (funext fun a => Fin.ext ?_)
  match a with
  | ⟨0, _⟩ => show j.val / 8 + 0 = j.val / 8; rfl
  | ⟨1, _⟩ => show j.val % 8 * 256 + i.val = j.val % 8 * 256 + i.val; rfl
  | ⟨2, _⟩ => show 0 + l.val = l.val; omega
theorem gAt_apply (G : Vec Ideal S1x2048x256 .bf16) (j : Fin 16) (i : Fin 256) (l : Fin 128) : gAt G j (ix3 0 i l) = G (ix3 0 (rw8 (jr j) i) (hc (jh j) l)) := by
  unfold gAt
  rw [View.ld_unit]
  refine congrArg G (funext fun a => Fin.ext ?_)
  match a with
  | ⟨0, _⟩ => show 0 + 0 = 0; rfl
  | ⟨1, _⟩ => show j.val % 8 * 256 + i.val = j.val % 8 * 256 + i.val; rfl
  | ⟨2, _⟩ => show j.val / 8 * 128 + l.val = j.val / 8 * 128 + l.val; rfl
theorem kAt0_apply (K : Vec Ideal S2x2x2048x128 .bf16) (j : Fin 16) (κ : Fin 2048) (l : Fin 128) : kAt0 K j (ix4 0 0 κ l) = K (ix4 (jh j) 0 κ l) := by
  unfold kAt0
  rw [View.ld_unit]
  refine congrArg K (funext fun a => Fin.ext ?_)
  match a with
  | ⟨0, _⟩ => show j.val / 8 + 0 = j.val / 8; rfl
  | ⟨1, _⟩ => rfl
  | ⟨2, _⟩ => show 0 + κ.val = κ.val; omega
  | ⟨3, _⟩ => show 0 + l.val = l.val; omega
theorem kAt1_apply (K : Vec Ideal S2x2x2048x128 .bf16) (j : Fin 16) (κ : Fin 2048) (l : Fin 128) : kAt1 K j (ix4 0 0 κ l) = K (ix4 (jh j) 1 κ l) := by
  unfold kAt1
  rw [View.ld_unit]
  refine congrArg K (funext fun a => Fin.ext ?_)
  match a with
  | ⟨0, _⟩ => show j.val / 8 + 0 = j.val / 8; rfl
  | ⟨1, _⟩ => rfl
  | ⟨2, _⟩ => show 0 + κ.val = κ.val; omega
  | ⟨3, _⟩ => show 0 + l.val = l.val; omega
theorem vAt_apply (V : Vec Ideal S2x144x2048 .bf16) (j : Fin 16) (l : Fin 144) (κ : Fin 2048) : vAt V j (ix3 0 l κ) = V (ix3 (jh j) l κ) := by
  unfold vAt
  rw [View.ld_unit]
  refine congrArg V (funext fun a => Fin.ext ?_)
  match a with
  | ⟨0, _⟩ => show j.val / 8 + 0 = j.val / 8; rfl
  | ⟨1, _⟩ => show 0 + l.val = l.val; omega
  | ⟨2, _⟩ => show 0 + κ.val = κ.val; omega

section Block
variable (x2 x3 x4 x5 : Vec Ideal S1x2048x256 .bf16) (x6 x7 x8 x9 : Vec Ideal S2048x128 .f32) (x10 : Vec Ideal S4x64 .f32) (x11 : Vec Ideal S1x128 .f32)

/-- What the block holds. -/
def headAt (h : Fin 2) (p : Fin 2048) (l : Fin 128) : EReal :=
  headK 0x3F4CCCCD#32 (lamR 0x3E4CCCCD#32 fun a d => x10 (ix2 a d)) (fun a => x2 (ix3 0 p (hc h a))) (fun κ a => x3 (ix3 0 κ (hc h a))) (fun κ a => x4 (ix3 0 κ (hc h a)))
    (fun a => x5 (ix3 0 p (hc h a))) (fun a => x6 (ix2 p a)) (fun a => x7 (ix2 p a)) (fun κ a => x8 (ix2 κ a)) (fun κ a => x9 (ix2 κ a))
    (fun a => x11 (ix2 0 a)) l

def oG (y : S1x2048x256.Idx) : EReal :=
  headAt x2 x3 x4 x5 x6 x7 x8 x9 x10 x11 ⟨(y 2).val / 128, by have h : (y 2).val < 256 := (y 2).isLt; omega⟩ (y 1) ⟨(y 2).val % 128, by omega⟩

theorem sc0_apply (j : Fin 16) (κ : Fin 2048) (i : Fin 256) : sc0 (qArr x2 x6 x7) (kArr x3 x8 x9) j (ix3 0 κ i)
    = scK 0 (fun a => nrAt x2 x6 x7 (jh j) (rw8 (jr j) i) a * (((1 / 8) * (Real.log 2)⁻¹ : ℝ) : EReal)) (fun κ a => nrAt x3 x8 x9 (jh j) κ a) κ := by
  unfold sc0 scK
  rw [sc_apply]
  refine Finset.sum_congr rfl fun l _ => ?_
  rw [kAt0_apply, qAt_apply, kArr_apply, qArr_apply]
  rfl
theorem sc1_apply (j : Fin 16) (κ : Fin 2048) (i : Fin 256) : sc1 (qArr x2 x6 x7) (kArr x3 x8 x9) j (ix3 0 κ i)
    = scK 1 (fun a => nrAt x2 x6 x7 (jh j) (rw8 (jr j) i) a * (((1 / 8) * (Real.log 2)⁻¹ : ℝ) : EReal)) (fun κ a => nrAt x3 x8 x9 (jh j) κ a) κ := by
  unfold sc1 scK
  rw [sc_apply]
  refine Finset.sum_congr rfl fun l _ => ?_
  rw [kAt1_apply, qAt_apply, kArr_apply, qArr_apply]
  rfl

theorem halfP_eq (s : Vec Ideal S1x2048x256 .f32) (j : Fin 16) (i : Fin 256) (l : Fin 128) :
    halfP s (vAt (vArr x4) j) (ix2 l i) = halfK (exK fun κ => s (ix3 0 κ i)) (fun κ => x4 (ix3 0 κ (hc (jh j) l))) := by
  rw [halfP_apply]
  unfold halfK
  simp only [vAt_apply, vArr_apply, ex_apply]
  have e1 : ∀ κ : Fin 2048, vG x4 (ix3 (jh j) (⟨l.val, by omega⟩ : Fin 144) κ) = x4 (ix3 0 κ (hc (jh j) l)) := fun κ => vG_lt x4 (jh j) ⟨l.val, by omega⟩ κ l.isLt
  have e2 : ∀ κ : Fin 2048, vG x4 (ix3 (jh j) (128 : Fin 144) κ) = 1 := fun κ => vG_ge x4 (jh j) 128 κ (by decide)
  simp only [e1, e2]

theorem item_apply (lam : FVec Ideal S1x1 .f32) (sub : Vec Ideal S1x128 .f32) (hl : lam (ix2 0 0) = lamR 0x3E4CCCCD#32 fun a d => x10 (ix2 a d)) (hs : ∀ a : Fin 128, sub (ix2 0 a) = x11 (ix2 0 a))
    (j : Fin 16) (i : Fin 256) (l : Fin 128) :
    outT (sc0 (qArr x2 x6 x7) (kArr x3 x8 x9) j) (sc1 (qArr x2 x6 x7) (kArr x3 x8 x9) j) (vAt (vArr x4) j) lam sub (gAt x5 j) (ix3 0 i l)
      = headAt x2 x3 x4 x5 x6 x7 x8 x9 x10 x11 (jh j) (rw8 (jr j) i) l := by
  unfold outT
  rw [pay180_apply]
  simp only [ot_apply, halfP_eq, sc0_apply, sc1_apply, gAt_apply, hl, hs]
  rfl

theorem pc_piece (lam : FVec Ideal S1x1 .f32) (sub : Vec Ideal S1x128 .f32) (hl : lam (ix2 0 0) = lamR 0x3E4CCCCD#32 fun a d => x10 (ix2 a d)) (hs : ∀ a : Fin 128, sub (ix2 0 a) = x11 (ix2 0 a))
    (j : Fin 16) (z : (pc (qArr x2 x6 x7) (kArr x3 x8 x9) (vArr x4) lam sub x5 j).1.shape.Idx) :
    (pc (qArr x2 x6 x7) (kArr x3 x8 x9) (vArr x4) lam sub x5 j).2 z = oG x2 x3 x4 x5 x6 x7 x8 x9 x10 x11 ((pc (qArr x2 x6 x7) (kArr x3 x8 x9) (vArr x4) lam sub x5 j).1.emb z) := by
  obtain ⟨i, l, rfl⟩ := ones3 (n := 256) (m := 128) z
  have e : (pc (qArr x2 x6 x7) (kArr x3 x8 x9) (vArr x4) lam sub x5 j).1.emb (ix3 (0 : Fin 1) i l) = ix3 (0 : Fin 1) (rw8 (jr j) i) (hc (jh j) l) := by
    refine funext fun a => Fin.ext ?_
    match a with
    | ⟨0, _⟩ => rfl
    | ⟨1, _⟩ => show j.val % 8 * 256 + 1 * i.val = j.val % 8 * 256 + i.val; omega
    | ⟨2, _⟩ => show j.val / 8 * 128 + 1 * l.val = j.val / 8 * 128 + l.val; omega
  refine Eq.trans ?_ (congrArg (oG x2 x3 x4 x5 x6 x7 x8 x9 x10 x11) e).symm
  refine (item_apply x2 x3 x4 x5 x6 x7 x8 x9 x10 x11 lam sub hl hs j i l).trans ?_
  have h1 : (⟨(hc (jh j) l).val / 128, by omega⟩ : Fin 2) = jh j := Fin.ext (by show (j.val / 8 * 128 + l.val) / 128 = j.val / 8; omega)
  have h2 : (⟨(hc (jh j) l).val % 128, by omega⟩ : Fin 128) = l := Fin.ext (by show (j.val / 8 * 128 + l.val) % 128 = l.val; omega)
  show _ = headAt x2 x3 x4 x5 x6 x7 x8 x9 x10 x11 ⟨(hc (jh j) l).val / 128, by omega⟩ (rw8 (jr j) i) ⟨(hc (jh j) l).val % 128, by omega⟩
  rw [h1, h2]

theorem outP_pieces (lam : FVec Ideal S1x1 .f32) (sub : Vec Ideal S1x128 .f32) (hl : lam (ix2 0 0) = lamR 0x3E4CCCCD#32 fun a d => x10 (ix2 a d)) (hs : ∀ a : Fin 128, sub (ix2 0 a) = x11 (ix2 0 a)) :
    ∀ (n : ℕ) (hn : n ≤ 8), ∀ p ∈ outP (qArr x2 x6 x7) (kArr x3 x8 x9) (vArr x4) lam sub x5 n hn, ∀ z, p.2 z = oG x2 x3 x4 x5 x6 x7 x8 x9 x10 x11 (p.1.emb z)
  | 0, _, p, hp => absurd hp List.not_mem_nil
  | n + 1, hn, p, hp => by
    rcases List.mem_cons.mp hp with rfl | hp
    · exact pc_piece x2 x3 x4 x5 x6 x7 x8 x9 x10 x11 lam sub hl hs _
    rcases List.mem_cons.mp hp with rfl | hp
    · exact pc_piece x2 x3 x4 x5 x6 x7 x8 x9 x10 x11 lam sub hl hs _
    exact outP_pieces lam sub hl hs n _ p hp

theorem outA_apply (y : S1x2048x256.Idx) : outA x2 x3 x4 x5 x6 x7 x8 x9 x10 x11 y = oG x2 x3 x4 x5 x6 x7 x8 x9 x10 x11 y := by
  unfold outA
  refine View.canon_apply_of_pieces (oG x2 x3 x4 x5 x6 x7 x8 x9 x10 x11) (outB x2 x3 x4 x5 x6 x7 x8 x9 x10 x11) ?_ y (outB_cover x2 x3 x4 x5 x6 x7 x8 x9 x10 x11 y)
  unfold outB
  refine outP_pieces x2 x3 x4 x5 x6 x7 x8 x9 x10 x11 _ _ ?_ ?_ 8 _
  · rw [lamOf_apply, View.ld_unit_zero (funext fun a => by match a with | ⟨0, _⟩ => rfl | ⟨1, _⟩ => rfl)]
  · intro a; rw [View.ld_unit_zero (funext fun a => by match a with | ⟨0, _⟩ => rfl | ⟨1, _⟩ => rfl)]

end Block

end Cert.KernelIdeal.Diff

end
-- ==== Proof.DiffTab.lean ====
/- The tables the kernel is called with, at an index. -/
module

public import proofs.«01_k».proof.Proof.DiffBlk
public import Idealize.ShloMosaic.Lib.StableHlo.ReadAt

@[expose] public section

set_option maxRecDepth 16384

noncomputable section

namespace Cert.KernelIdeal.Diff

open Cert.KernelIdeal Cert.KernelIdeal.Gen Cert.Attn Idealize.ShloMosaic Idealize.ShloMosaic.TcCoe Idealize.SL.Sem
open Idealize.ShloMosaic.Pointwise

variable (m : (ℓ : Loc nD τ sig) → Buf (Elt Ideal) ℓ)

theorem V_v43 (c : Dev nD) (l : Fin 128) : V m c main_v43 (ix2 0 l) = m ((c : Thread nD τ).loc main_arg3) (ix1 l) := by
  unfold V; after_reads_at

theorem cat4 (f : Fin 32 → EReal) (l : Fin 128) :
    (if h : l.val < 32 then f ⟨l.val, h⟩ else if h : l.val - 32 < 32 then f ⟨l.val - 32, h⟩ else if h : l.val - 32 - 32 < 32 then f ⟨l.val - 32 - 32, h⟩
      else f ⟨l.val - 32 - 32 - 32, by omega⟩) = f ⟨l.val % 32, by omega⟩ := by
  by_cases h1 : l.val < 32
  · rw [dif_pos h1]; exact congrArg f (Fin.ext (by show l.val = l.val % 32; omega))
  rw [dif_neg h1]
  by_cases h2 : l.val - 32 < 32
  · rw [dif_pos h2]; exact congrArg f (Fin.ext (by show l.val - 32 = l.val % 32; omega))
  rw [dif_neg h2]
  by_cases h3 : l.val - 32 - 32 < 32
  · rw [dif_pos h3]; exact congrArg f (Fin.ext (by show l.val - 32 - 32 = l.val % 32; omega))
  rw [dif_neg h3]; exact congrArg f (Fin.ext (by show l.val - 32 - 32 - 32 = l.val % 32; omega))

theorem alt4 (f g : Fin 32 → EReal) (l : Fin 128) :
    (if h : l.val < 32 then g ⟨l.val, h⟩ else if h : l.val - 32 < 32 then f ⟨l.val - 32, h⟩ else if h : l.val - 32 - 32 < 32 then g ⟨l.val - 32 - 32, h⟩
      else f ⟨l.val - 32 - 32 - 32, by omega⟩) = if l.val % 64 < 32 then g ⟨l.val % 32, by omega⟩ else f ⟨l.val % 32, by omega⟩ := by
  by_cases h1 : l.val < 32
  · rw [dif_pos h1, if_pos (by omega)]; exact congrArg g (Fin.ext (by show l.val = l.val % 32; omega))
  rw [dif_neg h1]
  by_cases h2 : l.val - 32 < 32
  · rw [dif_pos h2, if_neg (by omega)]; exact congrArg f (Fin.ext (by show l.val - 32 = l.val % 32; omega))
  rw [dif_neg h2]
  by_cases h3 : l.val - 32 - 32 < 32
  · rw [dif_pos h3, if_pos (by omega)]; exact congrArg g (Fin.ext (by show l.val - 32 - 32 = l.val % 32; omega))
  rw [dif_neg h3, if_neg (by omega)]; exact congrArg f (Fin.ext (by show l.val - 32 - 32 - 32 = l.val % 32; omega))

theorem swap2 (w : Fin 64 → EReal) (l : Fin 128) :
    (if h : l.val % 64 < 32 then w ⟨32 + l.val % 64, by omega⟩ else w ⟨l.val % 64 - 32, by omega⟩) = w ⟨(l.val + 32) % 64, by omega⟩ := by
  by_cases h : l.val % 64 < 32
  · rw [dif_pos h]; exact congrArg w (Fin.ext (by show 32 + l.val % 64 = (l.val + 32) % 64; omega))
  · rw [dif_neg h]; exact congrArg w (Fin.ext (by show l.val % 64 - 32 = (l.val + 32) % 64; omega))

theorem r16 (c : Dev nD) (p : Fin 2048) (f : Fin 32) :
    StableHlo.upto hostOps0 (fun b => m (c, b)) 22 (Proc.tc.devRef main_v16) (ix2 p f) = Ideal.cos (ang p f) := by
  after_reads_at
  rfl
theorem r17 (c : Dev nD) (p : Fin 2048) (f : Fin 32) :
    StableHlo.upto hostOps0 (fun b => m (c, b)) 25 (Proc.tc.devRef main_v17) (ix2 p f) = Ideal.sin (ang p f) := by
  after_reads_at
  rfl
theorem r19 (c : Dev nD) (p : Fin 2048) (f : Fin 32) :
    StableHlo.upto hostOps0 (fun b => m (c, b)) 25 (Proc.tc.devRef main_v19) (ix2 p f) = -Ideal.sin (ang p f) := by
  after_reads_at
  rfl
theorem r20 (c : Dev nD) (p : Fin 2048) (f : Fin 32) :
    StableHlo.upto hostOps0 (fun b => m (c, b)) 25 (Proc.tc.devRef main_v20) (ix2 p f) = -Ideal.sin (ang p f) := by
  after_reads_at
  rfl
theorem r25 (c : Dev nD) (k : Fin 2) (f : Fin 32) :
    StableHlo.upto hostOps0 (fun b => m (c, b)) 31 (Proc.tc.devRef main_v25) (ix2 k f) = m ((c : Thread nD τ).loc main_arg1) (ix2 k ⟨32 + f, by omega⟩) := by
  after_reads_at
theorem r26 (c : Dev nD) (k : Fin 2) (f : Fin 32) :
    StableHlo.upto hostOps0 (fun b => m (c, b)) 31 (Proc.tc.devRef main_v26) (ix2 k f) = m ((c : Thread nD τ).loc main_arg1) (ix2 k ⟨f, by omega⟩) := by
  after_reads_at

theorem catG {A B C D f g : Fin 32 → EReal} (l : Fin 128) (hA : ∀ x, A x = f x) (hB : ∀ x, B x = g x) (hC : ∀ x, C x = f x) (hD : ∀ x, D x = g x) :
    (if h : l.val < 32 then A ⟨l.val, h⟩ else if h : l.val - 32 < 32 then B ⟨l.val - 32, h⟩ else if h : l.val - 32 - 32 < 32 then C ⟨l.val - 32 - 32, h⟩
      else D ⟨l.val - 32 - 32 - 32, by omega⟩) = if l.val % 64 < 32 then f ⟨l.val % 32, by omega⟩ else g ⟨l.val % 32, by omega⟩ := by
  rw [← alt4 g f l]
  simp only [hA, hB, hC, hD]

theorem swapG {A B : Fin 32 → EReal} (w : Fin 64 → EReal) (l : Fin 128) (hA : ∀ x : Fin 32, A x = w ⟨32 + x, by omega⟩)
    (hB : ∀ x : Fin 32, B x = w ⟨x, by omega⟩) :
    (if h : l.val % 64 < 32 then A ⟨l.val % 64, h⟩ else B ⟨l.val % 64 - 32, by omega⟩) = w ⟨(l.val + 32) % 64, by omega⟩ := by
  rw [← swap2 w l]
  simp only [hA, hB]

theorem V_v33 (c : Dev nD) (p : Fin 2048) (l : Fin 128) :
    V m c main_v33 (ix2 p l) = coT (fun d => m ((c : Thread nD τ).loc main_arg1) (ix2 0 d)) p l := by
  have e := catG l (r16 m c p) (r16 m c p) (r16 m c p) (r16 m c p)
  rw [ite_self] at e
  unfold V
  after_reads_at
  exact congrArg (· * m ((c : Thread nD τ).loc main_arg1) (ix2 0 ⟨l.val % 64, by omega⟩)) e
theorem V_v39 (c : Dev nD) (p : Fin 2048) (l : Fin 128) :
    V m c main_v39 (ix2 p l) = coT (fun d => m ((c : Thread nD τ).loc main_arg1) (ix2 1 d)) p l := by
  have e := catG l (r16 m c p) (r16 m c p) (r16 m c p) (r16 m c p)
  rw [ite_self] at e
  unfold V
  after_reads_at
  exact congrArg (· * m ((c : Thread nD τ).loc main_arg1) (ix2 1 ⟨l.val % 64, by omega⟩)) e
theorem V_v36 (c : Dev nD) (p : Fin 2048) (l : Fin 128) :
    V m c main_v36 (ix2 p l) = siT (fun d => m ((c : Thread nD τ).loc main_arg1) (ix2 0 d)) p l := by
  have e := catG l (r19 m c p) (r17 m c p) (r20 m c p) (r17 m c p)
  have e' := swapG (fun d => m ((c : Thread nD τ).loc main_arg1) (ix2 0 d)) l (r25 m c 0) (r26 m c 0)
  unfold V
  after_reads_at
  exact congrArg₂ (· * ·) e e'
theorem V_v42 (c : Dev nD) (p : Fin 2048) (l : Fin 128) :
    V m c main_v42 (ix2 p l) = siT (fun d => m ((c : Thread nD τ).loc main_arg1) (ix2 1 d)) p l := by
  have e := catG l (r19 m c p) (r17 m c p) (r20 m c p) (r17 m c p)
  have e' := swapG (fun d => m ((c : Thread nD τ).loc main_arg1) (ix2 1 d)) l (r25 m c 1) (r26 m c 1)
  unfold V
  after_reads_at
  exact congrArg₂ (· * ·) e e'

end Cert.KernelIdeal.Diff

end
-- ==== Proof.DiffMain.lean ====
/- The kernel's result array, as a function of its arguments. -/
module

public import proofs.«01_k».proof.Proof.DiffTab

@[expose] public section

set_option maxRecDepth 16384

noncomputable section

namespace Cert.KernelIdeal.Diff

open Cert.KernelIdeal Cert.KernelIdeal.Gen Cert.Attn Idealize.ShloMosaic Idealize.ShloMosaic.TcCoe Idealize.SL.Sem
open Idealize.ShloMosaic.Pointwise

variable (m : (ℓ : Loc nD τ sig) → Buf (Elt Ideal) ℓ)

abbrev U (c : Dev nD) : S8x2048x6656.Idx → EReal := m ((c : Thread nD τ).loc main_arg0)
abbrev W (c : Dev nD) : S2x64.Idx → EReal := m ((c : Thread nD τ).loc main_arg1)
abbrev LM (c : Dev nD) : S4x64.Idx → EReal := m ((c : Thread nD τ).loc main_arg2)
abbrev SB (c : Dev nD) : S128.Idx → EReal := m ((c : Thread nD τ).loc main_arg3)

/-- One head's result for one query, from the arguments. -/
def KG (c : Dev nD) (b : Fin 8) (h : Fin 4) (p : Fin 2048) (l : Fin 128) : EReal :=
  headK 0x3F4CCCCD#32 (lamR 0x3E4CCCCD#32 fun a d => LM m c (ix2 a d)) (fun a => U m c (ix3 b p (ucol 0 h a))) (fun κ a => U m c (ix3 b κ (ucol 1 h a)))
    (fun κ a => U m c (ix3 b κ (ucol 2 h a))) (fun a => U m c (ix3 b p (ucol 3 h a)))
    (coT (fun d => W m c (ix2 0 d)) p) (siT (fun d => W m c (ix2 0 d)) p) (coT (fun d => W m c (ix2 1 d))) (siT (fun d => W m c (ix2 1 d)))
    (fun a => SB m c (ix1 a)) l

/-- The result array. -/
def GK (c : Dev nD) : S8x2048x512.Idx → EReal := fun i =>
  KG m c (i 0) ⟨(i 2).val / 128, by have h : (i 2).val < 512 := (i 2).isLt; omega⟩ (i 1) ⟨(i 2).val % 128, by omega⟩

abbrev bt (t : Fin cfg0.N) : Fin 8 := ⟨t.val / 2, by have : t.val < 16 := t.isLt; omega⟩
abbrev ht (t : Fin cfg0.N) (h : Fin 2) : Fin 4 := ⟨t.val % 2 * 2 + h, by omega⟩
abbrev cq (t : Fin cfg0.N) (part : Fin 4) (l : Fin 256) : Fin 6656 := ⟨(10 + part * 2 + t.val % 2) * 256 + l, by omega⟩
abbrev co' (t : Fin cfg0.N) (l : Fin 256) : Fin 512 := ⟨t.val % 2 * 256 + l, by omega⟩

theorem cq_hc (t : Fin cfg0.N) (part : Fin 4) (h : Fin 2) (a : Fin 128) : cq t part (hc h a) = ucol part (ht t h) a :=
  Fin.ext (by show (10 + part.val * 2 + t.val % 2) * 256 + (h.val * 128 + a.val) = 2560 + part.val * 512 + (t.val % 2 * 2 + h.val) * 128 + a.val; omega)

theorem idx0 : ∀ t : Fin cfg0.N, win0_0.index t (0 : Fin 3) = t.val / 2 ∧ win0_0.index t (1 : Fin 3) = 0 ∧ win0_0.index t (2 : Fin 3) = 10 + t.val % 2 :=
  (by decide +kernel : ∀ t : Fin grid0.N, win0_0.index t (0 : Fin 3) = t.val / 2 ∧ win0_0.index t (1 : Fin 3) = 0 ∧ win0_0.index t (2 : Fin 3) = 10 + t.val % 2)
theorem emb0 (t : Fin cfg0.N) (p : Fin 2048) (l : Fin 256) : ((cfg0.win 0).blk t).view.emb (ix3 0 p l) = ix3 (bt t) p (cq t 0 l) := by
  obtain ⟨e0, e1, e2⟩ := idx0 t
  funext a; apply Fin.ext
  match a with
  | ⟨0, _⟩ => show win0_0.index t (0 : Fin 3) * 1 + 1 * 0 = t.val / 2; omega
  | ⟨1, _⟩ => show win0_0.index t (1 : Fin 3) * 2048 + 1 * p.val = p.val; omega
  | ⟨2, _⟩ => show win0_0.index t (2 : Fin 3) * 256 + 1 * l.val = (10 + 0 * 2 + t.val % 2) * 256 + l.val; omega
theorem iblk0 (c : Dev nD) (t : Fin cfg0.N) (p : Fin 2048) (l : Fin 256) :
    iblk m c 0 t (ix3 0 p l) = U m c (ix3 (bt t) p (cq t 0 l)) := by
  show V m c main_arg0 (((cfg0.win 0).blk t).view.emb (ix3 0 p l)) = _
  rw [emb0, V_main_arg0]

theorem idx1 : ∀ t : Fin cfg0.N, win0_1.index t (0 : Fin 3) = t.val / 2 ∧ win0_1.index t (1 : Fin 3) = 0 ∧ win0_1.index t (2 : Fin 3) = 12 + t.val % 2 :=
  (by decide +kernel : ∀ t : Fin grid0.N, win0_1.index t (0 : Fin 3) = t.val / 2 ∧ win0_1.index t (1 : Fin 3) = 0 ∧ win0_1.index t (2 : Fin 3) = 12 + t.val % 2)
theorem emb1 (t : Fin cfg0.N) (p : Fin 2048) (l : Fin 256) : ((cfg0.win 1).blk t).view.emb (ix3 0 p l) = ix3 (bt t) p (cq t 1 l) := by
  obtain ⟨e0, e1, e2⟩ := idx1 t
  funext a; apply Fin.ext
  match a with
  | ⟨0, _⟩ => show win0_1.index t (0 : Fin 3) * 1 + 1 * 0 = t.val / 2; omega
  | ⟨1, _⟩ => show win0_1.index t (1 : Fin 3) * 2048 + 1 * p.val = p.val; omega
  | ⟨2, _⟩ => show win0_1.index t (2 : Fin 3) * 256 + 1 * l.val = (10 + 1 * 2 + t.val % 2) * 256 + l.val; omega
theorem iblk1 (c : Dev nD) (t : Fin cfg0.N) (p : Fin 2048) (l : Fin 256) :
    iblk m c 1 t (ix3 0 p l) = U m c (ix3 (bt t) p (cq t 1 l)) := by
  show V m c main_arg0 (((cfg0.win 1).blk t).view.emb (ix3 0 p l)) = _
  rw [emb1, V_main_arg0]

theorem idx2 : ∀ t : Fin cfg0.N, win0_2.index t (0 : Fin 3) = t.val / 2 ∧ win0_2.index t (1 : Fin 3) = 0 ∧ win0_2.index t (2 : Fin 3) = 14 + t.val % 2 :=
  (by decide +kernel : ∀ t : Fin grid0.N, win0_2.index t (0 : Fin 3) = t.val / 2 ∧ win0_2.index t (1 : Fin 3) = 0 ∧ win0_2.index t (2 : Fin 3) = 14 + t.val % 2)
theorem emb2 (t : Fin cfg0.N) (p : Fin 2048) (l : Fin 256) : ((cfg0.win 2).blk t).view.emb (ix3 0 p l) = ix3 (bt t) p (cq t 2 l) := by
  obtain ⟨e0, e1, e2⟩ := idx2 t
  funext a; apply Fin.ext
  match a with
  | ⟨0, _⟩ => show win0_2.index t (0 : Fin 3) * 1 + 1 * 0 = t.val / 2; omega
  | ⟨1, _⟩ => show win0_2.index t (1 : Fin 3) * 2048 + 1 * p.val = p.val; omega
  | ⟨2, _⟩ => show win0_2.index t (2 : Fin 3) * 256 + 1 * l.val = (10 + 2 * 2 + t.val % 2) * 256 + l.val; omega
theorem iblk2 (c : Dev nD) (t : Fin cfg0.N) (p : Fin 2048) (l : Fin 256) :
    iblk m c 2 t (ix3 0 p l) = U m c (ix3 (bt t) p (cq t 2 l)) := by
  show V m c main_arg0 (((cfg0.win 2).blk t).view.emb (ix3 0 p l)) = _
  rw [emb2, V_main_arg0]

theorem idx3 : ∀ t : Fin cfg0.N, win0_3.index t (0 : Fin 3) = t.val / 2 ∧ win0_3.index t (1 : Fin 3) = 0 ∧ win0_3.index t (2 : Fin 3) = 16 + t.val % 2 :=
  (by decide +kernel : ∀ t : Fin grid0.N, win0_3.index t (0 : Fin 3) = t.val / 2 ∧ win0_3.index t (1 : Fin 3) = 0 ∧ win0_3.index t (2 : Fin 3) = 16 + t.val % 2)
theorem emb3 (t : Fin cfg0.N) (p : Fin 2048) (l : Fin 256) : ((cfg0.win 3).blk t).view.emb (ix3 0 p l) = ix3 (bt t) p (cq t 3 l) := by
  obtain ⟨e0, e1, e2⟩ := idx3 t
  funext a; apply Fin.ext
  match a with
  | ⟨0, _⟩ => show win0_3.index t (0 : Fin 3) * 1 + 1 * 0 = t.val / 2; omega
  | ⟨1, _⟩ => show win0_3.index t (1 : Fin 3) * 2048 + 1 * p.val = p.val; omega
  | ⟨2, _⟩ => show win0_3.index t (2 : Fin 3) * 256 + 1 * l.val = (10 + 3 * 2 + t.val % 2) * 256 + l.val; omega
theorem iblk3 (c : Dev nD) (t : Fin cfg0.N) (p : Fin 2048) (l : Fin 256) :
    iblk m c 3 t (ix3 0 p l) = U m c (ix3 (bt t) p (cq t 3 l)) := by
  show V m c main_arg0 (((cfg0.win 3).blk t).view.emb (ix3 0 p l)) = _
  rw [emb3, V_main_arg0]

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem emb4 (t : Fin cfg0.N) (p : Fin 2048) (l : Fin 128) : ((cfg0.win 4).blk t).view.emb (ix2 p l) = ix2 p l := by
  obtain ⟨e0, e1⟩ := idx4 t
  funext a; apply Fin.ext
  match a with
  | ⟨0, _⟩ => show win0_4.index t (0 : Fin 2) * 2048 + 1 * p.val = p.val; omega
  | ⟨1, _⟩ => show win0_4.index t (1 : Fin 2) * 128 + 1 * l.val = l.val; omega
theorem iblk4 (c : Dev nD) (t : Fin cfg0.N) (p : Fin 2048) (l : Fin 128) :
    iblk m c 4 t (ix2 p l) = coT (fun d => W m c (ix2 0 d)) p l := by
  show V m c main_v33 (((cfg0.win 4).blk t).view.emb (ix2 p l)) = _
  rw [emb4]; exact V_v33 m c p l

theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem emb5 (t : Fin cfg0.N) (p : Fin 2048) (l : Fin 128) : ((cfg0.win 5).blk t).view.emb (ix2 p l) = ix2 p l := by
  obtain ⟨e0, e1⟩ := idx5 t
  funext a; apply Fin.ext
  match a with
  | ⟨0, _⟩ => show win0_5.index t (0 : Fin 2) * 2048 + 1 * p.val = p.val; omega
  | ⟨1, _⟩ => show win0_5.index t (1 : Fin 2) * 128 + 1 * l.val = l.val; omega
theorem iblk5 (c : Dev nD) (t : Fin cfg0.N) (p : Fin 2048) (l : Fin 128) :
    iblk m c 5 t (ix2 p l) = siT (fun d => W m c (ix2 0 d)) p l := by
  show V m c main_v36 (((cfg0.win 5).blk t).view.emb (ix2 p l)) = _
  rw [emb5]; exact V_v36 m c p l

theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem emb6 (t : Fin cfg0.N) (p : Fin 2048) (l : Fin 128) : ((cfg0.win 6).blk t).view.emb (ix2 p l) = ix2 p l := by
  obtain ⟨e0, e1⟩ := idx6 t
  funext a; apply Fin.ext
  match a with
  | ⟨0, _⟩ => show win0_6.index t (0 : Fin 2) * 2048 + 1 * p.val = p.val; omega
  | ⟨1, _⟩ => show win0_6.index t (1 : Fin 2) * 128 + 1 * l.val = l.val; omega
theorem iblk6 (c : Dev nD) (t : Fin cfg0.N) (p : Fin 2048) (l : Fin 128) :
    iblk m c 6 t (ix2 p l) = coT (fun d => W m c (ix2 1 d)) p l := by
  show V m c main_v39 (((cfg0.win 6).blk t).view.emb (ix2 p l)) = _
  rw [emb6]; exact V_v39 m c p l

theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem emb7 (t : Fin cfg0.N) (p : Fin 2048) (l : Fin 128) : ((cfg0.win 7).blk t).view.emb (ix2 p l) = ix2 p l := by
  obtain ⟨e0, e1⟩ := idx7 t
  funext a; apply Fin.ext
  match a with
  | ⟨0, _⟩ => show win0_7.index t (0 : Fin 2) * 2048 + 1 * p.val = p.val; omega
  | ⟨1, _⟩ => show win0_7.index t (1 : Fin 2) * 128 + 1 * l.val = l.val; omega
theorem iblk7 (c : Dev nD) (t : Fin cfg0.N) (p : Fin 2048) (l : Fin 128) :
    iblk m c 7 t (ix2 p l) = siT (fun d => W m c (ix2 1 d)) p l := by
  show V m c main_v42 (((cfg0.win 7).blk t).view.emb (ix2 p l)) = _
  rw [emb7]; exact V_v42 m c p l

theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem emb8 (t : Fin cfg0.N) (p : Fin 4) (l : Fin 64) : ((cfg0.win 8).blk t).view.emb (ix2 p l) = ix2 p l := by
  obtain ⟨e0, e1⟩ := idx8 t
  funext a; apply Fin.ext
  match a with
  | ⟨0, _⟩ => show win0_8.index t (0 : Fin 2) * 4 + 1 * p.val = p.val; omega
  | ⟨1, _⟩ => show win0_8.index t (1 : Fin 2) * 64 + 1 * l.val = l.val; omega
theorem iblk8 (c : Dev nD) (t : Fin cfg0.N) (p : Fin 4) (l : Fin 64) :
    iblk m c 8 t (ix2 p l) = LM m c (ix2 p l) := by
  show V m c main_arg2 (((cfg0.win 8).blk t).view.emb (ix2 p l)) = _
  rw [emb8, V_main_arg2]

theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem emb9 (t : Fin cfg0.N) (l : Fin 128) : ((cfg0.win 9).blk t).view.emb (ix2 0 l) = ix2 0 l := by
  obtain ⟨e0, e1⟩ := idx9 t
  funext a; apply Fin.ext
  match a with
  | ⟨0, _⟩ => show win0_9.index t (0 : Fin 2) * 1 + 1 * 0 = 0; omega
  | ⟨1, _⟩ => show win0_9.index t (1 : Fin 2) * 128 + 1 * l.val = l.val; omega
theorem iblk9 (c : Dev nD) (t : Fin cfg0.N) (l : Fin 128) :
    iblk m c 9 t (ix2 0 l) = SB m c (ix1 l) := by
  show V m c main_v43 (((cfg0.win 9).blk t).view.emb (ix2 0 l)) = _
  rw [emb9]; exact V_v43 m c l

theorem idx10 : ∀ t : Fin cfg0.N, win0_10.index t (0 : Fin 3) = t.val / 2 ∧ win0_10.index t (1 : Fin 3) = 0 ∧ win0_10.index t (2 : Fin 3) = t.val % 2 :=
  (by decide +kernel : ∀ t : Fin grid0.N, win0_10.index t (0 : Fin 3) = t.val / 2 ∧ win0_10.index t (1 : Fin 3) = 0 ∧ win0_10.index t (2 : Fin 3) = t.val % 2)
theorem emb10 (t : Fin cfg0.N) (p : Fin 2048) (l : Fin 256) : ((cfg0.win 10).blk t).view.emb (ix3 0 p l) = ix3 (bt t) p (co' t l) := by
  obtain ⟨e0, e1, e2⟩ := idx10 t
  funext a; apply Fin.ext
  match a with
  | ⟨0, _⟩ => show win0_10.index t (0 : Fin 3) * 1 + 1 * 0 = t.val / 2; omega
  | ⟨1, _⟩ => show win0_10.index t (1 : Fin 3) * 2048 + 1 * p.val = p.val; omega
  | ⟨2, _⟩ => show win0_10.index t (2 : Fin 3) * 256 + 1 * l.val = t.val % 2 * 256 + l.val; omega

theorem headAt_blocks (c : Dev nD) (t : Fin cfg0.N) (h : Fin 2) (p : Fin 2048) (l : Fin 128) :
    headAt (iblk m c 0 t) (iblk m c 1 t) (iblk m c 2 t) (iblk m c 3 t) (iblk m c 4 t) (iblk m c 5 t) (iblk m c 6 t) (iblk m c 7 t) (iblk m c 8 t) (iblk m c 9 t) h p l
      = KG m c (bt t) (ht t h) p l := by
  unfold headAt KG
  simp only [iblk0, iblk1, iblk2, iblk3, iblk4, iblk5, iblk6, iblk7, iblk8, iblk9, cq_hc]

theorem out_at (c : Dev nD) (t : Fin cfg0.N) (p : Fin 2048) (l : Fin 256) :
    oG (iblk m c 0 t) (iblk m c 1 t) (iblk m c 2 t) (iblk m c 3 t) (iblk m c 4 t) (iblk m c 5 t) (iblk m c 6 t) (iblk m c 7 t) (iblk m c 8 t) (iblk m c 9 t) (ix3 0 p l)
      = GK m c (ix3 (bt t) p (co' t l)) := by
  show headAt (iblk m c 0 t) (iblk m c 1 t) (iblk m c 2 t) (iblk m c 3 t) (iblk m c 4 t) (iblk m c 5 t) (iblk m c 6 t) (iblk m c 7 t) (iblk m c 8 t) (iblk m c 9 t)
      ⟨l.val / 128, by omega⟩ p ⟨l.val % 128, by omega⟩ = KG m c (bt t) ⟨(co' t l).val / 128, by omega⟩ p ⟨(co' t l).val % 128, by omega⟩
  rw [headAt_blocks]
  rw [show ht t ⟨l.val / 128, by omega⟩ = (⟨(co' t l).val / 128, by omega⟩ : Fin 4) from
      Fin.ext (by show t.val % 2 * 2 + l.val / 128 = (t.val % 2 * 256 + l.val) / 128; omega),
    show (⟨l.val % 128, by omega⟩ : Fin 128) = ⟨(co' t l).val % 128, by omega⟩ from
      Fin.ext (by show l.val % 128 = (t.val % 2 * 256 + l.val) % 128; omega)]

theorem flushed10 (c : Dev nD) (t : Fin cfg0.N) :
    (dats m 0 c).flushed 10 t = ((cfg0.win 10).blk t).view.read (Elt Ideal) (GK m c) := by
  rw [show (dats m 0 c).flushed 10 t = (cfg0.win 10).cut (grid0.coords t) ((dats m 0 c).after 10 t) from rfl, after_10]
  funext j
  obtain ⟨p, l, rfl⟩ := ones3 (n := 2048) (m := 256) j
  show outA (F := Ideal) _ _ _ _ _ _ _ _ _ _ (ix3 0 p l) = GK m c (((cfg0.win 10).blk t).view.emb (ix3 0 p l))
  rw [emb10, outA_apply, out_at]

theorem covered10 (i : S8x2048x512.Idx) :
    ∃ t : Fin cfg0.N, (cfg0.win 10).flush t = true ∧ i ∈ ((cfg0.win 10).blk t).view.set := by
  obtain ⟨b, p, l, rfl⟩ : ∃ (b : Fin 8) (p : Fin 2048) (l : Fin 512), i = ix3 b p l := ⟨i 0, i 1, i 2, eq_ix3 i⟩
  have hb : b.val * 2 + l.val / 256 < 16 := by omega
  refine ⟨(⟨b.val * 2 + l.val / 256, hb⟩ : Fin cfg0.N), flush0_10 _, ?_⟩
  have h := ((cfg0.win 10).blk (⟨b.val * 2 + l.val / 256, hb⟩ : Fin cfg0.N)).view.emb_mem_set (ix3 0 p (⟨l % 256, by omega⟩ : Fin 256))
  rw [emb10] at h
  have e : bt (⟨b.val * 2 + l.val / 256, hb⟩ : Fin cfg0.N) = b := Fin.ext (by show (b.val * 2 + l.val / 256) / 2 = b.val; omega)
  have e' : co' (⟨b.val * 2 + l.val / 256, hb⟩ : Fin cfg0.N) ⟨l % 256, by omega⟩ = l :=
    Fin.ext (by show (b.val * 2 + l.val / 256) % 2 * 256 + l.val % 256 = l.val; omega)
  rwa [e, e'] at h

/-- The kernel's run with its result array at `GK`. -/
theorem run_out (ρ : Dev nD → PrngReg) : θ_run defs (onTc (τ := τ) (main (F := Ideal))) ⟨m, fun _ => 0, ρ⟩ fun r => ∀ c : Dev nD,
      r.2.mem ((c : Thread nD τ).loc main_v44) = GK m c :=
  (θ_run defs _ _).mono (fun r h c => ((h.1 c).1 10).trans ((dats m 0 c).arrAt_eq_of_cover 10 (GK m c) (fun t _ => flushed10 m c t) covered10))
    (run_main m ρ)

end Cert.KernelIdeal.Diff

end
-- ==== Proof.DiffRefVal.lean ====
/- The reference's result at an index. -/
module

public import proofs.«01_k».proof.Proof.DiffSpec
public import proofs.«01_k».proof.Proof.Gen.ReferenceIdeal.Run
public import Idealize.ShloMosaic.Lib.Pointwise

@[expose] public section

set_option maxRecDepth 16384

noncomputable section

namespace Cert.ReferenceIdeal.Diff

open Cert.ReferenceIdeal Cert.ReferenceIdeal.Gen Cert.ReferenceIdeal.Value Cert.Attn
open Idealize.ShloMosaic Idealize.ShloMosaic.TcCoe Idealize.SL.Sem
open Idealize.ShloMosaic.Pointwise Idealize.ShloMosaic.StableHlo

variable (V0 : Valuation τ sig (Elt Ideal))

abbrev U : S8x2048x6656.Idx → EReal := V0 (Proc.devRef .tc main_arg0)
abbrev W : S2x64.Idx → EReal := V0 (Proc.devRef .tc main_arg1)
abbrev LM : S4x64.Idx → EReal := V0 (Proc.devRef .tc main_arg2)
abbrev SB : S128.Idx → EReal := V0 (Proc.devRef .tc main_arg3)

theorem v15_apply (p : Fin 2048) (f : Fin 32) : res_main_v15 (F := Ideal) V0 (ix2 p f) = ang p f := by
  unfold res_main_v15
  pointwise
  rfl
theorem v16_apply (p : Fin 2048) (f : Fin 32) : res_main_v16 (F := Ideal) V0 (ix2 p f) = Ideal.cos (ang p f) := by
  unfold res_main_v16
  pointwise
  rw [v15_apply]
theorem v17_apply (p : Fin 2048) (f : Fin 32) : res_main_v17 (F := Ideal) V0 (ix2 p f) = Ideal.sin (ang p f) := by
  unfold res_main_v17
  pointwise
  rw [v15_apply]

theorem v19_apply (b : Fin 8) (p : Fin 2048) (l : Fin 2048) : res_main_v19 (F := Ideal) V0 (ix3 b p l) = U V0 (ix3 b p ⟨2560 + l, by omega⟩) := by
  unfold res_main_v19
  pointwise

theorem v23_apply (b : Fin 8) (p : Fin 2048) (l : Fin 512) : res_main_v23 (F := Ideal) V0 (ix3 b p l) = U V0 (ix3 b p (ucol 3 ⟨l / 128, by omega⟩ ⟨l % 128, by omega⟩)) := by
  unfold res_main_v23
  pointwise
  rw [v19_apply]
  exact congrArg (fun q => U V0 (ix3 b p q)) (Fin.ext (by simp only [ucol]; omega))

theorem v25_apply (b : Fin 8) (h : Fin 4) (c : Fin 2) (p : Fin 2048) (d : Fin 64) : res_main_v25 (F := Ideal) V0 (ix5 b h c p d) = U V0 (ix3 b p (ucol 0 h (lane c d))) := by
  unfold res_main_v25
  pointwise
  rw [v19_apply]
  exact congrArg (fun q => U V0 (ix3 b p q)) (Fin.ext (by simp only [ucol, lane]; omega))
theorem v27_apply (b : Fin 8) (h : Fin 4) (c : Fin 2) (p : Fin 2048) (d : Fin 64) : res_main_v27 (F := Ideal) V0 (ix5 b h c p d) = U V0 (ix3 b p (ucol 1 h (lane c d))) := by
  unfold res_main_v27
  pointwise
  rw [v19_apply]
  exact congrArg (fun q => U V0 (ix3 b p q)) (Fin.ext (by simp only [ucol, lane]; omega))

theorem v42_apply (b : Fin 8) (h : Fin 4) (c : Fin 2) (p : Fin 2048) (d : Fin 64) : res_main_v42 (F := Ideal) V0 (ix5 b h c p d)
    = nmR (fun d => U V0 (ix3 b p (ucol 0 h (lane c d)))) (fun d => W V0 (ix2 0 d)) d := by
  unfold res_main_v42
  pointwise
  simp only [v25_apply]
  rfl
theorem v76_apply (b : Fin 8) (h : Fin 4) (c : Fin 2) (p : Fin 2048) (d : Fin 64) : res_main_v76 (F := Ideal) V0 (ix5 b h c p d)
    = nmR (fun d => U V0 (ix3 b p (ucol 1 h (lane c d)))) (fun d => W V0 (ix2 1 d)) d := by
  unfold res_main_v76
  pointwise
  simp only [v27_apply]
  rfl

theorem v43_apply (b : Fin 8) (h : Fin 4) (c : Fin 2) (p : Fin 2048) (d : Fin 32) : res_main_v43 (F := Ideal) V0 (ix5 b h c p d)
    = res_main_v42 (F := Ideal) V0 (ix5 b h c p ⟨d, by omega⟩) := by
  unfold res_main_v43
  pointwise
theorem v44_apply (b : Fin 8) (h : Fin 4) (c : Fin 2) (p : Fin 2048) (d : Fin 32) : res_main_v44 (F := Ideal) V0 (ix5 b h c p d)
    = res_main_v42 (F := Ideal) V0 (ix5 b h c p ⟨32 + d, by omega⟩) := by
  unfold res_main_v44
  pointwise
theorem v77_apply (b : Fin 8) (h : Fin 4) (c : Fin 2) (p : Fin 2048) (d : Fin 32) : res_main_v77 (F := Ideal) V0 (ix5 b h c p d)
    = res_main_v76 (F := Ideal) V0 (ix5 b h c p ⟨d, by omega⟩) := by
  unfold res_main_v77
  pointwise
theorem v78_apply (b : Fin 8) (h : Fin 4) (c : Fin 2) (p : Fin 2048) (d : Fin 32) : res_main_v78 (F := Ideal) V0 (ix5 b h c p d)
    = res_main_v76 (F := Ideal) V0 (ix5 b h c p ⟨32 + d, by omega⟩) := by
  unfold res_main_v78
  pointwise

end Cert.ReferenceIdeal.Diff

end
-- ==== Proof.DiffRefVal2.lean ====
/- The reference's scores, softmax and difference at an index. -/
module

public import proofs.«01_k».proof.Proof.DiffRefVal

@[expose] public section

set_option maxRecDepth 16384

noncomputable section

namespace Cert.ReferenceIdeal.Diff

open Cert.ReferenceIdeal Cert.ReferenceIdeal.Gen Cert.ReferenceIdeal.Value Cert.Attn
open Idealize.ShloMosaic Idealize.ShloMosaic.TcCoe Idealize.SL.Sem
open Idealize.ShloMosaic.Pointwise Idealize.ShloMosaic.StableHlo

variable (V0 : Valuation τ sig (Elt Ideal))

/-- The scores, at an index. -/
abbrev scAt (b : Fin 8) (h : Fin 4) (c : Fin 2) (p : Fin 2048) : Fin 2048 → EReal :=
  scoreR (fun l => U V0 (ix3 b p (ucol 0 h l))) (fun κ l => U V0 (ix3 b κ (ucol 1 h l))) (fun d => W V0 (ix2 0 d)) (fun d => W V0 (ix2 1 d))
    (fun p f => Ideal.cos (ang p f)) (fun p f => Ideal.sin (ang p f)) p c

theorem v112_apply (b : Fin 8) (h : Fin 4) (c : Fin 2) (p κ : Fin 2048) : res_main_v112 (F := Ideal) V0 (ix5 b h c p κ) = scAt V0 b h c p κ := by
  unfold res_main_v112
  pointwise
  unfold scAt scoreR scR
  rw [sum64]
  simp only [rpR_lo, rpR_hi, v43_apply, v44_apply, v77_apply, v78_apply, v42_apply, v76_apply, v16_apply, v17_apply]

end Cert.ReferenceIdeal.Diff

end
-- ==== Proof.DiffRefA.lean ====
/- The reference's exponentials at an index. -/
module

public import proofs.«01_k».proof.Proof.DiffRefVal

@[expose] public section

set_option maxRecDepth 16384

noncomputable section

namespace Cert.ReferenceIdeal.Diff

open Cert.ReferenceIdeal Cert.ReferenceIdeal.Gen Cert.ReferenceIdeal.Value Cert.Attn
open Idealize.ShloMosaic Idealize.ShloMosaic.TcCoe Idealize.SL.Sem
open Idealize.ShloMosaic.Pointwise Idealize.ShloMosaic.StableHlo

variable (V0 : Valuation τ sig (Elt Ideal))

theorem fold_of_eq (op : EReal → EReal → EReal) [Std.Commutative op] [Std.Associative op] (h : op = max) (b : EReal) (f : Fin 2048 → EReal) :
    Finset.univ.fold op b f = Finset.univ.fold max b f := by
  subst h; rfl

theorem mxG (X : FVec Ideal S8x4x2x2048x2048 .f32) (b : Fin 8) (h : Fin 4) (c : Fin 2) (p : Fin 2048) :
    ((Host.reduce FloatOps.maximumf X (constant S_ .f32 0xFF800000#32) reducesTo_S8x4x2x2048x2048_S8x4x2x2048_d4 h_S_) : FVec Ideal S8x4x2x2048 .f32) (ix4 b h c p) = Finset.univ.fold max (Ideal.ofBits FTy.f32 0xFF800000#32) (fun κ => X (ix5 b h c p κ)) := by
  rw [Host.reduce_eq_fold, Shape.ReducesTo.fold_fiber_r5_a4]
  exact fold_of_eq _ (funext fun _ => funext fun _ => rfl) _ _

theorem exM (M : FVec Ideal S8x4x2x2048 .f32) (X : FVec Ideal S8x4x2x2048x2048 .f32) (b : Fin 8) (h : Fin 4) (c : Fin 2) (p κ : Fin 2048) :
    (Host.exp (subf X (broadcastInDim S8x4x2x2048x2048 ![0, 1, 2, 3, 4] bcast_S8x4x2x2048x1_S8x4x2x2048x2048_0_1_2_3_4 (broadcastInDim S8x4x2x2048x1 ![0, 1, 2, 3] bcast_S8x4x2x2048_S8x4x2x2048x1_0_1_2_3 (maximumf (broadcastInDim S8x4x2x2048 ![] bcast_S_S8x4x2x2048 (constant S_ .f32 0xFF800000#32)) M)))) : FVec Ideal S8x4x2x2048x2048 .f32) (ix5 b h c p κ) = Ideal.exp (X (ix5 b h c p κ) - max (Ideal.ofBits FTy.f32 0xFF800000#32) (M (ix4 b h c p))) := by
  pointwise

theorem exG (X : FVec Ideal S8x4x2x2048x2048 .f32) (b : Fin 8) (h : Fin 4) (c : Fin 2) (p κ : Fin 2048) :
    (Host.exp (subf X (broadcastInDim S8x4x2x2048x2048 ![0, 1, 2, 3, 4] bcast_S8x4x2x2048x1_S8x4x2x2048x2048_0_1_2_3_4 (broadcastInDim S8x4x2x2048x1 ![0, 1, 2, 3] bcast_S8x4x2x2048_S8x4x2x2048x1_0_1_2_3 (maximumf (broadcastInDim S8x4x2x2048 ![] bcast_S_S8x4x2x2048 (constant S_ .f32 0xFF800000#32)) (Host.reduce FloatOps.maximumf X (constant S_ .f32 0xFF800000#32) reducesTo_S8x4x2x2048x2048_S8x4x2x2048_d4 h_S_))))) : FVec Ideal S8x4x2x2048x2048 .f32) (ix5 b h c p κ) = exR (fun κ => X (ix5 b h c p κ)) κ := by
  rw [exM, mxG]
  unfold exR
  with_reducible rfl

end Cert.ReferenceIdeal.Diff

end
-- ==== Proof.DiffRefB.lean ====
/- The reference's softmax at an index. -/
module

public import proofs.«01_k».proof.Proof.DiffRefVal

@[expose] public section

set_option maxRecDepth 16384

noncomputable section

namespace Cert.ReferenceIdeal.Diff

open Cert.ReferenceIdeal Cert.ReferenceIdeal.Gen Cert.ReferenceIdeal.Value Cert.Attn
open Idealize.ShloMosaic Idealize.ShloMosaic.TcCoe Idealize.SL.Sem
open Idealize.ShloMosaic.Pointwise Idealize.ShloMosaic.StableHlo

variable (V0 : Valuation τ sig (Elt Ideal))

theorem smG (X : FVec Ideal S8x4x2x2048x2048 .f32) (b : Fin 8) (h : Fin 4) (c : Fin 2) (p κ : Fin 2048) :
    (Host.divf X (broadcastInDim S8x4x2x2048x2048 ![0, 1, 2, 3, 4] bcast_S8x4x2x2048x1_S8x4x2x2048x2048_0_1_2_3_4 (broadcastInDim S8x4x2x2048x1 ![0, 1, 2, 3] bcast_S8x4x2x2048_S8x4x2x2048x1_0_1_2_3 (Host.reduceAdd X (constant S_ .f32 0x00000000#32) reducesTo_S8x4x2x2048x2048_S8x4x2x2048_d4 h_S_))) : FVec Ideal S8x4x2x2048x2048 .f32) (ix5 b h c p κ) = Ideal.div (X (ix5 b h c p κ)) (∑ κ, X (ix5 b h c p κ)) := by
  pointwise

end Cert.ReferenceIdeal.Diff

end
-- ==== Proof.DiffRefC.lean ====
/- The reference's difference at an index. -/
module

public import proofs.«01_k».proof.Proof.DiffRefVal

@[expose] public section

set_option maxRecDepth 16384

noncomputable section

namespace Cert.ReferenceIdeal.Diff

open Cert.ReferenceIdeal Cert.ReferenceIdeal.Gen Cert.ReferenceIdeal.Value Cert.Attn
open Idealize.ShloMosaic Idealize.ShloMosaic.TcCoe Idealize.SL.Sem
open Idealize.ShloMosaic.Pointwise Idealize.ShloMosaic.StableHlo

variable (V0 : Valuation τ sig (Elt Ideal))

theorem otG (X : FVec Ideal S8x4x2x2048x2048 .f32) (Y : FVec Ideal S4x64 .f32) (Z : FVec Ideal S8x2048x2048 .f32) (b : Fin 8) (h : Fin 4) (p : Fin 2048) (l : Fin 128) :
    (transpose S8x2048x4x128 [0, 2, 1, 3] (Host.dotGeneral dot_S8x4x2048x2048_S8x4x2048x128_S8x4x2048x128_3_2_2_3_01_01 none (subf (shapeCast _ (extractStridedSlice S8x4x1x2048x2048 ![0, 0, 0, 0, 0] X slices_S8x4x2x2048x2048_S8x4x1x2048x2048_0_0_0_0_0) shapeCasts_S8x4x1x2048x2048_S8x4x2048x2048) (mulf (broadcastInDim S8x4x2048x2048 ![] bcast_S_S8x4x2048x2048 (addf (subf (Host.exp (Host.reduceAdd (mulf (shapeCast _ (extractStridedSlice S1x64 ![0, 0] Y slices_S4x64_S1x64_0_0) shapeCasts_S1x64_S64) (shapeCast _ (extractStridedSlice S1x64 ![1, 0] Y slices_S4x64_S1x64_1_0) shapeCasts_S1x64_S64)) (constant S_ .f32 0x00000000#32) reducesTo_S64_S_d0 h_S_)) (Host.exp (Host.reduceAdd (mulf (shapeCast _ (extractStridedSlice S1x64 ![2, 0] Y slices_S4x64_S1x64_2_0) shapeCasts_S1x64_S64) (shapeCast _ (extractStridedSlice S1x64 ![3, 0] Y slices_S4x64_S1x64_3_0) shapeCasts_S1x64_S64)) (constant S_ .f32 0x00000000#32) reducesTo_S64_S_d0 h_S_))) (constant S_ .f32 0x3E4CCCCD#32))) (shapeCast _ (extractStridedSlice S8x4x1x2048x2048 ![0, 0, 1, 0, 0] X slices_S8x4x2x2048x2048_S8x4x1x2048x2048_0_0_1_0_0) shapeCasts_S8x4x1x2048x2048_S8x4x2048x2048))) (transpose S8x4x2048x128 [0, 2, 1, 3] (shapeCast _ (extractStridedSlice S8x2048x512 ![0, 0, 1024] Z slices_S8x2048x2048_S8x2048x512_0_0_1024) shapeCasts_S8x2048x512_S8x2048x4x128) transposes_S8x2048x4x128_S8x4x2048x128_0_2_1_3)) transposes_S8x4x2048x128_S8x2048x4x128_0_2_1_3 : FVec Ideal S8x2048x4x128 .f32) (ix4 b p h l)
      = ∑ κ, (X (ix5 b h 0 p κ) - lamR 0x3E4CCCCD#32 (fun a d => Y (ix2 a d)) * X (ix5 b h 1 p κ)) * Z (ix3 b κ ⟨1024 + (h * 128 + l), by omega⟩) := by
  unfold lamR
  pointwise

end Cert.ReferenceIdeal.Diff

end
-- ==== Proof.DiffRefD.lean ====
/- The reference's result at an index. -/
module

public import proofs.«01_k».proof.Proof.DiffRefVal

@[expose] public section

set_option maxRecDepth 16384

noncomputable section

namespace Cert.ReferenceIdeal.Diff

open Cert.ReferenceIdeal Cert.ReferenceIdeal.Gen Cert.ReferenceIdeal.Value Cert.Attn
open Idealize.ShloMosaic Idealize.ShloMosaic.TcCoe Idealize.SL.Sem
open Idealize.ShloMosaic.Pointwise Idealize.ShloMosaic.StableHlo

variable (V0 : Valuation τ sig (Elt Ideal))

theorem subG (X : FVec Ideal S8x2048x4x128 .f32) (Y : FVec Ideal S128 .f32) (Z : FVec Ideal S8x2048x512 .f32) (b : Fin 8) (p : Fin 2048) (l : Fin 512) :
    (truncf .bf16 (mulf (shapeCast _ (mulf (mulf (mulf X (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf X X) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x1x128_S8x2048x4x128_0_1_2_3 (broadcastInDim S1x1x1x128 ![3] bcast_S128_S1x1x1x128_3 Y))) (broadcastInDim S8x2048x4x128 ![] bcast_S_S8x2048x4x128 (constant S_ .f32 0x3F4CCCCD#32))) shapeCasts_S8x2048x4x128_S8x2048x512) (mulf Z (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf Z)))))) bitsLt_bf16_f32 : FVec Ideal S8x2048x512 .bf16) (ix3 b p l)
      = subK 0x3F4CCCCD#32 (fun a => X (ix4 b p ⟨l / 128, by omega⟩ a)) (fun a => Y (ix1 a)) ⟨l % 128, by omega⟩ * gateR (Z (ix3 b p l)) := by
  unfold subK gateR
  pointwise

end Cert.ReferenceIdeal.Diff

end
-- ==== Proof.DiffRef.lean ====
/- The reference's result at an index. -/
module

public import proofs.«01_k».proof.Proof.DiffRefVal2
public import proofs.«01_k».proof.Proof.DiffRefA
public import proofs.«01_k».proof.Proof.DiffRefB
public import proofs.«01_k».proof.Proof.DiffRefC
public import proofs.«01_k».proof.Proof.DiffRefD

@[expose] public section

set_option maxRecDepth 16384

noncomputable section

namespace Cert.ReferenceIdeal.Diff

open Cert.ReferenceIdeal Cert.ReferenceIdeal.Gen Cert.ReferenceIdeal.Value Cert.Attn
open Idealize.ShloMosaic Idealize.ShloMosaic.TcCoe Idealize.SL.Sem
open Idealize.ShloMosaic.Pointwise Idealize.ShloMosaic.StableHlo

variable (V0 : Valuation τ sig (Elt Ideal))

theorem v119_apply (b : Fin 8) (h : Fin 4) (c : Fin 2) (p κ : Fin 2048) :
    res_main_v119 (F := Ideal) V0 (ix5 b h c p κ) = exR (scAt V0 b h c p) κ := by
  unfold res_main_v119
  refine (exG (res_main_v112 (F := Ideal) V0) b h c p κ).trans ?_
  simp only [v112_apply]

theorem v123_apply (b : Fin 8) (h : Fin 4) (c : Fin 2) (p κ : Fin 2048) :
    res_main_v123 (F := Ideal) V0 (ix5 b h c p κ) = smR (scAt V0 b h c p) κ := by
  unfold res_main_v123
  refine (smG (res_main_v119 (F := Ideal) V0) b h c p κ).trans ?_
  simp only [v119_apply]
  unfold smR
  with_reducible rfl

theorem vcol (h : Fin 4) (l : Fin 128) : (⟨2560 + (1024 + (h.val * 128 + l.val)), by omega⟩ : Fin 6656) = ucol 2 h l :=
  Fin.ext (by show 2560 + (1024 + (h.val * 128 + l.val)) = 2560 + 2 * 512 + h.val * 128 + l.val; omega)

theorem v132_apply (b : Fin 8) (h : Fin 4) (p : Fin 2048) (l : Fin 128) : res_main_v132 (F := Ideal) V0 (ix4 b p h l)
    = otR (lamR 0x3E4CCCCD#32 fun a d => LM V0 (ix2 a d)) (scAt V0 b h 0 p) (scAt V0 b h 1 p) (fun κ => U V0 (ix3 b κ (ucol 2 h l))) := by
  unfold res_main_v132
  refine (otG (res_main_v123 (F := Ideal) V0) (LM V0) (res_main_v19 (F := Ideal) V0) b h p l).trans ?_
  simp only [v123_apply, v19_apply, vcol]
  unfold otR
  with_reducible rfl

/-- The reference's result at an index. -/
def RG (b : Fin 8) (p : Fin 2048) (l : Fin 512) : EReal :=
  headR 0x3F4CCCCD#32 (lamR 0x3E4CCCCD#32 fun a d => LM V0 (ix2 a d)) (fun a => U V0 (ix3 b p (ucol 0 ⟨l / 128, by omega⟩ a))) (fun κ a => U V0 (ix3 b κ (ucol 1 ⟨l / 128, by omega⟩ a)))
    (fun κ a => U V0 (ix3 b κ (ucol 2 ⟨l / 128, by omega⟩ a))) (fun a => U V0 (ix3 b p (ucol 3 ⟨l / 128, by omega⟩ a)))
    (fun d => W V0 (ix2 0 d)) (fun d => W V0 (ix2 1 d)) (fun p f => Ideal.cos (ang p f)) (fun p f => Ideal.sin (ang p f)) (fun a => SB V0 (ix1 a)) p ⟨l % 128, by omega⟩

theorem v151_apply (b : Fin 8) (p : Fin 2048) (l : Fin 512) : val3 (F := Ideal) V0 (Proc.devRef .tc main_v151) (ix3 b p l) = RG V0 b p l := by
  rw [val3_main_v151]
  refine (subG (res_main_v132 (F := Ideal) V0) (SB V0) (res_main_v23 (F := Ideal) V0) b p l).trans ?_
  simp only [v132_apply, v23_apply]
  unfold RG headR
  with_reducible rfl

end Cert.ReferenceIdeal.Diff

end
-- ==== Proof.DiffReal.lean ====
/- Finite extended reals: sums, greatest elements, the constants and the operations at them. -/
module

public import proofs.«01_k».proof.Proof.DiffSpec
public import Idealize.ShloMosaic.Lib.IdealHost
public import Mathlib.Analysis.SpecialFunctions.Trigonometric.DerivHyp
public import Mathlib.Analysis.SpecialFunctions.Pow.Real

@[expose] public section

noncomputable section

namespace Cert.Attn

open Idealize.ShloMosaic

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem fold_coe (f : Fin 2048 → ℝ) : ∃ M : ℝ, Finset.univ.fold max (⊥ : EReal) (fun i => ((f i : ℝ) : EReal)) = (M : EReal) := by
  have h : Finset.univ.fold max (⊥ : EReal) (fun i => ((f i : ℝ) : EReal)) = Finset.univ.sup (fun i => ((f i : ℝ) : EReal)) := rfl
  obtain ⟨i, -, hi⟩ := Finset.exists_mem_eq_sup Finset.univ ⟨(0 : Fin 2048), Finset.mem_univ _⟩ (fun i => ((f i : ℝ) : EReal))
  exact ⟨f i, h.trans hi⟩

theorem c_ninf : Ideal.ofBits FTy.f32 0xFF800000#32 = ⊥ := by
  simp [Ideal.ofBits, Ideal.ieee]
theorem c_inf : Ideal.ofBits FTy.f32 0x7F800000#32 = ⊤ := by
  simp [Ideal.ofBits, Ideal.ieee]
theorem c_64th : Ideal.ofBits FTy.f32 0x3C800000#32 = ((1 / 64 : ℝ) : EReal) := by
  simp [Ideal.ofBits, Ideal.ieee, -EReal.coe_mul]; norm_num
theorem c_64 : Ideal.ofBits FTy.f32 0x42800000#32 = ((64 : ℝ) : EReal) := by
  simp [Ideal.ofBits, Ideal.ieee, -EReal.coe_mul]; norm_num
theorem c_8th : Ideal.ofBits FTy.f32 0x3E000000#32 = ((1 / 8 : ℝ) : EReal) := by
  simp [Ideal.ofBits, Ideal.ieee, -EReal.coe_mul]; norm_num
theorem c_half : Ideal.ofBits FTy.f32 0x3F000000#32 = ((1 / 2 : ℝ) : EReal) := by
  simp [Ideal.ofBits, Ideal.ieee, -EReal.coe_mul]; norm_num
theorem c_two : Ideal.ofBits FTy.f32 0x40000000#32 = ((2 : ℝ) : EReal) := by
  simp [Ideal.ofBits, Ideal.ieee, -EReal.coe_mul]; norm_num
theorem c_base : Ideal.ofBits FTy.f32 0x461C4000#32 = ((10000 : ℝ) : EReal) := by
  simp [Ideal.ofBits, Ideal.ieee, -EReal.coe_mul]; norm_num
theorem c_one : Ideal.ofBits FTy.f32 0x3F800000#32 = ((1 : ℝ) : EReal) := Ideal.ofBits_one_f32
theorem c_eps : ∃ e : ℝ, 0 < e ∧ Ideal.ofBits FTy.f32 0x358637BD#32 = (e : EReal) := by
  refine ⟨(1 * ((2 ^ 23 + 407485 : ℕ) : ℝ) * (2 : ℝ) ^ ((107 : ℤ) - 127 - 23)), by positivity, ?_⟩
  simp [Ideal.ofBits, Ideal.ieee, -EReal.coe_mul]
theorem c_lam : ∃ e : ℝ, Ideal.ofBits FTy.f32 0x3E4CCCCD#32 = (e : EReal) := by
  refine ⟨(1 * ((2 ^ 23 + 5033165 : ℕ) : ℝ) * (2 : ℝ) ^ ((124 : ℤ) - 127 - 23)), ?_⟩
  simp [Ideal.ofBits, Ideal.ieee, -EReal.coe_mul]
theorem c_lam1 : ∃ e : ℝ, Ideal.ofBits FTy.f32 0x3EB60549#32 = (e : EReal) := by
  refine ⟨(1 * ((2 ^ 23 + 3540297 : ℕ) : ℝ) * (2 : ℝ) ^ ((125 : ℤ) - 127 - 23)), ?_⟩
  simp [Ideal.ofBits, Ideal.ieee, -EReal.coe_mul]

theorem rsqrt_coe {r : ℝ} (h : 0 < r) : Ideal.rsqrt (r : EReal) = ((Real.sqrt r)⁻¹ : ℝ) := by
  show (if r < 0 then (⊥ : EReal) else if r = 0 then ⊤ else ((Real.sqrt r)⁻¹ : ℝ)) = _
  rw [if_neg (not_lt.mpr h.le), if_neg h.ne']
theorem exp_coe (r : ℝ) : Ideal.exp (r : EReal) = (Real.exp r : ℝ) := rfl
theorem exp2_coe (r : ℝ) : Ideal.exp2 (r : EReal) = (Real.exp (Real.log 2 * r) : ℝ) := by
  show ((Real.rpow 2 r : ℝ) : EReal) = _
  rw [show Real.rpow 2 r = (2 : ℝ) ^ r from rfl, Real.rpow_def_of_pos (by norm_num)]
theorem tanh_coe (r : ℝ) : Ideal.tanh (r : EReal) = (Real.tanh r : ℝ) := rfl
theorem cos_coe (r : ℝ) : Ideal.cos (r : EReal) = (Real.cos r : ℝ) := rfl
theorem sin_coe (r : ℝ) : Ideal.sin (r : EReal) = (Real.sin r : ℝ) := rfl
theorem div_coe' {y : ℝ} (h : y ≠ 0) (x : ℝ) : Ideal.div (x : EReal) (y : EReal) = ((x / y : ℝ) : EReal) := by
  rw [Ideal.div_coe h, ← EReal.coe_mul]; congr 1; ring

theorem ang_coe (p : Fin 2048) (f : Fin 32) : ∃ r : ℝ, ang p f = (r : EReal) := by
  unfold ang
  rw [c_base, c_two, c_64]
  rw [show (FloatOps.sitofp FTy.f32 (BitVec.ofNat 32 p.val) : Ideal .f32) = (((BitVec.ofNat 32 p.val).toInt : ℝ) : EReal) from rfl,
    show (FloatOps.sitofp FTy.f32 (BitVec.ofNat 32 f.val) : Ideal .f32) = (((BitVec.ofNat 32 f.val).toInt : ℝ) : EReal) from rfl,
    ← EReal.coe_mul, ← EReal.coe_neg, div_coe' (by norm_num)]
  exact ⟨((BitVec.ofNat 32 p.val).toInt : ℝ) * Real.rpow 10000 (-(2 * ((BitVec.ofNat 32 f.val).toInt : ℝ)) / 64), by rw [EReal.coe_mul]; rfl⟩

/-! ## The 128 lanes as two groups of 64 -/

theorem lane_split (l : Fin 128) : ∃ (c : Fin 2) (d : Fin 64), l = lane c d :=
  ⟨⟨l / 64, by omega⟩, ⟨l % 64, by omega⟩, Fin.ext (by show l.val = l.val / 64 * 64 + l.val % 64; omega)⟩

theorem lane_div (c : Fin 2) (d : Fin 64) : (lane c d).val / 64 = c.val := by
  show (c.val * 64 + d.val) / 64 = c.val; omega

theorem sum128 (f : Fin 128 → EReal) : ∑ l, f l = ∑ d, f (lane 0 d) + ∑ d, f (lane 1 d) := by
  refine (Fin.sum_univ_add (a := 64) (b := 64) f).trans ?_
  refine congrArg₂ (· + ·) (Finset.sum_congr rfl fun d _ => congrArg f (Fin.ext ?_)) (Finset.sum_congr rfl fun d _ => congrArg f (Fin.ext ?_))
  · show d.val = 0 * 64 + d.val; omega
  · show 64 + d.val = 1 * 64 + d.val; omega

theorem sum_group (f : Fin 128 → EReal) (c : Fin 2) :
    ∑ l : Fin 128, f l * (if l.val / 64 = c.val then (1 : EReal) else 0) = ∑ d, f (lane c d) := by
  rw [sum128]
  simp only [lane_div]
  match c with
  | ⟨0, _⟩ => simp
  | ⟨1, _⟩ => simp

theorem sum_group' (f g : Fin 128 → EReal) (c : Fin 2) :
    ∑ l : Fin 128, (if l.val / 64 = c.val then f l else 0) * g l = ∑ d, f (lane c d) * g (lane c d) := by
  rw [← sum_group (fun l => f l * g l) c]
  refine Finset.sum_congr rfl fun l _ => ?_
  by_cases h : l.val / 64 = c.val
  · rw [if_pos h, if_pos h, mul_one]
  · rw [if_neg h, if_neg h, mul_zero, zero_mul]

/-- The lane in the other half of the same group. -/
def sw (l : Fin 128) : Fin 128 := if l.val % 64 < 32 then ⟨(l + 32) % 128, by omega⟩ else ⟨l - 32, by omega⟩

theorem swK_iff : ∀ l a : Fin 128, a.val ^^^ 32 = l.val ↔ a = sw l := by
  have h1 : ∀ a : Fin 128, a.val ^^^ 32 = (sw a).val := by decide +kernel
  have h2 : ∀ a : Fin 128, sw (sw a) = a := by decide +kernel
  intro l a
  rw [h1]
  constructor
  · intro h; rw [← h2 a, show sw a = l from Fin.ext h]
  · intro h; rw [h, h2]

theorem sum_sw (x : Fin 128 → EReal) (l : Fin 128) : ∑ a, x a * swK a l = x (sw l) := by
  unfold swK
  rw [Finset.sum_eq_single (sw l)]
  · rw [if_pos ((swK_iff l _).mpr rfl), mul_one]
  · intro a _ ha
    rw [if_neg (fun h => ha ((swK_iff l a).mp h)), mul_zero]
  · intro h; exact absurd (Finset.mem_univ _) h

end Cert.Attn

end
-- ==== Proof.DiffMath.lean ====
/- The kernel's head and the reference's head are equal where the values, the gate, the norm weights and lambda are finite. -/
module

public import proofs.«01_k».proof.Proof.DiffReal

@[expose] public section

noncomputable section

namespace Cert.Attn

open Idealize.ShloMosaic

/-! ## The normalised and rotated rows -/

theorem coT_lo (w : Fin 64 → EReal) (p : Fin 2048) (c : Fin 2) (f : Fin 32) : coT w p (lane c ⟨f, by omega⟩) = Ideal.cos (ang p f) * w ⟨f, by omega⟩ := by
  unfold coT
  refine congrArg₂ (· * ·) (congrArg (fun i => Ideal.cos (ang p i)) (Fin.ext ?_)) (congrArg w (Fin.ext ?_))
  · show (c.val * 64 + f.val) % 32 = f.val; omega
  · show (c.val * 64 + f.val) % 64 = f.val; omega
theorem coT_hi (w : Fin 64 → EReal) (p : Fin 2048) (c : Fin 2) (f : Fin 32) : coT w p (lane c ⟨32 + f, by omega⟩) = Ideal.cos (ang p f) * w ⟨32 + f, by omega⟩ := by
  unfold coT
  refine congrArg₂ (· * ·) (congrArg (fun i => Ideal.cos (ang p i)) (Fin.ext ?_)) (congrArg w (Fin.ext ?_))
  · show (c.val * 64 + (32 + f.val)) % 32 = f.val; omega
  · show (c.val * 64 + (32 + f.val)) % 64 = 32 + f.val; omega
theorem siT_lo (w : Fin 64 → EReal) (p : Fin 2048) (c : Fin 2) (f : Fin 32) : siT w p (lane c ⟨f, by omega⟩) = -Ideal.sin (ang p f) * w ⟨32 + f, by omega⟩ := by
  unfold siT
  rw [if_pos (by show (c.val * 64 + f.val) % 64 < 32; omega)]
  refine congrArg₂ (· * ·) (congrArg (fun i => -Ideal.sin (ang p i)) (Fin.ext ?_)) (congrArg w (Fin.ext ?_))
  · show (c.val * 64 + f.val) % 32 = f.val; omega
  · show (c.val * 64 + f.val + 32) % 64 = 32 + f.val; omega
theorem siT_hi (w : Fin 64 → EReal) (p : Fin 2048) (c : Fin 2) (f : Fin 32) : siT w p (lane c ⟨32 + f, by omega⟩) = Ideal.sin (ang p f) * w ⟨f, by omega⟩ := by
  unfold siT
  rw [if_neg (by show ¬ (c.val * 64 + (32 + f.val)) % 64 < 32; omega)]
  refine congrArg₂ (· * ·) (congrArg (fun i => Ideal.sin (ang p i)) (Fin.ext ?_)) (congrArg w (Fin.ext ?_))
  · show (c.val * 64 + (32 + f.val)) % 32 = f.val; omega
  · show (c.val * 64 + (32 + f.val) + 32) % 64 = f.val; omega
theorem sw_lo (c : Fin 2) (f : Fin 32) : sw (lane c ⟨f, by omega⟩) = lane c ⟨32 + f, by omega⟩ := by
  unfold sw
  rw [if_pos (by show (c.val * 64 + f.val) % 64 < 32; omega)]
  exact Fin.ext (by show (c.val * 64 + f.val + 32) % 128 = c.val * 64 + (32 + f.val); omega)
theorem sw_hi (c : Fin 2) (f : Fin 32) : sw (lane c ⟨32 + f, by omega⟩) = lane c ⟨f, by omega⟩ := by
  unfold sw
  rw [if_neg (by show ¬ (c.val * 64 + (32 + f.val)) % 64 < 32; omega)]
  exact Fin.ext (by show c.val * 64 + (32 + f.val) - 32 = c.val * 64 + f.val; omega)

theorem sg_sum (x : Fin 128 → EReal) (c : Fin 2) (d : Fin 64) : ∑ a, x a * x a * sgK a (lane c d) = ∑ d, x (lane c d) * x (lane c d) := by
  unfold sgK
  simp only [lane_div]
  exact sum_group (fun a => x a * x a) c

/-- The reciprocal root of a group's mean square, the same both ways. -/
theorem rs_eq (x : Fin 64 → ℝ) : ∃ r : ℝ,
    Ideal.rsqrt ((∑ d : Fin 64, ((x d : ℝ) : EReal) * ((x d : ℝ) : EReal)) * Ideal.ofBits FTy.f32 0x3C800000#32 + Ideal.ofBits FTy.f32 0x358637BD#32) = (r : EReal)
    ∧ Ideal.rsqrt (Ideal.div (∑ d : Fin 64, ((x d : ℝ) : EReal) * ((x d : ℝ) : EReal)) (Ideal.ofBits FTy.f32 0x42800000#32) + Ideal.ofBits FTy.f32 0x358637BD#32) = (r : EReal) := by
  obtain ⟨e, he, hc⟩ := c_eps
  simp only [← EReal.coe_mul, sum_coe]
  have hS : 0 ≤ ∑ d : Fin 64, x d * x d := Finset.sum_nonneg fun d _ => mul_self_nonneg _
  generalize (∑ d : Fin 64, x d * x d) = S at hS
  rw [hc, c_64th, c_64, div_coe' (by norm_num), ← EReal.coe_mul, ← EReal.coe_add, ← EReal.coe_add, show S * (1 / 64) = S / 64 by ring]
  exact ⟨_, rsqrt_coe (by positivity), rsqrt_coe (by positivity)⟩

theorem nr_eq_real (x : Fin 128 → EReal) (y : Fin 64 → ℝ) (w : Fin 64 → ℝ) (p : Fin 2048) (c : Fin 2) (hx : ∀ d, x (lane c d) = ((y d : ℝ) : EReal)) (d : Fin 64) : ∃ r : ℝ,
    nrK sgK swK x (coT (fun d => ((w d : ℝ) : EReal)) p) (siT (fun d => ((w d : ℝ) : EReal)) p) (lane c d) = (r : EReal)
    ∧ rpR (nmR (fun d => x (lane c d)) (fun d => ((w d : ℝ) : EReal))) (fun f => Ideal.cos (ang p f)) (fun f => Ideal.sin (ang p f)) d = (r : EReal) := by
  obtain ⟨r, h1, h2⟩ := rs_eq y
  have hn : ∀ d, nmR (fun d => x (lane c d)) (fun d => ((w d : ℝ) : EReal)) d = ((y d * r * w d : ℝ) : EReal) := by
    intro d
    unfold nmR
    simp only [hx]
    rw [h2, ← EReal.coe_mul, ← EReal.coe_mul]
  simp only [hx] at hn
  unfold nrK
  rw [sg_sum, sum_sw]
  simp only [hx]
  rw [h1]
  by_cases h : d.val < 32
  · obtain ⟨f, rfl⟩ : ∃ f : Fin 32, d = ⟨f, Nat.lt_trans f.isLt (by decide)⟩ := ⟨⟨d, h⟩, rfl⟩
    obtain ⟨t, ht⟩ := ang_coe p f
    rw [rpR_lo, hn, hn, coT_lo, siT_lo, sw_lo, hx, ht, cos_coe, sin_coe]
    simp only [← EReal.coe_mul, ← EReal.coe_neg, ← EReal.coe_add, ← EReal.coe_sub]
    refine ⟨_, rfl, ?_⟩
    congr 1; ring
  · obtain ⟨f, rfl⟩ : ∃ f : Fin 32, d = ⟨32 + f, Nat.add_lt_add_left f.isLt 32⟩ := ⟨⟨d - 32, by omega⟩, Fin.ext (by show d.val = 32 + (d.val - 32); omega)⟩
    obtain ⟨t, ht⟩ := ang_coe p f
    rw [rpR_hi, hn, hn, coT_hi, siT_hi, sw_hi, hx, ht, cos_coe, sin_coe]
    simp only [← EReal.coe_mul, ← EReal.coe_add]
    refine ⟨_, rfl, ?_⟩
    congr 1; ring

theorem sq_nonneg' (x : EReal) : 0 ≤ x * x := by
  induction x using EReal.rec with
  | bot => simp
  | coe x => rw [← EReal.coe_mul]; exact EReal.coe_nonneg.mpr (mul_self_nonneg x)
  | top => simp

/-- A sum of squares with an infinite term is infinite. -/
theorem sum_sq_top (x : Fin 64 → EReal) (d : Fin 64) (h : ¬ ∃ r : ℝ, x d = (r : EReal)) : ∑ d, x d * x d = ⊤ := by
  have hd : x d * x d = ⊤ := by
    induction hx : x d using EReal.rec with
    | bot => simp
    | coe r => exact absurd ⟨r, hx⟩ h
    | top => simp
  rw [← Finset.add_sum_erase _ _ (Finset.mem_univ d), hd]
  refine EReal.top_add_of_ne_bot (fun e => ?_)
  have h0 : (0 : EReal) ≤ ∑ x_1 ∈ Finset.univ.erase d, x x_1 * x x_1 := Finset.sum_nonneg fun a _ => sq_nonneg' (x a)
  rw [e] at h0
  exact absurd h0 (by simp)

/-- A row's group is normalised and rotated to the same real numbers both ways; with an infinite number in the group these are 0. -/
theorem nr_eq (x : Fin 128 → EReal) (w : Fin 64 → ℝ) (p : Fin 2048) (c : Fin 2) (d : Fin 64) : ∃ r : ℝ,
    nrK sgK swK x (coT (fun d => ((w d : ℝ) : EReal)) p) (siT (fun d => ((w d : ℝ) : EReal)) p) (lane c d) = (r : EReal)
    ∧ rpR (nmR (fun d => x (lane c d)) (fun d => ((w d : ℝ) : EReal))) (fun f => Ideal.cos (ang p f)) (fun f => Ideal.sin (ang p f)) d = (r : EReal) := by
  by_cases hx : ∀ d, ∃ r : ℝ, x (lane c d) = (r : EReal)
  · choose y hy using hx
    exact nr_eq_real x y w p c hy d
  · obtain ⟨d0, h0⟩ := not_forall.mp hx
    have hS : ∑ d, x (lane c d) * x (lane c d) = ⊤ := sum_sq_top (fun d => x (lane c d)) d0 h0
    obtain ⟨e, he, hc⟩ := c_eps
    have hn : nmR (fun d => x (lane c d)) (fun d => ((w d : ℝ) : EReal)) = fun _ => 0 := by
      funext d
      unfold nmR
      rw [hS, c_64, hc, Ideal.div_coe (by norm_num), EReal.top_mul_coe_of_pos (by norm_num), EReal.top_add_coe]
      show x (lane c d) * 0 * _ = 0
      rw [mul_zero, zero_mul]
    refine ⟨0, ?_, ?_⟩
    · unfold nrK
      rw [sg_sum, hS, c_64th, hc, EReal.top_mul_coe_of_pos (by norm_num), EReal.top_add_coe]
      show 0 * _ = _
      rw [zero_mul, EReal.coe_zero]
    · rw [hn]
      unfold rpR
      split <;> simp

/-! ## The softmax -/

theorem ex_pos (s : Fin 2048 → ℝ) : 0 < ∑ κ, Real.exp (s κ) :=
  Finset.sum_pos (fun κ _ => Real.exp_pos _) ⟨(0 : Fin 2048), Finset.mem_univ _⟩

theorem exR_eq (s : Fin 2048 → ℝ) : ∃ A : ℝ, 0 < A ∧ ∀ k, exR (fun κ => ((s κ : ℝ) : EReal)) k = ((Real.exp (s k) * A : ℝ) : EReal) := by
  obtain ⟨M, hM⟩ := fold_coe s
  refine ⟨Real.exp (-M), Real.exp_pos _, fun k => ?_⟩
  unfold exR
  rw [c_ninf, hM, max_eq_right bot_le, ← EReal.coe_sub, exp_coe, ← Real.exp_add, sub_eq_add_neg]

theorem exK_eq (s : Fin 2048 → ℝ) : ∃ A : ℝ, 0 < A ∧ ∀ k, exK (fun κ => ((s κ * (Real.log 2)⁻¹ : ℝ) : EReal)) k = ((Real.exp (s k) * A : ℝ) : EReal) := by
  obtain ⟨M, hM⟩ := fold_coe (fun κ => s κ * (Real.log 2)⁻¹)
  refine ⟨Real.exp (-(Real.log 2 * M)), Real.exp_pos _, fun k => ?_⟩
  unfold exK
  have h2 : Real.log 2 ≠ 0 := (Real.log_pos (by norm_num)).ne'
  rw [c_ninf, hM, ← EReal.coe_sub, exp2_coe, ← Real.exp_add]
  refine congrArg (fun x : ℝ => ((Real.exp x : ℝ) : EReal)) ?_
  rw [mul_sub, mul_comm (s k), ← mul_assoc, mul_inv_cancel₀ h2, one_mul, sub_eq_add_neg]

theorem sm_eq (s : Fin 2048 → ℝ) (k : Fin 2048) : smR (fun κ => ((s κ : ℝ) : EReal)) k = ((Real.exp (s k) / ∑ κ, Real.exp (s κ) : ℝ) : EReal) := by
  obtain ⟨A, hA, h⟩ := exR_eq s
  have hp := ex_pos s
  unfold smR
  simp only [h]
  rw [sum_coe, ← Finset.sum_mul, div_coe' (by positivity)]
  congr 1
  rw [mul_div_mul_right _ _ hA.ne']

theorem half_eq (s v : Fin 2048 → ℝ) : halfK (exK (fun κ => ((s κ * (Real.log 2)⁻¹ : ℝ) : EReal))) (fun κ => ((v κ : ℝ) : EReal))
    = ((∑ k, (Real.exp (s k) / ∑ κ, Real.exp (s κ)) * v k : ℝ) : EReal) := by
  obtain ⟨A, hA, h⟩ := exK_eq s
  have hp := ex_pos s
  unfold halfK
  simp only [h, one_mul]
  simp only [← EReal.coe_mul]
  rw [sum_coe, sum_coe, c_one, ← Finset.sum_mul, div_coe' (by positivity), ← EReal.coe_mul]
  congr 1
  rw [Finset.sum_mul]
  refine Finset.sum_congr rfl fun k _ => ?_
  generalize (∑ κ, Real.exp (s κ)) = S at hp
  have h1 := hA.ne'
  have h2 := hp.ne'
  field_simp

theorem ot_eq (lam : ℝ) (s0 s1 v : Fin 2048 → ℝ) :
    halfK (exK (fun κ => ((s0 κ * (Real.log 2)⁻¹ : ℝ) : EReal))) (fun κ => ((v κ : ℝ) : EReal))
        - (lam : EReal) * halfK (exK (fun κ => ((s1 κ * (Real.log 2)⁻¹ : ℝ) : EReal))) (fun κ => ((v κ : ℝ) : EReal))
      = otR (lam : EReal) (fun κ => ((s0 κ : ℝ) : EReal)) (fun κ => ((s1 κ : ℝ) : EReal)) (fun κ => ((v κ : ℝ) : EReal)) := by
  unfold otR
  simp only [half_eq, sm_eq, ← EReal.coe_mul, ← EReal.coe_sub]
  rw [sum_coe]
  congr 1
  rw [Finset.mul_sum, ← Finset.sum_sub_distrib]
  exact Finset.sum_congr rfl fun k _ => by ring

/-! ## The gate -/

theorem gate_eq (g : ℝ) : gateK (g : EReal) = gateR (g : EReal) := by
  unfold gateK gateR
  rw [c_half, c_one, ← EReal.coe_neg, exp_coe, ← EReal.coe_mul, tanh_coe, ← EReal.coe_mul, ← EReal.coe_add, ← EReal.coe_add,
    div_coe' (by positivity), ← EReal.coe_mul]
  congr 1
  have e1 : Real.exp (-g) = (Real.exp (1 / 2 * g))⁻¹ * (Real.exp (1 / 2 * g))⁻¹ := by
    rw [← Real.exp_neg, ← Real.exp_add]; congr 1; ring
  rw [e1, Real.tanh_eq_sinh_div_cosh, Real.sinh_eq, Real.cosh_eq, Real.exp_neg]
  have hp : 0 < Real.exp (1 / 2 * g) := Real.exp_pos _
  generalize Real.exp (1 / 2 * g) = E at hp
  have h1 : E ≠ 0 := hp.ne'
  have h2 : E + E⁻¹ ≠ 0 := by positivity
  have h3 : 1 + E⁻¹ * E⁻¹ ≠ 0 := by positivity
  have h4 : E ^ 2 + 1 ≠ 0 := by positivity
  have h5 : 1 + E ^ 2 ≠ 0 := by positivity
  field_simp
  ring

/-! ## A head -/

theorem head_eq (cs : BitVec 32) (lam : ℝ) (q : Fin 128 → EReal) (k : Fin 2048 → Fin 128 → EReal) (v : Fin 2048 → Fin 128 → ℝ) (g : Fin 128 → ℝ) (wq wk : Fin 64 → ℝ) (sb : Fin 128 → EReal) (p : Fin 2048) (l : Fin 128) :
    headK cs (lam : EReal) q k (fun κ a => ((v κ a : ℝ) : EReal)) (fun a => ((g a : ℝ) : EReal))
        (coT (fun d => ((wq d : ℝ) : EReal)) p) (siT (fun d => ((wq d : ℝ) : EReal)) p) (coT (fun d => ((wk d : ℝ) : EReal))) (siT (fun d => ((wk d : ℝ) : EReal))) sb l
      = headR cs (lam : EReal) q k (fun κ a => ((v κ a : ℝ) : EReal)) (fun a => ((g a : ℝ) : EReal))
        (fun d => ((wq d : ℝ) : EReal)) (fun d => ((wk d : ℝ) : EReal)) (fun p f => Ideal.cos (ang p f)) (fun p f => Ideal.sin (ang p f)) sb p l := by
  choose qn hq1 hq2 using fun c d => nr_eq q wq p c d
  choose kn hk1 hk2 using fun κ c d => nr_eq (k κ) wk κ c d
  have hR : ∀ c : Fin 2, scoreR q k (fun d => ((wq d : ℝ) : EReal)) (fun d => ((wk d : ℝ) : EReal))
      (fun p f => Ideal.cos (ang p f)) (fun p f => Ideal.sin (ang p f)) p c = fun κ => ((∑ d, qn c d * (1 / 8) * kn κ c d : ℝ) : EReal) := by
    intro c
    funext κ
    unfold scoreR scR
    simp only [hq2, hk2, c_8th, ← EReal.coe_mul, sum_coe]
  have hK : ∀ c : Fin 2, scK c (fun a => nrK sgK swK q (coT (fun d => ((wq d : ℝ) : EReal)) p) (siT (fun d => ((wq d : ℝ) : EReal)) p) a * (((1 / 8) * (Real.log 2)⁻¹ : ℝ) : EReal))
      (fun κ => nrK sgK swK (k κ) (coT (fun d => ((wk d : ℝ) : EReal)) κ) (siT (fun d => ((wk d : ℝ) : EReal)) κ))
      = fun κ => (((∑ d, qn c d * (1 / 8) * kn κ c d) * (Real.log 2)⁻¹ : ℝ) : EReal) := by
    intro c
    funext κ
    unfold scK
    rw [sum_group']
    simp only [hq1, hk1]
    simp only [← EReal.coe_mul, sum_coe]
    congr 1
    rw [Finset.sum_mul]
    exact Finset.sum_congr rfl fun d _ => by ring
  unfold headK headR
  rw [gate_eq]
  congr 2
  funext a
  unfold otK
  rw [hK, hK, hR, hR]
  exact ot_eq lam _ _ _

theorem lam_coe (cl : BitVec 32) (hcl : ∃ e : ℝ, Ideal.ofBits FTy.f32 cl = (e : EReal)) (x : Fin 4 → Fin 64 → ℝ) : ∃ r : ℝ, lamR cl (fun a d => ((x a d : ℝ) : EReal)) = (r : EReal) := by
  obtain ⟨e, he⟩ := hcl
  unfold lamR
  rw [he]
  simp only [← EReal.coe_mul, sum_coe, exp_coe, ← EReal.coe_sub, ← EReal.coe_add]
  exact ⟨_, rfl⟩

/-- The kernel's head and the reference's head are equal where the values, the gate, the norm weights and lambda are real. -/
theorem head_eq_real (cs cl : BitVec 32) (hcl : ∃ e : ℝ, Ideal.ofBits FTy.f32 cl = (e : EReal)) (L : Fin 4 → Fin 64 → EReal) (q : Fin 128 → EReal) (k v : Fin 2048 → Fin 128 → EReal) (g : Fin 128 → EReal)
    (wq wk : Fin 64 → EReal) (sb : Fin 128 → EReal) (p : Fin 2048) (l : Fin 128)
    (hL : ∀ a d, ∃ r : ℝ, L a d = (r : EReal))
    (hv : ∀ κ a, ∃ r : ℝ, v κ a = (r : EReal)) (hg : ∀ a, ∃ r : ℝ, g a = (r : EReal))
    (hwq : ∀ d, ∃ r : ℝ, wq d = (r : EReal)) (hwk : ∀ d, ∃ r : ℝ, wk d = (r : EReal)) :
    headK cs (lamR cl L) q k v g (coT wq p) (siT wq p) (coT wk) (siT wk) sb l
      = headR cs (lamR cl L) q k v g wq wk (fun p f => Ideal.cos (ang p f)) (fun p f => Ideal.sin (ang p f)) sb p l := by
  choose L' eL using hL
  choose v' ev using hv
  choose g' eg using hg
  choose wq' ewq using hwq
  choose wk' ewk using hwk
  obtain rfl : L = fun a d => ((L' a d : ℝ) : EReal) := funext fun a => funext (eL a)
  obtain rfl : v = fun κ a => ((v' κ a : ℝ) : EReal) := funext fun κ => funext (ev κ)
  obtain rfl : g = fun a => ((g' a : ℝ) : EReal) := funext eg
  obtain rfl : wq = fun d => ((wq' d : ℝ) : EReal) := funext ewq
  obtain rfl : wk = fun d => ((wk' d : ℝ) : EReal) := funext ewk
  obtain ⟨r, hr⟩ := lam_coe cl hcl L'
  rw [hr]
  exact head_eq cs r q k v' g' wq' wk' sb p l

end Cert.Attn

end
-- ==== Proof.DiffPre.lean ====
/- What the precondition says: the values, the gate, the norm weights and lambda are real. -/
module

public import proofs.«01_k».proof.Defs
public import proofs.«01_k».proof.Proof.Gen.Pre_inputs_finite
public import proofs.«01_k».proof.Proof.DiffReal
public import proofs.«01_k».proof.Proof.DiffSpec
public import Idealize.ShloMosaic.Lib.ReduceAll
public import Idealize.ShloMosaic.Lib.Pointwise.Index

@[expose] public section

set_option maxRecDepth 16384

noncomputable section

namespace Cert.Attn

open Idealize.ShloMosaic

instance : Subsingleton Cert.Pre_inputs_finite.S_.Idx := ⟨fun _ _ => funext fun a => a.elim0⟩

/-- A number whose absolute value is below infinity is real. -/
theorem real_of_abs_lt (x : EReal) (h : Ideal.cmp .olt (max x (-x)) (Ideal.ofBits FTy.f32 0x7F800000#32) = 1#1) : ∃ r : ℝ, x = (r : EReal) := by
  rw [c_inf] at h
  have hb : decide (max x (-x) < ⊤) = true := by
    by_contra hn
    rw [Bool.not_eq_true] at hn
    simp only [Ideal.cmp, hn] at h
    exact absurd h (by decide)
  have hl : max x (-x) < ⊤ := of_decide_eq_true hb
  have h1 : x ≠ ⊤ := fun e => by rw [e] at hl; simp at hl
  have h2 : x ≠ ⊥ := fun e => by rw [e] at hl; simp at hl
  exact ⟨x.toReal, (EReal.coe_toReal h1 h2).symm⟩

/-- The precondition, read element by element. -/
theorem pre_real (a0 : Cert.Pre_inputs_finite.S8x2048x6656.Idx → EReal) (a1 : Cert.Pre_inputs_finite.S2x64.Idx → EReal)
    (a2 : Cert.Pre_inputs_finite.S4x64.Idx → EReal) (a3 : Cert.Pre_inputs_finite.S128.Idx → EReal)
    (h : Cert.Pre_inputs_finite.fn (F := Ideal) a0 a1 a2 a3 = fun _ => 1#1) :
    (∀ (b : Fin 8) (p : Fin 2048) (part : Fin 2) (h : Fin 4) (l : Fin 128), ∃ r : ℝ, a0 (ix3 b p (ucol ⟨2 + part, by omega⟩ h l)) = (r : EReal))
      ∧ (∀ (c : Fin 2) (d : Fin 64), ∃ r : ℝ, a1 (ix2 c d) = (r : EReal)) ∧ (∀ (c : Fin 4) (d : Fin 64), ∃ r : ℝ, a2 (ix2 c d) = (r : EReal)) := by
  have h0 := congrFun h (fun a => a.elim0)
  simp only [Cert.Pre_inputs_finite.fn, andi] at h0
  obtain ⟨h01, h2⟩ := IntOp.andi_eq_one.1 h0
  obtain ⟨h0, h1⟩ := IntOp.andi_eq_one.1 h01
  refine ⟨fun b p part hh l => ?_, fun c d => ?_, fun c d => ?_⟩
  · have e := Host.reduce_andi_all _ _ _ _ _ h0 (ix3 b p ⟨part * 512 + hh * 128 + l, by omega⟩)
    refine real_of_abs_lt _ (Eq.trans ?_ e)
    have hi : ucol ⟨2 + part, by omega⟩ hh l = ⟨3584 + (part * 512 + hh * 128 + l), by omega⟩ := Fin.ext (by show 2560 + (2 + part.val) * 512 + hh.val * 128 + l.val = 3584 + (part.val * 512 + hh.val * 128 + l.val); omega)
    have hx : a0 (ix3 b p (ucol ⟨2 + part, by omega⟩ hh l)) = extractStridedSlice Cert.Pre_inputs_finite.S8x2048x1024 ![0, 0, 3584] a0
        Cert.Pre_inputs_finite.Facts.slices_S8x2048x6656_S8x2048x1024_0_0_3584 (ix3 b p ⟨part * 512 + hh * 128 + l, by omega⟩) := by
      refine congrArg a0 ?_
      rw [hi]
      funext a; apply Fin.ext
      match a with
      | ⟨0, _⟩ => show b.val = 0 + b.val; omega
      | ⟨1, _⟩ => show p.val = 0 + p.val; omega
      | ⟨2, _⟩ => rfl
    rw [hx]
    rfl
  · exact real_of_abs_lt _ (Host.reduce_andi_all _ _ _ _ _ h1 (ix2 c d))
  · exact real_of_abs_lt _ (Host.reduce_andi_all _ _ _ _ _ h2 (ix2 c d))

end Cert.Attn
-- ==== Proof.DiffEq.lean ====
/- The kernel's result array is the reference's, under the precondition. -/
module

public import proofs.«01_k».proof.Proof.DiffMain
public import proofs.«01_k».proof.Proof.DiffRef
public import proofs.«01_k».proof.Proof.DiffMath
public import proofs.«01_k».proof.Proof.DiffPre

@[expose] public section

set_option maxRecDepth 16384

noncomputable section

namespace Cert.Attn

open Idealize.ShloMosaic Idealize.ShloMosaic.TcCoe Idealize.SL.Sem

/-- From memories that agree on the arguments, which are finite where they are read, the two results are equal. -/
theorem result_eq (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal))
    (hpre : Cert.Pre_KernelIdeal_inputs_finite m)
    (h0 : Cert.ReferenceIdeal.Diff.U V0 = Cert.KernelIdeal.Diff.U m c) (h1 : Cert.ReferenceIdeal.Diff.W V0 = Cert.KernelIdeal.Diff.W m c)
    (h2 : Cert.ReferenceIdeal.Diff.LM V0 = Cert.KernelIdeal.Diff.LM m c) (h3 : Cert.ReferenceIdeal.Diff.SB V0 = Cert.KernelIdeal.Diff.SB m c) :
    (Cert.ReferenceIdeal.Value.val3 (F := Ideal) V0 (Proc.devRef .tc Cert.ReferenceIdeal.main_v151) : Cert.ReferenceIdeal.S8x2048x512.Idx → EReal)
      = Cert.KernelIdeal.Diff.GK m c := by
  obtain ⟨hU, hW, hL⟩ := pre_real _ _ _ _ (hpre c)
  funext i
  obtain ⟨b, p, l, rfl⟩ : ∃ b p l, i = ix3 b p l := ⟨i 0, i 1, i 2, (ix3_eta i).symm⟩
  refine (Cert.ReferenceIdeal.Diff.v151_apply V0 b p l).trans ?_
  unfold Cert.ReferenceIdeal.Diff.RG
  rw [h0, h1, h2, h3]
  exact (head_eq_real 0x3F4CCCCD#32 0x3E4CCCCD#32 c_lam (fun a d => Cert.KernelIdeal.Diff.LM m c (ix2 a d)) _ _ _ _ _ _ _ p _ (fun a d => hL a d)
    (fun κ a => hU b κ 0 _ a) (fun a => hU b p 1 _ a) (fun d => hW 0 d) (fun d => hW 1 d)).symm

end Cert.Attn

end
-- ==== Proof.OutProj.lean ====
/- The output projection: the kernel's run with its result array as one function of its arguments, and that function
   is the reference's result. -/
module

public import proofs.«01_k».proof.Proof.Gen.Kernel3Ideal.Value
public import proofs.«01_k».proof.Proof.Gen.Reference3Ideal.Run
public import Idealize.ShloMosaic.Lib.Pointwise
public import Idealize.ShloMosaic.Lib.StableHlo.ReadAt

@[expose] public section

set_option maxRecDepth 16384

noncomputable section

namespace Cert.Kernel3Ideal.OutProj

open Cert.Kernel3Ideal Cert.Kernel3Ideal.Gen Idealize.ShloMosaic Idealize.ShloMosaic.TcCoe Idealize.SL.Sem
open Idealize.ShloMosaic.Pointwise

variable (m : (ℓ : Loc nD τ sig) → Buf (Elt Ideal) ℓ)

/-- The result at row `r` and column `l`: the residual input plus the three mixers' rows times the second layer's
    weights, the rows of the first mixer in the weights' rows from 0, of the second from 1024, of the third from 1536. -/
def out (x : S8x2048x1024.Idx → EReal) (y0 : S8x2048x1024.Idx → EReal) (y1 y2 : S8x2048x512.Idx → EReal)
    (w : S2x2048x1024.Idx → EReal) (b : Fin 8) (s : Fin 2048) (l : Fin 1024) : EReal :=
  x (ix3 b s l) + ((∑ k : Fin 1024, y0 (ix3 b s k) * w (ix3 1 ⟨k, by omega⟩ l))
    + (∑ k : Fin 512, y1 (ix3 b s k) * w (ix3 1 ⟨1024 + k, by omega⟩ l))
    + (∑ k : Fin 512, y2 (ix3 b s k) * w (ix3 1 ⟨1536 + k, by omega⟩ l)))

theorem V_v0 (c : Dev nD) (r : Fin 16384) (l : Fin 1024) :
    V m c main_v0 (ix2 r l) = m ((c : Thread nD τ).loc main_arg0) (ix3 ⟨r / 2048, by omega⟩ ⟨r % 2048, by omega⟩ l) := by
  unfold V; after_reads_at
theorem V_v6 (c : Dev nD) (r : Fin 2048) (l : Fin 1024) :
    V m c main_v6 (ix2 r l) = m ((c : Thread nD τ).loc main_arg4) (ix3 1 r l) := by
  unfold V; after_reads_at
theorem V_v1 (c : Dev nD) (r : Fin 16384) (l : Fin 1024) :
    V m c main_v1 (ix2 r l) = m ((c : Thread nD τ).loc main_arg1) (ix3 ⟨r / 2048, by omega⟩ ⟨r % 2048, by omega⟩ l) := by
  unfold V; after_reads_at
theorem V_v2 (c : Dev nD) (r : Fin 16384) (l : Fin 512) :
    V m c main_v2 (ix2 r l) = m ((c : Thread nD τ).loc main_arg2) (ix3 ⟨r / 2048, by omega⟩ ⟨r % 2048, by omega⟩ l) := by
  unfold V; after_reads_at
theorem V_v3 (c : Dev nD) (r : Fin 16384) (l : Fin 512) :
    V m c main_v3 (ix2 r l) = m ((c : Thread nD τ).loc main_arg3) (ix3 ⟨r / 2048, by omega⟩ ⟨r % 2048, by omega⟩ l) := by
  unfold V; after_reads_at

theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- The body's block at a row and a column. -/
theorem out_apply (x0 : Vec Ideal S1024x1024 .f32) (x1 : Vec Ideal S1024x1024 .bf16) (x2 x3 : Vec Ideal S1024x512 .bf16)
    (x4 : Vec Ideal S2048x1024 .bf16) (r l : Fin 1024) :
    out0_5 x0 x1 x2 x3 x4 (ix2 r l) = x0 (ix2 r l) + ((∑ k : Fin 1024, x1 (ix2 r k) * x4 (ix2 ⟨k, by omega⟩ l))
      + (∑ k : Fin 512, x2 (ix2 r k) * x4 (ix2 ⟨1024 + k, by omega⟩ l))
      + (∑ k : Fin 512, x3 (ix2 r k) * x4 (ix2 ⟨1536 + k, by omega⟩ l))) := by
  unfold out0_5
  rw [View.canon_unit_zero (by decide)]
  pointwise [k0_pay1]

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- A row of the array from a point and a row of its block. -/
abbrev row (t : Fin cfg0.N) (r : Fin 1024) : Fin 16384 := ⟨t.val * 1024 + r, by have : t.val < 16 := t.isLt; omega⟩

theorem emb0 (t : Fin cfg0.N) (r l : Fin 1024) : ((cfg0.win 0).blk t).view.emb (ix2 r l) = ix2 (row t r) l := by
  obtain ⟨e0, e1⟩ := idx0 t
  funext a; apply Fin.ext
  match a with
  | ⟨0, _⟩ => show win0_0.index t (0 : Fin 2) * 1024 + 1 * r.val = t.val * 1024 + r.val; omega
  | ⟨1, _⟩ => show win0_0.index t (1 : Fin 2) * 1024 + 1 * l.val = l.val; omega
theorem emb1 (t : Fin cfg0.N) (r l : Fin 1024) : ((cfg0.win 1).blk t).view.emb (ix2 r l) = ix2 (row t r) l := by
  obtain ⟨e0, e1⟩ := idx1 t
  funext a; apply Fin.ext
  match a with
  | ⟨0, _⟩ => show win0_1.index t (0 : Fin 2) * 1024 + 1 * r.val = t.val * 1024 + r.val; omega
  | ⟨1, _⟩ => show win0_1.index t (1 : Fin 2) * 1024 + 1 * l.val = l.val; omega
theorem emb2 (t : Fin cfg0.N) (r : Fin 1024) (l : Fin 512) : ((cfg0.win 2).blk t).view.emb (ix2 r l) = ix2 (row t r) l := by
  obtain ⟨e0, e1⟩ := idx2 t
  funext a; apply Fin.ext
  match a with
  | ⟨0, _⟩ => show win0_2.index t (0 : Fin 2) * 1024 + 1 * r.val = t.val * 1024 + r.val; omega
  | ⟨1, _⟩ => show win0_2.index t (1 : Fin 2) * 512 + 1 * l.val = l.val; omega
theorem emb3 (t : Fin cfg0.N) (r : Fin 1024) (l : Fin 512) : ((cfg0.win 3).blk t).view.emb (ix2 r l) = ix2 (row t r) l := by
  obtain ⟨e0, e1⟩ := idx3 t
  funext a; apply Fin.ext
  match a with
  | ⟨0, _⟩ => show win0_3.index t (0 : Fin 2) * 1024 + 1 * r.val = t.val * 1024 + r.val; omega
  | ⟨1, _⟩ => show win0_3.index t (1 : Fin 2) * 512 + 1 * l.val = l.val; omega
theorem emb4 (t : Fin cfg0.N) (r : Fin 2048) (l : Fin 1024) : ((cfg0.win 4).blk t).view.emb (ix2 r l) = ix2 r l := by
  obtain ⟨e0, e1⟩ := idx4 t
  funext a; apply Fin.ext
  match a with
  | ⟨0, _⟩ => show win0_4.index t (0 : Fin 2) * 2048 + 1 * r.val = r.val; omega
  | ⟨1, _⟩ => show win0_4.index t (1 : Fin 2) * 1024 + 1 * l.val = l.val; omega
theorem emb5 (t : Fin cfg0.N) (r l : Fin 1024) : ((cfg0.win 5).blk t).view.emb (ix2 r l) = ix2 (row t r) l := by
  obtain ⟨e0, e1⟩ := idx5 t
  funext a; apply Fin.ext
  match a with
  | ⟨0, _⟩ => show win0_5.index t (0 : Fin 2) * 1024 + 1 * r.val = t.val * 1024 + r.val; omega
  | ⟨1, _⟩ => show win0_5.index t (1 : Fin 2) * 1024 + 1 * l.val = l.val; omega

theorem iblk0 (c : Dev nD) (t : Fin cfg0.N) (r l : Fin 1024) :
    iblk m c 0 t (ix2 r l) = m ((c : Thread nD τ).loc main_arg0) (ix3 ⟨row t r / 2048, by omega⟩ ⟨row t r % 2048, by omega⟩ l) := by
  show V m c main_v0 (((cfg0.win 0).blk t).view.emb (ix2 r l)) = _
  rw [emb0]; exact V_v0 m c _ _
theorem iblk1 (c : Dev nD) (t : Fin cfg0.N) (r l : Fin 1024) :
    iblk m c 1 t (ix2 r l) = m ((c : Thread nD τ).loc main_arg1) (ix3 ⟨row t r / 2048, by omega⟩ ⟨row t r % 2048, by omega⟩ l) := by
  show V m c main_v1 (((cfg0.win 1).blk t).view.emb (ix2 r l)) = _
  rw [emb1]; exact V_v1 m c _ _
theorem iblk2 (c : Dev nD) (t : Fin cfg0.N) (r : Fin 1024) (l : Fin 512) :
    iblk m c 2 t (ix2 r l) = m ((c : Thread nD τ).loc main_arg2) (ix3 ⟨row t r / 2048, by omega⟩ ⟨row t r % 2048, by omega⟩ l) := by
  show V m c main_v2 (((cfg0.win 2).blk t).view.emb (ix2 r l)) = _
  rw [emb2]; exact V_v2 m c _ _
theorem iblk3 (c : Dev nD) (t : Fin cfg0.N) (r : Fin 1024) (l : Fin 512) :
    iblk m c 3 t (ix2 r l) = m ((c : Thread nD τ).loc main_arg3) (ix3 ⟨row t r / 2048, by omega⟩ ⟨row t r % 2048, by omega⟩ l) := by
  show V m c main_v3 (((cfg0.win 3).blk t).view.emb (ix2 r l)) = _
  rw [emb3]; exact V_v3 m c _ _
theorem iblk4 (c : Dev nD) (t : Fin cfg0.N) (r : Fin 2048) (l : Fin 1024) :
    iblk m c 4 t (ix2 r l) = m ((c : Thread nD τ).loc main_arg4) (ix3 1 r l) := by
  show V m c main_v6 (((cfg0.win 4).blk t).view.emb (ix2 r l)) = _
  rw [emb4]; exact V_v6 m c _ _

/-- The result array as one function of the argument arrays. -/
def G (x : S8x2048x1024.Idx → EReal) (y0 : S8x2048x1024.Idx → EReal) (y1 y2 : S8x2048x512.Idx → EReal)
    (w : S2x2048x1024.Idx → EReal) : S16384x1024.Idx → EReal := fun i =>
  out x y0 y1 y2 w ⟨(i 0).val / 2048, by have h : (i 0).val < 16384 := (i 0).isLt; omega⟩
    ⟨(i 0).val % 2048, by omega⟩ (i 1)

/-- The result array as one function of the launch contents. -/
def GM (c : Dev nD) : S16384x1024.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

theorem flushed_eq (c : Dev nD) (t : Fin cfg0.N) :
    (dats m 0 c).flushed 5 t = ((cfg0.win 5).blk t).view.read (Elt Ideal) (GM m c) := by
  rw [Value.flushed5]
  funext j
  obtain ⟨r, l, rfl⟩ : ∃ (r l : Fin 1024), j = ix2 r l := ⟨j 0, j 1, eq_ix2 j⟩
  show out0_5 (F := Ideal) _ _ _ _ _ (ix2 r l) = GM m c (((cfg0.win 5).blk t).view.emb (ix2 r l))
  rw [emb5, out_apply]
  simp only [iblk0, iblk1, iblk2, iblk3, iblk4]
  rfl

theorem covered (i : S16384x1024.Idx) :
    ∃ t : Fin cfg0.N, (cfg0.win 5).flush t = true ∧ i ∈ ((cfg0.win 5).blk t).view.set := by
  obtain ⟨r, l, rfl⟩ : ∃ (r : Fin 16384) (l : Fin 1024), i = ix2 r l := ⟨i 0, i 1, eq_ix2 i⟩
  refine ⟨(⟨r / 1024, by show _ < 16; omega⟩ : Fin cfg0.N), flush0_5 _, ?_⟩
  have h := ((cfg0.win 5).blk (⟨r / 1024, by show _ < 16; omega⟩ : Fin cfg0.N)).view.emb_mem_set
    (ix2 (⟨r % 1024, by omega⟩ : Fin 1024) l)
  rw [emb5] at h
  have e : row (⟨r / 1024, by show _ < 16; omega⟩ : Fin cfg0.N) ⟨r % 1024, by omega⟩ = r :=
    Fin.ext (by show r.val / 1024 * 1024 + r.val % 1024 = r.val; omega)
  rwa [e] at h

/-- The kernel's run with its result array at `GM`, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v7) = GM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨(h c).1.trans ((dats m 0 c).arrAt_eq_of_cover 5 (GM m c) (fun t _ => flushed_eq m c t) covered), (h c).2⟩)
    (Value.run_blocks m ρ)

end Cert.Kernel3Ideal.OutProj

namespace Cert.Reference3Ideal.OutProj

open Cert.Reference3Ideal Cert.Reference3Ideal.Gen Idealize.ShloMosaic Idealize.ShloMosaic.TcCoe Idealize.SL.Sem

variable (m : (ℓ : Loc nD τ sig) → Buf (Elt Ideal) ℓ)

open Idealize.ShloMosaic.Pointwise

/-- The three mixers' outputs side by side, at an index. -/
theorem cat_apply (y0 : S8x2048x1024.Idx → EReal) (y1 y2 : S8x2048x512.Idx → EReal) (b : Fin 8) (s k : Fin 2048) :
    concatenate (α := EReal) S8x2048x2048 2 [⟨S8x2048x1024, y0⟩, ⟨S8x2048x512, y1⟩, ⟨S8x2048x512, y2⟩]
        concatenates_S8x2048x1024_S8x2048x512_S8x2048x512_S8x2048x2048_d2 (ix3 b s k)
      = if h : k.val < 1024 then y0 (ix3 b s ⟨k, h⟩) else if h' : k.val - 1024 < 512 then y1 (ix3 b s ⟨k - 1024, h'⟩)
        else y2 (ix3 b s ⟨k - 1536, by omega⟩) := by
  pointwise
  split
  · rfl
  split
  · rfl
  exact congrArg (fun q : Fin 512 => y2 (ix3 b s q)) (Fin.ext (by show k.val - 1024 - 512 = k.val - 1536; omega))

/-- A sum over the 2048 positions, cut at 1024 and 1536. -/
theorem sum_cut (f : Fin 2048 → EReal) : ∑ k : Fin 2048, f k
    = (∑ k : Fin 1024, f ⟨k, by omega⟩) + (∑ k : Fin 512, f ⟨1024 + k, by omega⟩) + (∑ k : Fin 512, f ⟨1536 + k, by omega⟩) := by
  rw [Fin.sum_univ_two_halves 1536 512 rfl f, Fin.sum_univ_two_halves 1024 512 rfl]

theorem dot_apply (y : S8x2048x2048.Idx → EReal) (w : S2048x1024.Idx → EReal) (b : Fin 8) (s : Fin 2048) (l : Fin 1024) :
    Host.dotGeneral (F := Ideal) (φ₁ := .f32) (φ₂ := .f32) dot_S8x2048x2048_S2048x1024_S8x2048x1024_2_0_01_1_n_n none y w (ix3 b s l)
      = ∑ k : Fin 2048, y (ix3 b s k) * w (ix2 k l) := by
  pointwise

theorem result_eq (x y0 : S8x2048x1024.Idx → EReal) (y1 y2 : S8x2048x512.Idx → EReal) (w : S2x2048x1024.Idx → EReal) :
    shapeCast S16384x1024 (addf (F := Ideal) (φ := .f32) x (Host.dotGeneral (F := Ideal) (φ₁ := .f32) (φ₂ := .f32) dot_S8x2048x2048_S2048x1024_S8x2048x1024_2_0_01_1_n_n none
        (extf (F := Ideal) (φ := .bf16) .f32 (concatenate (α := EReal) S8x2048x2048 2 [⟨S8x2048x1024, y0⟩, ⟨S8x2048x512, y1⟩, ⟨S8x2048x512, y2⟩]
          concatenates_S8x2048x1024_S8x2048x512_S8x2048x512_S8x2048x2048_d2) bitsLt_bf16_f32)
        (shapeCast S2048x1024 (extractStridedSlice S1x2048x1024 ![1, 0, 0] w slices_S2x2048x1024_S1x2048x1024_1_0_0)
          shapeCasts_S1x2048x1024_S2048x1024))) shapeCasts_S8x2048x1024_S16384x1024
      = Cert.Kernel3Ideal.OutProj.G x y0 y1 y2 w := by
  funext j
  obtain ⟨r, l, rfl⟩ : ∃ (r : Fin 16384) (l : Fin 1024), j = ix2 r l := ⟨j 0, j 1, eq_ix2 j⟩
  have e : ∀ z : S8x2048x1024.Idx → EReal, shapeCast S16384x1024 z shapeCasts_S8x2048x1024_S16384x1024 (ix2 r l)
      = z (ix3 ⟨r / 2048, by omega⟩ ⟨r % 2048, by omega⟩ l) := fun z => by pointwise
  rw [e]
  show x _ + Host.dotGeneral (F := Ideal) _ _ _ _ _ = _
  rw [dot_apply, sum_cut]
  have hw : ∀ k : Fin 2048, shapeCast S2048x1024 (extractStridedSlice S1x2048x1024 ![1, 0, 0] w slices_S2x2048x1024_S1x2048x1024_1_0_0)
          shapeCasts_S1x2048x1024_S2048x1024 (ix2 k l) = w (ix3 1 k l) := fun k => by pointwise
  have hx : ∀ (z : S8x2048x2048.Idx → EReal) (i : S8x2048x2048.Idx), extf (F := Ideal) (φ := .bf16) .f32 z bitsLt_bf16_f32 i = z i := fun _ _ => rfl
  simp only [hw, hx, cat_apply]
  unfold Cert.Kernel3Ideal.OutProj.G Cert.Kernel3Ideal.OutProj.out
  refine congrArg₂ _ rfl (congrArg₂ _ (congrArg₂ _ ?_ ?_) ?_)
  · refine Finset.sum_congr rfl fun k _ => ?_
    rw [dif_pos (show k.val < 1024 from k.isLt)]
    rfl
  · refine Finset.sum_congr rfl fun k _ => ?_
    rw [dif_neg (show ¬ 1024 + k.val < 1024 by omega), dif_pos (show 1024 + k.val - 1024 < 512 by omega)]
    exact congrArg₂ _ (congrArg (fun q : Fin 512 => y1 (ix3 _ _ q)) (Fin.ext (by show 1024 + k.val - 1024 = k.val; omega))) rfl
  · refine Finset.sum_congr rfl fun k _ => ?_
    rw [dif_neg (show ¬ 1536 + k.val < 1024 by omega), dif_neg (show ¬ 1536 + k.val - 1024 < 512 by omega)]
    exact congrArg₂ _ (congrArg (fun q : Fin 512 => y2 (ix3 _ _ q)) (Fin.ext (by show 1536 + k.val - 1536 = k.val; omega))) rfl

/-- The reference's run with its result array at the same function of its arguments. -/
theorem run (ρ : Dev nD → PrngReg) : θ_run defs (onTc (τ := τ) (main (F := Ideal))) ⟨m, fun _ => 0, ρ⟩ fun r => ∀ c : Dev nD,
      r.2.mem ((c.tc : Thread nD τ).loc main_v6) = Cert.Kernel3Ideal.OutProj.G (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (result_eq _ _ _ _ _), (h c).2⟩)
    (Value.run m ρ)

end Cert.Reference3Ideal.OutProj
end
-- ==== Proof.InRun.lean ====
/- The input projection: the kernel's run over any floats. At the first of a row block's two points the normalised
   rows go to the work buffer and the small projection to its window; at both, half of the large projection goes to
   its window. -/
module

public import proofs.«01_k».proof.Proof.Gen.Kernel2Ideal.Frame
public import proofs.«01_k».proof.Proof.Gen.Kernel2Ideal.Skeleton
public import Idealize.ShloMosaic.Lib.Claim
public import Idealize.ShloMosaic.Lib.Exec
public import Idealize.ShloMosaic.Lib.Tactic
public import Idealize.ShloMosaic.Lib.WordCmp

@[expose] public section

set_option maxRecDepth 16384

noncomputable section

namespace Cert.Kernel2Ideal.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

abbrev rx : Rect S1024x1024 := Rect.unit (s := S1024x1024) ![0, 0] S1024x1024.size inb_S1024x1024_S1024x1024_0_0
abbrev rw' : Rect S1x1024 := Rect.unit (s := S1x1024) ![0, 0] S1x1024.size inb_S1x1024_S1x1024_0_0
abbrev ru : Rect S1x3328x1024 := Rect.unit (s := S1x3328x1024) ![0, 0, 0] S1x3328x1024.size inb_S1x3328x1024_S1x3328x1024_0_0_0
abbrev rd : Rect S1x128x1024 := Rect.unit (s := S1x128x1024) ![0, 0, 0] S1x128x1024.size inb_S1x128x1024_S1x128x1024_0_0_0
abbrev ro : Rect S1024x3328 := Rect.unit (s := S1024x3328) ![0, 0] S1024x3328.size inb_S1024x3328_S1024x3328_0_0
abbrev rt : Rect S1024x128 := Rect.unit (s := S1024x128) ![0, 0] S1024x128.size inb_S1024x128_S1024x128_0_0

/-- The normalised rows, as the work buffer holds them. -/
def hb (x0 : Vec F S1024x1024 .f32) (x1 : Vec F S1x1024 .f32) : Vec F S1024x1024 .bf16 :=
  View.canon [⟨rx, k0_pay2 (View.ld x0 rx) (View.ld x1 rw')⟩]

/-- Half of the large projection's columns, from the normalised rows and that half's weights. -/
def ob (h : Vec F S1024x1024 .bf16) (x2 : Vec F S1x3328x1024 .bf16) : Vec F S1024x3328 .bf16 :=
  View.canon [⟨ro, k0_pay4 (View.ld h rx) (View.ld x2 ru)⟩]

/-- The small projection. -/
def db (x0 : Vec F S1024x1024 .f32) (x1 : Vec F S1x1024 .f32) (x3 : Vec F S1x128x1024 .bf16) : Vec F S1024x128 .f32 :=
  View.canon [⟨rt, k0_pay3 (View.ld x0 rx) (View.ld x1 rw') (View.ld x3 rd)⟩]

theorem cover_x (p : Vec F S1024x1024 .bf16) (y : S1024x1024.Idx) :
    ∃ pc ∈ ([⟨rx, p⟩] : List (View.Piece (Elt F) S1024x1024 .bf16)), y ∈ pc.1.set :=
  View.cover_of_tiled [⟨rx, p⟩] S1024x1024.size (by rfl) y
theorem cover_o (p : Vec F S1024x3328 .bf16) (y : S1024x3328.Idx) :
    ∃ pc ∈ ([⟨ro, p⟩] : List (View.Piece (Elt F) S1024x3328 .bf16)), y ∈ pc.1.set :=
  View.cover_of_tiled [⟨ro, p⟩] S1024x3328.size (by rfl) y
theorem cover_t (p : Vec F S1024x128 .f32) (y : S1024x128.Idx) :
    ∃ pc ∈ ([⟨rt, p⟩] : List (View.Piece (Elt F) S1024x128 .f32)), y ∈ pc.1.set :=
  View.cover_of_tiled [⟨rt, p⟩] S1024x128.size (by rfl) y

/-- The condition of the body's branch. -/
abbrev cond (i : grid0.Coords) : Prop := k0_cond1 i = 1#1
/-- It holds at the points of even number. -/
theorem hcond : ∀ t : Fin cfg0.N, cond (grid0.coords t) ↔ t.val % 2 = 0 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond, k0_cond1, e0, e1]
    word_cmp
   : ∀ t : Fin grid0.N, cond (grid0.coords t) ↔ t.val % 2 = 0)

set_option maxHeartbeats 1000000 in
/-- The body at the first point of a row block. -/
theorem runA (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x3328x1024 .bf16) (harg4 : arg4.IsWhole) (arg5 : Memref sig .tc .vmem S1x128x1024 .bf16) (harg5 : arg5.IsWhole) (arg6 : Memref sig .tc .vmem S1024x3328 .bf16) (harg6 : arg6.IsWhole) (arg7 : Memref sig .tc .vmem S1024x128 .f32) (harg7 : arg7.IsWhole) (arg8 : Memref sig .tc .vmem S1024x1024 .bf16) (harg8 : arg8.IsWhole) (hc : cond i)
    (x0 : Vec F S1024x1024 .f32) (x1 : Vec F S1x1024 .f32) (x2 : Vec F S1x3328x1024 .bf16) (x3 : Vec F S1x128x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (ob (hb x0 x1) x2) ∗ owns (c : Thread nD τ) arg7 fullShare (db x0 x1 x3) ∗ owns (c : Thread nD τ) arg8 fullShare (hb x0 x1)) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_o _)).trans ?_
    unfold ob hb runA.sl.v3 runA.sl.H6_1
    rw [View.readCov_eq_canon_ld _ _ _ (cover_x _)]
    rfl
  isplitl [H5]
  · iexists _; isplitr
    swap; · iexact H5
    ipureintro
    exact View.read_writes_eq_canon _ _ _ (cover_t _)
  iexists _; isplitr
  swap; · iexact H6
  ipureintro
  exact View.read_writes_eq_canon _ _ _ (cover_x _)

set_option maxHeartbeats 1000000 in
/-- The body at the second point of a row block: the work buffer and the small projection's window are left alone. -/
theorem runB (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x3328x1024 .bf16) (harg4 : arg4.IsWhole) (arg5 : Memref sig .tc .vmem S1x128x1024 .bf16) (harg5 : arg5.IsWhole) (arg6 : Memref sig .tc .vmem S1024x3328 .bf16) (harg6 : arg6.IsWhole) (arg7 : Memref sig .tc .vmem S1024x128 .f32) (harg7 : arg7.IsWhole) (arg8 : Memref sig .tc .vmem S1024x1024 .bf16) (harg8 : arg8.IsWhole) (hc : ¬ cond i)
    (x0 : Vec F S1024x1024 .f32) (x1 : Vec F S1x1024 .f32) (x2 : Vec F S1x3328x1024 .bf16) (x3 : Vec F S1x128x1024 .bf16) (x5 : Vec F S1024x128 .f32) (x6 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (ob x6 x2) ∗ owns (c : Thread nD τ) arg7 fullShare x5 ∗ owns (c : Thread nD τ) arg8 fullShare x6) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_o _)
  isplitl [H5]
  · iexists f5; isplitr; · ipureintro; rfl
    iexact H5
  iexists f6; isplitr; · ipureintro; rfl
  iexact H6

/-! ## The pipeline's data -/

variable (m : (ℓ : Loc nD τ sig) → Buf (Elt F) ℓ) (ρ : Dev nD → PrngReg)

/-- The point at which the row block of point `t` starts. -/
def fst' (t : Fin cfg0.N) : Fin cfg0.N := ⟨t.val / 2 * 2, by have := t.isLt; omega⟩

/-- The normalised rows of point `t`'s row block. -/
def hAt (c : Dev nD) (t : Fin cfg0.N) : Vec F S1024x1024 .bf16 := hb (iblk m c 0 t) (iblk m c 1 t)

abbrev scM : Memref sig .tc .vmem S1024x1024 .bf16 := Memref.whole cc0_scratch0

/-- Between points: after a row block's first point the work buffer holds its normalised rows, elsewhere anything. -/
def Phi (c : Dev nD) (t : Fin (cfg0.N + 1)) : sProp 𝕄 :=
  if h : t.val % 2 = 1 then
    iprop(owns (c : Thread nD τ) scM fullShare (hAt m c ⟨t.val - 1, by have := t.isLt; omega⟩) ∗ (∃ r, prngReg c r))
  else Pipeline.ΦA spec0 c

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the body leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => ob (hAt m c (fst' t)) (iblk m c 2 t)
    | ⟨5, _⟩ => db (iblk m c 0 (fst' t)) (iblk m c 1 (fst' t)) (iblk m c 3 (fst' t))
  Φ t := Phi m c t
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = ob (hAt m c (fst' t)) (iblk m c 2 t) := by dsimp only [dats]
theorem after_5 (c : Dev nD) (t : Fin cfg0.N) : (dats m 0 c).after 5 t = db (iblk m c 0 (fst' t)) (iblk m c 1 (fst' t)) (iblk m c 3 (fst' t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem fst_even (t : Fin cfg0.N) (h : t.val % 2 = 0) : fst' t = t := Fin.ext (by show t.val / 2 * 2 = t.val; omega)
theorem fst_odd (t : Fin cfg0.N) (h : t.val % 2 = 1) : fst' t = ⟨t.val - 1, by have := t.isLt; omega⟩ :=
  Fin.ext (by show t.val / 2 * 2 = t.val - 1; omega)

/-- At a row block's second point the small projection's window holds what the first point left. -/
theorem before_5 (c : Dev nD) (t : Fin cfg0.N) (h : t.val % 2 = 1) (d) :
    (dats m 0 c).before 5 t d = db (iblk m c 0 (fst' t)) (iblk m c 1 (fst' t)) (iblk m c 3 (fst' t)) := by
  have hl : t.val - 1 < cfg0.N := by have := t.isLt; omega
  have hp : (⟨t.val - 1, hl⟩ : Fin cfg0.N).val % 2 = 0 := by show (t.val - 1) % 2 = 0; omega
  have hfl : (cfg0.win 5).flush ⟨t.val - 1, hl⟩ = false := by
    cases hf : (cfg0.win 5).flush ⟨t.val - 1, hl⟩ with
    | false => rfl
    | true => exact absurd ((flush0_5 _).mp hf) (by rw [hp]; decide)
  have hid : cfg0.idle 5 (cfg0.grid.coords ⟨t.val - 1, hl⟩) = false := by
    show (!(k0_cond1 (grid0.coords ⟨t.val - 1, hl⟩) == 1#1)) = false
    rw [(hcond ⟨t.val - 1, hl⟩).mpr hp]; rfl
  rw [(dats m 0 c).before_of_pos 5 t (by omega) ((cfg0.win 5).fetch_out rfl t), hfl, if_neg Bool.false_ne_true]
  unfold Dat.left
  rw [hid]
  show (dats m 0 c).kept 5 ⟨t.val - 1, hl⟩ d = _
  unfold Dat.kept
  rw [Pipeline.fill_of_clip_none 5 _ (fun _ => rfl) d ((dats m 0 c).after 5 ⟨t.val - 1, hl⟩), Pipeline.Window.fill_cut,
    after_5, fst_even _ hp, fst_odd t h]

/-- The small projection's window, touched or not, ends at what the data say. -/
theorem leaves_5 (c : Dev nD) (t : Fin cfg0.N) :
    (dats m 0 c).leavesExact 5 t = owns (c : Thread nD τ) (st0_5 t) fullShare ((dats m 0 c).after 5 t) := by
  unfold Dat.leavesExact
  by_cases h : t.val % 2 = 0
  · have hid : cfg0.idle 5 (cfg0.grid.coords t) = false := by
      show (!(k0_cond1 (grid0.coords t) == 1#1)) = false
      rw [(hcond t).mpr h]; rfl
    rw [hid]
  · have hfl : (cfg0.win 5).flush t = true := (flush0_5 t).mpr (by omega)
    cases cfg0.idle 5 (cfg0.grid.coords t)
    · rfl
    · rw [hfl]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

theorem Phi_even (c : Dev nD) (t : Fin (cfg0.N + 1)) (h : t.val % 2 = 0) : Phi m c t = Pipeline.ΦA spec0 c := by
  unfold Phi; rw [dif_neg (by omega)]
theorem Phi_odd (c : Dev nD) (t : Fin (cfg0.N + 1)) (h : t.val % 2 = 1) :
    Phi m c t = iprop(owns (c : Thread nD τ) scM fullShare (hAt m c ⟨t.val - 1, by have := t.isLt; omega⟩) ∗ (∃ r, prngReg c r)) := by
  unfold Phi; rw [dif_pos h]

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = Phi m c t.succ from rfl, show (dats m 0 c).Φ t.castSucc = Phi m c t.castSucc from rfl,
    show (dats m 0 c).owesAt () t.succ = (dats m 0 c).owesAt () t.castSucc from rfl,
    leaves_5, after_0, after_1, after_2, after_3, after_4, after_5]
  by_cases h0 : t.val % 2 = 0
  · rw [Phi_even m c t.castSucc h0, Phi_odd m c t.succ (by show (t.val + 1) % 2 = 1; omega), PhiA_eq, fst_even t h0,
      show (⟨t.succ.val - 1, by have := t.isLt; show t.val + 1 - 1 < _; omega⟩ : Fin cfg0.N) = t from Fin.ext (by show t.val + 1 - 1 = t.val; omega)]
    unfold hAt
    iintro ⟨⟨HS, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ ((hcond t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have h1 : t.val % 2 = 1 := by omega
    simp only [before_5 m c t h1]
    rw [Phi_odd m c t.castSucc h1, Phi_even m c t.succ (by show (t.val + 1) % 2 = 0; omega), PhiA_eq, fst_odd t h1]
    iintro ⟨⟨HS, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ (fun h => h0 ((hcond t).mp h)) (iblk m c 0 t) (iblk m c 1 t) (iblk m c 2 t) (iblk m c 3 t) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]
      · iexists _; iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: the arrays end at what the data say, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = Phi m c 0 from rfl, Phi_even m c 0 rfl])
    (hout := fun c => by rw [show (dats m 0 c).Φ (Fin.last cfg0.N) = Phi m c (Fin.last cfg0.N) from rfl, Phi_even m c _ (by rfl)])

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel2Ideal.InProj

end
-- ==== Proof.InProj.lean ====
/- The input projection: the kernel's run with its two result arrays as functions of its arguments, and those functions
   are the reference's results. -/
module

public import proofs.«01_k».proof.Proof.InRun
public import proofs.«01_k».proof.Proof.Gen.Reference2Ideal.Run
public import Idealize.ShloMosaic.Lib.Pointwise
public import Idealize.ShloMosaic.Lib.StableHlo.ReadAt

@[expose] public section

set_option maxRecDepth 16384

noncomputable section

namespace Cert.Kernel2Ideal.InProj

open Cert.Kernel2Ideal Cert.Kernel2Ideal.Gen Idealize.ShloMosaic Idealize.ShloMosaic.TcCoe Idealize.SL.Sem
open Idealize.ShloMosaic.Pointwise

variable (m : (ℓ : Loc nD τ sig) → Buf (Elt Ideal) ℓ)

/-- A row divided by the root of its mean square (with the small constant under the root), times the norm's weights. -/
def hn (x w : Fin 1024 → EReal) (k : Fin 1024) : EReal :=
  x k * Ideal.rsqrt (Ideal.div (∑ j, x j * x j) (Ideal.ofBits FTy.f32 1149239296#32) + Ideal.ofBits FTy.f32 897988541#32) * w k

/-- The product of the normalised row `b`, `s` of the input with column `l` of the first layer's weights. -/
def proj (x : S8x2048x1024.Idx → EReal) (nw : S2x1024.Idx → EReal) (w : S2x1024x6688.Idx → EReal) (b : Fin 8) (s : Fin 2048)
    (l : Fin 6688) : EReal :=
  ∑ k : Fin 1024, hn (fun j => x (ix3 b s j)) (fun j => nw (ix2 0 j)) k * w (ix3 0 k l)

/-- The column of the weights a column of the first result comes from: columns 2560 to 2591 are left out. -/
def col (l : Fin 6656) : Fin 6688 := ⟨if l.val < 2560 then l.val else l.val + 32, by split <;> omega⟩

/-- The row of the input, of its first two axes taken together. -/
def bOf (r : Fin 16384) : Fin 8 := ⟨r / 2048, by omega⟩
def sOf (r : Fin 16384) : Fin 2048 := ⟨r % 2048, by omega⟩

/-- The first result. -/
def GU (x : S8x2048x1024.Idx → EReal) (nw : S2x1024.Idx → EReal) (w : S2x1024x6688.Idx → EReal) : S16384x6656.Idx → EReal :=
  fun i => proj x nw w (bOf (i 0)) (sOf (i 0)) (col (i 1))

/-- The second result: the 32 columns left out of the first, then zeros. -/
def GD (x : S8x2048x1024.Idx → EReal) (nw : S2x1024.Idx → EReal) (w : S2x1024x6688.Idx → EReal) : S16384x128.Idx → EReal :=
  fun i => if h : (i 1).val < 32 then proj x nw w (bOf (i 0)) (sOf (i 0)) ⟨2560 + (i 1).val, by omega⟩ else 0

def GUM (c : Dev nD) : S16384x6656.Idx → EReal :=
  GU (m ((c : Thread nD τ).loc main_arg0)) (m ((c : Thread nD τ).loc main_arg1)) (m ((c : Thread nD τ).loc main_arg2))
def GDM (c : Dev nD) : S16384x128.Idx → EReal :=
  GD (m ((c : Thread nD τ).loc main_arg0)) (m ((c : Thread nD τ).loc main_arg1)) (m ((c : Thread nD τ).loc main_arg2))

theorem zero_word : (FloatOps.sitofp FTy.f32 0#32 : Ideal .f32) = (0 : EReal) := by
  show (((0#32 : BitVec 32).toInt : ℝ) : EReal) = 0
  norm_num

theorem hb_apply (x0 : Vec Ideal S1024x1024 .f32) (x1 : Vec Ideal S1x1024 .f32) (r k : Fin 1024) :
    hb x0 x1 (ix2 r k) = hn (fun j => x0 (ix2 r j)) (fun j => x1 (ix2 0 j)) k := by
  unfold hb
  rw [View.canon_unit_zero (by decide)]
  pointwise [k0_pay2, k0_pay1]
  rfl

theorem ob_apply (h : Vec Ideal S1024x1024 .bf16) (x2 : Vec Ideal S1x3328x1024 .bf16) (r : Fin 1024) (l : Fin 3328) :
    ob h x2 (ix2 r l) = ∑ k : Fin 1024, h (ix2 r k) * x2 (ix3 0 l k) := by
  unfold ob
  rw [View.canon_unit_zero (by decide)]
  pointwise [k0_pay4]

theorem db_apply (x0 : Vec Ideal S1024x1024 .f32) (x1 : Vec Ideal S1x1024 .f32) (x3 : Vec Ideal S1x128x1024 .bf16) (r : Fin 1024) (l : Fin 128) :
    db x0 x1 x3 (ix2 r l) = ∑ k : Fin 1024, hb x0 x1 (ix2 r k) * x3 (ix3 0 l k) := by
  unfold db hb
  rw [View.canon_unit_zero (by decide), View.canon_unit_zero (by decide)]
  pointwise [k0_pay3, k0_pay2]

theorem V_v8 (c : Dev nD) (r : Fin 16384) (l : Fin 1024) :
    V m c main_v8 (ix2 r l) = m ((c : Thread nD τ).loc main_arg0) (ix3 (bOf r) (sOf r) l) := by
  unfold V bOf sOf; after_reads_at
theorem V_v11 (c : Dev nD) (l : Fin 1024) :
    V m c main_v11 (ix2 0 l) = m ((c : Thread nD τ).loc main_arg1) (ix2 0 l) := by
  unfold V; after_reads_at
theorem V_v4 (c : Dev nD) (l : Fin 6656) (k : Fin 1024) :
    V m c main_v4 (ix3 0 l k) = m ((c : Thread nD τ).loc main_arg2) (ix3 0 k (col l)) := by
  unfold V
  after_reads_at
  by_cases h : l.val < 2560
  · rw [dif_pos h, show col l = ⟨l, by omega⟩ from Fin.ext (if_pos h)]
    after_reads_at
  · rw [dif_neg h, show col l = ⟨l + 32, by omega⟩ from Fin.ext (if_neg h)]
    after_reads_at
    exact congrArg (fun q : Fin 6688 => m ((c : Thread nD τ).loc main_arg2) (ix3 0 k q)) (Fin.ext (by show 2592 + (l.val - 2560) = l.val + 32; omega))
theorem V_v7 (c : Dev nD) (l : Fin 128) (k : Fin 1024) :
    V m c main_v7 (ix3 0 l k) = (if h : l.val < 32 then m ((c : Thread nD τ).loc main_arg2) (ix3 0 k ⟨2560 + l, by omega⟩)
      else (0 : EReal) : EReal) := by
  unfold V
  after_reads_at
  rw [zero_word]

/-- A row of the array from a point and a row of its block. -/
abbrev row (t : Fin cfg0.N) (r : Fin 1024) : Fin 16384 := ⟨t.val / 2 * 1024 + r, by have : t.val < 32 := t.isLt; omega⟩
/-- A column of the first result from a point and a column of its block. -/
abbrev cl (t : Fin cfg0.N) (l : Fin 3328) : Fin 6656 := ⟨t.val % 2 * 3328 + l, by omega⟩

theorem row_fst (t : Fin cfg0.N) (r : Fin 1024) : row (fst' t) r = row t r :=
  Fin.ext (by show t.val / 2 * 2 / 2 * 1024 + r.val = t.val / 2 * 1024 + r.val; omega)

theorem idx0 : ∀ t : Fin cfg0.N, win0_0.index t (0 : Fin 2) = t.val / 2 ∧ win0_0.index t (1 : Fin 2) = 0 :=
  (by decide +kernel : ∀ t : Fin grid0.N, win0_0.index t (0 : Fin 2) = t.val / 2 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 3) = 0 ∧ win0_2.index t (1 : Fin 3) = t.val % 2 ∧ win0_2.index t (2 : Fin 3) = 0 :=
  (by decide +kernel : ∀ t : Fin grid0.N, win0_2.index t (0 : Fin 3) = 0 ∧ win0_2.index t (1 : Fin 3) = t.val % 2 ∧ win0_2.index t (2 : Fin 3) = 0)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, win0_3.index t (0 : Fin 3) = 0 ∧ win0_3.index t (1 : Fin 3) = 0 ∧ win0_3.index t (2 : Fin 3) = 0)
theorem idx4 : ∀ t : Fin cfg0.N, win0_4.index t (0 : Fin 2) = t.val / 2 ∧ win0_4.index t (1 : Fin 2) = t.val % 2 :=
  (by decide +kernel : ∀ t : Fin grid0.N, win0_4.index t (0 : Fin 2) = t.val / 2 ∧ win0_4.index t (1 : Fin 2) = t.val % 2)
theorem idx5 : ∀ t : Fin cfg0.N, win0_5.index t (0 : Fin 2) = t.val / 2 ∧ win0_5.index t (1 : Fin 2) = 0 :=
  (by decide +kernel : ∀ t : Fin grid0.N, win0_5.index t (0 : Fin 2) = t.val / 2 ∧ win0_5.index t (1 : Fin 2) = 0)

theorem emb0 (t : Fin cfg0.N) (r l : Fin 1024) : ((cfg0.win 0).blk t).view.emb (ix2 r l) = ix2 (row t r) l := by
  obtain ⟨e0, e1⟩ := idx0 t
  funext a; apply Fin.ext
  match a with
  | ⟨0, _⟩ => show win0_0.index t (0 : Fin 2) * 1024 + 1 * r.val = t.val / 2 * 1024 + r.val; omega
  | ⟨1, _⟩ => show win0_0.index t (1 : Fin 2) * 1024 + 1 * l.val = l.val; omega
theorem emb1 (t : Fin cfg0.N) (l : Fin 1024) : ((cfg0.win 1).blk t).view.emb (ix2 0 l) = ix2 0 l := by
  obtain ⟨e0, e1⟩ := idx1 t
  funext a; apply Fin.ext
  match a with
  | ⟨0, _⟩ => show win0_1.index t (0 : Fin 2) * 1 + 1 * 0 = 0; omega
  | ⟨1, _⟩ => show win0_1.index t (1 : Fin 2) * 1024 + 1 * l.val = l.val; omega
theorem emb2 (t : Fin cfg0.N) (l : Fin 3328) (k : Fin 1024) : ((cfg0.win 2).blk t).view.emb (ix3 0 l k) = ix3 0 (cl t l) k := by
  obtain ⟨e0, e1, e2⟩ := idx2 t
  funext a; apply Fin.ext
  match a with
  | ⟨0, _⟩ => show win0_2.index t (0 : Fin 3) * 1 + 1 * 0 = 0; omega
  | ⟨1, _⟩ => show win0_2.index t (1 : Fin 3) * 3328 + 1 * l.val = t.val % 2 * 3328 + l.val; omega
  | ⟨2, _⟩ => show win0_2.index t (2 : Fin 3) * 1024 + 1 * k.val = k.val; omega
theorem emb3 (t : Fin cfg0.N) (l : Fin 128) (k : Fin 1024) : ((cfg0.win 3).blk t).view.emb (ix3 0 l k) = ix3 0 l k := by
  obtain ⟨e0, e1, e2⟩ := idx3 t
  funext a; apply Fin.ext
  match a with
  | ⟨0, _⟩ => show win0_3.index t (0 : Fin 3) * 1 + 1 * 0 = 0; omega
  | ⟨1, _⟩ => show win0_3.index t (1 : Fin 3) * 128 + 1 * l.val = l.val; omega
  | ⟨2, _⟩ => show win0_3.index t (2 : Fin 3) * 1024 + 1 * k.val = k.val; omega
theorem emb4 (t : Fin cfg0.N) (r : Fin 1024) (l : Fin 3328) : ((cfg0.win 4).blk t).view.emb (ix2 r l) = ix2 (row t r) (cl t l) := by
  obtain ⟨e0, e1⟩ := idx4 t
  funext a; apply Fin.ext
  match a with
  | ⟨0, _⟩ => show win0_4.index t (0 : Fin 2) * 1024 + 1 * r.val = t.val / 2 * 1024 + r.val; omega
  | ⟨1, _⟩ => show win0_4.index t (1 : Fin 2) * 3328 + 1 * l.val = t.val % 2 * 3328 + l.val; omega
theorem emb5 (t : Fin cfg0.N) (r : Fin 1024) (l : Fin 128) : ((cfg0.win 5).blk t).view.emb (ix2 r l) = ix2 (row t r) l := by
  obtain ⟨e0, e1⟩ := idx5 t
  funext a; apply Fin.ext
  match a with
  | ⟨0, _⟩ => show win0_5.index t (0 : Fin 2) * 1024 + 1 * r.val = t.val / 2 * 1024 + r.val; omega
  | ⟨1, _⟩ => show win0_5.index t (1 : Fin 2) * 128 + 1 * l.val = l.val; omega

theorem iblk0 (c : Dev nD) (t : Fin cfg0.N) (r l : Fin 1024) :
    iblk m c 0 t (ix2 r l) = m ((c : Thread nD τ).loc main_arg0) (ix3 (bOf (row t r)) (sOf (row t r)) l) := by
  show V m c main_v8 (((cfg0.win 0).blk t).view.emb (ix2 r l)) = _
  rw [emb0]; exact V_v8 m c _ _
theorem iblk1 (c : Dev nD) (t : Fin cfg0.N) (l : Fin 1024) :
    iblk m c 1 t (ix2 0 l) = m ((c : Thread nD τ).loc main_arg1) (ix2 0 l) := by
  show V m c main_v11 (((cfg0.win 1).blk t).view.emb (ix2 0 l)) = _
  rw [emb1]; exact V_v11 m c _
theorem iblk2 (c : Dev nD) (t : Fin cfg0.N) (l : Fin 3328) (k : Fin 1024) :
    iblk m c 2 t (ix3 0 l k) = m ((c : Thread nD τ).loc main_arg2) (ix3 0 k (col (cl t l))) := by
  show V m c main_v4 (((cfg0.win 2).blk t).view.emb (ix3 0 l k)) = _
  rw [emb2]; exact V_v4 m c _ _
theorem iblk3 (c : Dev nD) (t : Fin cfg0.N) (l : Fin 128) (k : Fin 1024) :
    iblk m c 3 t (ix3 0 l k) = (if h : l.val < 32 then m ((c : Thread nD τ).loc main_arg2) (ix3 0 k ⟨2560 + l, by omega⟩)
      else (0 : EReal) : EReal) := by
  show V m c main_v7 (((cfg0.win 3).blk t).view.emb (ix3 0 l k)) = _
  rw [emb3]; exact V_v7 m c _ _

theorem hb_blocks (c : Dev nD) (t : Fin cfg0.N) (r k : Fin 1024) :
    hb (iblk m c 0 (fst' t)) (iblk m c 1 (fst' t)) (ix2 r k)
      = hn (fun j => m ((c : Thread nD τ).loc main_arg0) (ix3 (bOf (row t r)) (sOf (row t r)) j))
          (fun j => m ((c : Thread nD τ).loc main_arg1) (ix2 0 j)) k := by
  rw [hb_apply]
  simp only [iblk0, iblk1, row_fst]

theorem flushed4 (c : Dev nD) (t : Fin cfg0.N) :
    (dats m 0 c).flushed 4 t = ((cfg0.win 4).blk t).view.read (Elt Ideal) (GUM m c) := by
  rw [show (dats m 0 c).flushed 4 t = (cfg0.win 4).cut (grid0.coords t) ((dats m 0 c).after 4 t) from rfl, after_4]
  funext j
  obtain ⟨r, l, rfl⟩ : ∃ (r : Fin 1024) (l : Fin 3328), j = ix2 r l := ⟨j 0, j 1, eq_ix2 j⟩
  show ob (F := Ideal) _ _ (ix2 r l) = GUM m c (((cfg0.win 4).blk t).view.emb (ix2 r l))
  rw [emb4, ob_apply]
  unfold hAt
  simp only [hb_blocks, iblk2]
  rfl

theorem flushed5 (c : Dev nD) (t : Fin cfg0.N) :
    (dats m 0 c).flushed 5 t = ((cfg0.win 5).blk t).view.read (Elt Ideal) (GDM m c) := by
  rw [show (dats m 0 c).flushed 5 t = (cfg0.win 5).cut (grid0.coords t) ((dats m 0 c).after 5 t) from rfl, after_5]
  funext j
  obtain ⟨r, l, rfl⟩ : ∃ (r : Fin 1024) (l : Fin 128), j = ix2 r l := ⟨j 0, j 1, eq_ix2 j⟩
  show db (F := Ideal) _ _ _ (ix2 r l) = GDM m c (((cfg0.win 5).blk t).view.emb (ix2 r l))
  rw [emb5, db_apply]
  simp only [hb_blocks, iblk3]
  unfold GDM GD
  by_cases h : l.val < 32
  · rw [dif_pos (show ((ix2 (row t r) l : S16384x128.Idx) 1).val < 32 from h)]
    simp only [dif_pos h]
    rfl
  · rw [dif_neg (show ¬ ((ix2 (row t r) l : S16384x128.Idx) 1).val < 32 from h)]
    simp only [dif_neg h, mul_zero, Finset.sum_const_zero]

theorem covered4 (i : S16384x6656.Idx) :
    ∃ t : Fin cfg0.N, (cfg0.win 4).flush t = true ∧ i ∈ ((cfg0.win 4).blk t).view.set := by
  obtain ⟨r, l, rfl⟩ : ∃ (r : Fin 16384) (l : Fin 6656), i = ix2 r l := ⟨i 0, i 1, eq_ix2 i⟩
  have hb : r.val / 1024 * 2 + l.val / 3328 < 32 := by omega
  refine ⟨(⟨r.val / 1024 * 2 + l.val / 3328, hb⟩ : Fin cfg0.N), flush0_4 _, ?_⟩
  have h := ((cfg0.win 4).blk (⟨r.val / 1024 * 2 + l.val / 3328, hb⟩ : Fin cfg0.N)).view.emb_mem_set
    (ix2 (⟨r % 1024, by omega⟩ : Fin 1024) (⟨l % 3328, by omega⟩ : Fin 3328))
  rw [emb4] at h
  have e : row (⟨r.val / 1024 * 2 + l.val / 3328, hb⟩ : Fin cfg0.N) ⟨r % 1024, by omega⟩ = r :=
    Fin.ext (by show (r.val / 1024 * 2 + l.val / 3328) / 2 * 1024 + r.val % 1024 = r.val; omega)
  have e' : cl (⟨r.val / 1024 * 2 + l.val / 3328, hb⟩ : Fin cfg0.N) ⟨l % 3328, by omega⟩ = l :=
    Fin.ext (by show (r.val / 1024 * 2 + l.val / 3328) % 2 * 3328 + l.val % 3328 = l.val; omega)
  rwa [e, e'] at h

theorem covered5 (i : S16384x128.Idx) :
    ∃ t : Fin cfg0.N, (cfg0.win 5).flush t = true ∧ i ∈ ((cfg0.win 5).blk t).view.set := by
  obtain ⟨r, l, rfl⟩ : ∃ (r : Fin 16384) (l : Fin 128), i = ix2 r l := ⟨i 0, i 1, eq_ix2 i⟩
  have hb : r.val / 1024 * 2 + 1 < 32 := by omega
  refine ⟨(⟨r.val / 1024 * 2 + 1, hb⟩ : Fin cfg0.N), (flush0_5 _).mpr (by show (r.val / 1024 * 2 + 1) % 2 = 1; omega), ?_⟩
  have h := ((cfg0.win 5).blk (⟨r.val / 1024 * 2 + 1, hb⟩ : Fin cfg0.N)).view.emb_mem_set
    (ix2 (⟨r % 1024, by omega⟩ : Fin 1024) l)
  rw [emb5] at h
  have e : row (⟨r.val / 1024 * 2 + 1, hb⟩ : Fin cfg0.N) ⟨r % 1024, by omega⟩ = r :=
    Fin.ext (by show (r.val / 1024 * 2 + 1) / 2 * 1024 + r.val % 1024 = r.val; omega)
  rwa [e] at h

/-- The kernel's run with its result arrays at `GUM` and `GDM`, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v12_0) = GUM m c
      ∧ r.2.mem ((c : Thread nD τ).loc main_v12_1) = GDM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h.1 c).1 4).trans ((dats m 0 c).arrAt_eq_of_cover 4 (GUM m c) (fun t _ => flushed4 m c t) covered4),
      ((h.1 c).1 5).trans ((dats m 0 c).arrAt_eq_of_cover 5 (GDM m c) (fun t _ => flushed5 m c t) covered5),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_main m ρ)

end Cert.Kernel2Ideal.InProj

namespace Cert.Reference2Ideal.InProj

open Cert.Reference2Ideal Cert.Reference2Ideal.Gen Idealize.ShloMosaic Idealize.ShloMosaic.TcCoe Idealize.SL.Sem
open Idealize.ShloMosaic.Pointwise
open Cert.Kernel2Ideal.InProj (hn proj GU GD bOf sOf col zero_word)

variable (m : (ℓ : Loc nD τ sig) → Buf (Elt Ideal) ℓ)

/-- The normalised input. -/
def H (x : FVec Ideal S8x2048x1024 .f32) (nw : FVec Ideal S2x1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![0, 0] nw slices_S2x1024_S1x1024_0_0) shapeCasts_S1x1024_S1024)))

/-- The first layer's weights. -/
def W (w : FVec Ideal S2x1024x6688 .f32) : FVec Ideal S1024x6688 .f32 :=
  shapeCast _ (extractStridedSlice S1x1024x6688 ![0, 0, 0] w slices_S2x1024x6688_S1x1024x6688_0_0_0) shapeCasts_S1x1024x6688_S1024x6688

/-- Their product, the first two axes as one. -/
def D (h : FVec Ideal S8x2048x1024 .f32) (w : FVec Ideal S1024x6688 .f32) : FVec Ideal S16384x6688 .f32 :=
  shapeCast _ (Host.dotGeneral dot_S8x2048x1024_S1024x6688_S8x2048x6688_2_0_01_1_n_n none h w) shapeCasts_S8x2048x6688_S16384x6688

theorem H_apply (x : FVec Ideal S8x2048x1024 .f32) (nw : FVec Ideal S2x1024 .f32) (b : Fin 8) (s : Fin 2048) (k : Fin 1024) :
    H x nw (ix3 b s k) = hn (fun j => x (ix3 b s j)) (fun j => nw (ix2 0 j)) k := by
  unfold H
  pointwise
  rfl

theorem W_apply (w : FVec Ideal S2x1024x6688 .f32) (k : Fin 1024) (l : Fin 6688) : W w (ix2 k l) = w (ix3 0 k l) := by
  unfold W
  pointwise

theorem D_apply (h : FVec Ideal S8x2048x1024 .f32) (w : FVec Ideal S1024x6688 .f32) (r : Fin 16384) (l : Fin 6688) :
    D h w (ix2 r l) = ∑ k : Fin 1024, h (ix3 (bOf r) (sOf r) k) * w (ix2 k l) := by
  unfold D bOf sOf
  pointwise

theorem D_proj (x : FVec Ideal S8x2048x1024 .f32) (nw : FVec Ideal S2x1024 .f32) (w : FVec Ideal S2x1024x6688 .f32) (r : Fin 16384) (l : Fin 6688) :
    D (H x nw) (W w) (ix2 r l) = proj x nw w (bOf r) (sOf r) l := by
  rw [D_apply]
  simp only [H_apply, W_apply]
  rfl

theorem first_eq (x : FVec Ideal S8x2048x1024 .f32) (nw : FVec Ideal S2x1024 .f32) (w : FVec Ideal S2x1024x6688 .f32) :
    truncf (F := Ideal) (φ := .f32) .bf16 (concatenate S16384x6656 1 [⟨S16384x2560, (extractStridedSlice S16384x2560 ![0, 0] (D (H x nw) (W w)) slices_S16384x6688_S16384x2560_0_0)⟩,
      ⟨S16384x4096, (extractStridedSlice S16384x4096 ![0, 2592] (D (H x nw) (W w)) slices_S16384x6688_S16384x4096_0_2592)⟩] concatenates_S16384x2560_S16384x4096_S16384x6656_d1) bitsLt_bf16_f32
      = GU x nw w := by
  funext j
  obtain ⟨r, l, rfl⟩ : ∃ (r : Fin 16384) (l : Fin 6656), j = ix2 r l := ⟨j 0, j 1, eq_ix2 j⟩
  pointwise
  show _ = proj x nw w (bOf r) (sOf r) (col l)
  by_cases h : l.val < 2560
  · rw [dif_pos h, D_proj, show col l = ⟨l, by omega⟩ from Fin.ext (if_pos h)]
  · rw [dif_neg h, D_proj]
    exact congrArg _ (Fin.ext (by show 2592 + (l.val - 2560) = (if l.val < 2560 then l.val else l.val + 32); rw [if_neg h]; omega))

theorem second_eq (x : FVec Ideal S8x2048x1024 .f32) (nw : FVec Ideal S2x1024 .f32) (w : FVec Ideal S2x1024x6688 .f32) :
    pad S16384x128 ![0, 0] ![0, 96] ![0, 0] (extractStridedSlice S16384x32 ![0, 2560] (D (H x nw) (W w)) slices_S16384x6688_S16384x32_0_2560)
      (sitofp (F := Ideal) .f32 (constantI S_ 32 0#32)) pads_S16384x32_S16384x128_000_0960 h_S_ = GD x nw w := by
  funext j
  obtain ⟨r, l, rfl⟩ : ∃ (r : Fin 16384) (l : Fin 128), j = ix2 r l := ⟨j 0, j 1, eq_ix2 j⟩
  pointwise
  rw [zero_word]
  unfold GD
  by_cases h : l.val < 32
  · rw [dif_pos h, dif_pos (show ((ix2 r l : S16384x128.Idx) 1).val < 32 from h), D_proj]
    rfl
  · rw [dif_neg h, dif_neg (show ¬ ((ix2 r l : S16384x128.Idx) 1).val < 32 from h)]

/-- The reference's run with its result arrays at the same functions of its arguments. -/
theorem run (ρ : Dev nD → PrngReg) : θ_run defs (onTc (τ := τ) (main (F := Ideal))) ⟨m, fun _ => 0, ρ⟩ fun r => ∀ c : Dev nD,
      r.2.mem ((c.tc : Thread nD τ).loc main_v22) = GU (m ((c.tc : Thread nD τ).loc main_arg0))
        (m ((c.tc : Thread nD τ).loc main_arg1)) (m ((c.tc : Thread nD τ).loc main_arg2))
      ∧ r.2.mem ((c.tc : Thread nD τ).loc main_v24) = GD (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (first_eq _ _ _), (h c).2.1.trans (second_eq _ _ _), (h c).2.2⟩)
    (Value.run m ρ)

end Cert.Reference2Ideal.InProj
end
-- ==== Proof.InFrame.lean ====
/- The input projection's frame for the program as it is written: that program and its idealization have the same
   text, so the run of the one is the run of the other. -/
module
public import proofs.«01_k».proof.Proof.InProj
public import proofs.«01_k».proof.Proof.Gen.Kernel2
@[expose] public section
set_option maxRecDepth 16384
noncomputable section
namespace Cert.Kernel2.InProj
open Idealize.ShloMosaic Idealize.ShloMosaic.TcCoe Idealize.SL.Sem
theorem cfg_eq : Cert.Kernel2.pcfgs (F := Bits) = Cert.Kernel2Ideal.pcfgs (F := Bits) := rfl
theorem defs0_eq : Cert.Kernel2.defs₀ (F := Bits) = Cert.Kernel2Ideal.defs₀ (F := Bits) := by
  unfold Cert.Kernel2.defs₀ Cert.Kernel2Ideal.defs₀
  refine congrArg _ ?_
  funext l x
  match l, x with
  | 0, (t, s) => rfl
theorem defs_eq : Cert.Kernel2.defs (F := Bits) = Cert.Kernel2Ideal.defs (F := Bits) := by
  unfold Cert.Kernel2.defs Cert.Kernel2Ideal.defs
  rw [defs0_eq]; rfl

theorem main_eq : Cert.Kernel2.main (F := Bits) = Cert.Kernel2Ideal.main (F := Bits) := rfl

/-- The argument arrays end unchanged and every counter at zero. -/
theorem frame (m : (ℓ : Loc Cert.Kernel2.nD Cert.Kernel2.τ Cert.Kernel2.sig) → Buf (Elt Bits) ℓ) (ρ : Dev Cert.Kernel2.nD → PrngReg) : θ_run (Cert.Kernel2.defs (F := Bits)) (onTc (τ := Cert.Kernel2.τ) (Cert.Kernel2.main (F := Bits))) ⟨m, fun _ => 0, ρ⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0) := by
  rw [defs_eq, main_eq]
  exact Cert.Kernel2Ideal.InProj.frame (F := Bits) m ρ
end Cert.Kernel2.InProj
end
-- ==== Proof.SndRun.lean ====
module

public import proofs.«01_k».proof.Proof.Gen.Kernel6Ideal.Frame
public import proofs.«01_k».proof.Proof.Gen.Kernel6Ideal.Loops
public import Idealize.ShloMosaic.Lib.Exec
public import Idealize.ShloMosaic.Lib.Tactic

@[expose] public section

set_option maxRecDepth 16384

noncomputable section

namespace Cert.Kernel6Ideal.Diff

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The whole body, run once: from any contents of its buffers it ends with the inputs unchanged, the output block at
    contents computed from what was found, and the work buffers at some contents. -/
@[irreducible] def run (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x2048x256 .bf16) (harg12 : arg12.IsWhole) (arg13 : Memref sig .tc .vmem S2x2048x128 .bf16) (harg13 : arg13.IsWhole) (arg14 : Memref sig .tc .vmem S2x2x2048x128 .bf16) (harg14 : arg14.IsWhole) (arg15 : Memref sig .tc .vmem S2x144x2048 .bf16) (harg15 : arg15.IsWhole) (arg16 : Memref sig .tc .vmem S2x2048x256 .f32) (harg16 : arg16.IsWhole) (arg17 : Memref sig .tc .vmem S2x2048x256 .f32) (harg17 : arg17.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    { L12 : (BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg12.view.ty) // ∀ (E : Set ℕ) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (K : PUnit → sProp 𝕄),
      iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} L12 f12 f13 f14 f15 f16 f17) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))) -∗ K ⟨⟩))
      ⊢ wp frame (wpE (defs₀ (F := F)) Variants.none (c : Thread nD τ) none) E (cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E f12 f13 f14 f15 f16 f17 K => ?run⟩
  case run =>
    simp only [cc0_diff_attn_eq_skeleton]; unfold cc0_diff_attn_skel
    iintro ⟨H2, H3, H4, H5, H6, H7, H8, H9, H10, H11, H12, H13, H14, H15, H16, H17, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    iexists _; iexact H17

end Cert.Kernel6Ideal.Diff

end
-- ==== Proof.SndTiles.lean ====
module

public import proofs.«01_k».proof.Proof.SndRun
public import proofs.«01_k».proof.Proof.Gen.Kernel6Ideal.Frame
public import proofs.«01_k».proof.Proof.Gen.Kernel6Ideal.Loops
public import Idealize.ShloMosaic.Lib.Exec
public import Idealize.ShloMosaic.Lib.Tactic

@[expose] public section

set_option maxRecDepth 16384

noncomputable section

namespace Cert.Kernel6Ideal.Diff

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! What one grid point computes, as functions of the blocks it reads. -/

/-- The 0/1 matrix of two positions in the same group of 64. -/
noncomputable def seg : FVec F S128x128 .bf16 := run.sl.v54

/-- The permutation matrix exchanging the halves of every group of 64. -/
noncomputable def swp : FVec F S128x128 .bf16 := run.sl.v66

/-- The mask of the first group of 64. -/
noncomputable def half : IVec S256x128 1 := cmpi .slt run.sl.v55 run.sl.v56

noncomputable def tile (x : Vec F S1x2048x256 .bf16) (hd : Fin 2) (r : Fin 8) : Vec F S1x256x128 .bf16 :=
  View.ld x (Rect.unit (s := S1x2048x256) ![0, r.val * 256, hd.val * 128] S1x256x128.size (by fin_cases hd <;> fin_cases r <;> decide))

noncomputable def tab (x : Vec F S2048x128 .f32) (r : Fin 8) : Vec F S256x128 .f32 :=
  View.ld x (Rect.unit (s := S2048x128) ![r.val * 256, 0] S256x128.size (by fin_cases r <;> decide))

/-- A tile of queries: normalised in groups, rotated and scaled. -/
noncomputable def qT (x : Vec F S1x256x128 .bf16) (cos sin : Vec F S256x128 .f32) : Vec F S1x256x128 .bf16 :=
  k0_pay112 seg swp x cos sin

/-- A tile of keys with only the first group kept. -/
noncomputable def kT0 (x : Vec F S1x256x128 .bf16) (cos sin : Vec F S256x128 .f32) : Vec F S1x1x256x128 .bf16 :=
  k0_pay108 seg half swp x cos sin

/-- A tile of keys with only the second group kept. -/
noncomputable def kT1 (x : Vec F S1x256x128 .bf16) (cos sin : Vec F S256x128 .f32) : Vec F S1x1x256x128 .bf16 :=
  shapeCast S1x1x256x128 (truncf .bf16 (select half (broadcast S256x128 (Scalar.ofBits .f32 0x00000000#32)) (k0_pay107 seg swp x cos sin)) bitsLt_bf16_f32) shapeCasts_S256x128_S1x1x256x128

/-- A tile of values, transposed. -/
noncomputable def vT (x : Vec F S1x256x128 .bf16) : Vec F S1x128x256 .bf16 := k0_pay111 x

/-- The tiles of queries as they are stored, the last first. -/
noncomputable def LQ (x : Vec F S1x2048x256 .bf16) (c s : Vec F S2048x128 .f32) : List (View.Piece (Elt F) S2x2048x128 .bf16) :=
  [⟨Rect.unit ![1, 1792, 0] S1x256x128.size (by decide), qT (tile x 1 7) (tab c 7) (tab s 7)⟩,
   ⟨Rect.unit ![1, 1536, 0] S1x256x128.size (by decide), qT (tile x 1 6) (tab c 6) (tab s 6)⟩,
   ⟨Rect.unit ![1, 1280, 0] S1x256x128.size (by decide), qT (tile x 1 5) (tab c 5) (tab s 5)⟩,
   ⟨Rect.unit ![1, 1024, 0] S1x256x128.size (by decide), qT (tile x 1 4) (tab c 4) (tab s 4)⟩,
   ⟨Rect.unit ![1, 768, 0] S1x256x128.size (by decide), qT (tile x 1 3) (tab c 3) (tab s 3)⟩,
   ⟨Rect.unit ![1, 512, 0] S1x256x128.size (by decide), qT (tile x 1 2) (tab c 2) (tab s 2)⟩,
   ⟨Rect.unit ![1, 256, 0] S1x256x128.size (by decide), qT (tile x 1 1) (tab c 1) (tab s 1)⟩,
   ⟨Rect.unit ![1, 0, 0] S1x256x128.size (by decide), qT (tile x 1 0) (tab c 0) (tab s 0)⟩,
   ⟨Rect.unit ![0, 1792, 0] S1x256x128.size (by decide), qT (tile x 0 7) (tab c 7) (tab s 7)⟩,
   ⟨Rect.unit ![0, 1536, 0] S1x256x128.size (by decide), qT (tile x 0 6) (tab c 6) (tab s 6)⟩,
   ⟨Rect.unit ![0, 1280, 0] S1x256x128.size (by decide), qT (tile x 0 5) (tab c 5) (tab s 5)⟩,
   ⟨Rect.unit ![0, 1024, 0] S1x256x128.size (by decide), qT (tile x 0 4) (tab c 4) (tab s 4)⟩,
   ⟨Rect.unit ![0, 768, 0] S1x256x128.size (by decide), qT (tile x 0 3) (tab c 3) (tab s 3)⟩,
   ⟨Rect.unit ![0, 512, 0] S1x256x128.size (by decide), qT (tile x 0 2) (tab c 2) (tab s 2)⟩,
   ⟨Rect.unit ![0, 256, 0] S1x256x128.size (by decide), qT (tile x 0 1) (tab c 1) (tab s 1)⟩,
   ⟨Rect.unit ![0, 0, 0] S1x256x128.size (by decide), qT (tile x 0 0) (tab c 0) (tab s 0)⟩]

/-- The tiles of keys as they are stored, the last first. -/
noncomputable def LK (x : Vec F S1x2048x256 .bf16) (c s : Vec F S2048x128 .f32) : List (View.Piece (Elt F) S2x2x2048x128 .bf16) :=
  [⟨Rect.unit ![1, 1, 1792, 0] S1x1x256x128.size (by decide), kT1 (tile x 1 7) (tab c 7) (tab s 7)⟩,
   ⟨Rect.unit ![1, 0, 1792, 0] S1x1x256x128.size (by decide), kT0 (tile x 1 7) (tab c 7) (tab s 7)⟩,
   ⟨Rect.unit ![1, 1, 1536, 0] S1x1x256x128.size (by decide), kT1 (tile x 1 6) (tab c 6) (tab s 6)⟩,
   ⟨Rect.unit ![1, 0, 1536, 0] S1x1x256x128.size (by decide), kT0 (tile x 1 6) (tab c 6) (tab s 6)⟩,
   ⟨Rect.unit ![1, 1, 1280, 0] S1x1x256x128.size (by decide), kT1 (tile x 1 5) (tab c 5) (tab s 5)⟩,
   ⟨Rect.unit ![1, 0, 1280, 0] S1x1x256x128.size (by decide), kT0 (tile x 1 5) (tab c 5) (tab s 5)⟩,
   ⟨Rect.unit ![1, 1, 1024, 0] S1x1x256x128.size (by decide), kT1 (tile x 1 4) (tab c 4) (tab s 4)⟩,
   ⟨Rect.unit ![1, 0, 1024, 0] S1x1x256x128.size (by decide), kT0 (tile x 1 4) (tab c 4) (tab s 4)⟩,
   ⟨Rect.unit ![1, 1, 768, 0] S1x1x256x128.size (by decide), kT1 (tile x 1 3) (tab c 3) (tab s 3)⟩,
   ⟨Rect.unit ![1, 0, 768, 0] S1x1x256x128.size (by decide), kT0 (tile x 1 3) (tab c 3) (tab s 3)⟩,
   ⟨Rect.unit ![1, 1, 512, 0] S1x1x256x128.size (by decide), kT1 (tile x 1 2) (tab c 2) (tab s 2)⟩,
   ⟨Rect.unit ![1, 0, 512, 0] S1x1x256x128.size (by decide), kT0 (tile x 1 2) (tab c 2) (tab s 2)⟩,
   ⟨Rect.unit ![1, 1, 256, 0] S1x1x256x128.size (by decide), kT1 (tile x 1 1) (tab c 1) (tab s 1)⟩,
   ⟨Rect.unit ![1, 0, 256, 0] S1x1x256x128.size (by decide), kT0 (tile x 1 1) (tab c 1) (tab s 1)⟩,
   ⟨Rect.unit ![1, 1, 0, 0] S1x1x256x128.size (by decide), kT1 (tile x 1 0) (tab c 0) (tab s 0)⟩,
   ⟨Rect.unit ![1, 0, 0, 0] S1x1x256x128.size (by decide), kT0 (tile x 1 0) (tab c 0) (tab s 0)⟩,
   ⟨Rect.unit ![0, 1, 1792, 0] S1x1x256x128.size (by decide), kT1 (tile x 0 7) (tab c 7) (tab s 7)⟩,
   ⟨Rect.unit ![0, 0, 1792, 0] S1x1x256x128.size (by decide), kT0 (tile x 0 7) (tab c 7) (tab s 7)⟩,
   ⟨Rect.unit ![0, 1, 1536, 0] S1x1x256x128.size (by decide), kT1 (tile x 0 6) (tab c 6) (tab s 6)⟩,
   ⟨Rect.unit ![0, 0, 1536, 0] S1x1x256x128.size (by decide), kT0 (tile x 0 6) (tab c 6) (tab s 6)⟩,
   ⟨Rect.unit ![0, 1, 1280, 0] S1x1x256x128.size (by decide), kT1 (tile x 0 5) (tab c 5) (tab s 5)⟩,
   ⟨Rect.unit ![0, 0, 1280, 0] S1x1x256x128.size (by decide), kT0 (tile x 0 5) (tab c 5) (tab s 5)⟩,
   ⟨Rect.unit ![0, 1, 1024, 0] S1x1x256x128.size (by decide), kT1 (tile x 0 4) (tab c 4) (tab s 4)⟩,
   ⟨Rect.unit ![0, 0, 1024, 0] S1x1x256x128.size (by decide), kT0 (tile x 0 4) (tab c 4) (tab s 4)⟩,
   ⟨Rect.unit ![0, 1, 768, 0] S1x1x256x128.size (by decide), kT1 (tile x 0 3) (tab c 3) (tab s 3)⟩,
   ⟨Rect.unit ![0, 0, 768, 0] S1x1x256x128.size (by decide), kT0 (tile x 0 3) (tab c 3) (tab s 3)⟩,
   ⟨Rect.unit ![0, 1, 512, 0] S1x1x256x128.size (by decide), kT1 (tile x 0 2) (tab c 2) (tab s 2)⟩,
   ⟨Rect.unit ![0, 0, 512, 0] S1x1x256x128.size (by decide), kT0 (tile x 0 2) (tab c 2) (tab s 2)⟩,
   ⟨Rect.unit ![0, 1, 256, 0] S1x1x256x128.size (by decide), kT1 (tile x 0 1) (tab c 1) (tab s 1)⟩,
   ⟨Rect.unit ![0, 0, 256, 0] S1x1x256x128.size (by decide), kT0 (tile x 0 1) (tab c 1) (tab s 1)⟩,
   ⟨Rect.unit ![0, 1, 0, 0] S1x1x256x128.size (by decide), kT1 (tile x 0 0) (tab c 0) (tab s 0)⟩,
   ⟨Rect.unit ![0, 0, 0, 0] S1x1x256x128.size (by decide), kT0 (tile x 0 0) (tab c 0) (tab s 0)⟩]

/-- The tiles of values and the rows of ones as they are stored, the last first. -/
noncomputable def LV (x : Vec F S1x2048x256 .bf16) : List (View.Piece (Elt F) S2x144x2048 .bf16) :=
  [⟨Rect.unit ![1, 0, 1792] S1x128x256.size (by decide), vT (tile x 1 7)⟩,
   ⟨Rect.unit ![1, 0, 1536] S1x128x256.size (by decide), vT (tile x 1 6)⟩,
   ⟨Rect.unit ![1, 0, 1280] S1x128x256.size (by decide), vT (tile x 1 5)⟩,
   ⟨Rect.unit ![1, 0, 1024] S1x128x256.size (by decide), vT (tile x 1 4)⟩,
   ⟨Rect.unit ![1, 0, 768] S1x128x256.size (by decide), vT (tile x 1 3)⟩,
   ⟨Rect.unit ![1, 0, 512] S1x128x256.size (by decide), vT (tile x 1 2)⟩,
   ⟨Rect.unit ![1, 0, 256] S1x128x256.size (by decide), vT (tile x 1 1)⟩,
   ⟨Rect.unit ![1, 0, 0] S1x128x256.size (by decide), vT (tile x 1 0)⟩,
   ⟨Rect.unit ![0, 0, 1792] S1x128x256.size (by decide), vT (tile x 0 7)⟩,
   ⟨Rect.unit ![0, 0, 1536] S1x128x256.size (by decide), vT (tile x 0 6)⟩,
   ⟨Rect.unit ![0, 0, 1280] S1x128x256.size (by decide), vT (tile x 0 5)⟩,
   ⟨Rect.unit ![0, 0, 1024] S1x128x256.size (by decide), vT (tile x 0 4)⟩,
   ⟨Rect.unit ![0, 0, 768] S1x128x256.size (by decide), vT (tile x 0 3)⟩,
   ⟨Rect.unit ![0, 0, 512] S1x128x256.size (by decide), vT (tile x 0 2)⟩,
   ⟨Rect.unit ![0, 0, 256] S1x128x256.size (by decide), vT (tile x 0 1)⟩,
   ⟨Rect.unit ![0, 0, 0] S1x128x256.size (by decide), vT (tile x 0 0)⟩,
   ⟨Rect.unit ![1, 128, 0] S1x16x2048.size (by decide), run.sl.v70⟩, ⟨Rect.unit ![0, 128, 0] S1x16x2048.size (by decide), run.sl.v70⟩]

theorem H13_eq (arg2 : Memref sig .tc .vmem S1x2048x256 .bf16) (arg6 arg7 : Memref sig .tc .vmem S2048x128 .f32)
    (f2 : BufTy.Contents (Elt F) arg2.view.ty) (f6 : BufTy.Contents (Elt F) arg6.view.ty) (f7 : BufTy.Contents (Elt F) arg7.view.ty) :
    run.sl.H13_16 arg2 arg6 arg7 f2 f6 f7 = LQ (arg2.view.read (Elt F) f2) (arg6.view.read (Elt F) f6) (arg7.view.read (Elt F) f7) := rfl

theorem H14_eq (arg3 : Memref sig .tc .vmem S1x2048x256 .bf16) (arg8 arg9 : Memref sig .tc .vmem S2048x128 .f32)
    (f3 : BufTy.Contents (Elt F) arg3.view.ty) (f8 : BufTy.Contents (Elt F) arg8.view.ty) (f9 : BufTy.Contents (Elt F) arg9.view.ty) :
    run.sl.H14_32 arg3 arg8 arg9 f3 f8 f9 = LK (arg3.view.read (Elt F) f3) (arg8.view.read (Elt F) f8) (arg9.view.read (Elt F) f9) := rfl

theorem H15_eq (arg4 : Memref sig .tc .vmem S1x2048x256 .bf16) (f4 : BufTy.Contents (Elt F) arg4.view.ty) :
    run.sl.H15_18 arg4 f4 = LV (arg4.view.read (Elt F) f4) := rfl

/-- The queries, the keys and the transposed values the work buffers hold. -/
noncomputable def qArr (x : Vec F S1x2048x256 .bf16) (c s : Vec F S2048x128 .f32) : Vec F S2x2048x128 .bf16 := View.canon (LQ x c s)
noncomputable def kArr (x : Vec F S1x2048x256 .bf16) (c s : Vec F S2048x128 .f32) : Vec F S2x2x2048x128 .bf16 := View.canon (LK x c s)
noncomputable def vArr (x : Vec F S1x2048x256 .bf16) : Vec F S2x144x2048 .bf16 := View.canon (LV x)

/-! One item: a head and 256 of the rows. -/

noncomputable def qAt (Q : Vec F S2x2048x128 .bf16) (j : Fin 16) : Vec F S1x256x128 .bf16 :=
  View.ld Q (Rect.unit (s := S2x2048x128) ![j.val / 8, j.val % 8 * 256, 0] S1x256x128.size (by revert j; decide))
noncomputable def kAt0 (K : Vec F S2x2x2048x128 .bf16) (j : Fin 16) : Vec F S1x1x2048x128 .bf16 :=
  View.ld K (Rect.unit (s := S2x2x2048x128) ![j.val / 8, 0, 0, 0] S1x1x2048x128.size (by revert j; decide))
noncomputable def kAt1 (K : Vec F S2x2x2048x128 .bf16) (j : Fin 16) : Vec F S1x1x2048x128 .bf16 :=
  View.ld K (Rect.unit (s := S2x2x2048x128) ![j.val / 8, 1, 0, 0] S1x1x2048x128.size (by revert j; decide))
noncomputable def vAt (V : Vec F S2x144x2048 .bf16) (j : Fin 16) : Vec F S1x144x2048 .bf16 :=
  View.ld V (Rect.unit (s := S2x144x2048) ![j.val / 8, 0, 0] S1x144x2048.size (by revert j; decide))
noncomputable def gAt (G : Vec F S1x2048x256 .bf16) (j : Fin 16) : Vec F S1x256x128 .bf16 :=
  View.ld G (Rect.unit (s := S1x2048x256) ![0, j.val % 8 * 256, j.val / 8 * 128] S1x256x128.size (by revert j; decide))

/-- The scores of 256 queries against all the keys. -/
noncomputable def sc (q : Vec F S1x256x128 .bf16) (k : Vec F S1x1x2048x128 .bf16) : Vec F S1x2048x256 .f32 :=
  shapeCast S1x2048x256 (matmul dot_S2048x128_S256x128_S2048x256_1_1_0_0_n_n none
    (shapeCast S2048x128 k shapeCasts_S1x1x2048x128_S2048x128) (shapeCast S256x128 q shapeCasts_S1x256x128_S256x128)
    (constant S2048x256 .f32 0x00000000#32)) shapeCasts_S2048x256_S1x2048x256

/-- The exponentials of the scores less their maximum. -/
noncomputable def ex (s : Vec F S1x2048x256 .f32) : FVec F S2048x256 .bf16 :=
  let s2 : FVec F S2048x256 .f32 := shapeCast S2048x256 s shapeCasts_S1x2048x256_S2048x256
  let m : FVec F S256 .f32 := multiReduction .maximumf [0] S256 s2 0xFF800000#32 reduces_S2048x256_S256 (.inl rfl) rfl
  truncf .bf16 (exp2 (subf s2 (broadcastTo S2048x256 (shapeCast S1x256 m shapeCasts_S256_S1x256) broadcasts_S1x256_S2048x256))) bitsLt_bf16_f32

/-- The values weighted by the exponentials, over the exponentials' sum. -/
noncomputable def halfP (s : Vec F S1x2048x256 .f32) (v : Vec F S1x144x2048 .bf16) : FVec F S128x256 .f32 :=
  let acc : FVec F S144x256 .f32 := matmul dot_S144x2048_S2048x256_S144x256_1_0_0_1_n_n none
    (shapeCast S144x2048 v shapeCasts_S1x144x2048_S144x2048) (ex s) (constant S144x256 .f32 0x00000000#32)
  mulf (extractStridedSlice S128x256 ![0, 0] acc slices_S144x256_o0_0_S128x256)
    (broadcastTo S128x256 (divf (broadcast S1x256 (Scalar.ofBits .f32 0x3F800000#32)) (extractStridedSlice S1x256 ![128, 0] acc slices_S144x256_o128_0_S1x256)) broadcasts_S1x256_S128x256)

/-- The difference of the two weighted sums, a row per query. -/
noncomputable def ot (lam : FVec F S1x1 .f32) (p0 p1 : FVec F S128x256 .f32) : FVec F S256x128 .f32 := k0_pay192 lam p0 p1

/-- One item from its two score tiles. -/
noncomputable def outT (s0 s1 : Vec F S1x2048x256 .f32) (v : Vec F S1x144x2048 .bf16) (lam : FVec F S1x1 .f32) (sub : Vec F S1x128 .f32)
    (g : Vec F S1x256x128 .bf16) : Vec F S1x256x128 .bf16 :=
  k0_pay180 (ot lam (halfP s0 v) (halfP s1 v)) (mulf (ot lam (halfP s0 v) (halfP s1 v)) (ot lam (halfP s0 v) (halfP s1 v))) sub g

noncomputable def sc0 (Q : Vec F S2x2048x128 .bf16) (K : Vec F S2x2x2048x128 .bf16) (j : Fin 16) : Vec F S1x2048x256 .f32 := sc (qAt Q j) (kAt0 K j)
noncomputable def sc1 (Q : Vec F S2x2048x128 .bf16) (K : Vec F S2x2x2048x128 .bf16) (j : Fin 16) : Vec F S1x2048x256 .f32 := sc (qAt Q j) (kAt1 K j)

/-- One item, stored where it belongs in the block. -/
noncomputable def pcOf (j : Fin 16) (s0 s1 : Vec F S1x2048x256 .f32) (V : Vec F S2x144x2048 .bf16) (lam : FVec F S1x1 .f32)
    (sub : Vec F S1x128 .f32) (G : Vec F S1x2048x256 .bf16) : View.Piece (Elt F) S1x2048x256 .bf16 :=
  ⟨Rect.unit ![0, j.val % 8 * 256, j.val / 8 * 128] S1x256x128.size (by revert j; decide), outT s0 s1 (vAt V j) lam sub (gAt G j)⟩

noncomputable def pc (Q : Vec F S2x2048x128 .bf16) (K : Vec F S2x2x2048x128 .bf16) (V : Vec F S2x144x2048 .bf16) (lam : FVec F S1x1 .f32)
    (sub : Vec F S1x128 .f32) (G : Vec F S1x2048x256 .bf16) (j : Fin 16) : View.Piece (Elt F) S1x2048x256 .bf16 :=
  pcOf j (sc0 Q K j) (sc1 Q K j) V lam sub G

/-- The factor of the second attention, from the four learned vectors. -/
noncomputable def lamOf (l : Vec F S4x64 .f32) : FVec F S1x1 .f32 :=
  addf (subf
    (exp (shapeCast S1x1 (multiReduction .add [1] S1 (mulf (extractStridedSlice S1x64 ![0, 0] l slices_S4x64_o0_0_S1x64) (extractStridedSlice S1x64 ![1, 0] l slices_S4x64_o1_0_S1x64)) 0x00000000#32 reduces_S1x64_S1 (.inl rfl) rfl) shapeCasts_S1_S1x1))
    (exp (shapeCast S1x1 (multiReduction .add [1] S1 (mulf (extractStridedSlice S1x64 ![2, 0] l slices_S4x64_o2_0_S1x64) (extractStridedSlice S1x64 ![3, 0] l slices_S4x64_o3_0_S1x64)) 0x00000000#32 reduces_S1x64_S1 (.inl rfl) rfl) shapeCasts_S1_S1x1)))
    (broadcast S1x1 (Scalar.ofBits .f32 0x3EB60549#32))

end Cert.Kernel6Ideal.Diff

end
-- ==== Proof.SndTileVal.lean ====
/- What one grid point computes, at an index, over the extended reals. -/
module

public import proofs.«01_k».proof.Proof.SndTiles
public import proofs.«01_k».proof.Proof.DiffSpec
public import Idealize.ShloMosaic.Lib.Pointwise

@[expose] public section

set_option maxRecDepth 16384

noncomputable section

namespace Cert.Kernel6Ideal.Diff

open Cert.Kernel6Ideal Cert.Kernel6Ideal.Gen Cert.Attn Idealize.ShloMosaic Idealize.ShloMosaic.TcCoe Idealize.SL.Sem
open Idealize.ShloMosaic.Pointwise

theorem seg_eq : (seg (F := Ideal)) = k0_pay22 k0_pay17 k0_pay18 k0_pay19 k0_pay20 k0_pay21 := rfl
theorem swp_eq : (swp (F := Ideal)) = k0_pay24 := rfl
theorem half_eq : half = k0_pay23 := rfl

theorem cmpi_ofNat (x y : ℕ) (hx : x < 128) (hy : y < 128) : IntOp.cmpi .eq (BitVec.ofNat 32 x) (BitVec.ofNat 32 y) = if x = y then 1#1 else 0#1 := by
  have h : ∀ x y : Fin 128, IntOp.cmpi .eq (BitVec.ofNat 32 x.val) (BitVec.ofNat 32 y.val) = if x.val = y.val then 1#1 else 0#1 := by
    intro x y
    by_cases e : x.val = y.val
    · rw [if_pos e, e]; simp [IntOp.cmpi]
    · rw [if_neg e]
      have : BitVec.ofNat 32 x.val ≠ BitVec.ofNat 32 y.val := fun hh => e (by
        have := congrArg BitVec.toNat hh
        rw [BitVec.toNat_ofNat, BitVec.toNat_ofNat, Nat.mod_eq_of_lt (by omega), Nat.mod_eq_of_lt (by omega)] at this
        exact this)
      show BitVec.ofBool (BitVec.ofNat 32 x.val == BitVec.ofNat 32 y.val) = 0#1
      rw [beq_eq_false_iff_ne.mpr this]; rfl
  exact h ⟨x, hx⟩ ⟨y, hy⟩

theorem xori_ofNat (a : Fin 128) : IntOp.xori (BitVec.ofNat 32 a.val) 32#32 = BitVec.ofNat 32 (a.val ^^^ 32) := by
  revert a; decide

theorem rows_apply (a b : Fin 128) : k0_pay17 (ix2 a b) = BitVec.ofNat 32 (a.val / 64) := by
  pointwise [k0_pay17]
  revert a; decide

theorem cols_apply (a b : Fin 128) :
    Scalar.select (IntOp.andi (k0_pay19 (ix2 a b)) (IntOp.cmpi .ne (k0_pay20 (ix2 a b)) (k0_pay21 (ix2 a b)))) (IntOp.subi (k0_pay18 (ix2 a b)) 1#32) (k0_pay18 (ix2 a b)) = BitVec.ofNat 32 (b.val / 64) := by
  pointwise [k0_pay18, k0_pay19, k0_pay20, k0_pay21]
  revert b; decide

theorem seg_apply (a b : Fin 128) : (seg (F := Ideal)) (ix2 a b) = sgK a b := by
  rw [seg_eq]
  pointwise [k0_pay22]
  rw [rows_apply, cols_apply, cmpi_ofNat _ _ (by omega) (by omega)]
  unfold sgK
  by_cases h : a.val / 64 = b.val / 64
  · rw [if_pos h, if_pos h]; rfl
  · rw [if_neg h, if_neg h]; rfl

theorem swp_apply (a b : Fin 128) : (swp (F := Ideal)) (ix2 a b) = swK a b := by
  rw [swp_eq]
  pointwise [k0_pay24]
  have hx : a.val ^^^ 32 < 128 := Nat.xor_lt_two_pow (n := 7) a.isLt (by decide)
  rw [xori_ofNat, cmpi_ofNat _ _ (by omega) (by omega)]
  unfold swK
  by_cases h : a.val ^^^ 32 = b.val
  · rw [if_pos h, if_pos h]; rfl
  · rw [if_neg h, if_neg h]; rfl

theorem half_apply (r : Fin 256) (l : Fin 128) : half (ix2 r l) = if l.val < 64 then 1#1 else 0#1 := by
  rw [half_eq]
  pointwise [k0_pay23]
  revert l; decide

theorem pay107_apply (sg sw : FVec Ideal S128x128 .bf16) (x : Vec Ideal S1x256x128 .bf16) (co si : Vec Ideal S256x128 .f32) (r : Fin 256) (l : Fin 128) :
    k0_pay107 sg sw x co si (ix2 r l) = nrK (fun a b => sg (ix2 a b)) (fun a b => sw (ix2 a b)) (fun a => x (ix3 0 r a)) (fun a => co (ix2 r a)) (fun a => si (ix2 r a)) l := by
  pointwise [k0_pay107]
  rfl

theorem pay107_seg (x : Vec Ideal S1x256x128 .bf16) (co si : Vec Ideal S256x128 .f32) (r : Fin 256) (l : Fin 128) :
    k0_pay107 (seg (F := Ideal)) (swp (F := Ideal)) x co si (ix2 r l) = nrK sgK swK (fun a => x (ix3 0 r a)) (fun a => co (ix2 r a)) (fun a => si (ix2 r a)) l := by
  rw [pay107_apply]
  simp only [seg_apply, swp_apply]

theorem qT_apply (x : Vec Ideal S1x256x128 .bf16) (co si : Vec Ideal S256x128 .f32) (r : Fin 256) (l : Fin 128) :
    qT x co si (ix3 0 r l) = nrK sgK swK (fun a => x (ix3 0 r a)) (fun a => co (ix2 r a)) (fun a => si (ix2 r a)) l
      * (((1 / 8) * (Real.log 2)⁻¹ : ℝ) : EReal) := by
  have e : ∀ sg sw : FVec Ideal S128x128 .bf16, k0_pay112 sg sw x co si (ix3 0 r l) = nrK (fun a b => sg (ix2 a b)) (fun a b => sw (ix2 a b)) (fun a => x (ix3 0 r a)) (fun a => co (ix2 r a)) (fun a => si (ix2 r a)) l
      * (((1 / 8) * (Real.log 2)⁻¹ : ℝ) : EReal) := by
    intro sg sw
    pointwise [k0_pay112]
    rfl
  unfold qT
  rw [e]
  simp only [seg_apply, swp_apply]

theorem vT_apply (x : Vec Ideal S1x256x128 .bf16) (r : Fin 256) (l : Fin 128) :
    vT x (ix3 0 l r) = x (ix3 0 r l) := by
  unfold vT
  pointwise [k0_pay111]

theorem kT0_apply (x : Vec Ideal S1x256x128 .bf16) (co si : Vec Ideal S256x128 .f32) (r : Fin 256) (l : Fin 128) :
    kT0 x co si (ix4 0 0 r l) = if l.val / 64 = (0 : Fin 2).val then nrK sgK swK (fun a => x (ix3 0 r a)) (fun a => co (ix2 r a)) (fun a => si (ix2 r a)) l else 0 := by
  unfold kT0
  pointwise [k0_pay108]
  rw [pay107_seg, half_apply]
  by_cases h : l.val < 64
  · rw [if_pos h, if_pos (by show l.val / 64 = 0; omega)]; rfl
  · rw [if_neg h, if_neg (by show ¬ l.val / 64 = 0; omega)]; rfl

theorem kT1_apply (x : Vec Ideal S1x256x128 .bf16) (co si : Vec Ideal S256x128 .f32) (r : Fin 256) (l : Fin 128) :
    kT1 x co si (ix4 0 0 r l) = if l.val / 64 = (1 : Fin 2).val then nrK sgK swK (fun a => x (ix3 0 r a)) (fun a => co (ix2 r a)) (fun a => si (ix2 r a)) l else 0 := by
  unfold kT1
  pointwise
  rw [pay107_seg, half_apply]
  by_cases h : l.val < 64
  · rw [if_pos h, if_neg (by show ¬ l.val / 64 = 1; omega)]; rfl
  · rw [if_neg h, if_pos (by show l.val / 64 = 1; omega)]; rfl

theorem ex_apply (s : Vec Ideal S1x2048x256 .f32) (k : Fin 2048) (r : Fin 256) :
    ex s (ix2 k r) = exK (fun κ => s (ix3 0 κ r)) k := by
  have e : ∀ x : EReal, (FloatOps.exp2 (x : Ideal .f32) : Ideal .f32) = Ideal.exp2 x := fun _ => rfl
  unfold ex exK
  pointwise
  exact e _

theorem halfP_apply (s : Vec Ideal S1x2048x256 .f32) (v : Vec Ideal S1x144x2048 .bf16) (r : Fin 256) (l : Fin 128) :
    halfP s v (ix2 l r) = (∑ k : Fin 2048, v (ix3 0 (⟨l, by omega⟩ : Fin 144) k) * ex s (ix2 k r)) * Ideal.div (Ideal.ofBits FTy.f32 0x3F800000#32) (∑ k : Fin 2048, v (ix3 0 (128 : Fin 144) k) * ex s (ix2 k r)) := by
  unfold halfP
  pointwise

theorem sc_apply (q : Vec Ideal S1x256x128 .bf16) (k : Vec Ideal S1x1x2048x128 .bf16) (κ : Fin 2048) (r : Fin 256) :
    sc q k (ix3 0 κ r) = ∑ l : Fin 128, k (ix4 0 0 κ l) * q (ix3 0 r l) := by
  unfold sc
  pointwise

theorem ot_apply (lam : FVec Ideal S1x1 .f32) (p0 p1 : FVec Ideal S128x256 .f32) (r : Fin 256) (l : Fin 128) :
    ot lam p0 p1 (ix2 r l) = p0 (ix2 l r) - lam (ix2 0 0) * p1 (ix2 l r) := by
  unfold ot
  pointwise [k0_pay192]

theorem lamOf_apply (x : Vec Ideal S4x64 .f32) : lamOf x (ix2 0 0) = lamR 0x3EB60549#32 fun a d => x (ix2 a d) := by
  unfold lamOf lamR
  pointwise

theorem pay180_apply (o : FVec Ideal S256x128 .f32) (sub : Vec Ideal S1x128 .f32) (g : Vec Ideal S1x256x128 .bf16) (r : Fin 256) (l : Fin 128) :
    k0_pay180 o (mulf o o) sub g (ix3 0 r l) = subK 0x3F24FD5C#32 (fun a => o (ix2 r a)) (fun a => sub (ix2 0 a)) l * gateK (g (ix3 0 r l)) := by
  unfold subK gateK
  pointwise [k0_pay180]

end Cert.Kernel6Ideal.Diff

end
-- ==== Proof.SndLoop.lean ====
module

public import proofs.«01_k».proof.Proof.SndTiles
public import proofs.«01_k».proof.Proof.Gen.Kernel6Ideal.Frame
public import proofs.«01_k».proof.Proof.Gen.Kernel6Ideal.Loops
public import Idealize.ShloMosaic.Lib.Exec
public import Idealize.ShloMosaic.Lib.Tactic

@[expose] public section

set_option maxRecDepth 16384

noncomputable section

namespace Cert.Kernel6Ideal.Diff

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

theorem trips_eq : k0_t1_loop.trips = 7 := by decide +kernel

/-- The item a trip works on: its first, its second, and the one whose scores it prepares. -/
def it (k : Fin k0_t1_loop.trips) (b : Nat) (hb : b ≤ 3) : Fin 16 := ⟨2 * k.val + b, by have := Nat.lt_of_lt_of_eq k.isLt trips_eq; omega⟩

section Offsets

theorem off7_1 : ∀ k : Fin k0_t1_loop.trips, k0_off7 k 1#32 = ![(it k 1 (by omega)).val / 8, (it k 1 (by omega)).val % 8 * 256, 0] := by decide +kernel
theorem off7_2 : ∀ k : Fin k0_t1_loop.trips, k0_off7 k 2#32 = ![(it k 2 (by omega)).val / 8, (it k 2 (by omega)).val % 8 * 256, 0] := by decide +kernel
theorem off8_1 : ∀ k : Fin k0_t1_loop.trips, k0_off8 k 1#32 = ![(it k 1 (by omega)).val / 8, 0, 0, 0] := by decide +kernel
theorem off8_2 : ∀ k : Fin k0_t1_loop.trips, k0_off8 k 2#32 = ![(it k 2 (by omega)).val / 8, 0, 0, 0] := by decide +kernel
theorem off9_1 : ∀ k : Fin k0_t1_loop.trips, k0_off9 k 1#32 = ![(it k 1 (by omega)).val / 8, 1, 0, 0] := by decide +kernel
theorem off9_2 : ∀ k : Fin k0_t1_loop.trips, k0_off9 k 2#32 = ![(it k 2 (by omega)).val / 8, 1, 0, 0] := by decide +kernel
theorem off10 : ∀ k : Fin k0_t1_loop.trips, k0_off10 k = ![(it k 0 (by omega)).val / 8, 0, 0] := by decide +kernel
theorem off12 : ∀ k : Fin k0_t1_loop.trips, k0_off12 k = ![(it k 1 (by omega)).val / 8, 0, 0] := by decide +kernel
theorem off11 : ∀ k : Fin k0_t1_loop.trips, k0_off11 k = ![0, (it k 0 (by omega)).val % 8 * 256, (it k 0 (by omega)).val / 8 * 128] := by decide +kernel
theorem off13 : ∀ k : Fin k0_t1_loop.trips, k0_off13 k = ![0, (it k 1 (by omega)).val % 8 * 256, (it k 1 (by omega)).val / 8 * 128] := by decide +kernel

end Offsets

theorem ld_congr {S : Shape} {e : EltTy} (X : S.Idx → Elt F e) {off off' size : Fin S.rank → Nat} (h : off = off')
    (inb : ∀ a, off a + size a ≤ S.size a) (inb' : ∀ a, off' a + size a ≤ S.size a) :
    (View.ld X (Rect.unit off size inb) : (⟨S.rank, size⟩ : Shape).Idx → Elt F e) = View.ld X (Rect.unit off' size inb') := by
  subst h; rfl

theorem piece_congr {S : Shape} {e : EltTy} {off off' size : Fin S.rank → Nat} (h : off = off')
    (inb : ∀ a, off a + size a ≤ S.size a) (inb' : ∀ a, off' a + size a ≤ S.size a)
    {w w' : (⟨S.rank, size⟩ : Shape).Idx → Elt F e} (hw : w = w') :
    (⟨Rect.unit off size inb, w⟩ : View.Piece (Elt F) S e) = ⟨Rect.unit off' size inb', w'⟩ := by
  subst h; subst hw; rfl

theorem two_congr {α : Type} {a a' b b' : α} (h1 : a = a') (h2 : b = b') : [a, b] = [a', b'] := by rw [h1, h2]

/-- The two tiles of a score buffer. -/
abbrev R0 : Rect S2x2048x256 := Rect.unit ![0, 0, 0] S1x2048x256.size (by decide)
abbrev R1 : Rect S2x2048x256 := Rect.unit ![1, 0, 0] S1x2048x256.size (by decide)

theorem canon_R1 (w1 : Vec F S1x2048x256 .f32) (L : List (View.Piece (Elt F) S2x2048x256 .f32)) :
    (fun j => View.canon (⟨R1, w1⟩ :: L) (R1.toLoadRect.idx j)) = w1 := by
  funext j
  exact View.canon_cons_emb R1 w1 L j

theorem canon_R0 (w1 w0 : Vec F S1x2048x256 .f32) (L : List (View.Piece (Elt F) S2x2048x256 .f32)) :
    (fun j => View.canon (⟨R1, w1⟩ :: ⟨R0, w0⟩ :: L) (R0.toLoadRect.idx j)) = w0 := by
  funext j
  rw [View.canon_cons_of_not_mem]
  · exact View.canon_cons_emb R0 w0 L j
  · intro h
    rw [Rect.mem_set_unit] at h
    have h0 := (h 0).1
    have : ((R0.toLoadRect.idx j) 0).val = 0 + 1 * (j 0).val := rfl
    have hj : (j 0).val < 1 := (j 0).isLt
    rw [this] at h0
    have : (1 : Nat) ≤ 0 + 1 * (j 0).val := h0
    omega

/-- The items stored by the first trips, the last first. -/
noncomputable def outP (Q : Vec F S2x2048x128 .bf16) (K : Vec F S2x2x2048x128 .bf16) (V : Vec F S2x144x2048 .bf16) (lam : FVec F S1x1 .f32)
    (sub : Vec F S1x128 .f32) (G : Vec F S1x2048x256 .bf16) : (n : Nat) → n ≤ 8 → List (View.Piece (Elt F) S1x2048x256 .bf16)
  | 0, _ => []
  | n + 1, h => pc Q K V lam sub G ⟨2 * n + 1, by omega⟩ :: pc Q K V lam sub G ⟨2 * n, by omega⟩ :: outP Q K V lam sub G n (by omega)

theorem score17_0 (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x2048x256 .bf16) (harg12 : arg12.IsWhole) (arg13 : Memref sig .tc .vmem S2x2048x128 .bf16) (harg13 : arg13.IsWhole) (arg14 : Memref sig .tc .vmem S2x2x2048x128 .bf16) (harg14 : arg14.IsWhole) (arg15 : Memref sig .tc .vmem S2x144x2048 .bf16) (harg15 : arg15.IsWhole) (arg16 : Memref sig .tc .vmem S2x2048x256 .f32) (harg16 : arg16.IsWhole) (arg17 : Memref sig .tc .vmem S2x2048x256 .f32) (harg17 : arg17.IsWhole) (X_arg13 : BufTy.Contents (Elt F) arg13.view.ty) (X_arg14 : BufTy.Contents (Elt F) arg14.view.ty) (k : Fin k0_t1_loop.trips) :
    trip_k0_t1.sl.v2314 arg13 arg14 arg17 X_arg13 X_arg14 k = sc0 (arg13.view.read (Elt F) X_arg13) (arg14.view.read (Elt F) X_arg14) (it k 1 (by omega)) := by
  unfold trip_k0_t1.sl.v2314
  rw [View.readCov_eq_canon']
  refine (canon_R0 _ _ _).trans ?_
  exact congrArg₂ sc (ld_congr _ (off7_1 k) _ _) (ld_congr _ (off8_1 k) _ _)

theorem score17_1 (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x2048x256 .bf16) (harg12 : arg12.IsWhole) (arg13 : Memref sig .tc .vmem S2x2048x128 .bf16) (harg13 : arg13.IsWhole) (arg14 : Memref sig .tc .vmem S2x2x2048x128 .bf16) (harg14 : arg14.IsWhole) (arg15 : Memref sig .tc .vmem S2x144x2048 .bf16) (harg15 : arg15.IsWhole) (arg16 : Memref sig .tc .vmem S2x2048x256 .f32) (harg16 : arg16.IsWhole) (arg17 : Memref sig .tc .vmem S2x2048x256 .f32) (harg17 : arg17.IsWhole) (X_arg13 : BufTy.Contents (Elt F) arg13.view.ty) (X_arg14 : BufTy.Contents (Elt F) arg14.view.ty) (k : Fin k0_t1_loop.trips) :
    trip_k0_t1.sl.v2332 arg13 arg14 arg17 X_arg13 X_arg14 k = sc1 (arg13.view.read (Elt F) X_arg13) (arg14.view.read (Elt F) X_arg14) (it k 1 (by omega)) := by
  unfold trip_k0_t1.sl.v2332
  rw [View.readCov_eq_canon']
  refine (canon_R1 _ _).trans ?_
  exact congrArg₂ sc (ld_congr _ (off7_1 k) _ _) (ld_congr _ (off9_1 k) _ _)

theorem trip_out (𝒱 : Variants) (c : Dev nD) (bd : Option 𝒱.V) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x2048x256 .bf16) (harg12 : arg12.IsWhole) (arg13 : Memref sig .tc .vmem S2x2048x128 .bf16) (harg13 : arg13.IsWhole) (arg14 : Memref sig .tc .vmem S2x2x2048x128 .bf16) (harg14 : arg14.IsWhole) (arg15 : Memref sig .tc .vmem S2x144x2048 .bf16) (harg15 : arg15.IsWhole) (arg16 : Memref sig .tc .vmem S2x2048x256 .f32) (harg16 : arg16.IsWhole) (arg17 : Memref sig .tc .vmem S2x2048x256 .f32) (harg17 : arg17.IsWhole) (v1896 : FVec F S1x1 .f32) (v1897 : FVec F S1x1 .f32) (X_arg5 : BufTy.Contents (Elt F) arg5.view.ty) (X_arg11 : BufTy.Contents (Elt F) arg11.view.ty) (X_arg13 : BufTy.Contents (Elt F) arg13.view.ty) (X_arg14 : BufTy.Contents (Elt F) arg14.view.ty) (X_arg15 : BufTy.Contents (Elt F) arg15.view.ty) (k : Fin k0_t1_loop.trips) (f_arg12 : BufTy.Contents (Elt F) arg12.view.ty) (f_arg16 : BufTy.Contents (Elt F) arg16.view.ty) (f_arg17 : BufTy.Contents (Elt F) arg17.view.ty)(s0 s1 : Vec F S1x2048x256 .f32)
    (h0 : arg16.view.readAt (Elt F) R0.toLoadRect f_arg16 = s0) (h1 : arg16.view.readAt (Elt F) R1.toLoadRect f_arg16 = s1) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 k).1 f_arg12 f_arg16 f_arg17
      = [pc (arg13.view.read (Elt F) X_arg13) (arg14.view.read (Elt F) X_arg14) (arg15.view.read (Elt F) X_arg15) (addf v1896 v1897) (View.ld (arg11.view.read (Elt F) X_arg11) (Rect.unit (s := S1x128) ![0, 0] S1x128.size inb_S1x128_S1x128_0_0)) (arg5.view.read (Elt F) X_arg5) (it k 1 (by omega)), pcOf (it k 0 (by omega)) s0 s1 (arg15.view.read (Elt F) X_arg15) (addf v1896 v1897) (View.ld (arg11.view.read (Elt F) X_arg11) (Rect.unit (s := S1x128) ![0, 0] S1x128.size inb_S1x128_S1x128_0_0)) (arg5.view.read (Elt F) X_arg5)] := by
  subst h0; subst h1
  unfold trip_k0_t1; dsimp only
  refine two_congr (piece_congr (F := F) (S := S1x2048x256) (e := .bf16) (size := S1x256x128.size) (off13 k) (k0_off13_inb k) _ ?_) (piece_congr (F := F) (S := S1x2048x256) (e := .bf16) (size := S1x256x128.size) (off11 k) (k0_off11_inb k) _ ?_)
  · refine Eq.trans (b := outT (trip_k0_t1.sl.v2314 arg13 arg14 arg17 X_arg13 X_arg14 k) (trip_k0_t1.sl.v2332 arg13 arg14 arg17 X_arg13 X_arg14 k)
      (View.ld (arg15.view.read (Elt F) X_arg15) (Rect.unit (s := S2x144x2048) (k0_off12 k) S1x144x2048.size (k0_off12_inb k))) (addf v1896 v1897) (View.ld (arg11.view.read (Elt F) X_arg11) (Rect.unit (s := S1x128) ![0, 0] S1x128.size inb_S1x128_S1x128_0_0))
      (View.ld (arg5.view.read (Elt F) X_arg5) (Rect.unit (s := S1x2048x256) (k0_off13 k) S1x256x128.size (k0_off13_inb k)))) rfl ?_
    rw [score17_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg13 X_arg14 k, score17_1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg13 X_arg14 k]
    exact congrArg₂ (fun v g => outT _ _ v _ _ g) (ld_congr _ (off12 k) _ _) (ld_congr _ (off13 k) _ _)
  · refine Eq.trans (b := outT (arg16.view.readAt (Elt F) R0.toLoadRect f_arg16) (arg16.view.readAt (Elt F) R1.toLoadRect f_arg16)
      (View.ld (arg15.view.read (Elt F) X_arg15) (Rect.unit (s := S2x144x2048) (k0_off10 k) S1x144x2048.size (k0_off10_inb k))) (addf v1896 v1897) (View.ld (arg11.view.read (Elt F) X_arg11) (Rect.unit (s := S1x128) ![0, 0] S1x128.size inb_S1x128_S1x128_0_0))
      (View.ld (arg5.view.read (Elt F) X_arg5) (Rect.unit (s := S1x2048x256) (k0_off11 k) S1x256x128.size (k0_off11_inb k)))) rfl ?_
    exact congrArg₂ (fun v g => outT _ _ v _ _ g) (ld_congr _ (off10 k) _ _) (ld_congr _ (off11 k) _ _)

theorem trip_sc (𝒱 : Variants) (c : Dev nD) (bd : Option 𝒱.V) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x2048x256 .bf16) (harg12 : arg12.IsWhole) (arg13 : Memref sig .tc .vmem S2x2048x128 .bf16) (harg13 : arg13.IsWhole) (arg14 : Memref sig .tc .vmem S2x2x2048x128 .bf16) (harg14 : arg14.IsWhole) (arg15 : Memref sig .tc .vmem S2x144x2048 .bf16) (harg15 : arg15.IsWhole) (arg16 : Memref sig .tc .vmem S2x2048x256 .f32) (harg16 : arg16.IsWhole) (arg17 : Memref sig .tc .vmem S2x2048x256 .f32) (harg17 : arg17.IsWhole) (v1896 : FVec F S1x1 .f32) (v1897 : FVec F S1x1 .f32) (X_arg5 : BufTy.Contents (Elt F) arg5.view.ty) (X_arg11 : BufTy.Contents (Elt F) arg11.view.ty) (X_arg13 : BufTy.Contents (Elt F) arg13.view.ty) (X_arg14 : BufTy.Contents (Elt F) arg14.view.ty) (X_arg15 : BufTy.Contents (Elt F) arg15.view.ty) (k : Fin k0_t1_loop.trips) (f_arg12 : BufTy.Contents (Elt F) arg12.view.ty) (f_arg16 : BufTy.Contents (Elt F) arg16.view.ty) (f_arg17 : BufTy.Contents (Elt F) arg17.view.ty):
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 k).2.1 f_arg12 f_arg16 f_arg17
      = [⟨R1, sc1 (arg13.view.read (Elt F) X_arg13) (arg14.view.read (Elt F) X_arg14) (it k 2 (by omega))⟩, ⟨R0, sc0 (arg13.view.read (Elt F) X_arg13) (arg14.view.read (Elt F) X_arg14) (it k 2 (by omega))⟩] := by
  unfold trip_k0_t1; dsimp only
  refine two_congr (piece_congr (F := F) (S := S2x2048x256) (e := .f32) (size := S1x2048x256.size) rfl _ _ ?_) (piece_congr (F := F) (S := S2x2048x256) (e := .f32) (size := S1x2048x256.size) rfl _ _ ?_)
  · exact congrArg₂ sc (ld_congr _ (off7_2 k) _ _) (ld_congr _ (off9_2 k) _ _)
  · exact congrArg₂ sc (ld_congr _ (off7_2 k) _ _) (ld_congr _ (off8_2 k) _ _)

/-- What the trips leave: two items each in the output block, and the scores of the next item. -/
theorem pb_eq (𝒱 : Variants) (c : Dev nD) (bd : Option 𝒱.V) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x2048x256 .bf16) (harg12 : arg12.IsWhole) (arg13 : Memref sig .tc .vmem S2x2048x128 .bf16) (harg13 : arg13.IsWhole) (arg14 : Memref sig .tc .vmem S2x2x2048x128 .bf16) (harg14 : arg14.IsWhole) (arg15 : Memref sig .tc .vmem S2x144x2048 .bf16) (harg15 : arg15.IsWhole) (arg16 : Memref sig .tc .vmem S2x2048x256 .f32) (harg16 : arg16.IsWhole) (arg17 : Memref sig .tc .vmem S2x2048x256 .f32) (harg17 : arg17.IsWhole) (v1896 : FVec F S1x1 .f32) (v1897 : FVec F S1x1 .f32) (X_arg5 : BufTy.Contents (Elt F) arg5.view.ty) (X_arg11 : BufTy.Contents (Elt F) arg11.view.ty) (X_arg13 : BufTy.Contents (Elt F) arg13.view.ty) (X_arg14 : BufTy.Contents (Elt F) arg14.view.ty) (X_arg15 : BufTy.Contents (Elt F) arg15.view.ty) (G12 : BufTy.Contents (Elt F) arg12.view.ty) (G17 : BufTy.Contents (Elt F) arg17.view.ty)
    (H16 : List (View.Piece (Elt F) S2x2048x256 .f32)) (h16 : H16 = [⟨R1, sc1 (arg13.view.read (Elt F) X_arg13) (arg14.view.read (Elt F) X_arg14) 0⟩, ⟨R0, sc0 (arg13.view.read (Elt F) X_arg13) (arg14.view.read (Elt F) X_arg14) 0⟩]) :
    ∀ (n : Nat) (hn : n ≤ 7),
      (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 G12 (arg16.view.writes (Elt F) arg16.view.junk H16) G17 n).1 = outP (arg13.view.read (Elt F) X_arg13) (arg14.view.read (Elt F) X_arg14) (arg15.view.read (Elt F) X_arg15) (addf v1896 v1897) (View.ld (arg11.view.read (Elt F) X_arg11) (Rect.unit (s := S1x128) ![0, 0] S1x128.size inb_S1x128_S1x128_0_0)) (arg5.view.read (Elt F) X_arg5) n (by omega)
      ∧ ∃ L, (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 G12 (arg16.view.writes (Elt F) arg16.view.junk H16) G17 n).2.1 ++ H16 = ⟨R1, sc1 (arg13.view.read (Elt F) X_arg13) (arg14.view.read (Elt F) X_arg14) ⟨2 * n, by omega⟩⟩ :: ⟨R0, sc0 (arg13.view.read (Elt F) X_arg13) (arg14.view.read (Elt F) X_arg14) ⟨2 * n, by omega⟩⟩ :: L
  | 0, _ => ⟨rfl, [], by rw [h16]; rfl⟩
  | n + 1, hn => by
    obtain ⟨ih1, L, ih2⟩ := pb_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 G12 G17 H16 h16 n (by omega)
    have hk : n < k0_t1_loop.trips := by rw [trips_eq]; omega
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 G12 (arg16.view.writes (Elt F) arg16.view.junk H16) G17 ⟨n, hk⟩
    have hs' : pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 G12 (arg16.view.writes (Elt F) arg16.view.junk H16) G17 (n + 1) = _ := hs
    rw [hs']
    have e0 : arg16.view.readAt (Elt F) R0.toLoadRect (arg16.view.writes (Elt F) (arg16.view.writes (Elt F) arg16.view.junk H16) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 G12 (arg16.view.writes (Elt F) arg16.view.junk H16) G17 n).2.1) = sc0 (arg13.view.read (Elt F) X_arg13) (arg14.view.read (Elt F) X_arg14) ⟨2 * n, by omega⟩ := by
      rw [← View.writes_append, ih2, View.readAt_writes_junk_eq_canon]
      exact canon_R0 _ _ _
    have e1 : arg16.view.readAt (Elt F) R1.toLoadRect (arg16.view.writes (Elt F) (arg16.view.writes (Elt F) arg16.view.junk H16) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 G12 (arg16.view.writes (Elt F) arg16.view.junk H16) G17 n).2.1) = sc1 (arg13.view.read (Elt F) X_arg13) (arg14.view.read (Elt F) X_arg14) ⟨2 * n, by omega⟩ := by
      rw [← View.writes_append, ih2, View.readAt_writes_junk_eq_canon]
      exact canon_R1 _ _
    refine ⟨?_, ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 G12 (arg16.view.writes (Elt F) arg16.view.junk H16) G17 n).2.1 ++ H16), ?_⟩
    · refine Eq.trans (congrArg₂ (· ++ ·) (trip_out 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 ⟨n, hk⟩ _ _ _ _ _ e0 e1) ih1) rfl
    · refine Eq.trans (congrArg (fun l => (l ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 G12 (arg16.view.writes (Elt F) arg16.view.junk H16) G17 n).2.1) ++ H16) (trip_sc 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1896 v1897 X_arg5 X_arg11 X_arg13 X_arg14 X_arg15 ⟨n, hk⟩ _ _ _)) ?_
      have hi : it ⟨n, hk⟩ 2 (by omega) = ⟨2 * (n + 1), by omega⟩ := Fin.ext (by show 2 * n + 2 = 2 * (n + 1); omega)
      rw [List.append_assoc, hi]
      rfl

end Cert.Kernel6Ideal.Diff

end
-- ==== Proof.SndVal.lean ====
module

public import proofs.«01_k».proof.Proof.SndLoop
public import Idealize.ShloMosaic.Lib.Claim
public import proofs.«01_k».proof.Proof.Gen.Kernel6Ideal.Frame
public import proofs.«01_k».proof.Proof.Gen.Kernel6Ideal.Loops
public import Idealize.ShloMosaic.Lib.Exec
public import Idealize.ShloMosaic.Lib.Tactic

@[expose] public section

set_option maxRecDepth 16384

noncomputable section

namespace Cert.Kernel6Ideal.Diff

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F] [Named F]

/-- The output block, from the blocks read: every item where it belongs. -/
noncomputable def outB (x2 x3 x4 x5 : Vec F S1x2048x256 .bf16) (x6 x7 x8 x9 : Vec F S2048x128 .f32) (x10 : Vec F S4x64 .f32) (x11 : Vec F S1x128 .f32) :
    List (View.Piece (Elt F) S1x2048x256 .bf16) :=
  outP (qArr x2 x6 x7) (kArr x3 x8 x9) (vArr x4) (lamOf (View.ld x10 (Rect.unit (s := S4x64) ![0, 0] S4x64.size inb_S4x64_S4x64_0_0)))
    (View.ld x11 (Rect.unit (s := S1x128) ![0, 0] S1x128.size inb_S1x128_S1x128_0_0)) x5 8 (by decide)

theorem outB_cover (x2 x3 x4 x5 : Vec F S1x2048x256 .bf16) (x6 x7 x8 x9 : Vec F S2048x128 .f32) (x10 : Vec F S4x64 .f32) (x11 : Vec F S1x128 .f32) (y : S1x2048x256.Idx) :
    ∃ p ∈ outB x2 x3 x4 x5 x6 x7 x8 x9 x10 x11, y ∈ p.1.set :=
  View.cover_of_tiled (outB x2 x3 x4 x5 x6 x7 x8 x9 x10 x11) S1x256x128.size (by rfl) y

theorem three_congr {α : Type} {a a' b b' : α} {l l' : List α} (h1 : a = a') (h2 : b = b') (h3 : l = l') : a :: b :: l = a' :: b' :: l' := by
  rw [h1, h2, h3]

theorem read_of (v : View sig .tc .vmem S1x2048x256 .bf16) (f : v.ty.Contents (Elt F)) (L L' : List (View.Piece (Elt F) S1x2048x256 .bf16)) (h : L = L')
    (hc : ∀ y : S1x2048x256.Idx, ∃ p ∈ L', y ∈ p.1.set) : v.read (Elt F) (v.writes (Elt F) f L) = View.canon L' := by
  rw [h]; exact View.read_writes_eq_canon _ _ _ hc

theorem outT_congr {s0 s0' s1 s1' : Vec F S1x2048x256 .f32} {v v' : Vec F S1x144x2048 .bf16} {lam : FVec F S1x1 .f32} {sub : Vec F S1x128 .f32}
    {g : Vec F S1x256x128 .bf16} (h0 : s0 = s0') (h1 : s1 = s1') (h2 : v = v') : outT s0 s1 v lam sub g = outT s0' s1' v' lam sub g := by
  rw [h0, h1, h2]

section Values
variable (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x2048x256 .bf16) (harg12 : arg12.IsWhole) (arg13 : Memref sig .tc .vmem S2x2048x128 .bf16) (harg13 : arg13.IsWhole) (arg14 : Memref sig .tc .vmem S2x2x2048x128 .bf16) (harg14 : arg14.IsWhole) (arg15 : Memref sig .tc .vmem S2x144x2048 .bf16) (harg15 : arg15.IsWhole) (arg16 : Memref sig .tc .vmem S2x2048x256 .f32) (harg16 : arg16.IsWhole) (arg17 : Memref sig .tc .vmem S2x2048x256 .f32) (harg17 : arg17.IsWhole)  (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty)

theorem q_read (j : Fin 16) : arg13.view.readCov (run.sl.H13_16 arg2 arg6 arg7 f2 f6 f7) (Rect.unit (s := S2x2048x128) ![j.val / 8, j.val % 8 * 256, 0] S1x256x128.size (by revert j; decide)).toLoadRect = qAt (qArr (arg2.view.read (Elt F) f2) (arg6.view.read (Elt F) f6) (arg7.view.read (Elt F) f7)) j := by
  rw [View.readCov_eq_canon', H13_eq]; unfold qAt qArr; rfl
theorem k_read0 (j : Fin 16) : arg14.view.readCov (run.sl.H14_32 arg3 arg8 arg9 f3 f8 f9) (Rect.unit (s := S2x2x2048x128) ![j.val / 8, 0, 0, 0] S1x1x2048x128.size (by revert j; decide)).toLoadRect = kAt0 (kArr (arg3.view.read (Elt F) f3) (arg8.view.read (Elt F) f8) (arg9.view.read (Elt F) f9)) j := by
  rw [View.readCov_eq_canon', H14_eq]; unfold kAt0 kArr; rfl
theorem k_read1 (j : Fin 16) : arg14.view.readCov (run.sl.H14_32 arg3 arg8 arg9 f3 f8 f9) (Rect.unit (s := S2x2x2048x128) ![j.val / 8, 1, 0, 0] S1x1x2048x128.size (by revert j; decide)).toLoadRect = kAt1 (kArr (arg3.view.read (Elt F) f3) (arg8.view.read (Elt F) f8) (arg9.view.read (Elt F) f9)) j := by
  rw [View.readCov_eq_canon', H14_eq]; unfold kAt1 kArr; rfl
theorem v_read (j : Fin 16) : arg15.view.readCov (run.sl.H15_18 arg4 f4) (Rect.unit (s := S2x144x2048) ![j.val / 8, 0, 0] S1x144x2048.size (by revert j; decide)).toLoadRect = vAt (vArr (arg4.view.read (Elt F) f4)) j := by
  rw [View.readCov_eq_canon', H15_eq]; unfold vAt vArr; rfl

theorem hQ : arg13.view.read (Elt F) (arg13.view.writes (Elt F) arg13.view.junk (run.sl.H13_16 arg2 arg6 arg7 f2 f6 f7)) = (qArr (arg2.view.read (Elt F) f2) (arg6.view.read (Elt F) f6) (arg7.view.read (Elt F) f7)) := by
  rw [View.read_writes_junk_eq_canon, H13_eq]; unfold qArr; rfl
theorem hK : arg14.view.read (Elt F) (arg14.view.writes (Elt F) arg14.view.junk (run.sl.H14_32 arg3 arg8 arg9 f3 f8 f9)) = (kArr (arg3.view.read (Elt F) f3) (arg8.view.read (Elt F) f8) (arg9.view.read (Elt F) f9)) := by
  rw [View.read_writes_junk_eq_canon, H14_eq]; unfold kArr; rfl
theorem hV : arg15.view.read (Elt F) (arg15.view.writes (Elt F) arg15.view.junk (run.sl.H15_18 arg4 f4)) = (vArr (arg4.view.read (Elt F) f4)) := by
  rw [View.read_writes_junk_eq_canon, H15_eq]; unfold vArr; rfl

theorem H16_eq : (run.sl.H16_2 arg2 arg3 arg6 arg7 arg8 arg9 arg13 arg14 f2 f3 f6 f7 f8 f9) = [⟨R1, sc1 (qArr (arg2.view.read (Elt F) f2) (arg6.view.read (Elt F) f6) (arg7.view.read (Elt F) f7)) (kArr (arg3.view.read (Elt F) f3) (arg8.view.read (Elt F) f8) (arg9.view.read (Elt F) f9)) 0⟩, ⟨R0, sc0 (qArr (arg2.view.read (Elt F) f2) (arg6.view.read (Elt F) f6) (arg7.view.read (Elt F) f7)) (kArr (arg3.view.read (Elt F) f3) (arg8.view.read (Elt F) f8) (arg9.view.read (Elt F) f9)) 0⟩] := by
  unfold run.sl.H16_2
  refine two_congr (piece_congr (F := F) (S := S2x2048x256) (e := .f32) (size := S1x2048x256.size) rfl _ _ ?_) (piece_congr (F := F) (S := S2x2048x256) (e := .f32) (size := S1x2048x256.size) rfl _ _ ?_)
  · exact congrArg₂ sc (q_read arg2 arg6 arg7 arg13 f2 f6 f7 0) (k_read1 arg3 arg8 arg9 arg14 f3 f8 f9 0)
  · exact congrArg₂ sc (q_read arg2 arg6 arg7 arg13 f2 f6 f7 0) (k_read0 arg3 arg8 arg9 arg14 f3 f8 f9 0)

variable (c : Dev nD) (i : grid0.Coords) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)

theorem pb_val : (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (run.sl.v1896 arg10 f10) run.sl.v1897 f5 f11 (arg13.view.writes (Elt F) arg13.view.junk (run.sl.H13_16 arg2 arg6 arg7 f2 f6 f7)) (arg14.view.writes (Elt F) arg14.view.junk (run.sl.H14_32 arg3 arg8 arg9 f3 f8 f9)) (arg15.view.writes (Elt F) arg15.view.junk (run.sl.H15_18 arg4 f4)) f12 (arg16.view.writes (Elt F) arg16.view.junk (run.sl.H16_2 arg2 arg3 arg6 arg7 arg8 arg9 arg13 arg14 f2 f3 f6 f7 f8 f9)) f17 7).1 = outP (qArr (arg2.view.read (Elt F) f2) (arg6.view.read (Elt F) f6) (arg7.view.read (Elt F) f7)) (kArr (arg3.view.read (Elt F) f3) (arg8.view.read (Elt F) f8) (arg9.view.read (Elt F) f9)) (vArr (arg4.view.read (Elt F) f4)) (lamOf (View.ld (arg10.view.read (Elt F) f10) (Rect.unit (s := S4x64) ![0, 0] S4x64.size inb_S4x64_S4x64_0_0))) (View.ld (arg11.view.read (Elt F) f11) (Rect.unit (s := S1x128) ![0, 0] S1x128.size inb_S1x128_S1x128_0_0)) (arg5.view.read (Elt F) f5) 7 (by decide)
    ∧ ∃ L, (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (run.sl.v1896 arg10 f10) run.sl.v1897 f5 f11 (arg13.view.writes (Elt F) arg13.view.junk (run.sl.H13_16 arg2 arg6 arg7 f2 f6 f7)) (arg14.view.writes (Elt F) arg14.view.junk (run.sl.H14_32 arg3 arg8 arg9 f3 f8 f9)) (arg15.view.writes (Elt F) arg15.view.junk (run.sl.H15_18 arg4 f4)) f12 (arg16.view.writes (Elt F) arg16.view.junk (run.sl.H16_2 arg2 arg3 arg6 arg7 arg8 arg9 arg13 arg14 f2 f3 f6 f7 f8 f9)) f17 7).2.1 ++ (run.sl.H16_2 arg2 arg3 arg6 arg7 arg8 arg9 arg13 arg14 f2 f3 f6 f7 f8 f9) = ⟨R1, sc1 (qArr (arg2.view.read (Elt F) f2) (arg6.view.read (Elt F) f6) (arg7.view.read (Elt F) f7)) (kArr (arg3.view.read (Elt F) f3) (arg8.view.read (Elt F) f8) (arg9.view.read (Elt F) f9)) 14⟩ :: ⟨R0, sc0 (qArr (arg2.view.read (Elt F) f2) (arg6.view.read (Elt F) f6) (arg7.view.read (Elt F) f7)) (kArr (arg3.view.read (Elt F) f3) (arg8.view.read (Elt F) f8) (arg9.view.read (Elt F) f9)) 14⟩ :: L := by
  have h := pb_eq (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (run.sl.v1896 arg10 f10) run.sl.v1897 f5 f11 (arg13.view.writes (Elt F) arg13.view.junk (run.sl.H13_16 arg2 arg6 arg7 f2 f6 f7)) (arg14.view.writes (Elt F) arg14.view.junk (run.sl.H14_32 arg3 arg8 arg9 f3 f8 f9)) (arg15.view.writes (Elt F) arg15.view.junk (run.sl.H15_18 arg4 f4)) f12 f17 (run.sl.H16_2 arg2 arg3 arg6 arg7 arg8 arg9 arg13 arg14 f2 f3 f6 f7 f8 f9)
    (by rw [hQ, hK]; exact H16_eq ..) 7 (le_refl 7)
  rw [hQ, hK, hV] at h
  exact h

end Values

theorem run_val (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x2048x256 .bf16) (harg12 : arg12.IsWhole) (arg13 : Memref sig .tc .vmem S2x2048x128 .bf16) (harg13 : arg13.IsWhole) (arg14 : Memref sig .tc .vmem S2x2x2048x128 .bf16) (harg14 : arg14.IsWhole) (arg15 : Memref sig .tc .vmem S2x144x2048 .bf16) (harg15 : arg15.IsWhole) (arg16 : Memref sig .tc .vmem S2x2048x256 .f32) (harg16 : arg16.IsWhole) (arg17 : Memref sig .tc .vmem S2x2048x256 .f32) (harg17 : arg17.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    arg12.view.read (Elt F) ((run (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11).1 f12 f13 f14 f15 f16 f17)
      = View.canon (outB (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11)) := by
  have hp := pb_val arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 c i f12 f17
  obtain ⟨h1, L, h2⟩ := hp
  unfold run; dsimp only
  refine read_of arg12.view f12 _ (outB (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11)) ?_ (fun y => outB_cover _ _ _ _ _ _ _ _ _ _ y)
  refine three_congr (piece_congr (F := F) (S := S1x2048x256) (e := .bf16) (size := S1x256x128.size) rfl _ _ ?_) (piece_congr (F := F) (S := S1x2048x256) (e := .bf16) (size := S1x256x128.size) rfl _ _ ?_) h1
  · refine Eq.trans (b := outT (arg17.view.readCov (⟨R1, sc (arg13.view.readCov (run.sl.H13_16 arg2 arg6 arg7 f2 f6 f7) (Rect.unit (s := S2x2048x128) ![1, 1792, 0] S1x256x128.size (by decide)).toLoadRect) (arg14.view.readCov (run.sl.H14_32 arg3 arg8 arg9 f3 f8 f9) (Rect.unit (s := S2x2x2048x128) ![1, 1, 0, 0] S1x1x2048x128.size (by decide)).toLoadRect)⟩ :: ⟨R0, sc (arg13.view.readCov (run.sl.H13_16 arg2 arg6 arg7 f2 f6 f7) (Rect.unit (s := S2x2048x128) ![1, 1792, 0] S1x256x128.size (by decide)).toLoadRect) (arg14.view.readCov (run.sl.H14_32 arg3 arg8 arg9 f3 f8 f9) (Rect.unit (s := S2x2x2048x128) ![1, 0, 0, 0] S1x1x2048x128.size (by decide)).toLoadRect)⟩ :: (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (run.sl.v1896 arg10 f10) run.sl.v1897 f5 f11 (arg13.view.writes (Elt F) arg13.view.junk (run.sl.H13_16 arg2 arg6 arg7 f2 f6 f7)) (arg14.view.writes (Elt F) arg14.view.junk (run.sl.H14_32 arg3 arg8 arg9 f3 f8 f9)) (arg15.view.writes (Elt F) arg15.view.junk (run.sl.H15_18 arg4 f4)) f12 (arg16.view.writes (Elt F) arg16.view.junk (run.sl.H16_2 arg2 arg3 arg6 arg7 arg8 arg9 arg13 arg14 f2 f3 f6 f7 f8 f9)) f17 7).2.2) R0.toLoadRect)
      (arg17.view.readCov (⟨R1, sc (arg13.view.readCov (run.sl.H13_16 arg2 arg6 arg7 f2 f6 f7) (Rect.unit (s := S2x2048x128) ![1, 1792, 0] S1x256x128.size (by decide)).toLoadRect) (arg14.view.readCov (run.sl.H14_32 arg3 arg8 arg9 f3 f8 f9) (Rect.unit (s := S2x2x2048x128) ![1, 1, 0, 0] S1x1x2048x128.size (by decide)).toLoadRect)⟩ :: ⟨R0, sc (arg13.view.readCov (run.sl.H13_16 arg2 arg6 arg7 f2 f6 f7) (Rect.unit (s := S2x2048x128) ![1, 1792, 0] S1x256x128.size (by decide)).toLoadRect) (arg14.view.readCov (run.sl.H14_32 arg3 arg8 arg9 f3 f8 f9) (Rect.unit (s := S2x2x2048x128) ![1, 0, 0, 0] S1x1x2048x128.size (by decide)).toLoadRect)⟩ :: (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (run.sl.v1896 arg10 f10) run.sl.v1897 f5 f11 (arg13.view.writes (Elt F) arg13.view.junk (run.sl.H13_16 arg2 arg6 arg7 f2 f6 f7)) (arg14.view.writes (Elt F) arg14.view.junk (run.sl.H14_32 arg3 arg8 arg9 f3 f8 f9)) (arg15.view.writes (Elt F) arg15.view.junk (run.sl.H15_18 arg4 f4)) f12 (arg16.view.writes (Elt F) arg16.view.junk (run.sl.H16_2 arg2 arg3 arg6 arg7 arg8 arg9 arg13 arg14 f2 f3 f6 f7 f8 f9)) f17 7).2.2) R1.toLoadRect)
      (arg15.view.readCov (run.sl.H15_18 arg4 f4) (Rect.unit (s := S2x144x2048) ![1, 0, 0] S1x144x2048.size (by decide)).toLoadRect) (lamOf (View.ld (arg10.view.read (Elt F) f10) (Rect.unit (s := S4x64) ![0, 0] S4x64.size inb_S4x64_S4x64_0_0))) (View.ld (arg11.view.read (Elt F) f11) (Rect.unit (s := S1x128) ![0, 0] S1x128.size inb_S1x128_S1x128_0_0)) (gAt (arg5.view.read (Elt F) f5) 15)) rfl ?_
    rw [View.readCov_eq_canon' arg17.view, View.readCov_eq_canon' arg17.view]
    have e0 := fun w1 w0 L => canon_R0 (F := F) w1 w0 L
    have e1 := fun w1 L => canon_R1 (F := F) w1 L
    rw [e0, e1]
    refine outT_congr ?_ ?_ ?_
    · exact congrArg₂ sc (q_read arg2 arg6 arg7 arg13 f2 f6 f7 15) (k_read0 arg3 arg8 arg9 arg14 f3 f8 f9 15)
    · exact congrArg₂ sc (q_read arg2 arg6 arg7 arg13 f2 f6 f7 15) (k_read1 arg3 arg8 arg9 arg14 f3 f8 f9 15)
    · exact v_read arg4 arg15 f4 15
  · refine Eq.trans (b := outT (arg16.view.readCov ((pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (run.sl.v1896 arg10 f10) run.sl.v1897 f5 f11 (arg13.view.writes (Elt F) arg13.view.junk (run.sl.H13_16 arg2 arg6 arg7 f2 f6 f7)) (arg14.view.writes (Elt F) arg14.view.junk (run.sl.H14_32 arg3 arg8 arg9 f3 f8 f9)) (arg15.view.writes (Elt F) arg15.view.junk (run.sl.H15_18 arg4 f4)) f12 (arg16.view.writes (Elt F) arg16.view.junk (run.sl.H16_2 arg2 arg3 arg6 arg7 arg8 arg9 arg13 arg14 f2 f3 f6 f7 f8 f9)) f17 7).2.1 ++ (run.sl.H16_2 arg2 arg3 arg6 arg7 arg8 arg9 arg13 arg14 f2 f3 f6 f7 f8 f9)) R0.toLoadRect) (arg16.view.readCov ((pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (run.sl.v1896 arg10 f10) run.sl.v1897 f5 f11 (arg13.view.writes (Elt F) arg13.view.junk (run.sl.H13_16 arg2 arg6 arg7 f2 f6 f7)) (arg14.view.writes (Elt F) arg14.view.junk (run.sl.H14_32 arg3 arg8 arg9 f3 f8 f9)) (arg15.view.writes (Elt F) arg15.view.junk (run.sl.H15_18 arg4 f4)) f12 (arg16.view.writes (Elt F) arg16.view.junk (run.sl.H16_2 arg2 arg3 arg6 arg7 arg8 arg9 arg13 arg14 f2 f3 f6 f7 f8 f9)) f17 7).2.1 ++ (run.sl.H16_2 arg2 arg3 arg6 arg7 arg8 arg9 arg13 arg14 f2 f3 f6 f7 f8 f9)) R1.toLoadRect)
      (arg15.view.readCov (run.sl.H15_18 arg4 f4) (Rect.unit (s := S2x144x2048) ![1, 0, 0] S1x144x2048.size (by decide)).toLoadRect) (lamOf (View.ld (arg10.view.read (Elt F) f10) (Rect.unit (s := S4x64) ![0, 0] S4x64.size inb_S4x64_S4x64_0_0))) (View.ld (arg11.view.read (Elt F) f11) (Rect.unit (s := S1x128) ![0, 0] S1x128.size inb_S1x128_S1x128_0_0)) (gAt (arg5.view.read (Elt F) f5) 14)) rfl ?_
    rw [h2, View.readCov_eq_canon' arg16.view, View.readCov_eq_canon' arg16.view, canon_R0, canon_R1]
    exact outT_congr rfl rfl (v_read arg4 arg15 f4 14)

end Cert.Kernel6Ideal.Diff

end
-- ==== Proof.SndFrame.lean ====
module

public import proofs.«01_k».proof.Proof.SndVal
public import Idealize.ShloMosaic.Lib.Claim
public import proofs.«01_k».proof.Proof.Gen.Kernel6Ideal.Frame
public import proofs.«01_k».proof.Proof.Gen.Kernel6Ideal.Loops
public import Idealize.ShloMosaic.Lib.Exec
public import Idealize.ShloMosaic.Lib.Tactic

@[expose] public section

set_option maxRecDepth 16384

noncomputable section

namespace Cert.Kernel6Ideal.Diff

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The output block's contents. -/
noncomputable def outA (x2 : Vec F S1x2048x256 .bf16) (x3 : Vec F S1x2048x256 .bf16) (x4 : Vec F S1x2048x256 .bf16) (x5 : Vec F S1x2048x256 .bf16) (x6 : Vec F S2048x128 .f32) (x7 : Vec F S2048x128 .f32) (x8 : Vec F S2048x128 .f32) (x9 : Vec F S2048x128 .f32) (x10 : Vec F S4x64 .f32) (x11 : Vec F S1x128 .f32) : Vec F S1x2048x256 .bf16 := View.canon (outB (F := F) x2 x3 x4 x5 x6 x7 x8 x9 x10 x11)

set_option maxHeartbeats 1000000 in
/-- The body, from the blocks it reads to the block it leaves. -/
theorem body (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S4x64 .f32) (harg10 : arg10.IsWhole) (arg11 : Memref sig .tc .vmem S1x128 .f32) (harg11 : arg11.IsWhole) (arg12 : Memref sig .tc .vmem S1x2048x256 .bf16) (harg12 : arg12.IsWhole) (arg13 : Memref sig .tc .vmem S2x2048x128 .bf16) (harg13 : arg13.IsWhole) (arg14 : Memref sig .tc .vmem S2x2x2048x128 .bf16) (harg14 : arg14.IsWhole) (arg15 : Memref sig .tc .vmem S2x144x2048 .bf16) (harg15 : arg15.IsWhole) (arg16 : Memref sig .tc .vmem S2x2048x256 .f32) (harg16 : arg16.IsWhole) (arg17 : Memref sig .tc .vmem S2x2048x256 .f32) (harg17 : arg17.IsWhole) (x2 : Vec F S1x2048x256 .bf16) (x3 : Vec F S1x2048x256 .bf16) (x4 : Vec F S1x2048x256 .bf16) (x5 : Vec F S1x2048x256 .bf16) (x6 : Vec F S2048x128 .f32) (x7 : Vec F S2048x128 .f32) (x8 : Vec F S2048x128 .f32) (x9 : Vec F S2048x128 .f32) (x10 : Vec F S4x64 .f32) (x11 : Vec F S1x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outA x2 x3 x4 x5 x6 x7 x8 x9 x10 x11) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none (c : Thread nD τ) none) E (cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  subst hf2 hf3 hf4 hf5 hf6 hf7 hf8 hf9 hf10 hf11
  iapply ((run (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11).2 E f12 f13 f14 f15 f16 f17 K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, H12, ⟨%e13, H13⟩, ⟨%e14, H14⟩, ⟨%e15, H15⟩, ⟨%e16, H16⟩, ⟨%e17, H17⟩⟩
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact run_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17
  isplitl [H13]
  · iexists _; iexists e13; isplitr; · ipureintro; rfl
    iexact H13
  isplitl [H14]
  · iexists _; iexists e14; isplitr; · ipureintro; rfl
    iexact H14
  isplitl [H15]
  · iexists _; iexists e15; isplitr; · ipureintro; rfl
    iexact H15
  isplitl [H16]
  · iexists _; iexists e16; isplitr; · ipureintro; rfl
    iexact H16
  iexists _; iexists e17; isplitr; · ipureintro; rfl
  iexact H17

/-! ## The pipeline's data -/

variable (m : (ℓ : Loc nD τ sig) → Buf (Elt F) ℓ) (ρ : Dev nD → PrngReg)

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outA (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outA (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9, after_10, PhiA_eq]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: the arrays end at what the data say, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => .rfl)
    (hout := fun c => .rfl)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel6Ideal.Diff

end
-- ==== Proof.SndArr.lean ====
/- The arrays of queries, keys and values one grid point keeps, and the block it leaves, at an index. -/
module

public import proofs.«01_k».proof.Proof.SndTileVal
public import proofs.«01_k».proof.Proof.SndFrame
public import Idealize.ShloMosaic.Lib.Tactic

@[expose] public section

set_option maxRecDepth 16384

noncomputable section

namespace Cert.Kernel6Ideal.Diff

open Cert.Kernel6Ideal Cert.Kernel6Ideal.Gen Cert.Attn Idealize.ShloMosaic Idealize.ShloMosaic.TcCoe Idealize.SL.Sem
open Idealize.ShloMosaic.Pointwise

/-- The column of a block that a head's lane is. -/
def hc (h : Fin 2) (l : Fin 128) : Fin 256 := ⟨h * 128 + l, by omega⟩

/-- A row of one of a tile's 256. -/
def rw8 (r : Fin 8) (i : Fin 256) : Fin 2048 := ⟨r * 256 + i, by omega⟩

theorem ones3 {n m : ℕ} (z : (⟨3, ![1, n, m]⟩ : Shape).Idx) : ∃ (i : Fin n) (l : Fin m), z = ix3 0 i l :=
  ⟨z 1, z 2, (eq_ix3 z).trans (congrArg (fun a : Fin 1 => ix3 a (z 1) (z 2)) (Subsingleton.elim (α := Fin 1) (z 0) 0))⟩
theorem ones4 {n m : ℕ} (z : (⟨4, ![1, 1, n, m]⟩ : Shape).Idx) : ∃ (i : Fin n) (l : Fin m), z = ix4 0 0 i l :=
  ⟨z 2, z 3, funext fun a => match a with
    | ⟨0, _⟩ => Subsingleton.elim (α := Fin 1) (z 0) 0
    | ⟨1, _⟩ => Subsingleton.elim (α := Fin 1) (z 1) 0
    | ⟨2, _⟩ => rfl
    | ⟨3, _⟩ => rfl⟩

theorem tile_apply (x : Vec Ideal S1x2048x256 .bf16) (hd : Fin 2) (r : Fin 8) (i : Fin 256) (l : Fin 128) :
    tile x hd r (ix3 0 i l) = x (ix3 0 (rw8 r i) (hc hd l)) := by
  unfold tile
  rw [View.ld_unit]
  refine congrArg x (funext fun a => Fin.ext ?_)
  match a with
  | ⟨0, _⟩ => show 0 + 0 = 0; rfl
  | ⟨1, _⟩ => show r.val * 256 + i.val = r.val * 256 + i.val; rfl
  | ⟨2, _⟩ => show hd.val * 128 + l.val = hd.val * 128 + l.val; rfl

theorem tab_apply (x : Vec Ideal S2048x128 .f32) (r : Fin 8) (i : Fin 256) (l : Fin 128) :
    tab x r (ix2 i l) = x (ix2 (rw8 r i) l) := by
  unfold tab
  rw [View.ld_unit]
  refine congrArg x (funext fun a => Fin.ext ?_)
  match a with
  | ⟨0, _⟩ => show r.val * 256 + i.val = r.val * 256 + i.val; rfl
  | ⟨1, _⟩ => show 0 + l.val = l.val; omega

/-- A head's row normalised and rotated, from a block and the tables. -/
def nrAt (x : Vec Ideal S1x2048x256 .bf16) (c s : Vec Ideal S2048x128 .f32) (h : Fin 2) (p : Fin 2048) (l : Fin 128) : EReal :=
  nrK sgK swK (fun a => x (ix3 0 p (hc h a))) (fun a => c (ix2 p a)) (fun a => s (ix2 p a)) l

def qG (x : Vec Ideal S1x2048x256 .bf16) (c s : Vec Ideal S2048x128 .f32) (y : S2x2048x128.Idx) : EReal :=
  nrAt x c s (y 0) (y 1) (y 2) * (((1 / 8) * (Real.log 2)⁻¹ : ℝ) : EReal)

theorem q_piece (x : Vec Ideal S1x2048x256 .bf16) (c s : Vec Ideal S2048x128 .f32) (hd : Fin 2) (r : Fin 8)
    (inb : ∀ a, (![hd.val, r.val * 256, 0] : Fin 3 → ℕ) a + S1x256x128.size a ≤ S2x2048x128.size a) (z : (⟨3, ![1, 256, 128]⟩ : Shape).Idx) :
    qT (tile x hd r) (tab c r) (tab s r) z = qG x c s ((Rect.unit (s := S2x2048x128) ![hd.val, r.val * 256, 0] S1x256x128.size inb).emb z) := by
  obtain ⟨i, l, rfl⟩ := ones3 z
  have e : (Rect.unit (s := S2x2048x128) ![hd.val, r.val * 256, 0] S1x256x128.size inb).emb (ix3 (0 : Fin 1) i l) = ix3 hd (rw8 r i) l := by
    refine funext fun a => Fin.ext ?_
    match a with
    | ⟨0, _⟩ => show hd.val + 1 * 0 = hd.val; omega
    | ⟨1, _⟩ => show r.val * 256 + 1 * i.val = r.val * 256 + i.val; omega
    | ⟨2, _⟩ => show 0 + 1 * l.val = l.val; omega
  refine Eq.trans ?_ (congrArg (qG x c s) e).symm
  refine (qT_apply _ _ _ i l).trans ?_
  simp only [tile_apply, tab_apply]
  rfl

theorem qArr_apply (x : Vec Ideal S1x2048x256 .bf16) (c s : Vec Ideal S2048x128 .f32) (y : S2x2048x128.Idx) : qArr x c s y = qG x c s y := by
  unfold qArr
  refine View.canon_apply_of_pieces (qG x c s) (LQ x c s) ?_ y (View.cover_of_tiled (LQ x c s) S1x256x128.size (by rfl) y)
  simp only [LQ, List.forall_mem_cons]
  exact ⟨q_piece x c s 1 7 _, q_piece x c s 1 6 _, q_piece x c s 1 5 _, q_piece x c s 1 4 _, q_piece x c s 1 3 _, q_piece x c s 1 2 _, q_piece x c s 1 1 _, q_piece x c s 1 0 _,
    q_piece x c s 0 7 _, q_piece x c s 0 6 _, q_piece x c s 0 5 _, q_piece x c s 0 4 _, q_piece x c s 0 3 _, q_piece x c s 0 2 _, q_piece x c s 0 1 _, q_piece x c s 0 0 _, fun p h => absurd h List.not_mem_nil⟩

/-- The keys, each component's apart. -/
def kG (x : Vec Ideal S1x2048x256 .bf16) (c s : Vec Ideal S2048x128 .f32) (y : S2x2x2048x128.Idx) : EReal :=
  if (y 3).val / 64 = (y 1).val then nrAt x c s (y 0) (y 2) (y 3) else 0

theorem k_piece0 (x : Vec Ideal S1x2048x256 .bf16) (c s : Vec Ideal S2048x128 .f32) (hd : Fin 2) (r : Fin 8)
    (inb : ∀ a, (![hd.val, 0, r.val * 256, 0] : Fin 4 → ℕ) a + S1x1x256x128.size a ≤ S2x2x2048x128.size a) (z : (⟨4, ![1, 1, 256, 128]⟩ : Shape).Idx) :
    kT0 (tile x hd r) (tab c r) (tab s r) z = kG x c s ((Rect.unit (s := S2x2x2048x128) ![hd.val, 0, r.val * 256, 0] S1x1x256x128.size inb).emb z) := by
  obtain ⟨i, l, rfl⟩ := ones4 z
  have e : (Rect.unit (s := S2x2x2048x128) ![hd.val, 0, r.val * 256, 0] S1x1x256x128.size inb).emb (ix4 (0 : Fin 1) (0 : Fin 1) i l) = ix4 hd (0 : Fin 2) (rw8 r i) l := by
    refine funext fun a => Fin.ext ?_
    match a with
    | ⟨0, _⟩ => show hd.val + 1 * 0 = hd.val; omega
    | ⟨1, _⟩ => rfl
    | ⟨2, _⟩ => show r.val * 256 + 1 * i.val = r.val * 256 + i.val; omega
    | ⟨3, _⟩ => show 0 + 1 * l.val = l.val; omega
  refine Eq.trans ?_ (congrArg (kG x c s) e).symm
  refine (kT0_apply _ _ _ i l).trans ?_
  simp only [tile_apply, tab_apply]
  rfl

theorem k_piece1 (x : Vec Ideal S1x2048x256 .bf16) (c s : Vec Ideal S2048x128 .f32) (hd : Fin 2) (r : Fin 8)
    (inb : ∀ a, (![hd.val, 1, r.val * 256, 0] : Fin 4 → ℕ) a + S1x1x256x128.size a ≤ S2x2x2048x128.size a) (z : (⟨4, ![1, 1, 256, 128]⟩ : Shape).Idx) :
    kT1 (tile x hd r) (tab c r) (tab s r) z = kG x c s ((Rect.unit (s := S2x2x2048x128) ![hd.val, 1, r.val * 256, 0] S1x1x256x128.size inb).emb z) := by
  obtain ⟨i, l, rfl⟩ := ones4 z
  have e : (Rect.unit (s := S2x2x2048x128) ![hd.val, 1, r.val * 256, 0] S1x1x256x128.size inb).emb (ix4 (0 : Fin 1) (0 : Fin 1) i l) = ix4 hd (1 : Fin 2) (rw8 r i) l := by
    refine funext fun a => Fin.ext ?_
    match a with
    | ⟨0, _⟩ => show hd.val + 1 * 0 = hd.val; omega
    | ⟨1, _⟩ => rfl
    | ⟨2, _⟩ => show r.val * 256 + 1 * i.val = r.val * 256 + i.val; omega
    | ⟨3, _⟩ => show 0 + 1 * l.val = l.val; omega
  refine Eq.trans ?_ (congrArg (kG x c s) e).symm
  refine (kT1_apply _ _ _ i l).trans ?_
  simp only [tile_apply, tab_apply]
  rfl

theorem kArr_apply (x : Vec Ideal S1x2048x256 .bf16) (c s : Vec Ideal S2048x128 .f32) (y : S2x2x2048x128.Idx) : kArr x c s y = kG x c s y := by
  unfold kArr
  refine View.canon_apply_of_pieces (kG x c s) (LK x c s) ?_ y (View.cover_of_tiled (LK x c s) S1x1x256x128.size (by rfl) y)
  simp only [LK, List.forall_mem_cons]
  exact ⟨k_piece1 x c s 1 7 _, k_piece0 x c s 1 7 _, k_piece1 x c s 1 6 _, k_piece0 x c s 1 6 _, k_piece1 x c s 1 5 _, k_piece0 x c s 1 5 _, k_piece1 x c s 1 4 _, k_piece0 x c s 1 4 _, k_piece1 x c s 1 3 _, k_piece0 x c s 1 3 _, k_piece1 x c s 1 2 _, k_piece0 x c s 1 2 _, k_piece1 x c s 1 1 _, k_piece0 x c s 1 1 _, k_piece1 x c s 1 0 _, k_piece0 x c s 1 0 _, k_piece1 x c s 0 7 _, k_piece0 x c s 0 7 _, k_piece1 x c s 0 6 _, k_piece0 x c s 0 6 _, k_piece1 x c s 0 5 _, k_piece0 x c s 0 5 _, k_piece1 x c s 0 4 _, k_piece0 x c s 0 4 _, k_piece1 x c s 0 3 _, k_piece0 x c s 0 3 _, k_piece1 x c s 0 2 _, k_piece0 x c s 0 2 _, k_piece1 x c s 0 1 _, k_piece0 x c s 0 1 _, k_piece1 x c s 0 0 _, k_piece0 x c s 0 0 _, fun p h => absurd h List.not_mem_nil⟩

/-- The values transposed, with rows of ones below. -/
def vG (x : Vec Ideal S1x2048x256 .bf16) (y : S2x144x2048.Idx) : EReal :=
  if h : (y 1).val < 128 then x (ix3 0 (y 2) (hc (y 0) ⟨(y 1).val, h⟩)) else 1

theorem vG_lt (x : Vec Ideal S1x2048x256 .bf16) (h : Fin 2) (l : Fin 144) (κ : Fin 2048) (hl : l.val < 128) : vG x (ix3 h l κ) = x (ix3 0 κ (hc h ⟨l.val, hl⟩)) := dif_pos hl
theorem vG_ge (x : Vec Ideal S1x2048x256 .bf16) (h : Fin 2) (l : Fin 144) (κ : Fin 2048) (hl : ¬ l.val < 128) : vG x (ix3 h l κ) = 1 := dif_neg hl

theorem v_piece (x : Vec Ideal S1x2048x256 .bf16) (hd : Fin 2) (r : Fin 8)
    (inb : ∀ a, (![hd.val, 0, r.val * 256] : Fin 3 → ℕ) a + S1x128x256.size a ≤ S2x144x2048.size a) (z : (⟨3, ![1, 128, 256]⟩ : Shape).Idx) :
    vT (tile x hd r) z = vG x ((Rect.unit (s := S2x144x2048) ![hd.val, 0, r.val * 256] S1x128x256.size inb).emb z) := by
  obtain ⟨l, i, rfl⟩ := ones3 z
  have e : (Rect.unit (s := S2x144x2048) ![hd.val, 0, r.val * 256] S1x128x256.size inb).emb (ix3 (0 : Fin 1) l i) = ix3 hd (⟨l.val, by omega⟩ : Fin 144) (rw8 r i) := by
    refine funext fun a => Fin.ext ?_
    match a with
    | ⟨0, _⟩ => show hd.val + 1 * 0 = hd.val; omega
    | ⟨1, _⟩ => show 0 + 1 * l.val = l.val; omega
    | ⟨2, _⟩ => show r.val * 256 + 1 * i.val = r.val * 256 + i.val; omega
  refine Eq.trans ?_ (congrArg (vG x) e).symm
  refine (vT_apply _ i l).trans ?_
  rw [tile_apply]
  exact (vG_lt x hd ⟨l.val, by omega⟩ (rw8 r i) l.isLt).symm

theorem ones_eq : (run.sl.v70 (F := Ideal)) = k0_pay25 := rfl

theorem ones_apply (r : Fin 16) (l : Fin 2048) : (k0_pay25 (F := Ideal)) (ix3 0 r l) = 1 := by
  pointwise [k0_pay25]

theorem o_piece (x : Vec Ideal S1x2048x256 .bf16) (hd : Fin 2)
    (inb : ∀ a, (![hd.val, 128, 0] : Fin 3 → ℕ) a + S1x16x2048.size a ≤ S2x144x2048.size a) (z : (⟨3, ![1, 16, 2048]⟩ : Shape).Idx) :
    (run.sl.v70 (F := Ideal)) z = vG x ((Rect.unit (s := S2x144x2048) ![hd.val, 128, 0] S1x16x2048.size inb).emb z) := by
  obtain ⟨l, i, rfl⟩ := ones3 z
  have e : (Rect.unit (s := S2x144x2048) ![hd.val, 128, 0] S1x16x2048.size inb).emb (ix3 (0 : Fin 1) l i) = ix3 hd (⟨128 + l.val, by omega⟩ : Fin 144) i := by
    refine funext fun a => Fin.ext ?_
    match a with
    | ⟨0, _⟩ => show hd.val + 1 * 0 = hd.val; omega
    | ⟨1, _⟩ => show 128 + 1 * l.val = 128 + l.val; omega
    | ⟨2, _⟩ => show 0 + 1 * i.val = i.val; omega
  refine Eq.trans ?_ (congrArg (vG x) e).symm
  rw [ones_eq]
  refine (ones_apply l i).trans ?_
  exact (vG_ge x hd ⟨128 + l.val, by omega⟩ i (by show ¬ 128 + l.val < 128; omega)).symm

theorem vArr_apply (x : Vec Ideal S1x2048x256 .bf16) (y : S2x144x2048.Idx) : vArr x y = vG x y := by
  unfold vArr
  refine View.canon_apply_of_pieces (vG x) (LV x) ?_ y (View.cover_of_tiledBy (LV x) ![1, 16, 256] (by sl_kernel_rfl) y)
  simp only [LV, List.forall_mem_cons]
  exact ⟨v_piece x 1 7 _, v_piece x 1 6 _, v_piece x 1 5 _, v_piece x 1 4 _, v_piece x 1 3 _, v_piece x 1 2 _, v_piece x 1 1 _, v_piece x 1 0 _, v_piece x 0 7 _, v_piece x 0 6 _, v_piece x 0 5 _, v_piece x 0 4 _, v_piece x 0 3 _, v_piece x 0 2 _, v_piece x 0 1 _, v_piece x 0 0 _, o_piece x 1 _, o_piece x 0 _, fun p h => absurd h List.not_mem_nil⟩

end Cert.Kernel6Ideal.Diff

end
-- ==== Proof.SndBlk.lean ====
/- The block one grid point leaves, at an index. -/
module

public import proofs.«01_k».proof.Proof.SndArr

@[expose] public section

set_option maxRecDepth 16384

noncomputable section

namespace Cert.Kernel6Ideal.Diff

open Cert.Kernel6Ideal Cert.Kernel6Ideal.Gen Cert.Attn Idealize.ShloMosaic Idealize.ShloMosaic.TcCoe Idealize.SL.Sem
open Idealize.ShloMosaic.Pointwise

def jh (j : Fin 16) : Fin 2 := ⟨j / 8, by omega⟩
def jr (j : Fin 16) : Fin 8 := ⟨j % 8, by omega⟩

theorem qAt_apply (Q : Vec Ideal S2x2048x128 .bf16) (j : Fin 16) (i : Fin 256) (l : Fin 128) : qAt Q j (ix3 0 i l) = Q (ix3 (jh j) (rw8 (jr j) i) l) := by
  unfold qAt
  rw [View.ld_unit]
  refine congrArg Q (funext fun a => Fin.ext ?_)
  match a with
  | ⟨0, _⟩ => show j.val / 8 + 0 = j.val / 8; rfl
  | ⟨1, _⟩ => show j.val % 8 * 256 + i.val = j.val % 8 * 256 + i.val; rfl
  | ⟨2, _⟩ => show 0 + l.val = l.val; omega
theorem gAt_apply (G : Vec Ideal S1x2048x256 .bf16) (j : Fin 16) (i : Fin 256) (l : Fin 128) : gAt G j (ix3 0 i l) = G (ix3 0 (rw8 (jr j) i) (hc (jh j) l)) := by
  unfold gAt
  rw [View.ld_unit]
  refine congrArg G (funext fun a => Fin.ext ?_)
  match a with
  | ⟨0, _⟩ => show 0 + 0 = 0; rfl
  | ⟨1, _⟩ => show j.val % 8 * 256 + i.val = j.val % 8 * 256 + i.val; rfl
  | ⟨2, _⟩ => show j.val / 8 * 128 + l.val = j.val / 8 * 128 + l.val; rfl
theorem kAt0_apply (K : Vec Ideal S2x2x2048x128 .bf16) (j : Fin 16) (κ : Fin 2048) (l : Fin 128) : kAt0 K j (ix4 0 0 κ l) = K (ix4 (jh j) 0 κ l) := by
  unfold kAt0
  rw [View.ld_unit]
  refine congrArg K (funext fun a => Fin.ext ?_)
  match a with
  | ⟨0, _⟩ => show j.val / 8 + 0 = j.val / 8; rfl
  | ⟨1, _⟩ => rfl
  | ⟨2, _⟩ => show 0 + κ.val = κ.val; omega
  | ⟨3, _⟩ => show 0 + l.val = l.val; omega
theorem kAt1_apply (K : Vec Ideal S2x2x2048x128 .bf16) (j : Fin 16) (κ : Fin 2048) (l : Fin 128) : kAt1 K j (ix4 0 0 κ l) = K (ix4 (jh j) 1 κ l) := by
  unfold kAt1
  rw [View.ld_unit]
  refine congrArg K (funext fun a => Fin.ext ?_)
  match a with
  | ⟨0, _⟩ => show j.val / 8 + 0 = j.val / 8; rfl
  | ⟨1, _⟩ => rfl
  | ⟨2, _⟩ => show 0 + κ.val = κ.val; omega
  | ⟨3, _⟩ => show 0 + l.val = l.val; omega
theorem vAt_apply (V : Vec Ideal S2x144x2048 .bf16) (j : Fin 16) (l : Fin 144) (κ : Fin 2048) : vAt V j (ix3 0 l κ) = V (ix3 (jh j) l κ) := by
  unfold vAt
  rw [View.ld_unit]
  refine congrArg V (funext fun a => Fin.ext ?_)
  match a with
  | ⟨0, _⟩ => show j.val / 8 + 0 = j.val / 8; rfl
  | ⟨1, _⟩ => show 0 + l.val = l.val; omega
  | ⟨2, _⟩ => show 0 + κ.val = κ.val; omega

section Block
variable (x2 x3 x4 x5 : Vec Ideal S1x2048x256 .bf16) (x6 x7 x8 x9 : Vec Ideal S2048x128 .f32) (x10 : Vec Ideal S4x64 .f32) (x11 : Vec Ideal S1x128 .f32)

/-- What the block holds. -/
def headAt (h : Fin 2) (p : Fin 2048) (l : Fin 128) : EReal :=
  headK 0x3F24FD5C#32 (lamR 0x3EB60549#32 fun a d => x10 (ix2 a d)) (fun a => x2 (ix3 0 p (hc h a))) (fun κ a => x3 (ix3 0 κ (hc h a))) (fun κ a => x4 (ix3 0 κ (hc h a)))
    (fun a => x5 (ix3 0 p (hc h a))) (fun a => x6 (ix2 p a)) (fun a => x7 (ix2 p a)) (fun κ a => x8 (ix2 κ a)) (fun κ a => x9 (ix2 κ a))
    (fun a => x11 (ix2 0 a)) l

def oG (y : S1x2048x256.Idx) : EReal :=
  headAt x2 x3 x4 x5 x6 x7 x8 x9 x10 x11 ⟨(y 2).val / 128, by have h : (y 2).val < 256 := (y 2).isLt; omega⟩ (y 1) ⟨(y 2).val % 128, by omega⟩

theorem sc0_apply (j : Fin 16) (κ : Fin 2048) (i : Fin 256) : sc0 (qArr x2 x6 x7) (kArr x3 x8 x9) j (ix3 0 κ i)
    = scK 0 (fun a => nrAt x2 x6 x7 (jh j) (rw8 (jr j) i) a * (((1 / 8) * (Real.log 2)⁻¹ : ℝ) : EReal)) (fun κ a => nrAt x3 x8 x9 (jh j) κ a) κ := by
  unfold sc0 scK
  rw [sc_apply]
  refine Finset.sum_congr rfl fun l _ => ?_
  rw [kAt0_apply, qAt_apply, kArr_apply, qArr_apply]
  rfl
theorem sc1_apply (j : Fin 16) (κ : Fin 2048) (i : Fin 256) : sc1 (qArr x2 x6 x7) (kArr x3 x8 x9) j (ix3 0 κ i)
    = scK 1 (fun a => nrAt x2 x6 x7 (jh j) (rw8 (jr j) i) a * (((1 / 8) * (Real.log 2)⁻¹ : ℝ) : EReal)) (fun κ a => nrAt x3 x8 x9 (jh j) κ a) κ := by
  unfold sc1 scK
  rw [sc_apply]
  refine Finset.sum_congr rfl fun l _ => ?_
  rw [kAt1_apply, qAt_apply, kArr_apply, qArr_apply]
  rfl

theorem halfP_eq (s : Vec Ideal S1x2048x256 .f32) (j : Fin 16) (i : Fin 256) (l : Fin 128) :
    halfP s (vAt (vArr x4) j) (ix2 l i) = halfK (exK fun κ => s (ix3 0 κ i)) (fun κ => x4 (ix3 0 κ (hc (jh j) l))) := by
  rw [halfP_apply]
  unfold halfK
  simp only [vAt_apply, vArr_apply, ex_apply]
  have e1 : ∀ κ : Fin 2048, vG x4 (ix3 (jh j) (⟨l.val, by omega⟩ : Fin 144) κ) = x4 (ix3 0 κ (hc (jh j) l)) := fun κ => vG_lt x4 (jh j) ⟨l.val, by omega⟩ κ l.isLt
  have e2 : ∀ κ : Fin 2048, vG x4 (ix3 (jh j) (128 : Fin 144) κ) = 1 := fun κ => vG_ge x4 (jh j) 128 κ (by decide)
  simp only [e1, e2]

theorem item_apply (lam : FVec Ideal S1x1 .f32) (sub : Vec Ideal S1x128 .f32) (hl : lam (ix2 0 0) = lamR 0x3EB60549#32 fun a d => x10 (ix2 a d)) (hs : ∀ a : Fin 128, sub (ix2 0 a) = x11 (ix2 0 a))
    (j : Fin 16) (i : Fin 256) (l : Fin 128) :
    outT (sc0 (qArr x2 x6 x7) (kArr x3 x8 x9) j) (sc1 (qArr x2 x6 x7) (kArr x3 x8 x9) j) (vAt (vArr x4) j) lam sub (gAt x5 j) (ix3 0 i l)
      = headAt x2 x3 x4 x5 x6 x7 x8 x9 x10 x11 (jh j) (rw8 (jr j) i) l := by
  unfold outT
  rw [pay180_apply]
  simp only [ot_apply, halfP_eq, sc0_apply, sc1_apply, gAt_apply, hl, hs]
  rfl

theorem pc_piece (lam : FVec Ideal S1x1 .f32) (sub : Vec Ideal S1x128 .f32) (hl : lam (ix2 0 0) = lamR 0x3EB60549#32 fun a d => x10 (ix2 a d)) (hs : ∀ a : Fin 128, sub (ix2 0 a) = x11 (ix2 0 a))
    (j : Fin 16) (z : (pc (qArr x2 x6 x7) (kArr x3 x8 x9) (vArr x4) lam sub x5 j).1.shape.Idx) :
    (pc (qArr x2 x6 x7) (kArr x3 x8 x9) (vArr x4) lam sub x5 j).2 z = oG x2 x3 x4 x5 x6 x7 x8 x9 x10 x11 ((pc (qArr x2 x6 x7) (kArr x3 x8 x9) (vArr x4) lam sub x5 j).1.emb z) := by
  obtain ⟨i, l, rfl⟩ := ones3 (n := 256) (m := 128) z
  have e : (pc (qArr x2 x6 x7) (kArr x3 x8 x9) (vArr x4) lam sub x5 j).1.emb (ix3 (0 : Fin 1) i l) = ix3 (0 : Fin 1) (rw8 (jr j) i) (hc (jh j) l) := by
    refine funext fun a => Fin.ext ?_
    match a with
    | ⟨0, _⟩ => rfl
    | ⟨1, _⟩ => show j.val % 8 * 256 + 1 * i.val = j.val % 8 * 256 + i.val; omega
    | ⟨2, _⟩ => show j.val / 8 * 128 + 1 * l.val = j.val / 8 * 128 + l.val; omega
  refine Eq.trans ?_ (congrArg (oG x2 x3 x4 x5 x6 x7 x8 x9 x10 x11) e).symm
  refine (item_apply x2 x3 x4 x5 x6 x7 x8 x9 x10 x11 lam sub hl hs j i l).trans ?_
  have h1 : (⟨(hc (jh j) l).val / 128, by omega⟩ : Fin 2) = jh j := Fin.ext (by show (j.val / 8 * 128 + l.val) / 128 = j.val / 8; omega)
  have h2 : (⟨(hc (jh j) l).val % 128, by omega⟩ : Fin 128) = l := Fin.ext (by show (j.val / 8 * 128 + l.val) % 128 = l.val; omega)
  show _ = headAt x2 x3 x4 x5 x6 x7 x8 x9 x10 x11 ⟨(hc (jh j) l).val / 128, by omega⟩ (rw8 (jr j) i) ⟨(hc (jh j) l).val % 128, by omega⟩
  rw [h1, h2]

theorem outP_pieces (lam : FVec Ideal S1x1 .f32) (sub : Vec Ideal S1x128 .f32) (hl : lam (ix2 0 0) = lamR 0x3EB60549#32 fun a d => x10 (ix2 a d)) (hs : ∀ a : Fin 128, sub (ix2 0 a) = x11 (ix2 0 a)) :
    ∀ (n : ℕ) (hn : n ≤ 8), ∀ p ∈ outP (qArr x2 x6 x7) (kArr x3 x8 x9) (vArr x4) lam sub x5 n hn, ∀ z, p.2 z = oG x2 x3 x4 x5 x6 x7 x8 x9 x10 x11 (p.1.emb z)
  | 0, _, p, hp => absurd hp List.not_mem_nil
  | n + 1, hn, p, hp => by
    rcases List.mem_cons.mp hp with rfl | hp
    · exact pc_piece x2 x3 x4 x5 x6 x7 x8 x9 x10 x11 lam sub hl hs _
    rcases List.mem_cons.mp hp with rfl | hp
    · exact pc_piece x2 x3 x4 x5 x6 x7 x8 x9 x10 x11 lam sub hl hs _
    exact outP_pieces lam sub hl hs n _ p hp

theorem outA_apply (y : S1x2048x256.Idx) : outA x2 x3 x4 x5 x6 x7 x8 x9 x10 x11 y = oG x2 x3 x4 x5 x6 x7 x8 x9 x10 x11 y := by
  unfold outA
  refine View.canon_apply_of_pieces (oG x2 x3 x4 x5 x6 x7 x8 x9 x10 x11) (outB x2 x3 x4 x5 x6 x7 x8 x9 x10 x11) ?_ y (outB_cover x2 x3 x4 x5 x6 x7 x8 x9 x10 x11 y)
  unfold outB
  refine outP_pieces x2 x3 x4 x5 x6 x7 x8 x9 x10 x11 _ _ ?_ ?_ 8 _
  · rw [lamOf_apply, View.ld_unit_zero (funext fun a => by match a with | ⟨0, _⟩ => rfl | ⟨1, _⟩ => rfl)]
  · intro a; rw [View.ld_unit_zero (funext fun a => by match a with | ⟨0, _⟩ => rfl | ⟨1, _⟩ => rfl)]

end Block

end Cert.Kernel6Ideal.Diff

end
-- ==== Proof.SndTab.lean ====
/- The tables the kernel is called with, at an index. -/
module

public import proofs.«01_k».proof.Proof.SndBlk
public import Idealize.ShloMosaic.Lib.StableHlo.ReadAt

@[expose] public section

set_option maxRecDepth 16384

noncomputable section

namespace Cert.Kernel6Ideal.Diff

open Cert.Kernel6Ideal Cert.Kernel6Ideal.Gen Cert.Attn Idealize.ShloMosaic Idealize.ShloMosaic.TcCoe Idealize.SL.Sem
open Idealize.ShloMosaic.Pointwise

variable (m : (ℓ : Loc nD τ sig) → Buf (Elt Ideal) ℓ)

theorem V_v43 (c : Dev nD) (l : Fin 128) : V m c main_v43 (ix2 0 l) = m ((c : Thread nD τ).loc main_arg3) (ix1 l) := by
  unfold V; after_reads_at

theorem cat4 (f : Fin 32 → EReal) (l : Fin 128) :
    (if h : l.val < 32 then f ⟨l.val, h⟩ else if h : l.val - 32 < 32 then f ⟨l.val - 32, h⟩ else if h : l.val - 32 - 32 < 32 then f ⟨l.val - 32 - 32, h⟩
      else f ⟨l.val - 32 - 32 - 32, by omega⟩) = f ⟨l.val % 32, by omega⟩ := by
  by_cases h1 : l.val < 32
  · rw [dif_pos h1]; exact congrArg f (Fin.ext (by show l.val = l.val % 32; omega))
  rw [dif_neg h1]
  by_cases h2 : l.val - 32 < 32
  · rw [dif_pos h2]; exact congrArg f (Fin.ext (by show l.val - 32 = l.val % 32; omega))
  rw [dif_neg h2]
  by_cases h3 : l.val - 32 - 32 < 32
  · rw [dif_pos h3]; exact congrArg f (Fin.ext (by show l.val - 32 - 32 = l.val % 32; omega))
  rw [dif_neg h3]; exact congrArg f (Fin.ext (by show l.val - 32 - 32 - 32 = l.val % 32; omega))

theorem alt4 (f g : Fin 32 → EReal) (l : Fin 128) :
    (if h : l.val < 32 then g ⟨l.val, h⟩ else if h : l.val - 32 < 32 then f ⟨l.val - 32, h⟩ else if h : l.val - 32 - 32 < 32 then g ⟨l.val - 32 - 32, h⟩
      else f ⟨l.val - 32 - 32 - 32, by omega⟩) = if l.val % 64 < 32 then g ⟨l.val % 32, by omega⟩ else f ⟨l.val % 32, by omega⟩ := by
  by_cases h1 : l.val < 32
  · rw [dif_pos h1, if_pos (by omega)]; exact congrArg g (Fin.ext (by show l.val = l.val % 32; omega))
  rw [dif_neg h1]
  by_cases h2 : l.val - 32 < 32
  · rw [dif_pos h2, if_neg (by omega)]; exact congrArg f (Fin.ext (by show l.val - 32 = l.val % 32; omega))
  rw [dif_neg h2]
  by_cases h3 : l.val - 32 - 32 < 32
  · rw [dif_pos h3, if_pos (by omega)]; exact congrArg g (Fin.ext (by show l.val - 32 - 32 = l.val % 32; omega))
  rw [dif_neg h3, if_neg (by omega)]; exact congrArg f (Fin.ext (by show l.val - 32 - 32 - 32 = l.val % 32; omega))

theorem swap2 (w : Fin 64 → EReal) (l : Fin 128) :
    (if h : l.val % 64 < 32 then w ⟨32 + l.val % 64, by omega⟩ else w ⟨l.val % 64 - 32, by omega⟩) = w ⟨(l.val + 32) % 64, by omega⟩ := by
  by_cases h : l.val % 64 < 32
  · rw [dif_pos h]; exact congrArg w (Fin.ext (by show 32 + l.val % 64 = (l.val + 32) % 64; omega))
  · rw [dif_neg h]; exact congrArg w (Fin.ext (by show l.val % 64 - 32 = (l.val + 32) % 64; omega))

theorem r16 (c : Dev nD) (p : Fin 2048) (f : Fin 32) :
    StableHlo.upto hostOps0 (fun b => m (c, b)) 22 (Proc.tc.devRef main_v16) (ix2 p f) = Ideal.cos (ang p f) := by
  after_reads_at
  rfl
theorem r17 (c : Dev nD) (p : Fin 2048) (f : Fin 32) :
    StableHlo.upto hostOps0 (fun b => m (c, b)) 25 (Proc.tc.devRef main_v17) (ix2 p f) = Ideal.sin (ang p f) := by
  after_reads_at
  rfl
theorem r19 (c : Dev nD) (p : Fin 2048) (f : Fin 32) :
    StableHlo.upto hostOps0 (fun b => m (c, b)) 25 (Proc.tc.devRef main_v19) (ix2 p f) = -Ideal.sin (ang p f) := by
  after_reads_at
  rfl
theorem r20 (c : Dev nD) (p : Fin 2048) (f : Fin 32) :
    StableHlo.upto hostOps0 (fun b => m (c, b)) 25 (Proc.tc.devRef main_v20) (ix2 p f) = -Ideal.sin (ang p f) := by
  after_reads_at
  rfl
theorem r25 (c : Dev nD) (k : Fin 2) (f : Fin 32) :
    StableHlo.upto hostOps0 (fun b => m (c, b)) 31 (Proc.tc.devRef main_v25) (ix2 k f) = m ((c : Thread nD τ).loc main_arg1) (ix2 k ⟨32 + f, by omega⟩) := by
  after_reads_at
theorem r26 (c : Dev nD) (k : Fin 2) (f : Fin 32) :
    StableHlo.upto hostOps0 (fun b => m (c, b)) 31 (Proc.tc.devRef main_v26) (ix2 k f) = m ((c : Thread nD τ).loc main_arg1) (ix2 k ⟨f, by omega⟩) := by
  after_reads_at

theorem catG {A B C D f g : Fin 32 → EReal} (l : Fin 128) (hA : ∀ x, A x = f x) (hB : ∀ x, B x = g x) (hC : ∀ x, C x = f x) (hD : ∀ x, D x = g x) :
    (if h : l.val < 32 then A ⟨l.val, h⟩ else if h : l.val - 32 < 32 then B ⟨l.val - 32, h⟩ else if h : l.val - 32 - 32 < 32 then C ⟨l.val - 32 - 32, h⟩
      else D ⟨l.val - 32 - 32 - 32, by omega⟩) = if l.val % 64 < 32 then f ⟨l.val % 32, by omega⟩ else g ⟨l.val % 32, by omega⟩ := by
  rw [← alt4 g f l]
  simp only [hA, hB, hC, hD]

theorem swapG {A B : Fin 32 → EReal} (w : Fin 64 → EReal) (l : Fin 128) (hA : ∀ x : Fin 32, A x = w ⟨32 + x, by omega⟩)
    (hB : ∀ x : Fin 32, B x = w ⟨x, by omega⟩) :
    (if h : l.val % 64 < 32 then A ⟨l.val % 64, h⟩ else B ⟨l.val % 64 - 32, by omega⟩) = w ⟨(l.val + 32) % 64, by omega⟩ := by
  rw [← swap2 w l]
  simp only [hA, hB]

theorem V_v33 (c : Dev nD) (p : Fin 2048) (l : Fin 128) :
    V m c main_v33 (ix2 p l) = coT (fun d => m ((c : Thread nD τ).loc main_arg1) (ix2 0 d)) p l := by
  have e := catG l (r16 m c p) (r16 m c p) (r16 m c p) (r16 m c p)
  rw [ite_self] at e
  unfold V
  after_reads_at
  exact congrArg (· * m ((c : Thread nD τ).loc main_arg1) (ix2 0 ⟨l.val % 64, by omega⟩)) e
theorem V_v39 (c : Dev nD) (p : Fin 2048) (l : Fin 128) :
    V m c main_v39 (ix2 p l) = coT (fun d => m ((c : Thread nD τ).loc main_arg1) (ix2 1 d)) p l := by
  have e := catG l (r16 m c p) (r16 m c p) (r16 m c p) (r16 m c p)
  rw [ite_self] at e
  unfold V
  after_reads_at
  exact congrArg (· * m ((c : Thread nD τ).loc main_arg1) (ix2 1 ⟨l.val % 64, by omega⟩)) e
theorem V_v36 (c : Dev nD) (p : Fin 2048) (l : Fin 128) :
    V m c main_v36 (ix2 p l) = siT (fun d => m ((c : Thread nD τ).loc main_arg1) (ix2 0 d)) p l := by
  have e := catG l (r19 m c p) (r17 m c p) (r20 m c p) (r17 m c p)
  have e' := swapG (fun d => m ((c : Thread nD τ).loc main_arg1) (ix2 0 d)) l (r25 m c 0) (r26 m c 0)
  unfold V
  after_reads_at
  exact congrArg₂ (· * ·) e e'
theorem V_v42 (c : Dev nD) (p : Fin 2048) (l : Fin 128) :
    V m c main_v42 (ix2 p l) = siT (fun d => m ((c : Thread nD τ).loc main_arg1) (ix2 1 d)) p l := by
  have e := catG l (r19 m c p) (r17 m c p) (r20 m c p) (r17 m c p)
  have e' := swapG (fun d => m ((c : Thread nD τ).loc main_arg1) (ix2 1 d)) l (r25 m c 1) (r26 m c 1)
  unfold V
  after_reads_at
  exact congrArg₂ (· * ·) e e'

end Cert.Kernel6Ideal.Diff

end
-- ==== Proof.SndMain.lean ====
/- The kernel's result array, as a function of its arguments. -/
module

public import proofs.«01_k».proof.Proof.SndTab

@[expose] public section

set_option maxRecDepth 16384

noncomputable section

namespace Cert.Kernel6Ideal.Diff

open Cert.Kernel6Ideal Cert.Kernel6Ideal.Gen Cert.Attn Idealize.ShloMosaic Idealize.ShloMosaic.TcCoe Idealize.SL.Sem
open Idealize.ShloMosaic.Pointwise

variable (m : (ℓ : Loc nD τ sig) → Buf (Elt Ideal) ℓ)

abbrev U (c : Dev nD) : S8x2048x6656.Idx → EReal := m ((c : Thread nD τ).loc main_arg0)
abbrev W (c : Dev nD) : S2x64.Idx → EReal := m ((c : Thread nD τ).loc main_arg1)
abbrev LM (c : Dev nD) : S4x64.Idx → EReal := m ((c : Thread nD τ).loc main_arg2)
abbrev SB (c : Dev nD) : S128.Idx → EReal := m ((c : Thread nD τ).loc main_arg3)

/-- One head's result for one query, from the arguments. -/
def KG (c : Dev nD) (b : Fin 8) (h : Fin 4) (p : Fin 2048) (l : Fin 128) : EReal :=
  headK 0x3F24FD5C#32 (lamR 0x3EB60549#32 fun a d => LM m c (ix2 a d)) (fun a => U m c (ix3 b p (ucol 0 h a))) (fun κ a => U m c (ix3 b κ (ucol 1 h a)))
    (fun κ a => U m c (ix3 b κ (ucol 2 h a))) (fun a => U m c (ix3 b p (ucol 3 h a)))
    (coT (fun d => W m c (ix2 0 d)) p) (siT (fun d => W m c (ix2 0 d)) p) (coT (fun d => W m c (ix2 1 d))) (siT (fun d => W m c (ix2 1 d)))
    (fun a => SB m c (ix1 a)) l

/-- The result array. -/
def GK (c : Dev nD) : S8x2048x512.Idx → EReal := fun i =>
  KG m c (i 0) ⟨(i 2).val / 128, by have h : (i 2).val < 512 := (i 2).isLt; omega⟩ (i 1) ⟨(i 2).val % 128, by omega⟩

abbrev bt (t : Fin cfg0.N) : Fin 8 := ⟨t.val / 2, by have : t.val < 16 := t.isLt; omega⟩
abbrev ht (t : Fin cfg0.N) (h : Fin 2) : Fin 4 := ⟨t.val % 2 * 2 + h, by omega⟩
abbrev cq (t : Fin cfg0.N) (part : Fin 4) (l : Fin 256) : Fin 6656 := ⟨(10 + part * 2 + t.val % 2) * 256 + l, by omega⟩
abbrev co' (t : Fin cfg0.N) (l : Fin 256) : Fin 512 := ⟨t.val % 2 * 256 + l, by omega⟩

theorem cq_hc (t : Fin cfg0.N) (part : Fin 4) (h : Fin 2) (a : Fin 128) : cq t part (hc h a) = ucol part (ht t h) a :=
  Fin.ext (by show (10 + part.val * 2 + t.val % 2) * 256 + (h.val * 128 + a.val) = 2560 + part.val * 512 + (t.val % 2 * 2 + h.val) * 128 + a.val; omega)

theorem idx0 : ∀ t : Fin cfg0.N, win0_0.index t (0 : Fin 3) = t.val / 2 ∧ win0_0.index t (1 : Fin 3) = 0 ∧ win0_0.index t (2 : Fin 3) = 10 + t.val % 2 :=
  (by decide +kernel : ∀ t : Fin grid0.N, win0_0.index t (0 : Fin 3) = t.val / 2 ∧ win0_0.index t (1 : Fin 3) = 0 ∧ win0_0.index t (2 : Fin 3) = 10 + t.val % 2)
theorem emb0 (t : Fin cfg0.N) (p : Fin 2048) (l : Fin 256) : ((cfg0.win 0).blk t).view.emb (ix3 0 p l) = ix3 (bt t) p (cq t 0 l) := by
  obtain ⟨e0, e1, e2⟩ := idx0 t
  funext a; apply Fin.ext
  match a with
  | ⟨0, _⟩ => show win0_0.index t (0 : Fin 3) * 1 + 1 * 0 = t.val / 2; omega
  | ⟨1, _⟩ => show win0_0.index t (1 : Fin 3) * 2048 + 1 * p.val = p.val; omega
  | ⟨2, _⟩ => show win0_0.index t (2 : Fin 3) * 256 + 1 * l.val = (10 + 0 * 2 + t.val % 2) * 256 + l.val; omega
theorem iblk0 (c : Dev nD) (t : Fin cfg0.N) (p : Fin 2048) (l : Fin 256) :
    iblk m c 0 t (ix3 0 p l) = U m c (ix3 (bt t) p (cq t 0 l)) := by
  show V m c main_arg0 (((cfg0.win 0).blk t).view.emb (ix3 0 p l)) = _
  rw [emb0, V_main_arg0]

theorem idx1 : ∀ t : Fin cfg0.N, win0_1.index t (0 : Fin 3) = t.val / 2 ∧ win0_1.index t (1 : Fin 3) = 0 ∧ win0_1.index t (2 : Fin 3) = 12 + t.val % 2 :=
  (by decide +kernel : ∀ t : Fin grid0.N, win0_1.index t (0 : Fin 3) = t.val / 2 ∧ win0_1.index t (1 : Fin 3) = 0 ∧ win0_1.index t (2 : Fin 3) = 12 + t.val % 2)
theorem emb1 (t : Fin cfg0.N) (p : Fin 2048) (l : Fin 256) : ((cfg0.win 1).blk t).view.emb (ix3 0 p l) = ix3 (bt t) p (cq t 1 l) := by
  obtain ⟨e0, e1, e2⟩ := idx1 t
  funext a; apply Fin.ext
  match a with
  | ⟨0, _⟩ => show win0_1.index t (0 : Fin 3) * 1 + 1 * 0 = t.val / 2; omega
  | ⟨1, _⟩ => show win0_1.index t (1 : Fin 3) * 2048 + 1 * p.val = p.val; omega
  | ⟨2, _⟩ => show win0_1.index t (2 : Fin 3) * 256 + 1 * l.val = (10 + 1 * 2 + t.val % 2) * 256 + l.val; omega
theorem iblk1 (c : Dev nD) (t : Fin cfg0.N) (p : Fin 2048) (l : Fin 256) :
    iblk m c 1 t (ix3 0 p l) = U m c (ix3 (bt t) p (cq t 1 l)) := by
  show V m c main_arg0 (((cfg0.win 1).blk t).view.emb (ix3 0 p l)) = _
  rw [emb1, V_main_arg0]

theorem idx2 : ∀ t : Fin cfg0.N, win0_2.index t (0 : Fin 3) = t.val / 2 ∧ win0_2.index t (1 : Fin 3) = 0 ∧ win0_2.index t (2 : Fin 3) = 14 + t.val % 2 :=
  (by decide +kernel : ∀ t : Fin grid0.N, win0_2.index t (0 : Fin 3) = t.val / 2 ∧ win0_2.index t (1 : Fin 3) = 0 ∧ win0_2.index t (2 : Fin 3) = 14 + t.val % 2)
theorem emb2 (t : Fin cfg0.N) (p : Fin 2048) (l : Fin 256) : ((cfg0.win 2).blk t).view.emb (ix3 0 p l) = ix3 (bt t) p (cq t 2 l) := by
  obtain ⟨e0, e1, e2⟩ := idx2 t
  funext a; apply Fin.ext
  match a with
  | ⟨0, _⟩ => show win0_2.index t (0 : Fin 3) * 1 + 1 * 0 = t.val / 2; omega
  | ⟨1, _⟩ => show win0_2.index t (1 : Fin 3) * 2048 + 1 * p.val = p.val; omega
  | ⟨2, _⟩ => show win0_2.index t (2 : Fin 3) * 256 + 1 * l.val = (10 + 2 * 2 + t.val % 2) * 256 + l.val; omega
theorem iblk2 (c : Dev nD) (t : Fin cfg0.N) (p : Fin 2048) (l : Fin 256) :
    iblk m c 2 t (ix3 0 p l) = U m c (ix3 (bt t) p (cq t 2 l)) := by
  show V m c main_arg0 (((cfg0.win 2).blk t).view.emb (ix3 0 p l)) = _
  rw [emb2, V_main_arg0]

theorem idx3 : ∀ t : Fin cfg0.N, win0_3.index t (0 : Fin 3) = t.val / 2 ∧ win0_3.index t (1 : Fin 3) = 0 ∧ win0_3.index t (2 : Fin 3) = 16 + t.val % 2 :=
  (by decide +kernel : ∀ t : Fin grid0.N, win0_3.index t (0 : Fin 3) = t.val / 2 ∧ win0_3.index t (1 : Fin 3) = 0 ∧ win0_3.index t (2 : Fin 3) = 16 + t.val % 2)
theorem emb3 (t : Fin cfg0.N) (p : Fin 2048) (l : Fin 256) : ((cfg0.win 3).blk t).view.emb (ix3 0 p l) = ix3 (bt t) p (cq t 3 l) := by
  obtain ⟨e0, e1, e2⟩ := idx3 t
  funext a; apply Fin.ext
  match a with
  | ⟨0, _⟩ => show win0_3.index t (0 : Fin 3) * 1 + 1 * 0 = t.val / 2; omega
  | ⟨1, _⟩ => show win0_3.index t (1 : Fin 3) * 2048 + 1 * p.val = p.val; omega
  | ⟨2, _⟩ => show win0_3.index t (2 : Fin 3) * 256 + 1 * l.val = (10 + 3 * 2 + t.val % 2) * 256 + l.val; omega
theorem iblk3 (c : Dev nD) (t : Fin cfg0.N) (p : Fin 2048) (l : Fin 256) :
    iblk m c 3 t (ix3 0 p l) = U m c (ix3 (bt t) p (cq t 3 l)) := by
  show V m c main_arg0 (((cfg0.win 3).blk t).view.emb (ix3 0 p l)) = _
  rw [emb3, V_main_arg0]

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem emb4 (t : Fin cfg0.N) (p : Fin 2048) (l : Fin 128) : ((cfg0.win 4).blk t).view.emb (ix2 p l) = ix2 p l := by
  obtain ⟨e0, e1⟩ := idx4 t
  funext a; apply Fin.ext
  match a with
  | ⟨0, _⟩ => show win0_4.index t (0 : Fin 2) * 2048 + 1 * p.val = p.val; omega
  | ⟨1, _⟩ => show win0_4.index t (1 : Fin 2) * 128 + 1 * l.val = l.val; omega
theorem iblk4 (c : Dev nD) (t : Fin cfg0.N) (p : Fin 2048) (l : Fin 128) :
    iblk m c 4 t (ix2 p l) = coT (fun d => W m c (ix2 0 d)) p l := by
  show V m c main_v33 (((cfg0.win 4).blk t).view.emb (ix2 p l)) = _
  rw [emb4]; exact V_v33 m c p l

theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem emb5 (t : Fin cfg0.N) (p : Fin 2048) (l : Fin 128) : ((cfg0.win 5).blk t).view.emb (ix2 p l) = ix2 p l := by
  obtain ⟨e0, e1⟩ := idx5 t
  funext a; apply Fin.ext
  match a with
  | ⟨0, _⟩ => show win0_5.index t (0 : Fin 2) * 2048 + 1 * p.val = p.val; omega
  | ⟨1, _⟩ => show win0_5.index t (1 : Fin 2) * 128 + 1 * l.val = l.val; omega
theorem iblk5 (c : Dev nD) (t : Fin cfg0.N) (p : Fin 2048) (l : Fin 128) :
    iblk m c 5 t (ix2 p l) = siT (fun d => W m c (ix2 0 d)) p l := by
  show V m c main_v36 (((cfg0.win 5).blk t).view.emb (ix2 p l)) = _
  rw [emb5]; exact V_v36 m c p l

theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem emb6 (t : Fin cfg0.N) (p : Fin 2048) (l : Fin 128) : ((cfg0.win 6).blk t).view.emb (ix2 p l) = ix2 p l := by
  obtain ⟨e0, e1⟩ := idx6 t
  funext a; apply Fin.ext
  match a with
  | ⟨0, _⟩ => show win0_6.index t (0 : Fin 2) * 2048 + 1 * p.val = p.val; omega
  | ⟨1, _⟩ => show win0_6.index t (1 : Fin 2) * 128 + 1 * l.val = l.val; omega
theorem iblk6 (c : Dev nD) (t : Fin cfg0.N) (p : Fin 2048) (l : Fin 128) :
    iblk m c 6 t (ix2 p l) = coT (fun d => W m c (ix2 1 d)) p l := by
  show V m c main_v39 (((cfg0.win 6).blk t).view.emb (ix2 p l)) = _
  rw [emb6]; exact V_v39 m c p l

theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem emb7 (t : Fin cfg0.N) (p : Fin 2048) (l : Fin 128) : ((cfg0.win 7).blk t).view.emb (ix2 p l) = ix2 p l := by
  obtain ⟨e0, e1⟩ := idx7 t
  funext a; apply Fin.ext
  match a with
  | ⟨0, _⟩ => show win0_7.index t (0 : Fin 2) * 2048 + 1 * p.val = p.val; omega
  | ⟨1, _⟩ => show win0_7.index t (1 : Fin 2) * 128 + 1 * l.val = l.val; omega
theorem iblk7 (c : Dev nD) (t : Fin cfg0.N) (p : Fin 2048) (l : Fin 128) :
    iblk m c 7 t (ix2 p l) = siT (fun d => W m c (ix2 1 d)) p l := by
  show V m c main_v42 (((cfg0.win 7).blk t).view.emb (ix2 p l)) = _
  rw [emb7]; exact V_v42 m c p l

theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem emb8 (t : Fin cfg0.N) (p : Fin 4) (l : Fin 64) : ((cfg0.win 8).blk t).view.emb (ix2 p l) = ix2 p l := by
  obtain ⟨e0, e1⟩ := idx8 t
  funext a; apply Fin.ext
  match a with
  | ⟨0, _⟩ => show win0_8.index t (0 : Fin 2) * 4 + 1 * p.val = p.val; omega
  | ⟨1, _⟩ => show win0_8.index t (1 : Fin 2) * 64 + 1 * l.val = l.val; omega
theorem iblk8 (c : Dev nD) (t : Fin cfg0.N) (p : Fin 4) (l : Fin 64) :
    iblk m c 8 t (ix2 p l) = LM m c (ix2 p l) := by
  show V m c main_arg2 (((cfg0.win 8).blk t).view.emb (ix2 p l)) = _
  rw [emb8, V_main_arg2]

theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem emb9 (t : Fin cfg0.N) (l : Fin 128) : ((cfg0.win 9).blk t).view.emb (ix2 0 l) = ix2 0 l := by
  obtain ⟨e0, e1⟩ := idx9 t
  funext a; apply Fin.ext
  match a with
  | ⟨0, _⟩ => show win0_9.index t (0 : Fin 2) * 1 + 1 * 0 = 0; omega
  | ⟨1, _⟩ => show win0_9.index t (1 : Fin 2) * 128 + 1 * l.val = l.val; omega
theorem iblk9 (c : Dev nD) (t : Fin cfg0.N) (l : Fin 128) :
    iblk m c 9 t (ix2 0 l) = SB m c (ix1 l) := by
  show V m c main_v43 (((cfg0.win 9).blk t).view.emb (ix2 0 l)) = _
  rw [emb9]; exact V_v43 m c l

theorem idx10 : ∀ t : Fin cfg0.N, win0_10.index t (0 : Fin 3) = t.val / 2 ∧ win0_10.index t (1 : Fin 3) = 0 ∧ win0_10.index t (2 : Fin 3) = t.val % 2 :=
  (by decide +kernel : ∀ t : Fin grid0.N, win0_10.index t (0 : Fin 3) = t.val / 2 ∧ win0_10.index t (1 : Fin 3) = 0 ∧ win0_10.index t (2 : Fin 3) = t.val % 2)
theorem emb10 (t : Fin cfg0.N) (p : Fin 2048) (l : Fin 256) : ((cfg0.win 10).blk t).view.emb (ix3 0 p l) = ix3 (bt t) p (co' t l) := by
  obtain ⟨e0, e1, e2⟩ := idx10 t
  funext a; apply Fin.ext
  match a with
  | ⟨0, _⟩ => show win0_10.index t (0 : Fin 3) * 1 + 1 * 0 = t.val / 2; omega
  | ⟨1, _⟩ => show win0_10.index t (1 : Fin 3) * 2048 + 1 * p.val = p.val; omega
  | ⟨2, _⟩ => show win0_10.index t (2 : Fin 3) * 256 + 1 * l.val = t.val % 2 * 256 + l.val; omega

theorem headAt_blocks (c : Dev nD) (t : Fin cfg0.N) (h : Fin 2) (p : Fin 2048) (l : Fin 128) :
    headAt (iblk m c 0 t) (iblk m c 1 t) (iblk m c 2 t) (iblk m c 3 t) (iblk m c 4 t) (iblk m c 5 t) (iblk m c 6 t) (iblk m c 7 t) (iblk m c 8 t) (iblk m c 9 t) h p l
      = KG m c (bt t) (ht t h) p l := by
  unfold headAt KG
  simp only [iblk0, iblk1, iblk2, iblk3, iblk4, iblk5, iblk6, iblk7, iblk8, iblk9, cq_hc]

theorem out_at (c : Dev nD) (t : Fin cfg0.N) (p : Fin 2048) (l : Fin 256) :
    oG (iblk m c 0 t) (iblk m c 1 t) (iblk m c 2 t) (iblk m c 3 t) (iblk m c 4 t) (iblk m c 5 t) (iblk m c 6 t) (iblk m c 7 t) (iblk m c 8 t) (iblk m c 9 t) (ix3 0 p l)
      = GK m c (ix3 (bt t) p (co' t l)) := by
  show headAt (iblk m c 0 t) (iblk m c 1 t) (iblk m c 2 t) (iblk m c 3 t) (iblk m c 4 t) (iblk m c 5 t) (iblk m c 6 t) (iblk m c 7 t) (iblk m c 8 t) (iblk m c 9 t)
      ⟨l.val / 128, by omega⟩ p ⟨l.val % 128, by omega⟩ = KG m c (bt t) ⟨(co' t l).val / 128, by omega⟩ p ⟨(co' t l).val % 128, by omega⟩
  rw [headAt_blocks]
  rw [show ht t ⟨l.val / 128, by omega⟩ = (⟨(co' t l).val / 128, by omega⟩ : Fin 4) from
      Fin.ext (by show t.val % 2 * 2 + l.val / 128 = (t.val % 2 * 256 + l.val) / 128; omega),
    show (⟨l.val % 128, by omega⟩ : Fin 128) = ⟨(co' t l).val % 128, by omega⟩ from
      Fin.ext (by show l.val % 128 = (t.val % 2 * 256 + l.val) % 128; omega)]

theorem flushed10 (c : Dev nD) (t : Fin cfg0.N) :
    (dats m 0 c).flushed 10 t = ((cfg0.win 10).blk t).view.read (Elt Ideal) (GK m c) := by
  rw [show (dats m 0 c).flushed 10 t = (cfg0.win 10).cut (grid0.coords t) ((dats m 0 c).after 10 t) from rfl, after_10]
  funext j
  obtain ⟨p, l, rfl⟩ := ones3 (n := 2048) (m := 256) j
  show outA (F := Ideal) _ _ _ _ _ _ _ _ _ _ (ix3 0 p l) = GK m c (((cfg0.win 10).blk t).view.emb (ix3 0 p l))
  rw [emb10, outA_apply, out_at]

theorem covered10 (i : S8x2048x512.Idx) :
    ∃ t : Fin cfg0.N, (cfg0.win 10).flush t = true ∧ i ∈ ((cfg0.win 10).blk t).view.set := by
  obtain ⟨b, p, l, rfl⟩ : ∃ (b : Fin 8) (p : Fin 2048) (l : Fin 512), i = ix3 b p l := ⟨i 0, i 1, i 2, eq_ix3 i⟩
  have hb : b.val * 2 + l.val / 256 < 16 := by omega
  refine ⟨(⟨b.val * 2 + l.val / 256, hb⟩ : Fin cfg0.N), flush0_10 _, ?_⟩
  have h := ((cfg0.win 10).blk (⟨b.val * 2 + l.val / 256, hb⟩ : Fin cfg0.N)).view.emb_mem_set (ix3 0 p (⟨l % 256, by omega⟩ : Fin 256))
  rw [emb10] at h
  have e : bt (⟨b.val * 2 + l.val / 256, hb⟩ : Fin cfg0.N) = b := Fin.ext (by show (b.val * 2 + l.val / 256) / 2 = b.val; omega)
  have e' : co' (⟨b.val * 2 + l.val / 256, hb⟩ : Fin cfg0.N) ⟨l % 256, by omega⟩ = l :=
    Fin.ext (by show (b.val * 2 + l.val / 256) % 2 * 256 + l.val % 256 = l.val; omega)
  rwa [e, e'] at h

/-- The kernel's run with its result array at `GK`. -/
theorem run_out (ρ : Dev nD → PrngReg) : θ_run defs (onTc (τ := τ) (main (F := Ideal))) ⟨m, fun _ => 0, ρ⟩ fun r => ∀ c : Dev nD,
      r.2.mem ((c : Thread nD τ).loc main_v44) = GK m c :=
  (θ_run defs _ _).mono (fun r h c => ((h.1 c).1 10).trans ((dats m 0 c).arrAt_eq_of_cover 10 (GK m c) (fun t _ => flushed10 m c t) covered10))
    (run_main m ρ)

end Cert.Kernel6Ideal.Diff

end
-- ==== Proof.SndRefVal.lean ====
/- The reference's result at an index. -/
module

public import proofs.«01_k».proof.Proof.DiffSpec
public import proofs.«01_k».proof.Proof.Gen.Reference6Ideal.Run
public import Idealize.ShloMosaic.Lib.Pointwise

@[expose] public section

set_option maxRecDepth 16384

noncomputable section

namespace Cert.Reference6Ideal.Diff

open Cert.Reference6Ideal Cert.Reference6Ideal.Gen Cert.Reference6Ideal.Value Cert.Attn
open Idealize.ShloMosaic Idealize.ShloMosaic.TcCoe Idealize.SL.Sem
open Idealize.ShloMosaic.Pointwise Idealize.ShloMosaic.StableHlo

variable (V0 : Valuation τ sig (Elt Ideal))

abbrev U : S8x2048x6656.Idx → EReal := V0 (Proc.devRef .tc main_arg0)
abbrev W : S2x64.Idx → EReal := V0 (Proc.devRef .tc main_arg1)
abbrev LM : S4x64.Idx → EReal := V0 (Proc.devRef .tc main_arg2)
abbrev SB : S128.Idx → EReal := V0 (Proc.devRef .tc main_arg3)

theorem v15_apply (p : Fin 2048) (f : Fin 32) : res_main_v15 (F := Ideal) V0 (ix2 p f) = ang p f := by
  unfold res_main_v15
  pointwise
  rfl
theorem v16_apply (p : Fin 2048) (f : Fin 32) : res_main_v16 (F := Ideal) V0 (ix2 p f) = Ideal.cos (ang p f) := by
  unfold res_main_v16
  pointwise
  rw [v15_apply]
theorem v17_apply (p : Fin 2048) (f : Fin 32) : res_main_v17 (F := Ideal) V0 (ix2 p f) = Ideal.sin (ang p f) := by
  unfold res_main_v17
  pointwise
  rw [v15_apply]

theorem v19_apply (b : Fin 8) (p : Fin 2048) (l : Fin 2048) : res_main_v19 (F := Ideal) V0 (ix3 b p l) = U V0 (ix3 b p ⟨2560 + l, by omega⟩) := by
  unfold res_main_v19
  pointwise

theorem v23_apply (b : Fin 8) (p : Fin 2048) (l : Fin 512) : res_main_v23 (F := Ideal) V0 (ix3 b p l) = U V0 (ix3 b p (ucol 3 ⟨l / 128, by omega⟩ ⟨l % 128, by omega⟩)) := by
  unfold res_main_v23
  pointwise
  rw [v19_apply]
  exact congrArg (fun q => U V0 (ix3 b p q)) (Fin.ext (by simp only [ucol]; omega))

theorem v25_apply (b : Fin 8) (h : Fin 4) (c : Fin 2) (p : Fin 2048) (d : Fin 64) : res_main_v25 (F := Ideal) V0 (ix5 b h c p d) = U V0 (ix3 b p (ucol 0 h (lane c d))) := by
  unfold res_main_v25
  pointwise
  rw [v19_apply]
  exact congrArg (fun q => U V0 (ix3 b p q)) (Fin.ext (by simp only [ucol, lane]; omega))
theorem v27_apply (b : Fin 8) (h : Fin 4) (c : Fin 2) (p : Fin 2048) (d : Fin 64) : res_main_v27 (F := Ideal) V0 (ix5 b h c p d) = U V0 (ix3 b p (ucol 1 h (lane c d))) := by
  unfold res_main_v27
  pointwise
  rw [v19_apply]
  exact congrArg (fun q => U V0 (ix3 b p q)) (Fin.ext (by simp only [ucol, lane]; omega))

theorem v42_apply (b : Fin 8) (h : Fin 4) (c : Fin 2) (p : Fin 2048) (d : Fin 64) : res_main_v42 (F := Ideal) V0 (ix5 b h c p d)
    = nmR (fun d => U V0 (ix3 b p (ucol 0 h (lane c d)))) (fun d => W V0 (ix2 0 d)) d := by
  unfold res_main_v42
  pointwise
  simp only [v25_apply]
  rfl
theorem v76_apply (b : Fin 8) (h : Fin 4) (c : Fin 2) (p : Fin 2048) (d : Fin 64) : res_main_v76 (F := Ideal) V0 (ix5 b h c p d)
    = nmR (fun d => U V0 (ix3 b p (ucol 1 h (lane c d)))) (fun d => W V0 (ix2 1 d)) d := by
  unfold res_main_v76
  pointwise
  simp only [v27_apply]
  rfl

theorem v43_apply (b : Fin 8) (h : Fin 4) (c : Fin 2) (p : Fin 2048) (d : Fin 32) : res_main_v43 (F := Ideal) V0 (ix5 b h c p d)
    = res_main_v42 (F := Ideal) V0 (ix5 b h c p ⟨d, by omega⟩) := by
  unfold res_main_v43
  pointwise
theorem v44_apply (b : Fin 8) (h : Fin 4) (c : Fin 2) (p : Fin 2048) (d : Fin 32) : res_main_v44 (F := Ideal) V0 (ix5 b h c p d)
    = res_main_v42 (F := Ideal) V0 (ix5 b h c p ⟨32 + d, by omega⟩) := by
  unfold res_main_v44
  pointwise
theorem v77_apply (b : Fin 8) (h : Fin 4) (c : Fin 2) (p : Fin 2048) (d : Fin 32) : res_main_v77 (F := Ideal) V0 (ix5 b h c p d)
    = res_main_v76 (F := Ideal) V0 (ix5 b h c p ⟨d, by omega⟩) := by
  unfold res_main_v77
  pointwise
theorem v78_apply (b : Fin 8) (h : Fin 4) (c : Fin 2) (p : Fin 2048) (d : Fin 32) : res_main_v78 (F := Ideal) V0 (ix5 b h c p d)
    = res_main_v76 (F := Ideal) V0 (ix5 b h c p ⟨32 + d, by omega⟩) := by
  unfold res_main_v78
  pointwise

end Cert.Reference6Ideal.Diff

end
-- ==== Proof.SndRefVal2.lean ====
/- The reference's scores, softmax and difference at an index. -/
module

public import proofs.«01_k».proof.Proof.SndRefVal

@[expose] public section

set_option maxRecDepth 16384

noncomputable section

namespace Cert.Reference6Ideal.Diff

open Cert.Reference6Ideal Cert.Reference6Ideal.Gen Cert.Reference6Ideal.Value Cert.Attn
open Idealize.ShloMosaic Idealize.ShloMosaic.TcCoe Idealize.SL.Sem
open Idealize.ShloMosaic.Pointwise Idealize.ShloMosaic.StableHlo

variable (V0 : Valuation τ sig (Elt Ideal))

/-- The scores, at an index. -/
abbrev scAt (b : Fin 8) (h : Fin 4) (c : Fin 2) (p : Fin 2048) : Fin 2048 → EReal :=
  scoreR (fun l => U V0 (ix3 b p (ucol 0 h l))) (fun κ l => U V0 (ix3 b κ (ucol 1 h l))) (fun d => W V0 (ix2 0 d)) (fun d => W V0 (ix2 1 d))
    (fun p f => Ideal.cos (ang p f)) (fun p f => Ideal.sin (ang p f)) p c

theorem v112_apply (b : Fin 8) (h : Fin 4) (c : Fin 2) (p κ : Fin 2048) : res_main_v112 (F := Ideal) V0 (ix5 b h c p κ) = scAt V0 b h c p κ := by
  unfold res_main_v112
  pointwise
  unfold scAt scoreR scR
  rw [sum64]
  simp only [rpR_lo, rpR_hi, v43_apply, v44_apply, v77_apply, v78_apply, v42_apply, v76_apply, v16_apply, v17_apply]

end Cert.Reference6Ideal.Diff

end
-- ==== Proof.SndRefA.lean ====
/- The reference's exponentials at an index. -/
module

public import proofs.«01_k».proof.Proof.SndRefVal

@[expose] public section

set_option maxRecDepth 16384

noncomputable section

namespace Cert.Reference6Ideal.Diff

open Cert.Reference6Ideal Cert.Reference6Ideal.Gen Cert.Reference6Ideal.Value Cert.Attn
open Idealize.ShloMosaic Idealize.ShloMosaic.TcCoe Idealize.SL.Sem
open Idealize.ShloMosaic.Pointwise Idealize.ShloMosaic.StableHlo

variable (V0 : Valuation τ sig (Elt Ideal))

theorem fold_of_eq (op : EReal → EReal → EReal) [Std.Commutative op] [Std.Associative op] (h : op = max) (b : EReal) (f : Fin 2048 → EReal) :
    Finset.univ.fold op b f = Finset.univ.fold max b f := by
  subst h; rfl

theorem mxG (X : FVec Ideal S8x4x2x2048x2048 .f32) (b : Fin 8) (h : Fin 4) (c : Fin 2) (p : Fin 2048) :
    ((Host.reduce FloatOps.maximumf X (constant S_ .f32 0xFF800000#32) reducesTo_S8x4x2x2048x2048_S8x4x2x2048_d4 h_S_) : FVec Ideal S8x4x2x2048 .f32) (ix4 b h c p) = Finset.univ.fold max (Ideal.ofBits FTy.f32 0xFF800000#32) (fun κ => X (ix5 b h c p κ)) := by
  rw [Host.reduce_eq_fold, Shape.ReducesTo.fold_fiber_r5_a4]
  exact fold_of_eq _ (funext fun _ => funext fun _ => rfl) _ _

theorem exM (M : FVec Ideal S8x4x2x2048 .f32) (X : FVec Ideal S8x4x2x2048x2048 .f32) (b : Fin 8) (h : Fin 4) (c : Fin 2) (p κ : Fin 2048) :
    (Host.exp (subf X (broadcastInDim S8x4x2x2048x2048 ![0, 1, 2, 3, 4] bcast_S8x4x2x2048x1_S8x4x2x2048x2048_0_1_2_3_4 (broadcastInDim S8x4x2x2048x1 ![0, 1, 2, 3] bcast_S8x4x2x2048_S8x4x2x2048x1_0_1_2_3 (maximumf (broadcastInDim S8x4x2x2048 ![] bcast_S_S8x4x2x2048 (constant S_ .f32 0xFF800000#32)) M)))) : FVec Ideal S8x4x2x2048x2048 .f32) (ix5 b h c p κ) = Ideal.exp (X (ix5 b h c p κ) - max (Ideal.ofBits FTy.f32 0xFF800000#32) (M (ix4 b h c p))) := by
  pointwise

theorem exG (X : FVec Ideal S8x4x2x2048x2048 .f32) (b : Fin 8) (h : Fin 4) (c : Fin 2) (p κ : Fin 2048) :
    (Host.exp (subf X (broadcastInDim S8x4x2x2048x2048 ![0, 1, 2, 3, 4] bcast_S8x4x2x2048x1_S8x4x2x2048x2048_0_1_2_3_4 (broadcastInDim S8x4x2x2048x1 ![0, 1, 2, 3] bcast_S8x4x2x2048_S8x4x2x2048x1_0_1_2_3 (maximumf (broadcastInDim S8x4x2x2048 ![] bcast_S_S8x4x2x2048 (constant S_ .f32 0xFF800000#32)) (Host.reduce FloatOps.maximumf X (constant S_ .f32 0xFF800000#32) reducesTo_S8x4x2x2048x2048_S8x4x2x2048_d4 h_S_))))) : FVec Ideal S8x4x2x2048x2048 .f32) (ix5 b h c p κ) = exR (fun κ => X (ix5 b h c p κ)) κ := by
  rw [exM, mxG]
  unfold exR
  with_reducible rfl

end Cert.Reference6Ideal.Diff

end
-- ==== Proof.SndRefB.lean ====
/- The reference's softmax at an index. -/
module

public import proofs.«01_k».proof.Proof.SndRefVal

@[expose] public section

set_option maxRecDepth 16384

noncomputable section

namespace Cert.Reference6Ideal.Diff

open Cert.Reference6Ideal Cert.Reference6Ideal.Gen Cert.Reference6Ideal.Value Cert.Attn
open Idealize.ShloMosaic Idealize.ShloMosaic.TcCoe Idealize.SL.Sem
open Idealize.ShloMosaic.Pointwise Idealize.ShloMosaic.StableHlo

variable (V0 : Valuation τ sig (Elt Ideal))

theorem smG (X : FVec Ideal S8x4x2x2048x2048 .f32) (b : Fin 8) (h : Fin 4) (c : Fin 2) (p κ : Fin 2048) :
    (Host.divf X (broadcastInDim S8x4x2x2048x2048 ![0, 1, 2, 3, 4] bcast_S8x4x2x2048x1_S8x4x2x2048x2048_0_1_2_3_4 (broadcastInDim S8x4x2x2048x1 ![0, 1, 2, 3] bcast_S8x4x2x2048_S8x4x2x2048x1_0_1_2_3 (Host.reduceAdd X (constant S_ .f32 0x00000000#32) reducesTo_S8x4x2x2048x2048_S8x4x2x2048_d4 h_S_))) : FVec Ideal S8x4x2x2048x2048 .f32) (ix5 b h c p κ) = Ideal.div (X (ix5 b h c p κ)) (∑ κ, X (ix5 b h c p κ)) := by
  pointwise

end Cert.Reference6Ideal.Diff

end
-- ==== Proof.SndRefC.lean ====
/- The reference's difference at an index. -/
module

public import proofs.«01_k».proof.Proof.SndRefVal

@[expose] public section

set_option maxRecDepth 16384

noncomputable section

namespace Cert.Reference6Ideal.Diff

open Cert.Reference6Ideal Cert.Reference6Ideal.Gen Cert.Reference6Ideal.Value Cert.Attn
open Idealize.ShloMosaic Idealize.ShloMosaic.TcCoe Idealize.SL.Sem
open Idealize.ShloMosaic.Pointwise Idealize.ShloMosaic.StableHlo

variable (V0 : Valuation τ sig (Elt Ideal))

theorem otG (X : FVec Ideal S8x4x2x2048x2048 .f32) (Y : FVec Ideal S4x64 .f32) (Z : FVec Ideal S8x2048x2048 .f32) (b : Fin 8) (h : Fin 4) (p : Fin 2048) (l : Fin 128) :
    (transpose S8x2048x4x128 [0, 2, 1, 3] (Host.dotGeneral dot_S8x4x2048x2048_S8x4x2048x128_S8x4x2048x128_3_2_2_3_01_01 none (subf (shapeCast _ (extractStridedSlice S8x4x1x2048x2048 ![0, 0, 0, 0, 0] X slices_S8x4x2x2048x2048_S8x4x1x2048x2048_0_0_0_0_0) shapeCasts_S8x4x1x2048x2048_S8x4x2048x2048) (mulf (broadcastInDim S8x4x2048x2048 ![] bcast_S_S8x4x2048x2048 (addf (subf (Host.exp (Host.reduceAdd (mulf (shapeCast _ (extractStridedSlice S1x64 ![0, 0] Y slices_S4x64_S1x64_0_0) shapeCasts_S1x64_S64) (shapeCast _ (extractStridedSlice S1x64 ![1, 0] Y slices_S4x64_S1x64_1_0) shapeCasts_S1x64_S64)) (constant S_ .f32 0x00000000#32) reducesTo_S64_S_d0 h_S_)) (Host.exp (Host.reduceAdd (mulf (shapeCast _ (extractStridedSlice S1x64 ![2, 0] Y slices_S4x64_S1x64_2_0) shapeCasts_S1x64_S64) (shapeCast _ (extractStridedSlice S1x64 ![3, 0] Y slices_S4x64_S1x64_3_0) shapeCasts_S1x64_S64)) (constant S_ .f32 0x00000000#32) reducesTo_S64_S_d0 h_S_))) (constant S_ .f32 0x3EB60549#32))) (shapeCast _ (extractStridedSlice S8x4x1x2048x2048 ![0, 0, 1, 0, 0] X slices_S8x4x2x2048x2048_S8x4x1x2048x2048_0_0_1_0_0) shapeCasts_S8x4x1x2048x2048_S8x4x2048x2048))) (transpose S8x4x2048x128 [0, 2, 1, 3] (shapeCast _ (extractStridedSlice S8x2048x512 ![0, 0, 1024] Z slices_S8x2048x2048_S8x2048x512_0_0_1024) shapeCasts_S8x2048x512_S8x2048x4x128) transposes_S8x2048x4x128_S8x4x2048x128_0_2_1_3)) transposes_S8x4x2048x128_S8x2048x4x128_0_2_1_3 : FVec Ideal S8x2048x4x128 .f32) (ix4 b p h l)
      = ∑ κ, (X (ix5 b h 0 p κ) - lamR 0x3EB60549#32 (fun a d => Y (ix2 a d)) * X (ix5 b h 1 p κ)) * Z (ix3 b κ ⟨1024 + (h * 128 + l), by omega⟩) := by
  unfold lamR
  pointwise

end Cert.Reference6Ideal.Diff

end
-- ==== Proof.SndRefD.lean ====
/- The reference's result at an index. -/
module

public import proofs.«01_k».proof.Proof.SndRefVal

@[expose] public section

set_option maxRecDepth 16384

noncomputable section

namespace Cert.Reference6Ideal.Diff

open Cert.Reference6Ideal Cert.Reference6Ideal.Gen Cert.Reference6Ideal.Value Cert.Attn
open Idealize.ShloMosaic Idealize.ShloMosaic.TcCoe Idealize.SL.Sem
open Idealize.ShloMosaic.Pointwise Idealize.ShloMosaic.StableHlo

variable (V0 : Valuation τ sig (Elt Ideal))

theorem subG (X : FVec Ideal S8x2048x4x128 .f32) (Y : FVec Ideal S128 .f32) (Z : FVec Ideal S8x2048x512 .f32) (b : Fin 8) (p : Fin 2048) (l : Fin 512) :
    (truncf .bf16 (mulf (shapeCast _ (mulf (mulf (mulf X (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf X X) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x1x128_S8x2048x4x128_0_1_2_3 (broadcastInDim S1x1x1x128 ![3] bcast_S128_S1x1x1x128_3 Y))) (broadcastInDim S8x2048x4x128 ![] bcast_S_S8x2048x4x128 (constant S_ .f32 0x3F24FD5C#32))) shapeCasts_S8x2048x4x128_S8x2048x512) (mulf Z (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf Z)))))) bitsLt_bf16_f32 : FVec Ideal S8x2048x512 .bf16) (ix3 b p l)
      = subK 0x3F24FD5C#32 (fun a => X (ix4 b p ⟨l / 128, by omega⟩ a)) (fun a => Y (ix1 a)) ⟨l % 128, by omega⟩ * gateR (Z (ix3 b p l)) := by
  unfold subK gateR
  pointwise

end Cert.Reference6Ideal.Diff

end
-- ==== Proof.SndRef.lean ====
/- The reference's result at an index. -/
module

public import proofs.«01_k».proof.Proof.SndRefVal2
public import proofs.«01_k».proof.Proof.SndRefA
public import proofs.«01_k».proof.Proof.SndRefB
public import proofs.«01_k».proof.Proof.SndRefC
public import proofs.«01_k».proof.Proof.SndRefD

@[expose] public section

set_option maxRecDepth 16384

noncomputable section

namespace Cert.Reference6Ideal.Diff

open Cert.Reference6Ideal Cert.Reference6Ideal.Gen Cert.Reference6Ideal.Value Cert.Attn
open Idealize.ShloMosaic Idealize.ShloMosaic.TcCoe Idealize.SL.Sem
open Idealize.ShloMosaic.Pointwise Idealize.ShloMosaic.StableHlo

variable (V0 : Valuation τ sig (Elt Ideal))

theorem v119_apply (b : Fin 8) (h : Fin 4) (c : Fin 2) (p κ : Fin 2048) :
    res_main_v119 (F := Ideal) V0 (ix5 b h c p κ) = exR (scAt V0 b h c p) κ := by
  unfold res_main_v119
  refine (exG (res_main_v112 (F := Ideal) V0) b h c p κ).trans ?_
  simp only [v112_apply]

theorem v123_apply (b : Fin 8) (h : Fin 4) (c : Fin 2) (p κ : Fin 2048) :
    res_main_v123 (F := Ideal) V0 (ix5 b h c p κ) = smR (scAt V0 b h c p) κ := by
  unfold res_main_v123
  refine (smG (res_main_v119 (F := Ideal) V0) b h c p κ).trans ?_
  simp only [v119_apply]
  unfold smR
  with_reducible rfl

theorem vcol (h : Fin 4) (l : Fin 128) : (⟨2560 + (1024 + (h.val * 128 + l.val)), by omega⟩ : Fin 6656) = ucol 2 h l :=
  Fin.ext (by show 2560 + (1024 + (h.val * 128 + l.val)) = 2560 + 2 * 512 + h.val * 128 + l.val; omega)

theorem v132_apply (b : Fin 8) (h : Fin 4) (p : Fin 2048) (l : Fin 128) : res_main_v132 (F := Ideal) V0 (ix4 b p h l)
    = otR (lamR 0x3EB60549#32 fun a d => LM V0 (ix2 a d)) (scAt V0 b h 0 p) (scAt V0 b h 1 p) (fun κ => U V0 (ix3 b κ (ucol 2 h l))) := by
  unfold res_main_v132
  refine (otG (res_main_v123 (F := Ideal) V0) (LM V0) (res_main_v19 (F := Ideal) V0) b h p l).trans ?_
  simp only [v123_apply, v19_apply, vcol]
  unfold otR
  with_reducible rfl

/-- The reference's result at an index. -/
def RG (b : Fin 8) (p : Fin 2048) (l : Fin 512) : EReal :=
  headR 0x3F24FD5C#32 (lamR 0x3EB60549#32 fun a d => LM V0 (ix2 a d)) (fun a => U V0 (ix3 b p (ucol 0 ⟨l / 128, by omega⟩ a))) (fun κ a => U V0 (ix3 b κ (ucol 1 ⟨l / 128, by omega⟩ a)))
    (fun κ a => U V0 (ix3 b κ (ucol 2 ⟨l / 128, by omega⟩ a))) (fun a => U V0 (ix3 b p (ucol 3 ⟨l / 128, by omega⟩ a)))
    (fun d => W V0 (ix2 0 d)) (fun d => W V0 (ix2 1 d)) (fun p f => Ideal.cos (ang p f)) (fun p f => Ideal.sin (ang p f)) (fun a => SB V0 (ix1 a)) p ⟨l % 128, by omega⟩

theorem v151_apply (b : Fin 8) (p : Fin 2048) (l : Fin 512) : val3 (F := Ideal) V0 (Proc.devRef .tc main_v151) (ix3 b p l) = RG V0 b p l := by
  rw [val3_main_v151]
  refine (subG (res_main_v132 (F := Ideal) V0) (SB V0) (res_main_v23 (F := Ideal) V0) b p l).trans ?_
  simp only [v132_apply, v23_apply]
  unfold RG headR
  with_reducible rfl

end Cert.Reference6Ideal.Diff

end
-- ==== Proof.SndEq.lean ====
/- The kernel's result array is the reference's, under the precondition. -/
module

public import proofs.«01_k».proof.Proof.SndMain
public import proofs.«01_k».proof.Proof.SndRef
public import proofs.«01_k».proof.Proof.DiffMath
public import proofs.«01_k».proof.Proof.DiffPre

@[expose] public section

set_option maxRecDepth 16384

noncomputable section

namespace Cert.Attn

open Idealize.ShloMosaic Idealize.ShloMosaic.TcCoe Idealize.SL.Sem

/-- From memories that agree on the arguments, which are finite where they are read, the two results are equal. -/
theorem result_eq1 (m : (ℓ : Loc Cert.Kernel6Ideal.nD Cert.Kernel6Ideal.τ Cert.Kernel6Ideal.sig) → Buf (Elt Ideal) ℓ)
    (c : Dev Cert.Kernel6Ideal.nD) (V0 : Valuation Cert.Reference6Ideal.τ Cert.Reference6Ideal.sig (Elt Ideal))
    (hpre : Cert.Pre_Kernel6Ideal_inputs_finite m)
    (h0 : Cert.Reference6Ideal.Diff.U V0 = Cert.Kernel6Ideal.Diff.U m c) (h1 : Cert.Reference6Ideal.Diff.W V0 = Cert.Kernel6Ideal.Diff.W m c)
    (h2 : Cert.Reference6Ideal.Diff.LM V0 = Cert.Kernel6Ideal.Diff.LM m c) (h3 : Cert.Reference6Ideal.Diff.SB V0 = Cert.Kernel6Ideal.Diff.SB m c) :
    (Cert.Reference6Ideal.Value.val3 (F := Ideal) V0 (Proc.devRef .tc Cert.Reference6Ideal.main_v151) : Cert.Reference6Ideal.S8x2048x512.Idx → EReal)
      = Cert.Kernel6Ideal.Diff.GK m c := by
  obtain ⟨hU, hW, hL⟩ := pre_real _ _ _ _ (hpre c)
  funext i
  obtain ⟨b, p, l, rfl⟩ : ∃ b p l, i = ix3 b p l := ⟨i 0, i 1, i 2, (ix3_eta i).symm⟩
  refine (Cert.Reference6Ideal.Diff.v151_apply V0 b p l).trans ?_
  unfold Cert.Reference6Ideal.Diff.RG
  rw [h0, h1, h2, h3]
  exact (head_eq_real 0x3F24FD5C#32 0x3EB60549#32 c_lam1 (fun a d => Cert.Kernel6Ideal.Diff.LM m c (ix2 a d)) _ _ _ _ _ _ _ p _ (fun a d => hL a d)
    (fun κ a => hU b κ 0 _ a) (fun a => hU b p 1 _ a) (fun d => hW 0 d) (fun d => hW 1 d)).symm

end Cert.Attn

end
-- ==== Proof.SndOutProj.lean ====
/- The output projection: the kernel's run with its result array as one function of its arguments, and that function
   is the reference's result. -/
module

public import proofs.«01_k».proof.Proof.Gen.Kernel5Ideal.Value
public import proofs.«01_k».proof.Proof.Gen.Reference5Ideal.Run
public import Idealize.ShloMosaic.Lib.Pointwise
public import Idealize.ShloMosaic.Lib.StableHlo.ReadAt

@[expose] public section

set_option maxRecDepth 16384

noncomputable section

namespace Cert.Kernel5Ideal.OutProj

open Cert.Kernel5Ideal Cert.Kernel5Ideal.Gen Idealize.ShloMosaic Idealize.ShloMosaic.TcCoe Idealize.SL.Sem
open Idealize.ShloMosaic.Pointwise

variable (m : (ℓ : Loc nD τ sig) → Buf (Elt Ideal) ℓ)

/-- The result at row `r` and column `l`: the residual input plus the three mixers' rows times the first layer's
    weights, the rows of the first mixer in the weights' rows from 0, of the second from 1024, of the third from 1536. -/
def out (x : S8x2048x1024.Idx → EReal) (y0 : S8x2048x1024.Idx → EReal) (y1 y2 : S8x2048x512.Idx → EReal)
    (w : S2x2048x1024.Idx → EReal) (b : Fin 8) (s : Fin 2048) (l : Fin 1024) : EReal :=
  x (ix3 b s l) + ((∑ k : Fin 1024, y0 (ix3 b s k) * w (ix3 0 ⟨k, by omega⟩ l))
    + (∑ k : Fin 512, y1 (ix3 b s k) * w (ix3 0 ⟨1024 + k, by omega⟩ l))
    + (∑ k : Fin 512, y2 (ix3 b s k) * w (ix3 0 ⟨1536 + k, by omega⟩ l)))

theorem V_v0 (c : Dev nD) (r : Fin 16384) (l : Fin 1024) :
    V m c main_v0 (ix2 r l) = m ((c : Thread nD τ).loc main_arg0) (ix3 ⟨r / 2048, by omega⟩ ⟨r % 2048, by omega⟩ l) := by
  unfold V; after_reads_at
theorem V_v6 (c : Dev nD) (r : Fin 2048) (l : Fin 1024) :
    V m c main_v6 (ix2 r l) = m ((c : Thread nD τ).loc main_arg4) (ix3 0 r l) := by
  unfold V; after_reads_at
theorem V_v1 (c : Dev nD) (r : Fin 16384) (l : Fin 1024) :
    V m c main_v1 (ix2 r l) = m ((c : Thread nD τ).loc main_arg1) (ix3 ⟨r / 2048, by omega⟩ ⟨r % 2048, by omega⟩ l) := by
  unfold V; after_reads_at
theorem V_v2 (c : Dev nD) (r : Fin 16384) (l : Fin 512) :
    V m c main_v2 (ix2 r l) = m ((c : Thread nD τ).loc main_arg2) (ix3 ⟨r / 2048, by omega⟩ ⟨r % 2048, by omega⟩ l) := by
  unfold V; after_reads_at
theorem V_v3 (c : Dev nD) (r : Fin 16384) (l : Fin 512) :
    V m c main_v3 (ix2 r l) = m ((c : Thread nD τ).loc main_arg3) (ix3 ⟨r / 2048, by omega⟩ ⟨r % 2048, by omega⟩ l) := by
  unfold V; after_reads_at

theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- The body's block at a row and a column. -/
theorem out_apply (x0 : Vec Ideal S1024x1024 .f32) (x1 : Vec Ideal S1024x1024 .bf16) (x2 x3 : Vec Ideal S1024x512 .bf16)
    (x4 : Vec Ideal S2048x1024 .bf16) (r l : Fin 1024) :
    out0_5 x0 x1 x2 x3 x4 (ix2 r l) = x0 (ix2 r l) + ((∑ k : Fin 1024, x1 (ix2 r k) * x4 (ix2 ⟨k, by omega⟩ l))
      + (∑ k : Fin 512, x2 (ix2 r k) * x4 (ix2 ⟨1024 + k, by omega⟩ l))
      + (∑ k : Fin 512, x3 (ix2 r k) * x4 (ix2 ⟨1536 + k, by omega⟩ l))) := by
  unfold out0_5
  rw [View.canon_unit_zero (by decide)]
  pointwise [k0_pay1]

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- A row of the array from a point and a row of its block. -/
abbrev row (t : Fin cfg0.N) (r : Fin 1024) : Fin 16384 := ⟨t.val * 1024 + r, by have : t.val < 16 := t.isLt; omega⟩

theorem emb0 (t : Fin cfg0.N) (r l : Fin 1024) : ((cfg0.win 0).blk t).view.emb (ix2 r l) = ix2 (row t r) l := by
  obtain ⟨e0, e1⟩ := idx0 t
  funext a; apply Fin.ext
  match a with
  | ⟨0, _⟩ => show win0_0.index t (0 : Fin 2) * 1024 + 1 * r.val = t.val * 1024 + r.val; omega
  | ⟨1, _⟩ => show win0_0.index t (1 : Fin 2) * 1024 + 1 * l.val = l.val; omega
theorem emb1 (t : Fin cfg0.N) (r l : Fin 1024) : ((cfg0.win 1).blk t).view.emb (ix2 r l) = ix2 (row t r) l := by
  obtain ⟨e0, e1⟩ := idx1 t
  funext a; apply Fin.ext
  match a with
  | ⟨0, _⟩ => show win0_1.index t (0 : Fin 2) * 1024 + 1 * r.val = t.val * 1024 + r.val; omega
  | ⟨1, _⟩ => show win0_1.index t (1 : Fin 2) * 1024 + 1 * l.val = l.val; omega
theorem emb2 (t : Fin cfg0.N) (r : Fin 1024) (l : Fin 512) : ((cfg0.win 2).blk t).view.emb (ix2 r l) = ix2 (row t r) l := by
  obtain ⟨e0, e1⟩ := idx2 t
  funext a; apply Fin.ext
  match a with
  | ⟨0, _⟩ => show win0_2.index t (0 : Fin 2) * 1024 + 1 * r.val = t.val * 1024 + r.val; omega
  | ⟨1, _⟩ => show win0_2.index t (1 : Fin 2) * 512 + 1 * l.val = l.val; omega
theorem emb3 (t : Fin cfg0.N) (r : Fin 1024) (l : Fin 512) : ((cfg0.win 3).blk t).view.emb (ix2 r l) = ix2 (row t r) l := by
  obtain ⟨e0, e1⟩ := idx3 t
  funext a; apply Fin.ext
  match a with
  | ⟨0, _⟩ => show win0_3.index t (0 : Fin 2) * 1024 + 1 * r.val = t.val * 1024 + r.val; omega
  | ⟨1, _⟩ => show win0_3.index t (1 : Fin 2) * 512 + 1 * l.val = l.val; omega
theorem emb4 (t : Fin cfg0.N) (r : Fin 2048) (l : Fin 1024) : ((cfg0.win 4).blk t).view.emb (ix2 r l) = ix2 r l := by
  obtain ⟨e0, e1⟩ := idx4 t
  funext a; apply Fin.ext
  match a with
  | ⟨0, _⟩ => show win0_4.index t (0 : Fin 2) * 2048 + 1 * r.val = r.val; omega
  | ⟨1, _⟩ => show win0_4.index t (1 : Fin 2) * 1024 + 1 * l.val = l.val; omega
theorem emb5 (t : Fin cfg0.N) (r l : Fin 1024) : ((cfg0.win 5).blk t).view.emb (ix2 r l) = ix2 (row t r) l := by
  obtain ⟨e0, e1⟩ := idx5 t
  funext a; apply Fin.ext
  match a with
  | ⟨0, _⟩ => show win0_5.index t (0 : Fin 2) * 1024 + 1 * r.val = t.val * 1024 + r.val; omega
  | ⟨1, _⟩ => show win0_5.index t (1 : Fin 2) * 1024 + 1 * l.val = l.val; omega

theorem iblk0 (c : Dev nD) (t : Fin cfg0.N) (r l : Fin 1024) :
    iblk m c 0 t (ix2 r l) = m ((c : Thread nD τ).loc main_arg0) (ix3 ⟨row t r / 2048, by omega⟩ ⟨row t r % 2048, by omega⟩ l) := by
  show V m c main_v0 (((cfg0.win 0).blk t).view.emb (ix2 r l)) = _
  rw [emb0]; exact V_v0 m c _ _
theorem iblk1 (c : Dev nD) (t : Fin cfg0.N) (r l : Fin 1024) :
    iblk m c 1 t (ix2 r l) = m ((c : Thread nD τ).loc main_arg1) (ix3 ⟨row t r / 2048, by omega⟩ ⟨row t r % 2048, by omega⟩ l) := by
  show V m c main_v1 (((cfg0.win 1).blk t).view.emb (ix2 r l)) = _
  rw [emb1]; exact V_v1 m c _ _
theorem iblk2 (c : Dev nD) (t : Fin cfg0.N) (r : Fin 1024) (l : Fin 512) :
    iblk m c 2 t (ix2 r l) = m ((c : Thread nD τ).loc main_arg2) (ix3 ⟨row t r / 2048, by omega⟩ ⟨row t r % 2048, by omega⟩ l) := by
  show V m c main_v2 (((cfg0.win 2).blk t).view.emb (ix2 r l)) = _
  rw [emb2]; exact V_v2 m c _ _
theorem iblk3 (c : Dev nD) (t : Fin cfg0.N) (r : Fin 1024) (l : Fin 512) :
    iblk m c 3 t (ix2 r l) = m ((c : Thread nD τ).loc main_arg3) (ix3 ⟨row t r / 2048, by omega⟩ ⟨row t r % 2048, by omega⟩ l) := by
  show V m c main_v3 (((cfg0.win 3).blk t).view.emb (ix2 r l)) = _
  rw [emb3]; exact V_v3 m c _ _
theorem iblk4 (c : Dev nD) (t : Fin cfg0.N) (r : Fin 2048) (l : Fin 1024) :
    iblk m c 4 t (ix2 r l) = m ((c : Thread nD τ).loc main_arg4) (ix3 0 r l) := by
  show V m c main_v6 (((cfg0.win 4).blk t).view.emb (ix2 r l)) = _
  rw [emb4]; exact V_v6 m c _ _

/-- The result array as one function of the argument arrays. -/
def G (x : S8x2048x1024.Idx → EReal) (y0 : S8x2048x1024.Idx → EReal) (y1 y2 : S8x2048x512.Idx → EReal)
    (w : S2x2048x1024.Idx → EReal) : S16384x1024.Idx → EReal := fun i =>
  out x y0 y1 y2 w ⟨(i 0).val / 2048, by have h : (i 0).val < 16384 := (i 0).isLt; omega⟩
    ⟨(i 0).val % 2048, by omega⟩ (i 1)

/-- The result array as one function of the launch contents. -/
def GM (c : Dev nD) : S16384x1024.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

theorem flushed_eq (c : Dev nD) (t : Fin cfg0.N) :
    (dats m 0 c).flushed 5 t = ((cfg0.win 5).blk t).view.read (Elt Ideal) (GM m c) := by
  rw [Value.flushed5]
  funext j
  obtain ⟨r, l, rfl⟩ : ∃ (r l : Fin 1024), j = ix2 r l := ⟨j 0, j 1, eq_ix2 j⟩
  show out0_5 (F := Ideal) _ _ _ _ _ (ix2 r l) = GM m c (((cfg0.win 5).blk t).view.emb (ix2 r l))
  rw [emb5, out_apply]
  simp only [iblk0, iblk1, iblk2, iblk3, iblk4]
  rfl

theorem covered (i : S16384x1024.Idx) :
    ∃ t : Fin cfg0.N, (cfg0.win 5).flush t = true ∧ i ∈ ((cfg0.win 5).blk t).view.set := by
  obtain ⟨r, l, rfl⟩ : ∃ (r : Fin 16384) (l : Fin 1024), i = ix2 r l := ⟨i 0, i 1, eq_ix2 i⟩
  refine ⟨(⟨r / 1024, by show _ < 16; omega⟩ : Fin cfg0.N), flush0_5 _, ?_⟩
  have h := ((cfg0.win 5).blk (⟨r / 1024, by show _ < 16; omega⟩ : Fin cfg0.N)).view.emb_mem_set
    (ix2 (⟨r % 1024, by omega⟩ : Fin 1024) l)
  rw [emb5] at h
  have e : row (⟨r / 1024, by show _ < 16; omega⟩ : Fin cfg0.N) ⟨r % 1024, by omega⟩ = r :=
    Fin.ext (by show r.val / 1024 * 1024 + r.val % 1024 = r.val; omega)
  rwa [e] at h

/-- The kernel's run with its result array at `GM`, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v7) = GM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨(h c).1.trans ((dats m 0 c).arrAt_eq_of_cover 5 (GM m c) (fun t _ => flushed_eq m c t) covered), (h c).2⟩)
    (Value.run_blocks m ρ)

end Cert.Kernel5Ideal.OutProj

namespace Cert.Reference5Ideal.OutProj

open Cert.Reference5Ideal Cert.Reference5Ideal.Gen Idealize.ShloMosaic Idealize.ShloMosaic.TcCoe Idealize.SL.Sem

variable (m : (ℓ : Loc nD τ sig) → Buf (Elt Ideal) ℓ)

open Idealize.ShloMosaic.Pointwise

/-- The three mixers' outputs side by side, at an index. -/
theorem cat_apply (y0 : S8x2048x1024.Idx → EReal) (y1 y2 : S8x2048x512.Idx → EReal) (b : Fin 8) (s k : Fin 2048) :
    concatenate (α := EReal) S8x2048x2048 2 [⟨S8x2048x1024, y0⟩, ⟨S8x2048x512, y1⟩, ⟨S8x2048x512, y2⟩]
        concatenates_S8x2048x1024_S8x2048x512_S8x2048x512_S8x2048x2048_d2 (ix3 b s k)
      = if h : k.val < 1024 then y0 (ix3 b s ⟨k, h⟩) else if h' : k.val - 1024 < 512 then y1 (ix3 b s ⟨k - 1024, h'⟩)
        else y2 (ix3 b s ⟨k - 1536, by omega⟩) := by
  pointwise
  split
  · rfl
  split
  · rfl
  exact congrArg (fun q : Fin 512 => y2 (ix3 b s q)) (Fin.ext (by show k.val - 1024 - 512 = k.val - 1536; omega))

/-- A sum over the 2048 positions, cut at 1024 and 1536. -/
theorem sum_cut (f : Fin 2048 → EReal) : ∑ k : Fin 2048, f k
    = (∑ k : Fin 1024, f ⟨k, by omega⟩) + (∑ k : Fin 512, f ⟨1024 + k, by omega⟩) + (∑ k : Fin 512, f ⟨1536 + k, by omega⟩) := by
  rw [Fin.sum_univ_two_halves 1536 512 rfl f, Fin.sum_univ_two_halves 1024 512 rfl]

theorem dot_apply (y : S8x2048x2048.Idx → EReal) (w : S2048x1024.Idx → EReal) (b : Fin 8) (s : Fin 2048) (l : Fin 1024) :
    Host.dotGeneral (F := Ideal) (φ₁ := .f32) (φ₂ := .f32) dot_S8x2048x2048_S2048x1024_S8x2048x1024_2_0_01_1_n_n none y w (ix3 b s l)
      = ∑ k : Fin 2048, y (ix3 b s k) * w (ix2 k l) := by
  pointwise

theorem result_eq (x y0 : S8x2048x1024.Idx → EReal) (y1 y2 : S8x2048x512.Idx → EReal) (w : S2x2048x1024.Idx → EReal) :
    shapeCast S16384x1024 (addf (F := Ideal) (φ := .f32) x (Host.dotGeneral (F := Ideal) (φ₁ := .f32) (φ₂ := .f32) dot_S8x2048x2048_S2048x1024_S8x2048x1024_2_0_01_1_n_n none
        (extf (F := Ideal) (φ := .bf16) .f32 (concatenate (α := EReal) S8x2048x2048 2 [⟨S8x2048x1024, y0⟩, ⟨S8x2048x512, y1⟩, ⟨S8x2048x512, y2⟩]
          concatenates_S8x2048x1024_S8x2048x512_S8x2048x512_S8x2048x2048_d2) bitsLt_bf16_f32)
        (shapeCast S2048x1024 (extractStridedSlice S1x2048x1024 ![0, 0, 0] w slices_S2x2048x1024_S1x2048x1024_0_0_0)
          shapeCasts_S1x2048x1024_S2048x1024))) shapeCasts_S8x2048x1024_S16384x1024
      = Cert.Kernel5Ideal.OutProj.G x y0 y1 y2 w := by
  funext j
  obtain ⟨r, l, rfl⟩ : ∃ (r : Fin 16384) (l : Fin 1024), j = ix2 r l := ⟨j 0, j 1, eq_ix2 j⟩
  have e : ∀ z : S8x2048x1024.Idx → EReal, shapeCast S16384x1024 z shapeCasts_S8x2048x1024_S16384x1024 (ix2 r l)
      = z (ix3 ⟨r / 2048, by omega⟩ ⟨r % 2048, by omega⟩ l) := fun z => by pointwise
  rw [e]
  show x _ + Host.dotGeneral (F := Ideal) _ _ _ _ _ = _
  rw [dot_apply, sum_cut]
  have hw : ∀ k : Fin 2048, shapeCast S2048x1024 (extractStridedSlice S1x2048x1024 ![0, 0, 0] w slices_S2x2048x1024_S1x2048x1024_0_0_0)
          shapeCasts_S1x2048x1024_S2048x1024 (ix2 k l) = w (ix3 0 k l) := fun k => by pointwise
  have hx : ∀ (z : S8x2048x2048.Idx → EReal) (i : S8x2048x2048.Idx), extf (F := Ideal) (φ := .bf16) .f32 z bitsLt_bf16_f32 i = z i := fun _ _ => rfl
  simp only [hw, hx, cat_apply]
  unfold Cert.Kernel5Ideal.OutProj.G Cert.Kernel5Ideal.OutProj.out
  refine congrArg₂ _ rfl (congrArg₂ _ (congrArg₂ _ ?_ ?_) ?_)
  · refine Finset.sum_congr rfl fun k _ => ?_
    rw [dif_pos (show k.val < 1024 from k.isLt)]
    rfl
  · refine Finset.sum_congr rfl fun k _ => ?_
    rw [dif_neg (show ¬ 1024 + k.val < 1024 by omega), dif_pos (show 1024 + k.val - 1024 < 512 by omega)]
    exact congrArg₂ _ (congrArg (fun q : Fin 512 => y1 (ix3 _ _ q)) (Fin.ext (by show 1024 + k.val - 1024 = k.val; omega))) rfl
  · refine Finset.sum_congr rfl fun k _ => ?_
    rw [dif_neg (show ¬ 1536 + k.val < 1024 by omega), dif_neg (show ¬ 1536 + k.val - 1024 < 512 by omega)]
    exact congrArg₂ _ (congrArg (fun q : Fin 512 => y2 (ix3 _ _ q)) (Fin.ext (by show 1536 + k.val - 1536 = k.val; omega))) rfl

/-- The reference's run with its result array at the same function of its arguments. -/
theorem run (ρ : Dev nD → PrngReg) : θ_run defs (onTc (τ := τ) (main (F := Ideal))) ⟨m, fun _ => 0, ρ⟩ fun r => ∀ c : Dev nD,
      r.2.mem ((c.tc : Thread nD τ).loc main_v6) = Cert.Kernel5Ideal.OutProj.G (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (result_eq _ _ _ _ _), (h c).2⟩)
    (Value.run m ρ)

end Cert.Reference5Ideal.OutProj
end
-- ==== Proof.SndInRun.lean ====
/- The input projection: the kernel's run over any floats. At the first of a row block's two points the normalised
   rows go to the work buffer and the small projection to its window; at both, half of the large projection goes to
   its window. -/
module

public import proofs.«01_k».proof.Proof.Gen.Kernel4Ideal.Frame
public import proofs.«01_k».proof.Proof.Gen.Kernel4Ideal.Skeleton
public import Idealize.ShloMosaic.Lib.Claim
public import Idealize.ShloMosaic.Lib.Exec
public import Idealize.ShloMosaic.Lib.Tactic
public import Idealize.ShloMosaic.Lib.WordCmp

@[expose] public section

set_option maxRecDepth 16384

noncomputable section

namespace Cert.Kernel4Ideal.InProj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

abbrev rx : Rect S1024x1024 := Rect.unit (s := S1024x1024) ![0, 0] S1024x1024.size inb_S1024x1024_S1024x1024_0_0
abbrev rw' : Rect S1x1024 := Rect.unit (s := S1x1024) ![0, 0] S1x1024.size inb_S1x1024_S1x1024_0_0
abbrev ru : Rect S1x3328x1024 := Rect.unit (s := S1x3328x1024) ![0, 0, 0] S1x3328x1024.size inb_S1x3328x1024_S1x3328x1024_0_0_0
abbrev rd : Rect S1x128x1024 := Rect.unit (s := S1x128x1024) ![0, 0, 0] S1x128x1024.size inb_S1x128x1024_S1x128x1024_0_0_0
abbrev ro : Rect S1024x3328 := Rect.unit (s := S1024x3328) ![0, 0] S1024x3328.size inb_S1024x3328_S1024x3328_0_0
abbrev rt : Rect S1024x128 := Rect.unit (s := S1024x128) ![0, 0] S1024x128.size inb_S1024x128_S1024x128_0_0

/-- The normalised rows, as the work buffer holds them. -/
def hb (x0 : Vec F S1024x1024 .f32) (x1 : Vec F S1x1024 .f32) : Vec F S1024x1024 .bf16 :=
  View.canon [⟨rx, k0_pay2 (View.ld x0 rx) (View.ld x1 rw')⟩]

/-- Half of the large projection's columns, from the normalised rows and that half's weights. -/
def ob (h : Vec F S1024x1024 .bf16) (x2 : Vec F S1x3328x1024 .bf16) : Vec F S1024x3328 .bf16 :=
  View.canon [⟨ro, k0_pay4 (View.ld h rx) (View.ld x2 ru)⟩]

/-- The small projection. -/
def db (x0 : Vec F S1024x1024 .f32) (x1 : Vec F S1x1024 .f32) (x3 : Vec F S1x128x1024 .bf16) : Vec F S1024x128 .f32 :=
  View.canon [⟨rt, k0_pay3 (View.ld x0 rx) (View.ld x1 rw') (View.ld x3 rd)⟩]

theorem cover_x (p : Vec F S1024x1024 .bf16) (y : S1024x1024.Idx) :
    ∃ pc ∈ ([⟨rx, p⟩] : List (View.Piece (Elt F) S1024x1024 .bf16)), y ∈ pc.1.set :=
  View.cover_of_tiled [⟨rx, p⟩] S1024x1024.size (by rfl) y
theorem cover_o (p : Vec F S1024x3328 .bf16) (y : S1024x3328.Idx) :
    ∃ pc ∈ ([⟨ro, p⟩] : List (View.Piece (Elt F) S1024x3328 .bf16)), y ∈ pc.1.set :=
  View.cover_of_tiled [⟨ro, p⟩] S1024x3328.size (by rfl) y
theorem cover_t (p : Vec F S1024x128 .f32) (y : S1024x128.Idx) :
    ∃ pc ∈ ([⟨rt, p⟩] : List (View.Piece (Elt F) S1024x128 .f32)), y ∈ pc.1.set :=
  View.cover_of_tiled [⟨rt, p⟩] S1024x128.size (by rfl) y

/-- The condition of the body's branch. -/
abbrev cond (i : grid0.Coords) : Prop := k0_cond1 i = 1#1
/-- It holds at the points of even number. -/
theorem hcond : ∀ t : Fin cfg0.N, cond (grid0.coords t) ↔ t.val % 2 = 0 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond, k0_cond1, e0, e1]
    word_cmp
   : ∀ t : Fin grid0.N, cond (grid0.coords t) ↔ t.val % 2 = 0)

set_option maxHeartbeats 1000000 in
/-- The body at the first point of a row block. -/
theorem runA (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x3328x1024 .bf16) (harg4 : arg4.IsWhole) (arg5 : Memref sig .tc .vmem S1x128x1024 .bf16) (harg5 : arg5.IsWhole) (arg6 : Memref sig .tc .vmem S1024x3328 .bf16) (harg6 : arg6.IsWhole) (arg7 : Memref sig .tc .vmem S1024x128 .f32) (harg7 : arg7.IsWhole) (arg8 : Memref sig .tc .vmem S1024x1024 .bf16) (harg8 : arg8.IsWhole) (hc : cond i)
    (x0 : Vec F S1024x1024 .f32) (x1 : Vec F S1x1024 .f32) (x2 : Vec F S1x3328x1024 .bf16) (x3 : Vec F S1x128x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (ob (hb x0 x1) x2) ∗ owns (c : Thread nD τ) arg7 fullShare (db x0 x1 x3) ∗ owns (c : Thread nD τ) arg8 fullShare (hb x0 x1)) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_o _)).trans ?_
    unfold ob hb runA.sl.v3 runA.sl.H6_1
    rw [View.readCov_eq_canon_ld _ _ _ (cover_x _)]
    rfl
  isplitl [H5]
  · iexists _; isplitr
    swap; · iexact H5
    ipureintro
    exact View.read_writes_eq_canon _ _ _ (cover_t _)
  iexists _; isplitr
  swap; · iexact H6
  ipureintro
  exact View.read_writes_eq_canon _ _ _ (cover_x _)

set_option maxHeartbeats 1000000 in
/-- The body at the second point of a row block: the work buffer and the small projection's window are left alone. -/
theorem runB (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x3328x1024 .bf16) (harg4 : arg4.IsWhole) (arg5 : Memref sig .tc .vmem S1x128x1024 .bf16) (harg5 : arg5.IsWhole) (arg6 : Memref sig .tc .vmem S1024x3328 .bf16) (harg6 : arg6.IsWhole) (arg7 : Memref sig .tc .vmem S1024x128 .f32) (harg7 : arg7.IsWhole) (arg8 : Memref sig .tc .vmem S1024x1024 .bf16) (harg8 : arg8.IsWhole) (hc : ¬ cond i)
    (x0 : Vec F S1024x1024 .f32) (x1 : Vec F S1x1024 .f32) (x2 : Vec F S1x3328x1024 .bf16) (x3 : Vec F S1x128x1024 .bf16) (x5 : Vec F S1024x128 .f32) (x6 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (ob x6 x2) ∗ owns (c : Thread nD τ) arg7 fullShare x5 ∗ owns (c : Thread nD τ) arg8 fullShare x6) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_o _)
  isplitl [H5]
  · iexists f5; isplitr; · ipureintro; rfl
    iexact H5
  iexists f6; isplitr; · ipureintro; rfl
  iexact H6

/-! ## The pipeline's data -/

variable (m : (ℓ : Loc nD τ sig) → Buf (Elt F) ℓ) (ρ : Dev nD → PrngReg)

/-- The point at which the row block of point `t` starts. -/
def fst' (t : Fin cfg0.N) : Fin cfg0.N := ⟨t.val / 2 * 2, by have := t.isLt; omega⟩

/-- The normalised rows of point `t`'s row block. -/
def hAt (c : Dev nD) (t : Fin cfg0.N) : Vec F S1024x1024 .bf16 := hb (iblk m c 0 t) (iblk m c 1 t)

abbrev scM : Memref sig .tc .vmem S1024x1024 .bf16 := Memref.whole cc0_scratch0

/-- Between points: after a row block's first point the work buffer holds its normalised rows, elsewhere anything. -/
def Phi (c : Dev nD) (t : Fin (cfg0.N + 1)) : sProp 𝕄 :=
  if h : t.val % 2 = 1 then
    iprop(owns (c : Thread nD τ) scM fullShare (hAt m c ⟨t.val - 1, by have := t.isLt; omega⟩) ∗ (∃ r, prngReg c r))
  else Pipeline.ΦA spec0 c

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the body leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => ob (hAt m c (fst' t)) (iblk m c 2 t)
    | ⟨5, _⟩ => db (iblk m c 0 (fst' t)) (iblk m c 1 (fst' t)) (iblk m c 3 (fst' t))
  Φ t := Phi m c t
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = ob (hAt m c (fst' t)) (iblk m c 2 t) := by dsimp only [dats]
theorem after_5 (c : Dev nD) (t : Fin cfg0.N) : (dats m 0 c).after 5 t = db (iblk m c 0 (fst' t)) (iblk m c 1 (fst' t)) (iblk m c 3 (fst' t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem fst_even (t : Fin cfg0.N) (h : t.val % 2 = 0) : fst' t = t := Fin.ext (by show t.val / 2 * 2 = t.val; omega)
theorem fst_odd (t : Fin cfg0.N) (h : t.val % 2 = 1) : fst' t = ⟨t.val - 1, by have := t.isLt; omega⟩ :=
  Fin.ext (by show t.val / 2 * 2 = t.val - 1; omega)

/-- At a row block's second point the small projection's window holds what the first point left. -/
theorem before_5 (c : Dev nD) (t : Fin cfg0.N) (h : t.val % 2 = 1) (d) :
    (dats m 0 c).before 5 t d = db (iblk m c 0 (fst' t)) (iblk m c 1 (fst' t)) (iblk m c 3 (fst' t)) := by
  have hl : t.val - 1 < cfg0.N := by have := t.isLt; omega
  have hp : (⟨t.val - 1, hl⟩ : Fin cfg0.N).val % 2 = 0 := by show (t.val - 1) % 2 = 0; omega
  have hfl : (cfg0.win 5).flush ⟨t.val - 1, hl⟩ = false := by
    cases hf : (cfg0.win 5).flush ⟨t.val - 1, hl⟩ with
    | false => rfl
    | true => exact absurd ((flush0_5 _).mp hf) (by rw [hp]; decide)
  have hid : cfg0.idle 5 (cfg0.grid.coords ⟨t.val - 1, hl⟩) = false := by
    show (!(k0_cond1 (grid0.coords ⟨t.val - 1, hl⟩) == 1#1)) = false
    rw [(hcond ⟨t.val - 1, hl⟩).mpr hp]; rfl
  rw [(dats m 0 c).before_of_pos 5 t (by omega) ((cfg0.win 5).fetch_out rfl t), hfl, if_neg Bool.false_ne_true]
  unfold Dat.left
  rw [hid]
  show (dats m 0 c).kept 5 ⟨t.val - 1, hl⟩ d = _
  unfold Dat.kept
  rw [Pipeline.fill_of_clip_none 5 _ (fun _ => rfl) d ((dats m 0 c).after 5 ⟨t.val - 1, hl⟩), Pipeline.Window.fill_cut,
    after_5, fst_even _ hp, fst_odd t h]

/-- The small projection's window, touched or not, ends at what the data say. -/
theorem leaves_5 (c : Dev nD) (t : Fin cfg0.N) :
    (dats m 0 c).leavesExact 5 t = owns (c : Thread nD τ) (st0_5 t) fullShare ((dats m 0 c).after 5 t) := by
  unfold Dat.leavesExact
  by_cases h : t.val % 2 = 0
  · have hid : cfg0.idle 5 (cfg0.grid.coords t) = false := by
      show (!(k0_cond1 (grid0.coords t) == 1#1)) = false
      rw [(hcond t).mpr h]; rfl
    rw [hid]
  · have hfl : (cfg0.win 5).flush t = true := (flush0_5 t).mpr (by omega)
    cases cfg0.idle 5 (cfg0.grid.coords t)
    · rfl
    · rw [hfl]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

theorem Phi_even (c : Dev nD) (t : Fin (cfg0.N + 1)) (h : t.val % 2 = 0) : Phi m c t = Pipeline.ΦA spec0 c := by
  unfold Phi; rw [dif_neg (by omega)]
theorem Phi_odd (c : Dev nD) (t : Fin (cfg0.N + 1)) (h : t.val % 2 = 1) :
    Phi m c t = iprop(owns (c : Thread nD τ) scM fullShare (hAt m c ⟨t.val - 1, by have := t.isLt; omega⟩) ∗ (∃ r, prngReg c r)) := by
  unfold Phi; rw [dif_pos h]

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = Phi m c t.succ from rfl, show (dats m 0 c).Φ t.castSucc = Phi m c t.castSucc from rfl,
    show (dats m 0 c).owesAt () t.succ = (dats m 0 c).owesAt () t.castSucc from rfl,
    leaves_5, after_0, after_1, after_2, after_3, after_4, after_5]
  by_cases h0 : t.val % 2 = 0
  · rw [Phi_even m c t.castSucc h0, Phi_odd m c t.succ (by show (t.val + 1) % 2 = 1; omega), PhiA_eq, fst_even t h0,
      show (⟨t.succ.val - 1, by have := t.isLt; show t.val + 1 - 1 < _; omega⟩ : Fin cfg0.N) = t from Fin.ext (by show t.val + 1 - 1 = t.val; omega)]
    unfold hAt
    iintro ⟨⟨HS, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ ((hcond t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have h1 : t.val % 2 = 1 := by omega
    simp only [before_5 m c t h1]
    rw [Phi_odd m c t.castSucc h1, Phi_even m c t.succ (by show (t.val + 1) % 2 = 0; omega), PhiA_eq, fst_odd t h1]
    iintro ⟨⟨HS, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ (fun h => h0 ((hcond t).mp h)) (iblk m c 0 t) (iblk m c 1 t) (iblk m c 2 t) (iblk m c 3 t) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]
      · iexists _; iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: the arrays end at what the data say, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = Phi m c 0 from rfl, Phi_even m c 0 rfl])
    (hout := fun c => by rw [show (dats m 0 c).Φ (Fin.last cfg0.N) = Phi m c (Fin.last cfg0.N) from rfl, Phi_even m c _ (by rfl)])

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel4Ideal.InProj

end
-- ==== Proof.SndInProj.lean ====
/- The input projection: the kernel's run with its two result arrays as functions of its arguments, and those functions
   are the reference's results. -/
module

public import proofs.«01_k».proof.Proof.SndInRun
public import proofs.«01_k».proof.Proof.Gen.Reference4Ideal.Run
public import Idealize.ShloMosaic.Lib.Pointwise
public import Idealize.ShloMosaic.Lib.StableHlo.ReadAt

@[expose] public section

set_option maxRecDepth 16384

noncomputable section

namespace Cert.Kernel4Ideal.InProj

open Cert.Kernel4Ideal Cert.Kernel4Ideal.Gen Idealize.ShloMosaic Idealize.ShloMosaic.TcCoe Idealize.SL.Sem
open Idealize.ShloMosaic.Pointwise

variable (m : (ℓ : Loc nD τ sig) → Buf (Elt Ideal) ℓ)

/-- A row divided by the root of its mean square (with the small constant under the root), times the norm's weights. -/
def hn (x w : Fin 1024 → EReal) (k : Fin 1024) : EReal :=
  x k * Ideal.rsqrt (Ideal.div (∑ j, x j * x j) (Ideal.ofBits FTy.f32 1149239296#32) + Ideal.ofBits FTy.f32 897988541#32) * w k

/-- The product of the normalised row `b`, `s` of the input with column `l` of the second layer's weights. -/
def proj (x : S8x2048x1024.Idx → EReal) (nw : S2x1024.Idx → EReal) (w : S2x1024x6688.Idx → EReal) (b : Fin 8) (s : Fin 2048)
    (l : Fin 6688) : EReal :=
  ∑ k : Fin 1024, hn (fun j => x (ix3 b s j)) (fun j => nw (ix2 1 j)) k * w (ix3 1 k l)

/-- The column of the weights a column of the first result comes from: columns 2560 to 2591 are left out. -/
def col (l : Fin 6656) : Fin 6688 := ⟨if l.val < 2560 then l.val else l.val + 32, by split <;> omega⟩

/-- The row of the input, of its first two axes taken together. -/
def bOf (r : Fin 16384) : Fin 8 := ⟨r / 2048, by omega⟩
def sOf (r : Fin 16384) : Fin 2048 := ⟨r % 2048, by omega⟩

/-- The first result. -/
def GU (x : S8x2048x1024.Idx → EReal) (nw : S2x1024.Idx → EReal) (w : S2x1024x6688.Idx → EReal) : S16384x6656.Idx → EReal :=
  fun i => proj x nw w (bOf (i 0)) (sOf (i 0)) (col (i 1))

/-- The second result: the 32 columns left out of the first, then zeros. -/
def GD (x : S8x2048x1024.Idx → EReal) (nw : S2x1024.Idx → EReal) (w : S2x1024x6688.Idx → EReal) : S16384x128.Idx → EReal :=
  fun i => if h : (i 1).val < 32 then proj x nw w (bOf (i 0)) (sOf (i 0)) ⟨2560 + (i 1).val, by omega⟩ else 0

def GUM (c : Dev nD) : S16384x6656.Idx → EReal :=
  GU (m ((c : Thread nD τ).loc main_arg0)) (m ((c : Thread nD τ).loc main_arg1)) (m ((c : Thread nD τ).loc main_arg2))
def GDM (c : Dev nD) : S16384x128.Idx → EReal :=
  GD (m ((c : Thread nD τ).loc main_arg0)) (m ((c : Thread nD τ).loc main_arg1)) (m ((c : Thread nD τ).loc main_arg2))

theorem zero_word : (FloatOps.sitofp FTy.f32 0#32 : Ideal .f32) = (0 : EReal) := by
  show (((0#32 : BitVec 32).toInt : ℝ) : EReal) = 0
  norm_num

theorem hb_apply (x0 : Vec Ideal S1024x1024 .f32) (x1 : Vec Ideal S1x1024 .f32) (r k : Fin 1024) :
    hb x0 x1 (ix2 r k) = hn (fun j => x0 (ix2 r j)) (fun j => x1 (ix2 0 j)) k := by
  unfold hb
  rw [View.canon_unit_zero (by decide)]
  pointwise [k0_pay2, k0_pay1]
  rfl

theorem ob_apply (h : Vec Ideal S1024x1024 .bf16) (x2 : Vec Ideal S1x3328x1024 .bf16) (r : Fin 1024) (l : Fin 3328) :
    ob h x2 (ix2 r l) = ∑ k : Fin 1024, h (ix2 r k) * x2 (ix3 0 l k) := by
  unfold ob
  rw [View.canon_unit_zero (by decide)]
  pointwise [k0_pay4]

theorem db_apply (x0 : Vec Ideal S1024x1024 .f32) (x1 : Vec Ideal S1x1024 .f32) (x3 : Vec Ideal S1x128x1024 .bf16) (r : Fin 1024) (l : Fin 128) :
    db x0 x1 x3 (ix2 r l) = ∑ k : Fin 1024, hb x0 x1 (ix2 r k) * x3 (ix3 0 l k) := by
  unfold db hb
  rw [View.canon_unit_zero (by decide), View.canon_unit_zero (by decide)]
  pointwise [k0_pay3, k0_pay2]

theorem V_v8 (c : Dev nD) (r : Fin 16384) (l : Fin 1024) :
    V m c main_v8 (ix2 r l) = m ((c : Thread nD τ).loc main_arg0) (ix3 (bOf r) (sOf r) l) := by
  unfold V bOf sOf; after_reads_at
theorem V_v11 (c : Dev nD) (l : Fin 1024) :
    V m c main_v11 (ix2 0 l) = m ((c : Thread nD τ).loc main_arg1) (ix2 1 l) := by
  unfold V; after_reads_at
theorem V_v4 (c : Dev nD) (l : Fin 6656) (k : Fin 1024) :
    V m c main_v4 (ix3 1 l k) = m ((c : Thread nD τ).loc main_arg2) (ix3 1 k (col l)) := by
  unfold V
  after_reads_at
  by_cases h : l.val < 2560
  · rw [dif_pos h, show col l = ⟨l, by omega⟩ from Fin.ext (if_pos h)]
    after_reads_at
  · rw [dif_neg h, show col l = ⟨l + 32, by omega⟩ from Fin.ext (if_neg h)]
    after_reads_at
    exact congrArg (fun q : Fin 6688 => m ((c : Thread nD τ).loc main_arg2) (ix3 1 k q)) (Fin.ext (by show 2592 + (l.val - 2560) = l.val + 32; omega))
theorem V_v7 (c : Dev nD) (l : Fin 128) (k : Fin 1024) :
    V m c main_v7 (ix3 1 l k) = (if h : l.val < 32 then m ((c : Thread nD τ).loc main_arg2) (ix3 1 k ⟨2560 + l, by omega⟩)
      else (0 : EReal) : EReal) := by
  unfold V
  after_reads_at
  rw [zero_word]

/-- A row of the array from a point and a row of its block. -/
abbrev row (t : Fin cfg0.N) (r : Fin 1024) : Fin 16384 := ⟨t.val / 2 * 1024 + r, by have : t.val < 32 := t.isLt; omega⟩
/-- A column of the first result from a point and a column of its block. -/
abbrev cl (t : Fin cfg0.N) (l : Fin 3328) : Fin 6656 := ⟨t.val % 2 * 3328 + l, by omega⟩

theorem row_fst (t : Fin cfg0.N) (r : Fin 1024) : row (fst' t) r = row t r :=
  Fin.ext (by show t.val / 2 * 2 / 2 * 1024 + r.val = t.val / 2 * 1024 + r.val; omega)

theorem idx0 : ∀ t : Fin cfg0.N, win0_0.index t (0 : Fin 2) = t.val / 2 ∧ win0_0.index t (1 : Fin 2) = 0 :=
  (by decide +kernel : ∀ t : Fin grid0.N, win0_0.index t (0 : Fin 2) = t.val / 2 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 3) = 1 ∧ win0_2.index t (1 : Fin 3) = t.val % 2 ∧ win0_2.index t (2 : Fin 3) = 0 :=
  (by decide +kernel : ∀ t : Fin grid0.N, win0_2.index t (0 : Fin 3) = 1 ∧ win0_2.index t (1 : Fin 3) = t.val % 2 ∧ win0_2.index t (2 : Fin 3) = 0)
theorem idx3 : ∀ t : Fin cfg0.N, win0_3.index t (0 : Fin 3) = 1 ∧ win0_3.index t (1 : Fin 3) = 0 ∧ win0_3.index t (2 : Fin 3) = 0 :=
  (by decide +kernel : ∀ t : Fin grid0.N, win0_3.index t (0 : Fin 3) = 1 ∧ win0_3.index t (1 : Fin 3) = 0 ∧ win0_3.index t (2 : Fin 3) = 0)
theorem idx4 : ∀ t : Fin cfg0.N, win0_4.index t (0 : Fin 2) = t.val / 2 ∧ win0_4.index t (1 : Fin 2) = t.val % 2 :=
  (by decide +kernel : ∀ t : Fin grid0.N, win0_4.index t (0 : Fin 2) = t.val / 2 ∧ win0_4.index t (1 : Fin 2) = t.val % 2)
theorem idx5 : ∀ t : Fin cfg0.N, win0_5.index t (0 : Fin 2) = t.val / 2 ∧ win0_5.index t (1 : Fin 2) = 0 :=
  (by decide +kernel : ∀ t : Fin grid0.N, win0_5.index t (0 : Fin 2) = t.val / 2 ∧ win0_5.index t (1 : Fin 2) = 0)

theorem emb0 (t : Fin cfg0.N) (r l : Fin 1024) : ((cfg0.win 0).blk t).view.emb (ix2 r l) = ix2 (row t r) l := by
  obtain ⟨e0, e1⟩ := idx0 t
  funext a; apply Fin.ext
  match a with
  | ⟨0, _⟩ => show win0_0.index t (0 : Fin 2) * 1024 + 1 * r.val = t.val / 2 * 1024 + r.val; omega
  | ⟨1, _⟩ => show win0_0.index t (1 : Fin 2) * 1024 + 1 * l.val = l.val; omega
theorem emb1 (t : Fin cfg0.N) (l : Fin 1024) : ((cfg0.win 1).blk t).view.emb (ix2 0 l) = ix2 0 l := by
  obtain ⟨e0, e1⟩ := idx1 t
  funext a; apply Fin.ext
  match a with
  | ⟨0, _⟩ => show win0_1.index t (0 : Fin 2) * 1 + 1 * 0 = 0; omega
  | ⟨1, _⟩ => show win0_1.index t (1 : Fin 2) * 1024 + 1 * l.val = l.val; omega
theorem emb2 (t : Fin cfg0.N) (l : Fin 3328) (k : Fin 1024) : ((cfg0.win 2).blk t).view.emb (ix3 0 l k) = ix3 1 (cl t l) k := by
  obtain ⟨e0, e1, e2⟩ := idx2 t
  funext a; apply Fin.ext
  match a with
  | ⟨0, _⟩ => show win0_2.index t (0 : Fin 3) * 1 + 1 * 0 = 1; omega
  | ⟨1, _⟩ => show win0_2.index t (1 : Fin 3) * 3328 + 1 * l.val = t.val % 2 * 3328 + l.val; omega
  | ⟨2, _⟩ => show win0_2.index t (2 : Fin 3) * 1024 + 1 * k.val = k.val; omega
theorem emb3 (t : Fin cfg0.N) (l : Fin 128) (k : Fin 1024) : ((cfg0.win 3).blk t).view.emb (ix3 0 l k) = ix3 1 l k := by
  obtain ⟨e0, e1, e2⟩ := idx3 t
  funext a; apply Fin.ext
  match a with
  | ⟨0, _⟩ => show win0_3.index t (0 : Fin 3) * 1 + 1 * 0 = 1; omega
  | ⟨1, _⟩ => show win0_3.index t (1 : Fin 3) * 128 + 1 * l.val = l.val; omega
  | ⟨2, _⟩ => show win0_3.index t (2 : Fin 3) * 1024 + 1 * k.val = k.val; omega
theorem emb4 (t : Fin cfg0.N) (r : Fin 1024) (l : Fin 3328) : ((cfg0.win 4).blk t).view.emb (ix2 r l) = ix2 (row t r) (cl t l) := by
  obtain ⟨e0, e1⟩ := idx4 t
  funext a; apply Fin.ext
  match a with
  | ⟨0, _⟩ => show win0_4.index t (0 : Fin 2) * 1024 + 1 * r.val = t.val / 2 * 1024 + r.val; omega
  | ⟨1, _⟩ => show win0_4.index t (1 : Fin 2) * 3328 + 1 * l.val = t.val % 2 * 3328 + l.val; omega
theorem emb5 (t : Fin cfg0.N) (r : Fin 1024) (l : Fin 128) : ((cfg0.win 5).blk t).view.emb (ix2 r l) = ix2 (row t r) l := by
  obtain ⟨e0, e1⟩ := idx5 t
  funext a; apply Fin.ext
  match a with
  | ⟨0, _⟩ => show win0_5.index t (0 : Fin 2) * 1024 + 1 * r.val = t.val / 2 * 1024 + r.val; omega
  | ⟨1, _⟩ => show win0_5.index t (1 : Fin 2) * 128 + 1 * l.val = l.val; omega

theorem iblk0 (c : Dev nD) (t : Fin cfg0.N) (r l : Fin 1024) :
    iblk m c 0 t (ix2 r l) = m ((c : Thread nD τ).loc main_arg0) (ix3 (bOf (row t r)) (sOf (row t r)) l) := by
  show V m c main_v8 (((cfg0.win 0).blk t).view.emb (ix2 r l)) = _
  rw [emb0]; exact V_v8 m c _ _
theorem iblk1 (c : Dev nD) (t : Fin cfg0.N) (l : Fin 1024) :
    iblk m c 1 t (ix2 0 l) = m ((c : Thread nD τ).loc main_arg1) (ix2 1 l) := by
  show V m c main_v11 (((cfg0.win 1).blk t).view.emb (ix2 0 l)) = _
  rw [emb1]; exact V_v11 m c _
theorem iblk2 (c : Dev nD) (t : Fin cfg0.N) (l : Fin 3328) (k : Fin 1024) :
    iblk m c 2 t (ix3 0 l k) = m ((c : Thread nD τ).loc main_arg2) (ix3 1 k (col (cl t l))) := by
  show V m c main_v4 (((cfg0.win 2).blk t).view.emb (ix3 0 l k)) = _
  rw [emb2]; exact V_v4 m c _ _
theorem iblk3 (c : Dev nD) (t : Fin cfg0.N) (l : Fin 128) (k : Fin 1024) :
    iblk m c 3 t (ix3 0 l k) = (if h : l.val < 32 then m ((c : Thread nD τ).loc main_arg2) (ix3 1 k ⟨2560 + l, by omega⟩)
      else (0 : EReal) : EReal) := by
  show V m c main_v7 (((cfg0.win 3).blk t).view.emb (ix3 0 l k)) = _
  rw [emb3]; exact V_v7 m c _ _

theorem hb_blocks (c : Dev nD) (t : Fin cfg0.N) (r k : Fin 1024) :
    hb (iblk m c 0 (fst' t)) (iblk m c 1 (fst' t)) (ix2 r k)
      = hn (fun j => m ((c : Thread nD τ).loc main_arg0) (ix3 (bOf (row t r)) (sOf (row t r)) j))
          (fun j => m ((c : Thread nD τ).loc main_arg1) (ix2 1 j)) k := by
  rw [hb_apply]
  simp only [iblk0, iblk1, row_fst]

theorem flushed4 (c : Dev nD) (t : Fin cfg0.N) :
    (dats m 0 c).flushed 4 t = ((cfg0.win 4).blk t).view.read (Elt Ideal) (GUM m c) := by
  rw [show (dats m 0 c).flushed 4 t = (cfg0.win 4).cut (grid0.coords t) ((dats m 0 c).after 4 t) from rfl, after_4]
  funext j
  obtain ⟨r, l, rfl⟩ : ∃ (r : Fin 1024) (l : Fin 3328), j = ix2 r l := ⟨j 0, j 1, eq_ix2 j⟩
  show ob (F := Ideal) _ _ (ix2 r l) = GUM m c (((cfg0.win 4).blk t).view.emb (ix2 r l))
  rw [emb4, ob_apply]
  unfold hAt
  simp only [hb_blocks, iblk2]
  rfl

theorem flushed5 (c : Dev nD) (t : Fin cfg0.N) :
    (dats m 0 c).flushed 5 t = ((cfg0.win 5).blk t).view.read (Elt Ideal) (GDM m c) := by
  rw [show (dats m 0 c).flushed 5 t = (cfg0.win 5).cut (grid0.coords t) ((dats m 0 c).after 5 t) from rfl, after_5]
  funext j
  obtain ⟨r, l, rfl⟩ : ∃ (r : Fin 1024) (l : Fin 128), j = ix2 r l := ⟨j 0, j 1, eq_ix2 j⟩
  show db (F := Ideal) _ _ _ (ix2 r l) = GDM m c (((cfg0.win 5).blk t).view.emb (ix2 r l))
  rw [emb5, db_apply]
  simp only [hb_blocks, iblk3]
  unfold GDM GD
  by_cases h : l.val < 32
  · rw [dif_pos (show ((ix2 (row t r) l : S16384x128.Idx) 1).val < 32 from h)]
    simp only [dif_pos h]
    rfl
  · rw [dif_neg (show ¬ ((ix2 (row t r) l : S16384x128.Idx) 1).val < 32 from h)]
    simp only [dif_neg h, mul_zero, Finset.sum_const_zero]

theorem covered4 (i : S16384x6656.Idx) :
    ∃ t : Fin cfg0.N, (cfg0.win 4).flush t = true ∧ i ∈ ((cfg0.win 4).blk t).view.set := by
  obtain ⟨r, l, rfl⟩ : ∃ (r : Fin 16384) (l : Fin 6656), i = ix2 r l := ⟨i 0, i 1, eq_ix2 i⟩
  have hb : r.val / 1024 * 2 + l.val / 3328 < 32 := by omega
  refine ⟨(⟨r.val / 1024 * 2 + l.val / 3328, hb⟩ : Fin cfg0.N), flush0_4 _, ?_⟩
  have h := ((cfg0.win 4).blk (⟨r.val / 1024 * 2 + l.val / 3328, hb⟩ : Fin cfg0.N)).view.emb_mem_set
    (ix2 (⟨r % 1024, by omega⟩ : Fin 1024) (⟨l % 3328, by omega⟩ : Fin 3328))
  rw [emb4] at h
  have e : row (⟨r.val / 1024 * 2 + l.val / 3328, hb⟩ : Fin cfg0.N) ⟨r % 1024, by omega⟩ = r :=
    Fin.ext (by show (r.val / 1024 * 2 + l.val / 3328) / 2 * 1024 + r.val % 1024 = r.val; omega)
  have e' : cl (⟨r.val / 1024 * 2 + l.val / 3328, hb⟩ : Fin cfg0.N) ⟨l % 3328, by omega⟩ = l :=
    Fin.ext (by show (r.val / 1024 * 2 + l.val / 3328) % 2 * 3328 + l.val % 3328 = l.val; omega)
  rwa [e, e'] at h

theorem covered5 (i : S16384x128.Idx) :
    ∃ t : Fin cfg0.N, (cfg0.win 5).flush t = true ∧ i ∈ ((cfg0.win 5).blk t).view.set := by
  obtain ⟨r, l, rfl⟩ : ∃ (r : Fin 16384) (l : Fin 128), i = ix2 r l := ⟨i 0, i 1, eq_ix2 i⟩
  have hb : r.val / 1024 * 2 + 1 < 32 := by omega
  refine ⟨(⟨r.val / 1024 * 2 + 1, hb⟩ : Fin cfg0.N), (flush0_5 _).mpr (by show (r.val / 1024 * 2 + 1) % 2 = 1; omega), ?_⟩
  have h := ((cfg0.win 5).blk (⟨r.val / 1024 * 2 + 1, hb⟩ : Fin cfg0.N)).view.emb_mem_set
    (ix2 (⟨r % 1024, by omega⟩ : Fin 1024) l)
  rw [emb5] at h
  have e : row (⟨r.val / 1024 * 2 + 1, hb⟩ : Fin cfg0.N) ⟨r % 1024, by omega⟩ = r :=
    Fin.ext (by show (r.val / 1024 * 2 + 1) / 2 * 1024 + r.val % 1024 = r.val; omega)
  rwa [e] at h

/-- The kernel's run with its result arrays at `GUM` and `GDM`, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v12_0) = GUM m c
      ∧ r.2.mem ((c : Thread nD τ).loc main_v12_1) = GDM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h.1 c).1 4).trans ((dats m 0 c).arrAt_eq_of_cover 4 (GUM m c) (fun t _ => flushed4 m c t) covered4),
      ((h.1 c).1 5).trans ((dats m 0 c).arrAt_eq_of_cover 5 (GDM m c) (fun t _ => flushed5 m c t) covered5),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_main m ρ)

end Cert.Kernel4Ideal.InProj

namespace Cert.Reference4Ideal.InProj

open Cert.Reference4Ideal Cert.Reference4Ideal.Gen Idealize.ShloMosaic Idealize.ShloMosaic.TcCoe Idealize.SL.Sem
open Idealize.ShloMosaic.Pointwise
open Cert.Kernel4Ideal.InProj (hn proj GU GD bOf sOf col zero_word)

variable (m : (ℓ : Loc nD τ sig) → Buf (Elt Ideal) ℓ)

/-- The normalised input. -/
def H (x : FVec Ideal S8x2048x1024 .f32) (nw : FVec Ideal S2x1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] nw slices_S2x1024_S1x1024_1_0) shapeCasts_S1x1024_S1024)))

/-- The second layer's weights. -/
def W (w : FVec Ideal S2x1024x6688 .f32) : FVec Ideal S1024x6688 .f32 :=
  shapeCast _ (extractStridedSlice S1x1024x6688 ![1, 0, 0] w slices_S2x1024x6688_S1x1024x6688_1_0_0) shapeCasts_S1x1024x6688_S1024x6688

/-- Their product, the first two axes as one. -/
def D (h : FVec Ideal S8x2048x1024 .f32) (w : FVec Ideal S1024x6688 .f32) : FVec Ideal S16384x6688 .f32 :=
  shapeCast _ (Host.dotGeneral dot_S8x2048x1024_S1024x6688_S8x2048x6688_2_0_01_1_n_n none h w) shapeCasts_S8x2048x6688_S16384x6688

theorem H_apply (x : FVec Ideal S8x2048x1024 .f32) (nw : FVec Ideal S2x1024 .f32) (b : Fin 8) (s : Fin 2048) (k : Fin 1024) :
    H x nw (ix3 b s k) = hn (fun j => x (ix3 b s j)) (fun j => nw (ix2 1 j)) k := by
  unfold H
  pointwise
  rfl

theorem W_apply (w : FVec Ideal S2x1024x6688 .f32) (k : Fin 1024) (l : Fin 6688) : W w (ix2 k l) = w (ix3 1 k l) := by
  unfold W
  pointwise

theorem D_apply (h : FVec Ideal S8x2048x1024 .f32) (w : FVec Ideal S1024x6688 .f32) (r : Fin 16384) (l : Fin 6688) :
    D h w (ix2 r l) = ∑ k : Fin 1024, h (ix3 (bOf r) (sOf r) k) * w (ix2 k l) := by
  unfold D bOf sOf
  pointwise

theorem D_proj (x : FVec Ideal S8x2048x1024 .f32) (nw : FVec Ideal S2x1024 .f32) (w : FVec Ideal S2x1024x6688 .f32) (r : Fin 16384) (l : Fin 6688) :
    D (H x nw) (W w) (ix2 r l) = proj x nw w (bOf r) (sOf r) l := by
  rw [D_apply]
  simp only [H_apply, W_apply]
  rfl

theorem first_eq (x : FVec Ideal S8x2048x1024 .f32) (nw : FVec Ideal S2x1024 .f32) (w : FVec Ideal S2x1024x6688 .f32) :
    truncf (F := Ideal) (φ := .f32) .bf16 (concatenate S16384x6656 1 [⟨S16384x2560, (extractStridedSlice S16384x2560 ![0, 0] (D (H x nw) (W w)) slices_S16384x6688_S16384x2560_0_0)⟩,
      ⟨S16384x4096, (extractStridedSlice S16384x4096 ![0, 2592] (D (H x nw) (W w)) slices_S16384x6688_S16384x4096_0_2592)⟩] concatenates_S16384x2560_S16384x4096_S16384x6656_d1) bitsLt_bf16_f32
      = GU x nw w := by
  funext j
  obtain ⟨r, l, rfl⟩ : ∃ (r : Fin 16384) (l : Fin 6656), j = ix2 r l := ⟨j 0, j 1, eq_ix2 j⟩
  pointwise
  show _ = proj x nw w (bOf r) (sOf r) (col l)
  by_cases h : l.val < 2560
  · rw [dif_pos h, D_proj, show col l = ⟨l, by omega⟩ from Fin.ext (if_pos h)]
  · rw [dif_neg h, D_proj]
    exact congrArg _ (Fin.ext (by show 2592 + (l.val - 2560) = (if l.val < 2560 then l.val else l.val + 32); rw [if_neg h]; omega))

theorem second_eq (x : FVec Ideal S8x2048x1024 .f32) (nw : FVec Ideal S2x1024 .f32) (w : FVec Ideal S2x1024x6688 .f32) :
    pad S16384x128 ![0, 0] ![0, 96] ![0, 0] (extractStridedSlice S16384x32 ![0, 2560] (D (H x nw) (W w)) slices_S16384x6688_S16384x32_0_2560)
      (sitofp (F := Ideal) .f32 (constantI S_ 32 0#32)) pads_S16384x32_S16384x128_000_0960 h_S_ = GD x nw w := by
  funext j
  obtain ⟨r, l, rfl⟩ : ∃ (r : Fin 16384) (l : Fin 128), j = ix2 r l := ⟨j 0, j 1, eq_ix2 j⟩
  pointwise
  rw [zero_word]
  unfold GD
  by_cases h : l.val < 32
  · rw [dif_pos h, dif_pos (show ((ix2 r l : S16384x128.Idx) 1).val < 32 from h), D_proj]
    rfl
  · rw [dif_neg h, dif_neg (show ¬ ((ix2 r l : S16384x128.Idx) 1).val < 32 from h)]

/-- The reference's run with its result arrays at the same functions of its arguments. -/
theorem run (ρ : Dev nD → PrngReg) : θ_run defs (onTc (τ := τ) (main (F := Ideal))) ⟨m, fun _ => 0, ρ⟩ fun r => ∀ c : Dev nD,
      r.2.mem ((c.tc : Thread nD τ).loc main_v22) = GU (m ((c.tc : Thread nD τ).loc main_arg0))
        (m ((c.tc : Thread nD τ).loc main_arg1)) (m ((c.tc : Thread nD τ).loc main_arg2))
      ∧ r.2.mem ((c.tc : Thread nD τ).loc main_v24) = GD (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (first_eq _ _ _), (h c).2.1.trans (second_eq _ _ _), (h c).2.2⟩)
    (Value.run m ρ)

end Cert.Reference4Ideal.InProj
end
-- ==== Proof.SndInFrame.lean ====
/- The input projection's frame for the program as it is written: that program and its idealization have the same
   text, so the run of the one is the run of the other. -/
module
public import proofs.«01_k».proof.Proof.SndInProj
public import proofs.«01_k».proof.Proof.Gen.Kernel4
@[expose] public section
set_option maxRecDepth 16384
noncomputable section
namespace Cert.Kernel4.InProj
open Idealize.ShloMosaic Idealize.ShloMosaic.TcCoe Idealize.SL.Sem
theorem cfg_eq : Cert.Kernel4.pcfgs (F := Bits) = Cert.Kernel4Ideal.pcfgs (F := Bits) := rfl
theorem defs0_eq : Cert.Kernel4.defs₀ (F := Bits) = Cert.Kernel4Ideal.defs₀ (F := Bits) := by
  unfold Cert.Kernel4.defs₀ Cert.Kernel4Ideal.defs₀
  refine congrArg _ ?_
  funext l x
  match l, x with
  | 0, (t, s) => rfl
theorem defs_eq : Cert.Kernel4.defs (F := Bits) = Cert.Kernel4Ideal.defs (F := Bits) := by
  unfold Cert.Kernel4.defs Cert.Kernel4Ideal.defs
  rw [defs0_eq]; rfl

theorem main_eq : Cert.Kernel4.main (F := Bits) = Cert.Kernel4Ideal.main (F := Bits) := rfl

/-- The argument arrays end unchanged and every counter at zero. -/
theorem frame (m : (ℓ : Loc Cert.Kernel4.nD Cert.Kernel4.τ Cert.Kernel4.sig) → Buf (Elt Bits) ℓ) (ρ : Dev Cert.Kernel4.nD → PrngReg) : θ_run (Cert.Kernel4.defs (F := Bits)) (onTc (τ := Cert.Kernel4.τ) (Cert.Kernel4.main (F := Bits))) ⟨m, fun _ => 0, ρ⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0) := by
  rw [defs_eq, main_eq]
  exact Cert.Kernel4Ideal.InProj.frame (F := Bits) m ρ
end Cert.Kernel4.InProj
end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference2Ideal.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_inputs_finite
public import proofs.«01_k».proof.Proof.DiffKFrame
public import proofs.«01_k».proof.Proof.DiffEq
public import proofs.«01_k».proof.Proof.OutProj
public import proofs.«01_k».proof.Proof.InProj
public import proofs.«01_k».proof.Proof.InFrame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference4Ideal.Run
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.SndKFrame
public import proofs.«01_k».proof.Proof.SndEq
public import proofs.«01_k».proof.Proof.SndOutProj
public import proofs.«01_k».proof.Proof.SndInProj
public import proofs.«01_k».proof.Proof.SndInFrame
public import Idealize.ShloMosaic.Adequacy
public import Idealize.ShloMosaic.Init

@[expose] public section

noncomputable section

namespace Cert.Proof

open Idealize.ShloMosaic Idealize.ShloMosaic.StableHlo Idealize.SL.Sem

/-! ## The differential attention of the first layer -/

theorem frame_p : Cert.quiescent_Kernel := fun m ρ _ => Cert.Kernel.Diff.frame m ρ
theorem frame_pi : Cert.quiescent_KernelIdeal := fun m ρ _ => Cert.KernelIdeal.Diff.frame m ρ
theorem frame_pi_pre : Cert.quiescent_KernelIdeal_pre_inputs_finite := fun m ρ _ => Cert.KernelIdeal.Diff.frame m ρ
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)
theorem frame_ri_pre : Cert.quiescent_ReferenceIdeal_pre_inputs_finite := fun m ρ _ => frame_ri m ρ trivial
theorem preserves1 : Cert.preserves_Kernel_KernelIdeal := IdealRules.named_const.statement Cert.KernelIdeal.κ _ _ _ _ rfl
theorem algebraic1 : Cert.algebraic_KernelIdeal_ReferenceIdeal_pre_inputs_finite := by
  intro m g m' g' hpre hagree
  refine ⟨fun c => Cert.KernelIdeal.Diff.GK m c, ?_, ?_⟩
  · exact (θ_run Cert.KernelIdeal.defs _ _).mono (fun r h c => ⟨h.1 c, h.2.1 c⟩)
      (θ_run_and (Cert.KernelIdeal.Diff.run_out m g) (Cert.KernelIdeal.Diff.frame m g))
  · refine (θ_run Cert.ReferenceIdeal.defs _ _).mono (fun r h c => ⟨(h c).1.trans ?_, (h c).2⟩)
      (Cert.ReferenceIdeal.Value.run m' g')
    obtain ⟨h0, h1, h2, h3⟩ := hagree c
    exact (Cert.ReferenceIdeal.Value.val3_main_v151 (launchContents m' c)).symm.trans
      (Cert.Attn.result_eq m c (launchContents m' c) hpre h0 h1 h2 h3)

/-! ## The input projection of the first layer -/

theorem frame_p2 : Cert.quiescent_Kernel2 := fun m ρ _ => Cert.Kernel2.InProj.frame m ρ
theorem frame_pi2 : Cert.quiescent_Kernel2Ideal := fun m ρ _ => Cert.Kernel2Ideal.InProj.frame m ρ
theorem frame_ri2 : Cert.quiescent_Reference2Ideal := fun m ρ _ =>
  (θ_run Cert.Reference2Ideal.defs _ _).mono
    (fun r h => ⟨fun c => (h c).2.2, Idealize.ShloMosaic.sem_eq_zero_of_no_sems (by decide) r.2⟩)
    (Cert.Reference2Ideal.InProj.run m ρ)
theorem preserves2 : Cert.preserves_Kernel2_Kernel2Ideal := trivial
theorem algebraic2 : Cert.algebraic_Kernel2Ideal_Reference2Ideal := by
  intro m g m' g' _ hagree
  refine ⟨fun c => Cert.Kernel2Ideal.InProj.GUM m c, fun c => Cert.Kernel2Ideal.InProj.GDM m c,
    Cert.Kernel2Ideal.InProj.run m g, ?_⟩
  refine (θ_run Cert.Reference2Ideal.defs _ _).mono (fun r h c => ⟨(h c).1.trans ?_, (h c).2.1.trans ?_, (h c).2.2⟩)
    (Cert.Reference2Ideal.InProj.run m' g')
  all_goals
    obtain ⟨h0, h1, h2⟩ := hagree c
    rw [h0, h1, h2]
    rfl

/-! ## The output projection of the second layer -/

theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.OutProj.run m ρ)
theorem preserves3 : Cert.preserves_Kernel3_Kernel3Ideal := trivial
theorem algebraic3 : Cert.algebraic_Kernel3Ideal_Reference3Ideal := by
  intro m g m' g' _ hagree
  refine ⟨fun c => Cert.Kernel3Ideal.OutProj.GM m c, Cert.Kernel3Ideal.OutProj.run m g, ?_⟩
  refine (θ_run Cert.Reference3Ideal.defs _ _).mono (fun r h c => ⟨(h c).1.trans ?_, (h c).2⟩)
    (Cert.Reference3Ideal.OutProj.run m' g')
  obtain ⟨h0, h1, h2, h3, h4⟩ := hagree c
  rw [h0, h1, h2, h3, h4]
  rfl

/-! ## The input projection of the second layer -/

theorem frame_p4 : Cert.quiescent_Kernel4 := fun m ρ _ => Cert.Kernel4.InProj.frame m ρ
theorem frame_pi4 : Cert.quiescent_Kernel4Ideal := fun m ρ _ => Cert.Kernel4Ideal.InProj.frame m ρ
theorem frame_ri4 : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.InProj.run m ρ)
theorem preserves4 : Cert.preserves_Kernel4_Kernel4Ideal := trivial
theorem algebraic4 : Cert.algebraic_Kernel4Ideal_Reference4Ideal := by
  intro m g m' g' _ hagree
  refine ⟨fun c => Cert.Kernel4Ideal.InProj.GUM m c, fun c => Cert.Kernel4Ideal.InProj.GDM m c,
    Cert.Kernel4Ideal.InProj.run m g, ?_⟩
  refine (θ_run Cert.Reference4Ideal.defs _ _).mono (fun r h c => ⟨(h c).1.trans ?_, (h c).2.1.trans ?_, (h c).2.2⟩)
    (Cert.Reference4Ideal.InProj.run m' g')
  all_goals
    obtain ⟨h0, h1, h2⟩ := hagree c
    rw [h0, h1, h2]
    rfl

/-! ## The output projection of the first layer -/

theorem frame_p5 : Cert.quiescent_Kernel5 := fun m ρ _ => Cert.Kernel5.Gen.frame m ρ
theorem frame_pi5 : Cert.quiescent_Kernel5Ideal := fun m ρ _ => Cert.Kernel5Ideal.Gen.frame m ρ
theorem frame_ri5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.OutProj.run m ρ)
theorem preserves5 : Cert.preserves_Kernel5_Kernel5Ideal := trivial
theorem algebraic5 : Cert.algebraic_Kernel5Ideal_Reference5Ideal := by
  intro m g m' g' _ hagree
  refine ⟨fun c => Cert.Kernel5Ideal.OutProj.GM m c, Cert.Kernel5Ideal.OutProj.run m g, ?_⟩
  refine (θ_run Cert.Reference5Ideal.defs _ _).mono (fun r h c => ⟨(h c).1.trans ?_, (h c).2⟩)
    (Cert.Reference5Ideal.OutProj.run m' g')
  obtain ⟨h0, h1, h2, h3, h4⟩ := hagree c
  rw [h0, h1, h2, h3, h4]
  rfl

/-! ## The differential attention of the second layer -/

theorem frame_p6 : Cert.quiescent_Kernel6 := fun m ρ _ => Cert.Kernel6.Diff.frame m ρ
theorem frame_pi6 : Cert.quiescent_Kernel6Ideal := fun m ρ _ => Cert.Kernel6Ideal.Diff.frame m ρ
theorem frame_pi6_pre : Cert.quiescent_Kernel6Ideal_pre_inputs_finite := fun m ρ _ => Cert.Kernel6Ideal.Diff.frame m ρ
theorem frame_ri6 : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run m ρ)
theorem frame_ri6_pre : Cert.quiescent_Reference6Ideal_pre_inputs_finite := fun m ρ _ => frame_ri6 m ρ trivial
theorem preserves6 : Cert.preserves_Kernel6_Kernel6Ideal := IdealRules.named_const.statement Cert.Kernel6Ideal.κ _ _ _ _ rfl
theorem algebraic6 : Cert.algebraic_Kernel6Ideal_Reference6Ideal_pre_inputs_finite := by
  intro m g m' g' hpre hagree
  refine ⟨fun c => Cert.Kernel6Ideal.Diff.GK m c, ?_, ?_⟩
  · exact (θ_run Cert.Kernel6Ideal.defs _ _).mono (fun r h c => ⟨h.1 c, h.2.1 c⟩)
      (θ_run_and (Cert.Kernel6Ideal.Diff.run_out m g) (Cert.Kernel6Ideal.Diff.frame m g))
  · refine (θ_run Cert.Reference6Ideal.defs _ _).mono (fun r h c => ⟨(h c).1.trans ?_, (h c).2⟩)
      (Cert.Reference6Ideal.Value.run m' g')
    obtain ⟨h0, h1, h2, h3⟩ := hagree c
    exact (Cert.Reference6Ideal.Value.val3_main_v151 (launchContents m' c)).symm.trans
      (Cert.Attn.result_eq1 m c (launchContents m' c) hpre h0 h1 h2 h3)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_inputs_finite.Gen.facts,
  frame_p, frame_pi, frame_pi_pre, frame_ri, frame_ri_pre,
  frame_p2, frame_pi2, frame_ri2,
  frame_p3, frame_pi3, frame_ri3,
  frame_p4, frame_pi4, frame_ri4,
  frame_p5, frame_pi5, frame_ri5,
  frame_p6, frame_pi6, frame_pi6_pre, frame_ri6, frame_ri6_pre,
  preserves1, algebraic1, preserves2, algebraic2, preserves3, algebraic3, preserves4, algebraic4, preserves5, algebraic5, preserves6, algebraic6⟩

end Cert.Proof

end
